-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2)
      ∧ r.2.mem ((c.tc : Thread Cert.Kernel48.nD Cert.Kernel48.τ).loc Cert.Kernel48.main_arg3) = m ((c.tc : Thread Cert.Kernel48.nD Cert.Kernel48.τ).loc Cert.Kernel48.main_arg3))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
      ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2)
      ∧ r.2.mem ((c.tc : Thread Cert.Reference48Ideal.nD Cert.Reference48Ideal.τ).loc Cert.Reference48Ideal.main_arg3) = m ((c.tc : Thread Cert.Reference48Ideal.nD Cert.Reference48Ideal.τ).loc Cert.Reference48Ideal.main_arg3))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4)
      ∧ r.2.mem ((c.tc : Thread Cert.Kernel49.nD Cert.Kernel49.τ).loc Cert.Kernel49.main_arg5) = m ((c.tc : Thread Cert.Kernel49.nD Cert.Kernel49.τ).loc Cert.Kernel49.main_arg5)
      ∧ r.2.mem ((c.tc : Thread Cert.Kernel49.nD Cert.Kernel49.τ).loc Cert.Kernel49.main_arg6) = m ((c.tc : Thread Cert.Kernel49.nD Cert.Kernel49.τ).loc Cert.Kernel49.main_arg6)
      ∧ r.2.mem ((c.tc : Thread Cert.Kernel49.nD Cert.Kernel49.τ).loc Cert.Kernel49.main_arg7) = m ((c.tc : Thread Cert.Kernel49.nD Cert.Kernel49.τ).loc Cert.Kernel49.main_arg7))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
      ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
      ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6)
      ∧ r.2.mem ((c.tc : Thread Cert.Kernel49Ideal.nD Cert.Kernel49Ideal.τ).loc Cert.Kernel49Ideal.main_arg7) = m ((c.tc : Thread Cert.Kernel49Ideal.nD Cert.Kernel49Ideal.τ).loc Cert.Kernel49Ideal.main_arg7))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4)
      ∧ r.2.mem ((c.tc : Thread Cert.Reference49Ideal.nD Cert.Reference49Ideal.τ).loc Cert.Reference49Ideal.main_arg5) = m ((c.tc : Thread Cert.Reference49Ideal.nD Cert.Reference49Ideal.τ).loc Cert.Reference49Ideal.main_arg5)
      ∧ r.2.mem ((c.tc : Thread Cert.Reference49Ideal.nD Cert.Reference49Ideal.τ).loc Cert.Reference49Ideal.main_arg6) = m ((c.tc : Thread Cert.Reference49Ideal.nD Cert.Reference49Ideal.τ).loc Cert.Reference49Ideal.main_arg6)
      ∧ r.2.mem ((c.tc : Thread Cert.Reference49Ideal.nD Cert.Reference49Ideal.τ).loc Cert.Reference49Ideal.main_arg7) = m ((c.tc : Thread Cert.Reference49Ideal.nD Cert.Reference49Ideal.τ).loc Cert.Reference49Ideal.main_arg7))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v2) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v2) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_v2) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_v2) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_v2) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v0) = v0 c
          ∧ r.2.mem ((c.tc : Thread Cert.Reference38Ideal.nD Cert.Reference38Ideal.τ).loc Cert.Reference38Ideal.main_v2) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_v2) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v0) = v0 c
          ∧ r.2.mem ((c.tc : Thread Cert.Reference40Ideal.nD Cert.Reference40Ideal.τ).loc Cert.Reference40Ideal.main_v2) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v5) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v5) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v5) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v5) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v5) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v5) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v5) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)
      ∧ m' ((c.tc : Thread Cert.Reference48Ideal.nD Cert.Reference48Ideal.τ).loc Cert.Reference48Ideal.main_arg3) = m ((c.tc : Thread Cert.Kernel48Ideal.nD Cert.Kernel48Ideal.τ).loc Cert.Kernel48Ideal.main_arg3)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2)
          ∧ r.2.mem ((c.tc : Thread Cert.Kernel48Ideal.nD Cert.Kernel48Ideal.τ).loc Cert.Kernel48Ideal.main_arg3) = m ((c.tc : Thread Cert.Kernel48Ideal.nD Cert.Kernel48Ideal.τ).loc Cert.Kernel48Ideal.main_arg3))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v5) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2)
          ∧ r.2.mem ((c.tc : Thread Cert.Reference48Ideal.nD Cert.Reference48Ideal.τ).loc Cert.Reference48Ideal.main_arg3) = m' ((c.tc : Thread Cert.Reference48Ideal.nD Cert.Reference48Ideal.τ).loc Cert.Reference48Ideal.main_arg3))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)
      ∧ m' ((c.tc : Thread Cert.Reference49Ideal.nD Cert.Reference49Ideal.τ).loc Cert.Reference49Ideal.main_arg5) = m ((c.tc : Thread Cert.Kernel49Ideal.nD Cert.Kernel49Ideal.τ).loc Cert.Kernel49Ideal.main_arg5)
      ∧ m' ((c.tc : Thread Cert.Reference49Ideal.nD Cert.Reference49Ideal.τ).loc Cert.Reference49Ideal.main_arg6) = m ((c.tc : Thread Cert.Kernel49Ideal.nD Cert.Kernel49Ideal.τ).loc Cert.Kernel49Ideal.main_arg6)
      ∧ m' ((c.tc : Thread Cert.Reference49Ideal.nD Cert.Reference49Ideal.τ).loc Cert.Reference49Ideal.main_arg7) = m ((c.tc : Thread Cert.Kernel49Ideal.nD Cert.Kernel49Ideal.τ).loc Cert.Kernel49Ideal.main_arg7)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
          ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
          ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6)
          ∧ r.2.mem ((c.tc : Thread Cert.Kernel49Ideal.nD Cert.Kernel49Ideal.τ).loc Cert.Kernel49Ideal.main_arg7) = m ((c.tc : Thread Cert.Kernel49Ideal.nD Cert.Kernel49Ideal.τ).loc Cert.Kernel49Ideal.main_arg7))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v6) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4)
          ∧ r.2.mem ((c.tc : Thread Cert.Reference49Ideal.nD Cert.Reference49Ideal.τ).loc Cert.Reference49Ideal.main_arg5) = m' ((c.tc : Thread Cert.Reference49Ideal.nD Cert.Reference49Ideal.τ).loc Cert.Reference49Ideal.main_arg5)
          ∧ r.2.mem ((c.tc : Thread Cert.Reference49Ideal.nD Cert.Reference49Ideal.τ).loc Cert.Reference49Ideal.main_arg6) = m' ((c.tc : Thread Cert.Reference49Ideal.nD Cert.Reference49Ideal.τ).loc Cert.Reference49Ideal.main_arg6)
          ∧ r.2.mem ((c.tc : Thread Cert.Reference49Ideal.nD Cert.Reference49Ideal.τ).loc Cert.Reference49Ideal.main_arg7) = m' ((c.tc : Thread Cert.Reference49Ideal.nD Cert.Reference49Ideal.τ).loc Cert.Reference49Ideal.main_arg7))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v3)) (v1 : (c : Dev Cert.Kernel50Ideal.nD) → Buf (Elt Ideal) ((c.tc : Thread Cert.Kernel50Ideal.nD Cert.Kernel50Ideal.τ).loc Cert.Kernel50Ideal.main_v0_0)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v3) = v0 c
          ∧ r.2.mem ((c.tc : Thread Cert.Kernel50Ideal.nD Cert.Kernel50Ideal.τ).loc Cert.Kernel50Ideal.main_v0_0) = v1 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v10) = v0 c
          ∧ r.2.mem ((c.tc : Thread Cert.Reference50Ideal.nD Cert.Reference50Ideal.τ).loc Cert.Reference50Ideal.main_v17) = v1 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v0_1)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v0_1) = v1 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v40) = v0 c
          ∧ r.2.mem ((c.tc : Thread Cert.Reference51Ideal.nD Cert.Reference51Ideal.τ).loc Cert.Reference51Ideal.main_v23) = v1 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hPre_bounded : Cert.Pre_bounded.Facts) (hPre_finite : Cert.Pre_finite.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
-- ==== Pre_bounded.lean ====
abbrev S8320x5120 : Shape := ⟨2, ![8320, 5120]⟩
abbrev S8320x1536 : Shape := ⟨2, ![8320, 1536]⟩
abbrev S8320x512 : Shape := ⟨2, ![8320, 512]⟩
abbrev S8320x4x128 : Shape := ⟨3, ![8320, 4, 128]⟩
abbrev S4x8320x128 : Shape := ⟨3, ![4, 8320, 128]⟩
abbrev S4x8320x8320 : Shape := ⟨3, ![4, 8320, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S_ : Shape := ⟨0, ![]⟩
abbrev S1x8320x8320 : Shape := ⟨3, ![1, 8320, 8320]⟩

class Facts : Prop where
  slices_S8320x5120_S8320x512_0_3072 : S8320x5120.Slices ![0, 3072] S8320x512
  shapeCasts_S8320x512_S8320x4x128 : S8320x512.ShapeCasts S8320x4x128
  transposes_S8320x4x128_S4x8320x128_1_0_2 : S8320x4x128.Transposes [1, 0, 2] S4x8320x128
  slices_S8320x5120_S8320x512_0_3584 : S8320x5120.Slices ![0, 3584] S8320x512
  bcast_S8320_S1x8320_1 : S8320.BroadcastsInDim S1x8320 (![1] : Fin 1 → Fin S1x8320.rank)
  bcast_S8320_S8320x1_0 : S8320.BroadcastsInDim S8320x1 (![0] : Fin 1 → Fin S8320x1.rank)
  bcast_S1x8320_S8320x8320_0_1 : S1x8320.BroadcastsInDim S8320x8320 (![0, 1] : Fin 2 → Fin S8320x8320.rank)
  bcast_S8320x1_S8320x8320_0_1 : S8320x1.BroadcastsInDim S8320x8320 (![0, 1] : Fin 2 → Fin S8320x8320.rank)
  bcast_S_S8320 : S_.BroadcastsInDim S8320 (![] : Fin 0 → Fin S8320.rank)
  slices_S8320x5120_S8320x1536_0_3072 : S8320x5120.Slices ![0, 3072] S8320x1536
  bcast_S_S8320x1536 : S_.BroadcastsInDim S8320x1536 (![] : Fin 0 → Fin S8320x1536.rank)
  reducesTo_S8320x1536_S_d0_1 : S8320x1536.ReducesTo [0, 1] S_
  h_S_ : 0 < S_.numel
  slices_S8320x1536_S8320x512_0_1024 : S8320x1536.Slices ![0, 1024] S8320x512
  bcast_S_S8320x512 : S_.BroadcastsInDim S8320x512 (![] : Fin 0 → Fin S8320x512.rank)
  reducesTo_S8320x512_S_d0_1 : S8320x512.ReducesTo [0, 1] S_
  bcast_S_S4x8320x8320 : S_.BroadcastsInDim S4x8320x8320 (![] : Fin 0 → Fin S4x8320x8320.rank)
  bcast_S8320x8320_S1x8320x8320_1_2 : S8320x8320.BroadcastsInDim S1x8320x8320 (![1, 2] : Fin 2 → Fin S1x8320x8320.rank)
  bcast_S1x8320x8320_S4x8320x8320_0_1_2 : S1x8320x8320.BroadcastsInDim S4x8320x8320 (![0, 1, 2] : Fin 3 → Fin S4x8320x8320.rank)
  reducesTo_S4x8320x8320_S_d0_1_2 : S4x8320x8320.ReducesTo [0, 1, 2] S_
  dot_S4x8320x128_S4x8320x128_S4x8320x8320_2_2_1_1_0_0_wf : DotDims.WF S4x8320x128 S4x8320x128 S4x8320x8320 [2] [2] [1] [1] [0] [0]

variable [Facts]

def dot_S4x8320x128_S4x8320x128_S4x8320x8320_2_2_1_1_0_0 : DotDims S4x8320x128 S4x8320x128 S4x8320x8320 where
  lhsContracting := [2]
  rhsContracting := [2]
  lhsNonContracting := [1]
  rhsNonContracting := [1]
  lhsBatch := [0]
  rhsBatch := [0]
  wf := dot_S4x8320x128_S4x8320x128_S4x8320x8320_2_2_1_1_0_0_wf
def fn_part1 {F : FTy → Type} [FloatOps F] (main_arg1 : FVec F S8320x1536 .f32) (main_v6 : FVec F S4x8320x8320 .f32) (main_v17 : IVec S8320x8320 1) (main_v21 : IVec S8320x1536 1) : IVec S_ 1 :=
  let main_c_0 : IVec S_ 1 := constantI S_ 1 1#1
  let main_v22 : IVec S_ 1 := (fun x v => Host.reduce IntOp.andi x v reducesTo_S8320x1536_S_d0_1 h_S_) main_v21 main_c_0
  let main_v23 : FVec F S8320x512 .f32 := (extractStridedSlice S8320x512 ![0, 1024] · slices_S8320x1536_S8320x512_0_1024) main_arg1
  let main_v24 : FVec F S8320x512 .f32 := Host.absf main_v23
  let main_cst_1 : FVec F S_ .f32 := constant S_ .f32 0x7F800000#32
  let main_v25 : FVec F S8320x512 .f32 := broadcastInDim S8320x512 ![] bcast_S_S8320x512 main_cst_1
  let main_v26 : IVec S8320x512 1 := cmpf .olt main_v24 main_v25
  let main_c_2 : IVec S_ 1 := constantI S_ 1 1#1
  let main_v27 : IVec S_ 1 := (fun x v => Host.reduce IntOp.andi x v reducesTo_S8320x512_S_d0_1 h_S_) main_v26 main_c_2
  let main_v28 : IVec S_ 1 := andi main_v22 main_v27
  let main_cst_3 : FVec F S_ .f32 := constant S_ .f32 0x3DB504F3#32
  let main_v29 : FVec F S4x8320x8320 .f32 := broadcastInDim S4x8320x8320 ![] bcast_S_S4x8320x8320 main_cst_3
  let main_v30 : FVec F S4x8320x8320 .f32 := mulf main_v6 main_v29
  let main_cst_4 : FVec F S_ .f32 := constant S_ .f32 0x42A00000#32
  let main_v31 : FVec F S4x8320x8320 .f32 := broadcastInDim S4x8320x8320 ![] bcast_S_S4x8320x8320 main_cst_4
  let main_v32 : IVec S4x8320x8320 1 := cmpf .ole main_v30 main_v31
  let main_v33 : IVec S8320x8320 1 := noti main_v17
  let main_v34 : IVec S1x8320x8320 1 := broadcastInDim S1x8320x8320 ![1, 2] bcast_S8320x8320_S1x8320x8320_1_2 main_v33
  let main_v35 : IVec S4x8320x8320 1 := broadcastInDim S4x8320x8320 ![0, 1, 2] bcast_S1x8320x8320_S4x8320x8320_0_1_2 main_v34
  let main_v36 : IVec S4x8320x8320 1 := ori main_v32 main_v35
  let main_c_5 : IVec S_ 1 := constantI S_ 1 1#1
  let main_v37 : IVec S_ 1 := (fun x v => Host.reduce IntOp.andi x v reducesTo_S4x8320x8320_S_d0_1_2 h_S_) main_v36 main_c_5
  let main_v38 : IVec S_ 1 := andi main_v28 main_v37
  main_v38

def fn {F : FTy → Type} [FloatOps F] (main_arg0 : FVec F S8320x5120 .f32) (main_arg1 : FVec F S8320x1536 .f32) : IVec S_ 1 :=
  let main_v0 : FVec F S8320x512 .f32 := (extractStridedSlice S8320x512 ![0, 3072] · slices_S8320x5120_S8320x512_0_3072) main_arg0
  let main_v1 : FVec F S8320x4x128 .f32 := shapeCast S8320x4x128 main_v0 shapeCasts_S8320x512_S8320x4x128
  let main_v2 : FVec F S4x8320x128 .f32 := (transpose S4x8320x128 [1, 0, 2] · transposes_S8320x4x128_S4x8320x128_1_0_2) main_v1
  let main_v3 : FVec F S8320x512 .f32 := (extractStridedSlice S8320x512 ![0, 3584] · slices_S8320x5120_S8320x512_0_3584) main_arg0
  let main_v4 : FVec F S8320x4x128 .f32 := shapeCast S8320x4x128 main_v3 shapeCasts_S8320x512_S8320x4x128
  let main_v5 : FVec F S4x8320x128 .f32 := (transpose S4x8320x128 [1, 0, 2] · transposes_S8320x4x128_S4x8320x128_1_0_2) main_v4
  let main_v6 : FVec F S4x8320x8320 .f32 := (fun l r => Host.dotGeneral dot_S4x8320x128_S4x8320x128_S4x8320x8320_2_2_1_1_0_0 none l r) main_v2 main_v5
  let main_v7 : IVec S8320 32 := iotaInDim S8320 32 0
  let main_v8 : IVec S1x8320 32 := broadcastInDim S1x8320 ![1] bcast_S8320_S1x8320_1 main_v7
  let main_v9 : IVec S8320x1 32 := broadcastInDim S8320x1 ![0] bcast_S8320_S8320x1_0 main_v7
  let main_v10 : IVec S8320x8320 32 := broadcastInDim S8320x8320 ![0, 1] bcast_S1x8320_S8320x8320_0_1 main_v8
  let main_v11 : IVec S8320x8320 32 := broadcastInDim S8320x8320 ![0, 1] bcast_S8320x1_S8320x8320_0_1 main_v9
  let main_v12 : IVec S8320x8320 1 := cmpi .slt main_v10 main_v11
  let main_c : IVec S_ 32 := constantI S_ 32 112#32
  let main_v13 : IVec S8320 32 := broadcastInDim S8320 ![] bcast_S_S8320 main_c
  let main_v14 : IVec S8320 1 := cmpi .sge main_v7 main_v13
  let main_v15 : IVec S1x8320 1 := broadcastInDim S1x8320 ![1] bcast_S8320_S1x8320_1 main_v14
  let main_v16 : IVec S8320x8320 1 := broadcastInDim S8320x8320 ![0, 1] bcast_S1x8320_S8320x8320_0_1 main_v15
  let main_v17 : IVec S8320x8320 1 := andi main_v12 main_v16
  let main_v18 : FVec F S8320x1536 .f32 := (extractStridedSlice S8320x1536 ![0, 3072] · slices_S8320x5120_S8320x1536_0_3072) main_arg0
  let main_v19 : FVec F S8320x1536 .f32 := Host.absf main_v18
  let main_cst : FVec F S_ .f32 := constant S_ .f32 0x7F800000#32
  let main_v20 : FVec F S8320x1536 .f32 := broadcastInDim S8320x1536 ![] bcast_S_S8320x1536 main_cst
  let main_v21 : IVec S8320x1536 1 := cmpf .olt main_v19 main_v20
  fn_part1 (F := F) main_arg1 main_v6 main_v17 main_v21
-- ==== Pre_finite.lean ====
abbrev S8320x1024 : Shape := ⟨2, ![8320, 1024]⟩
abbrev S2816x1024 : Shape := ⟨2, ![2816, 1024]⟩
abbrev S8320x2816 : Shape := ⟨2, ![8320, 2816]⟩
abbrev S_ : Shape := ⟨0, ![]⟩

class Facts : Prop where
  bitsLt_bf16_f32 : FTy.bits .bf16 < FTy.bits .f32
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8320x2816 : S_.BroadcastsInDim S8320x2816 (![] : Fin 0 → Fin S8320x2816.rank)
  reducesTo_S8320x2816_S_d0_1 : S8320x2816.ReducesTo [0, 1] S_

variable [Facts]

def fn {F : FTy → Type} [FloatOps F] (main_arg0 : FVec F S8320x1024 .bf16) (main_arg1 : FVec F S2816x1024 .bf16) (main_arg2 : FVec F S8320x2816 .f32) (main_arg3 : FVec F S8320x2816 .f32) : IVec S_ 1 :=
  let main_v0 : FVec F S8320x1024 .f32 := (extf .f32 · bitsLt_bf16_f32) main_arg0
  let main_v1 : FVec F S8320x1024 .f32 := Host.absf main_v0
  let main_cst : FVec F S_ .f32 := constant S_ .f32 0x7F800000#32
  let main_v2 : FVec F S8320x1024 .f32 := broadcastInDim S8320x1024 ![] bcast_S_S8320x1024 main_cst
  let main_v3 : IVec S8320x1024 1 := cmpf .olt main_v1 main_v2
  let main_c : IVec S_ 1 := constantI S_ 1 1#1
  let main_v4 : IVec S_ 1 := (fun x v => Host.reduce IntOp.andi x v reducesTo_S8320x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8320x2816 .f32 := Host.absf main_arg3
  let main_cst_2 : FVec F S_ .f32 := constant S_ .f32 0x7F800000#32
  let main_v12 : FVec F S8320x2816 .f32 := broadcastInDim S8320x2816 ![] bcast_S_S8320x2816 main_cst_2
  let main_v13 : IVec S8320x2816 1 := cmpf .olt main_v11 main_v12
  let main_c_3 : IVec S_ 1 := constantI S_ 1 1#1
  let main_v14 : IVec S_ 1 := (fun x v => Host.reduce IntOp.andi x v reducesTo_S8320x2816_S_d0_1 h_S_) main_v13 main_c_3
  let main_v15 : IVec S_ 1 := andi main_v10 main_v14
  main_v15
-- ==== Kernel.lean ====
abbrev S8320x5120 : Shape := ⟨2, ![8320, 5120]⟩
abbrev S8320x1536 : Shape := ⟨2, ![8320, 1536]⟩
abbrev S8320x512 : Shape := ⟨2, ![8320, 512]⟩
abbrev S4x13x640x128 : Shape := ⟨4, ![4, 13, 640, 128]⟩
abbrev S640x128 : Shape := ⟨2, ![640, 128]⟩
abbrev S8320x128 : Shape := ⟨2, ![8320, 128]⟩
abbrev S1x1x640x128 : Shape := ⟨4, ![1, 1, 640, 128]⟩
abbrev S128x128 : Shape := ⟨2, ![128, 128]⟩
abbrev S640x640 : Shape := ⟨2, ![640, 640]⟩
abbrev S640x1 : Shape := ⟨2, ![640, 1]⟩
abbrev S640 : Shape := ⟨1, ![640]⟩

abbrev nBuf : Space → Nat
  | .hbm => 7
  | .vmem => 28
  | .smem => 0
  | _ => 0

abbrev bufTy : (tb : Table) → Fin (tcTables nBuf tb) → BufTy
  | .hbm, ⟨0, _⟩ => ⟨S8320x5120, .f32⟩
  | .hbm, ⟨1, _⟩ => ⟨S8320x1536, .f32⟩
  | .hbm, ⟨2, _⟩ => ⟨S8320x512, .f32⟩
  | .hbm, ⟨3, _⟩ => ⟨S4x13x640x128, .f32⟩
  | .hbm, ⟨4, _⟩ => ⟨S8320x512, .f32⟩
  | .hbm, ⟨5, _⟩ => ⟨S8320x512, .f32⟩
  | .hbm, ⟨6, _⟩ => ⟨S8320x512, .f32⟩
  | .local _ .vmem, ⟨0, _⟩ => ⟨S640x128, .f32⟩
  | .local _ .vmem, ⟨1, _⟩ => ⟨S640x128, .f32⟩
  | .local _ .vmem, ⟨2, _⟩ => ⟨S8320x128, .f32⟩
  | .local _ .vmem, ⟨3, _⟩ => ⟨S8320x128, .f32⟩
  | .local _ .vmem, ⟨4, _⟩ => ⟨S8320x128, .f32⟩
  | .local _ .vmem, ⟨5, _⟩ => ⟨S8320x128, .f32⟩
  | .local _ .vmem, ⟨6, _⟩ => ⟨S640x128, .f32⟩
  | .local _ .vmem, ⟨7, _⟩ => ⟨S640x128, .f32⟩
  | .local _ .vmem, ⟨8, _⟩ => ⟨S1x1x640x128, .f32⟩
  | .local _ .vmem, ⟨9, _⟩ => ⟨S1x1x640x128, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S8320x128, .f32⟩
  | .local _ .vmem, ⟨14, _⟩ => ⟨S8320x128, .f32⟩
  | .local _ .vmem, ⟨15, _⟩ => ⟨S8320x128, .f32⟩
  | .local _ .vmem, ⟨16, _⟩ => ⟨S8320x128, .f32⟩
  | .local _ .vmem, ⟨17, _⟩ => ⟨S1x1x640x128, .f32⟩
  | .local _ .vmem, ⟨18, _⟩ => ⟨S1x1x640x128, .f32⟩
  | .local _ .vmem, ⟨19, _⟩ => ⟨S640x128, .f32⟩
  | .local _ .vmem, ⟨20, _⟩ => ⟨S640x128, .f32⟩
  | .local _ .vmem, ⟨21, _⟩ => ⟨S640x128, .f32⟩
  | .local _ .vmem, ⟨22, _⟩ => ⟨S640x128, .f32⟩
  | .local _ .vmem, ⟨23, _⟩ => ⟨S8320x128, .f32⟩
  | .local _ .vmem, ⟨24, _⟩ => ⟨S8320x128, .f32⟩
  | .local _ .vmem, ⟨25, _⟩ => ⟨S8320x128, .f32⟩
  | .local _ .vmem, ⟨26, _⟩ => ⟨S8320x128, .f32⟩
  | .local _ .vmem, ⟨27, _⟩ => ⟨S640x128, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 13], ![false, false]⟩

def k0_mult1 (i : grid0.Coords) : BitVec 32 :=
  let arg1 : BitVec 32 := BitVec.ofNat 32 (i 1).val
  let c640_i32 : BitVec 32 := 640#32
  let v19 : BitVec 32 := Scalar.muli arg1 c640_i32
  v19
def k0_off1 (i : grid0.Coords) : Fin 2 → Nat :=
  let arg1 : BitVec 32 := BitVec.ofNat 32 (i 1).val
  let c640_i32 : BitVec 32 := 640#32
  let v19 : BitVec 32 := Scalar.muli arg1 c640_i32
  let v20 : BitVec 32 := v19
  let v33 : Index := Scalar.indexCast v20
  let c0_13 : Index := 0#32
  ![v33.toNat, 0]
@[reducible] def k0_t1_loop (i : grid0.Coords) : Scf.Loop 32 :=
  let c0_i32_55 : BitVec 32 := 0#32
  let arg1 : BitVec 32 := BitVec.ofNat 32 (i 1).val
  let c1_i32_52 : BitVec 32 := 1#32
  let v157 : BitVec 32 := Scalar.subi arg1 c1_i32_52
  let c0_i32_53 : BitVec 32 := 0#32
  let v158 : BitVec 32 := Scalar.maxsi v157 c0_i32_53
  let v159 : BitVec 32 := Scalar.subi v158 c0_i32_55
  let c1_i32_56 : BitVec 32 := 1#32
  let v161 : BitVec 32 := Scalar.divsi v159 c1_i32_56
  let v162 : BitVec 32 := Scalar.muli v161 c1_i32_56
  let v163 : BitVec 32 := Scalar.addi c0_i32_55 v162
  let c1_i32_57 : BitVec 32 := 1#32
  ⟨c0_i32_55, v163, c1_i32_57⟩
def k0_mult2 (i : grid0.Coords) (k0_t1 : Fin (k0_t1_loop i).trips) : BitVec 32 :=
  let arg1 : BitVec 32 := BitVec.ofNat 32 (i 1).val
  let c1_i32_61 : BitVec 32 := 1#32
  let v167 : BitVec 32 := Scalar.subi arg1 c1_i32_61
  let c0_i32_55 : BitVec 32 := 0#32
  let c1_i32_57 : BitVec 32 := 1#32
  let arg8 : BitVec 32 := Scf.iv c0_i32_55 c1_i32_57 k0_t1
  let v168 : BitVec 32 := Scalar.subi v167 arg8
  let c640_i32_62 : BitVec 32 := 640#32
  let v169 : BitVec 32 := Scalar.muli v168 c640_i32_62
  v169
def k0_off2 (i : grid0.Coords) (k0_t1 : Fin (k0_t1_loop i).trips) : Fin 2 → Nat :=
  let arg1 : BitVec 32 := BitVec.ofNat 32 (i 1).val
  let c1_i32_61 : BitVec 32 := 1#32
  let v167 : BitVec 32 := Scalar.subi arg1 c1_i32_61
  let c0_i32_55 : BitVec 32 := 0#32
  let c1_i32_57 : BitVec 32 := 1#32
  let arg8 : BitVec 32 := Scf.iv c0_i32_55 c1_i32_57 k0_t1
  let v168 : BitVec 32 := Scalar.subi v167 arg8
  let c640_i32_62 : BitVec 32 := 640#32
  let v169 : BitVec 32 := Scalar.muli v168 c640_i32_62
  let v170 : BitVec 32 := v169
  let v171 : Index := Scalar.indexCast v170
  let c0_63 : Index := 0#32
  ![v171.toNat, 0]
@[reducible] def k0_t2_loop (i : grid0.Coords) : Scf.Loop 32 :=
  let c0_i32_55 : BitVec 32 := 0#32
  let arg1 : BitVec 32 := BitVec.ofNat 32 (i 1).val
  let c1_i32_52 : BitVec 32 := 1#32
  let v157 : BitVec 32 := Scalar.subi arg1 c1_i32_52
  let c0_i32_53 : BitVec 32 := 0#32
  let v158 : BitVec 32 := Scalar.maxsi v157 c0_i32_53
  let v159 : BitVec 32 := Scalar.subi v158 c0_i32_55
  let c1_i32_56 : BitVec 32 := 1#32
  let v161 : BitVec 32 := Scalar.divsi v159 c1_i32_56
  let v162 : BitVec 32 := Scalar.muli v161 c1_i32_56
  let v163 : BitVec 32 := Scalar.addi c0_i32_55 v162
  let v160 : BitVec 32 := Scalar.addi c0_i32_55 v159
  let c1_i32_58 : BitVec 32 := 1#32
  ⟨v163, v160, c1_i32_58⟩
def k0_mult3 (i : grid0.Coords) (k0_t2 : Fin (k0_t2_loop i).trips) : BitVec 32 :=
  let arg1 : BitVec 32 := BitVec.ofNat 32 (i 1).val
  let c1_i32_61 : BitVec 32 := 1#32
  let v167 : BitVec 32 := Scalar.subi arg1 c1_i32_61
  let c0_i32_55 : BitVec 32 := 0#32
  let c1_i32_52 : BitVec 32 := 1#32
  let v157 : BitVec 32 := Scalar.subi arg1 c1_i32_52
  let c0_i32_53 : BitVec 32 := 0#32
  let v158 : BitVec 32 := Scalar.maxsi v157 c0_i32_53
  let v159 : BitVec 32 := Scalar.subi v158 c0_i32_55
  let c1_i32_56 : BitVec 32 := 1#32
  let v161 : BitVec 32 := Scalar.divsi v159 c1_i32_56
  let v162 : BitVec 32 := Scalar.muli v161 c1_i32_56
  let v163 : BitVec 32 := Scalar.addi c0_i32_55 v162
  let c1_i32_58 : BitVec 32 := 1#32
  let arg8 : BitVec 32 := Scf.iv v163 c1_i32_58 k0_t2
  let v168 : BitVec 32 := Scalar.subi v167 arg8
  let c640_i32_62 : BitVec 32 := 640#32
  let v169 : BitVec 32 := Scalar.muli v168 c640_i32_62
  v169
def k0_off3 (i : grid0.Coords) (k0_t2 : Fin (k0_t2_loop i).trips) : Fin 2 → Nat :=
  let arg1 : BitVec 32 := BitVec.ofNat 32 (i 1).val
  let c1_i32_61 : BitVec 32 := 1#32
  let v167 : BitVec 32 := Scalar.subi arg1 c1_i32_61
  let c0_i32_55 : BitVec 32 := 0#32
  let c1_i32_52 : BitVec 32 := 1#32
  let v157 : BitVec 32 := Scalar.subi arg1 c1_i32_52
  let c0_i32_53 : BitVec 32 := 0#32
  let v158 : BitVec 32 := Scalar.maxsi v157 c0_i32_53
  let v159 : BitVec 32 := Scalar.subi v158 c0_i32_55
  let c1_i32_56 : BitVec 32 := 1#32
  let v161 : BitVec 32 := Scalar.divsi v159 c1_i32_56
  let v162 : BitVec 32 := Scalar.muli v161 c1_i32_56
  let v163 : BitVec 32 := Scalar.addi c0_i32_55 v162
  let c1_i32_58 : BitVec 32 := 1#32
  let arg8 : BitVec 32 := Scf.iv v163 c1_i32_58 k0_t2
  let v168 : BitVec 32 := Scalar.subi v167 arg8
  let c640_i32_62 : BitVec 32 := 640#32
  let v169 : BitVec 32 := Scalar.muli v168 c640_i32_62
  let v170 : BitVec 32 := v169
  let v171 : Index := Scalar.indexCast v170
  let c0_63 : Index := 0#32
  ![v171.toNat, 0]
def k0_cond1 (i : grid0.Coords) : BitVec 1 :=
  let arg1 : BitVec 32 := BitVec.ofNat 32 (i 1).val
  let c0_i32_59 : BitVec 32 := 0#32
  let v164 : BitVec 1 := Scalar.cmpi .sgt arg1 c0_i32_59
  let v165 : BitVec 32 := Scalar.extui v164
  let c0_i32_60 : BitVec 32 := 0#32
  let v166 : BitVec 1 := Scalar.cmpi .ne v165 c0_i32_60
  v166

def k0_mult4 : BitVec 32 :=
  let c0_i32_61 : BitVec 32 := 0#32
  c0_i32_61
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 13], ![false, false]⟩

def k1_cond2 (i : grid1.Coords) : BitVec 1 :=
  let arg1 : BitVec 32 := BitVec.ofNat 32 (i 1).val
  let c0_i32_9 : BitVec 32 := 0#32
  let v24 : BitVec 1 := Scalar.cmpi .sgt arg1 c0_i32_9
  let v25 : BitVec 32 := Scalar.extui v24
  let c0_i32_10 : BitVec 32 := 0#32
  let v26 : BitVec 1 := Scalar.cmpi .ne v25 c0_i32_10
  v26

def k1_mult1 : BitVec 32 :=
  let c0_i32_85 : BitVec 32 := 0#32
  c0_i32_85
@[reducible] def k1_t1_loop (i : grid1.Coords) : Scf.Loop 32 :=
  let c0_i32_13 : BitVec 32 := 0#32
  let arg1 : BitVec 32 := BitVec.ofNat 32 (i 1).val
  let c1_i32 : BitVec 32 := 1#32
  let v27 : BitVec 32 := Scalar.subi arg1 c1_i32
  let c0_i32_11 : BitVec 32 := 0#32
  let v28 : BitVec 32 := Scalar.maxsi v27 c0_i32_11
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k1_mult2 (i : grid1.Coords) (k1_t1 : Fin (k1_t1_loop i).trips) : BitVec 32 :=
  let c1_i32_85 : BitVec 32 := 1#32
  let c0_i32_13 : BitVec 32 := 0#32
  let c1_i32_15 : BitVec 32 := 1#32
  let arg11 : BitVec 32 := Scf.iv c0_i32_13 c1_i32_15 k1_t1
  let v261 : BitVec 32 := Scalar.addi c1_i32_85 arg11
  let c640_i32_86 : BitVec 32 := 640#32
  let v262 : BitVec 32 := Scalar.muli v261 c640_i32_86
  v262
def k1_off1 (i : grid1.Coords) (k1_t1 : Fin (k1_t1_loop i).trips) : Fin 2 → Nat :=
  let c1_i32_85 : BitVec 32 := 1#32
  let c0_i32_13 : BitVec 32 := 0#32
  let c1_i32_15 : BitVec 32 := 1#32
  let arg11 : BitVec 32 := Scf.iv c0_i32_13 c1_i32_15 k1_t1
  let v261 : BitVec 32 := Scalar.addi c1_i32_85 arg11
  let c640_i32_86 : BitVec 32 := 640#32
  let v262 : BitVec 32 := Scalar.muli v261 c640_i32_86
  let v263 : BitVec 32 := v262
  let v264 : Index := Scalar.indexCast v263
  let c0_87 : Index := 0#32
  ![v264.toNat, 0]
@[reducible] def k1_t2_loop (i : grid1.Coords) : Scf.Loop 32 :=
  let c0_i32_13 : BitVec 32 := 0#32
  let arg1 : BitVec 32 := BitVec.ofNat 32 (i 1).val
  let c1_i32 : BitVec 32 := 1#32
  let v27 : BitVec 32 := Scalar.subi arg1 c1_i32
  let c0_i32_11 : BitVec 32 := 0#32
  let v28 : BitVec 32 := Scalar.maxsi v27 c0_i32_11
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k1_mult3 (i : grid1.Coords) (k1_t2 : Fin (k1_t2_loop i).trips) : BitVec 32 :=
  let c1_i32_85 : BitVec 32 := 1#32
  let c0_i32_13 : BitVec 32 := 0#32
  let arg1 : BitVec 32 := BitVec.ofNat 32 (i 1).val
  let c1_i32 : BitVec 32 := 1#32
  let v27 : BitVec 32 := Scalar.subi arg1 c1_i32
  let c0_i32_11 : BitVec 32 := 0#32
  let v28 : BitVec 32 := Scalar.maxsi v27 c0_i32_11
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k1_t2
  let v261 : BitVec 32 := Scalar.addi c1_i32_85 arg11
  let c640_i32_86 : BitVec 32 := 640#32
  let v262 : BitVec 32 := Scalar.muli v261 c640_i32_86
  v262
def k1_off2 (i : grid1.Coords) (k1_t2 : Fin (k1_t2_loop i).trips) : Fin 2 → Nat :=
  let c1_i32_85 : BitVec 32 := 1#32
  let c0_i32_13 : BitVec 32 := 0#32
  let arg1 : BitVec 32 := BitVec.ofNat 32 (i 1).val
  let c1_i32 : BitVec 32 := 1#32
  let v27 : BitVec 32 := Scalar.subi arg1 c1_i32
  let c0_i32_11 : BitVec 32 := 0#32
  let v28 : BitVec 32 := Scalar.maxsi v27 c0_i32_11
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg11 : BitVec 32 := Scf.iv v33 c1_i32_16 k1_t2
  let v261 : BitVec 32 := Scalar.addi c1_i32_85 arg11
  let c640_i32_86 : BitVec 32 := 640#32
  let v262 : BitVec 32 := Scalar.muli v261 c640_i32_86
  let v263 : BitVec 32 := v262
  let v264 : Index := Scalar.indexCast v263
  let c0_87 : Index := 0#32
  ![v264.toNat, 0]
def k1_mult4 (i : grid1.Coords) : BitVec 32 :=
  let arg1 : BitVec 32 := BitVec.ofNat 32 (i 1).val
  let c640_i32 : BitVec 32 := 640#32
  let v34 : BitVec 32 := Scalar.muli arg1 c640_i32
  v34
def k1_off3 (i : grid1.Coords) : Fin 2 → Nat :=
  let arg1 : BitVec 32 := BitVec.ofNat 32 (i 1).val
  let c640_i32 : BitVec 32 := 640#32
  let v34 : BitVec 32 := Scalar.muli arg1 c640_i32
  let v35 : BitVec 32 := v34
  let v36 : Index := Scalar.indexCast v35
  let c0_17 : Index := 0#32
  ![v36.toNat, 0]
def cc1_transform_0 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8320x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8320x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x640x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S640x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S640x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8320x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8320x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8320x5120 : Shape := ⟨2, ![8320, 5120]⟩
abbrev S8320x1536 : Shape := ⟨2, ![8320, 1536]⟩
abbrev S8320x512 : Shape := ⟨2, ![8320, 512]⟩
abbrev S8320x4x128 : Shape := ⟨3, ![8320, 4, 128]⟩
abbrev S4x8320x128 : Shape := ⟨3, ![4, 8320, 128]⟩
abbrev S4x8320x8320 : Shape := ⟨3, ![4, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S4x128x8320 : Shape := ⟨3, ![4, 128, 8320]⟩

abbrev nBuf : Space → Nat
  | .hbm => 126
  | .vmem => 0
  | .smem => 0
  | _ => 0

abbrev bufTy : (tb : Table) → Fin (tcTables nBuf tb) → BufTy
  | .hbm, ⟨0, _⟩ => ⟨S8320x5120, .f32⟩
  | .hbm, ⟨1, _⟩ => ⟨S8320x1536, .f32⟩
  | .hbm, ⟨2, _⟩ => ⟨S8320x512, .f32⟩
  | .hbm, ⟨3, _⟩ => ⟨S8320x512, .f32⟩
  | .hbm, ⟨4, _⟩ => ⟨S8320x512, .f32⟩
  | .hbm, ⟨5, _⟩ => ⟨S8320x4x128, .f32⟩
  | .hbm, ⟨6, _⟩ => ⟨S4x8320x128, .f32⟩
  | .hbm, ⟨7, _⟩ => ⟨S8320x4x128, .f32⟩
  | .hbm, ⟨8, _⟩ => ⟨S4x8320x128, .f32⟩
  | .hbm, ⟨9, _⟩ => ⟨S4x8320x8320, .f32⟩
  | .hbm, ⟨10, _⟩ => ⟨S_, .f32⟩
  | .hbm, ⟨11, _⟩ => ⟨S4x8320x8320, .f32⟩
  | .hbm, ⟨12, _⟩ => ⟨S4x8320x8320, .f32⟩
  | .hbm, ⟨13, _⟩ => ⟨S8320, .i32⟩
  | .hbm, ⟨14, _⟩ => ⟨S1x8320, .i32⟩
  | .hbm, ⟨15, _⟩ => ⟨S8320x1, .i32⟩
  | .hbm, ⟨16, _⟩ => ⟨S8320x8320, .i32⟩
  | .hbm, ⟨17, _⟩ => ⟨S8320x8320, .i32⟩
  | .hbm, ⟨18, _⟩ => ⟨S8320x8320, .i1⟩
  | .hbm, ⟨19, _⟩ => ⟨S_, .i32⟩
  | .hbm, ⟨20, _⟩ => ⟨S8320, .i32⟩
  | .hbm, ⟨21, _⟩ => ⟨S8320, .i1⟩
  | .hbm, ⟨22, _⟩ => ⟨S1x8320, .i1⟩
  | .hbm, ⟨23, _⟩ => ⟨S8320x8320, .i1⟩
  | .hbm, ⟨24, _⟩ => ⟨S8320x8320, .i1⟩
  | .hbm, ⟨25, _⟩ => ⟨S_, .f32⟩
  | .hbm, ⟨26, _⟩ => ⟨S4x8320x8320, .f32⟩
  | .hbm, ⟨27, _⟩ => ⟨S4x8320x8320, .f32⟩
  | .hbm, ⟨28, _⟩ => ⟨S4x8320x8320, .f32⟩
  | .hbm, ⟨29, _⟩ => ⟨S4x8320x8320, .f32⟩
  | .hbm, ⟨30, _⟩ => ⟨S4x8320x8320, .i1⟩
  | .hbm, ⟨31, _⟩ => ⟨S4x8320x8320, .f32⟩
  | .hbm, ⟨32, _⟩ => ⟨S4x8320x8320, .f32⟩
  | .hbm, ⟨33, _⟩ => ⟨S4x8320x8320, .f32⟩
  | .hbm, ⟨34, _⟩ => ⟨S4x8320x8320, .f32⟩
  | .hbm, ⟨35, _⟩ => ⟨S4x8320x8320, .f32⟩
  | .hbm, ⟨36, _⟩ => ⟨S4x8320x8320, .f32⟩
  | .hbm, ⟨37, _⟩ => ⟨S4x8320x8320, .f32⟩
  | .hbm, ⟨38, _⟩ => ⟨S4x8320x8320, .f32⟩
  | .hbm, ⟨39, _⟩ => ⟨S_, .f32⟩
  | .hbm, ⟨40, _⟩ => ⟨S4x8320x8320, .f32⟩
  | .hbm, ⟨41, _⟩ => ⟨S4x8320x8320, .i1⟩
  | .hbm, ⟨42, _⟩ => ⟨S_, .f32⟩
  | .hbm, ⟨43, _⟩ => ⟨S4x8320x8320, .f32⟩
  | .hbm, ⟨44, _⟩ => ⟨S4x8320x8320, .f32⟩
  | .hbm, ⟨45, _⟩ => ⟨S_, .f32⟩
  | .hbm, ⟨46, _⟩ => ⟨S4x8320x8320, .f32⟩
  | .hbm, ⟨47, _⟩ => ⟨S4x8320x8320, .i1⟩
  | .hbm, ⟨48, _⟩ => ⟨S_, .f32⟩
  | .hbm, ⟨49, _⟩ => ⟨S4x8320x8320, .f32⟩
  | .hbm, ⟨50, _⟩ => ⟨S4x8320x8320, .f32⟩
  | .hbm, ⟨51, _⟩ => ⟨S4x8320x8320, .f32⟩
  | .hbm, ⟨52, _⟩ => ⟨S4x8320x8320, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x8320x8320, .f32⟩
  | .hbm, ⟨61, _⟩ => ⟨S4x8320x8320, .i1⟩
  | .hbm, ⟨62, _⟩ => ⟨S_, .f32⟩
  | .hbm, ⟨63, _⟩ => ⟨S4x8320x8320, .f32⟩
  | .hbm, ⟨64, _⟩ => ⟨S4x8320x8320, .f32⟩
  | .hbm, ⟨65, _⟩ => ⟨S4x8320x8320, .f32⟩
  | .hbm, ⟨66, _⟩ => ⟨S4x8320x8320, .f32⟩
  | .hbm, ⟨67, _⟩ => ⟨S4x8320x8320, .f32⟩
  | .hbm, ⟨68, _⟩ => ⟨S_, .f32⟩
  | .hbm, ⟨69, _⟩ => ⟨S4x8320x8320, .f32⟩
  | .hbm, ⟨70, _⟩ => ⟨S4x8320x8320, .f32⟩
  | .hbm, ⟨71, _⟩ => ⟨S4x8320x8320, .f32⟩
  | .hbm, ⟨72, _⟩ => ⟨S_, .f32⟩
  | .hbm, ⟨73, _⟩ => ⟨S_, .f32⟩
  | .hbm, ⟨74, _⟩ => ⟨S4x8320x8320, .i1⟩
  | .hbm, ⟨75, _⟩ => ⟨S4x8320x8320, .f32⟩
  | .hbm, ⟨76, _⟩ => ⟨S4x8320x8320, .f32⟩
  | .hbm, ⟨77, _⟩ => ⟨S_, .f32⟩
  | .hbm, ⟨78, _⟩ => ⟨S4x8320x8320, .f32⟩
  | .hbm, ⟨79, _⟩ => ⟨S_, .f32⟩
  | .hbm, ⟨80, _⟩ => ⟨S_, .f32⟩
  | .hbm, ⟨81, _⟩ => ⟨S4x8320x8320, .f32⟩
  | .hbm, ⟨82, _⟩ => ⟨S4x8320x8320, .f32⟩
  | .hbm, ⟨83, _⟩ => ⟨S_, .f32⟩
  | .hbm, ⟨84, _⟩ => ⟨S_, .f32⟩
  | .hbm, ⟨85, _⟩ => ⟨S4x8320x8320, .i1⟩
  | .hbm, ⟨86, _⟩ => ⟨S4x8320x8320, .f32⟩
  | .hbm, ⟨87, _⟩ => ⟨S4x8320x8320, .f32⟩
  | .hbm, ⟨88, _⟩ => ⟨S_, .f32⟩
  | .hbm, ⟨89, _⟩ => ⟨S4x8320x8320, .f32⟩
  | .hbm, ⟨90, _⟩ => ⟨S4x8320x8320, .f32⟩
  | .hbm, ⟨91, _⟩ => ⟨S8320x4x128, .f32⟩
  | .hbm, ⟨92, _⟩ => ⟨S4x8320x128, .f32⟩
  | .hbm, ⟨93, _⟩ => ⟨S4x8320x128, .f32⟩
  | .hbm, ⟨94, _⟩ => ⟨S8320x4x128, .f32⟩
  | .hbm, ⟨95, _⟩ => ⟨S8320x512, .f32⟩
  | .hbm, ⟨96, _⟩ => ⟨S8320x512, .f32⟩
  | .hbm, ⟨97, _⟩ => ⟨S8320x4x128, .f32⟩
  | .hbm, ⟨98, _⟩ => ⟨S4x8320x128, .f32⟩
  | .hbm, ⟨99, _⟩ => ⟨S4x128x8320, .f32⟩
  | .hbm, ⟨100, _⟩ => ⟨S4x8320x128, .f32⟩
  | .hbm, ⟨101, _⟩ => ⟨S4x8320x8320, .f32⟩
  | .hbm, ⟨102, _⟩ => ⟨S8320x4x128, .f32⟩
  | .hbm, ⟨103, _⟩ => ⟨S8320x512, .f32⟩
  | .hbm, ⟨104, _⟩ => ⟨S4x8320x8320, .f32⟩
  | .hbm, ⟨105, _⟩ => ⟨S_, .f32⟩
  | .hbm, ⟨106, _⟩ => ⟨S4x8320x8320, .f32⟩
  | .hbm, ⟨107, _⟩ => ⟨S4x8320x8320, .f32⟩
  | .hbm, ⟨108, _⟩ => ⟨S_, .f32⟩
  | .hbm, ⟨109, _⟩ => ⟨S_, .f32⟩
  | .hbm, ⟨110, _⟩ => ⟨S4x8320x8320, .f32⟩
  | .hbm, ⟨111, _⟩ => ⟨S_, .f32⟩
  | .hbm, ⟨112, _⟩ => ⟨S4x8320x8320, .f32⟩
  | .hbm, ⟨113, _⟩ => ⟨S4x8320x8320, .f32⟩
  | .hbm, ⟨114, _⟩ => ⟨S4x8320x8320, .f32⟩
  | .hbm, ⟨115, _⟩ => ⟨S4x8320x8320, .f32⟩
  | .hbm, ⟨116, _⟩ => ⟨S4x8320x8320, .f32⟩
  | .hbm, ⟨117, _⟩ => ⟨S_, .f32⟩
  | .hbm, ⟨118, _⟩ => ⟨S4x8320x8320, .f32⟩
  | .hbm, ⟨119, _⟩ => ⟨S4x8320x8320, .f32⟩
  | .hbm, ⟨120, _⟩ => ⟨S4x8320x128, .f32⟩
  | .hbm, ⟨121, _⟩ => ⟨S4x8320x128, .f32⟩
  | .hbm, ⟨122, _⟩ => ⟨S8320x4x128, .f32⟩
  | .hbm, ⟨123, _⟩ => ⟨S8320x512, .f32⟩
  | .hbm, ⟨124, _⟩ => ⟨S8320x4x128, .f32⟩
  | .hbm, ⟨125, _⟩ => ⟨S8320x512, .f32⟩
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v21_0 : Ref sig .tc := ⟨.hbm, 38, rfl⟩
abbrev main_call0_cst_0 : Ref sig .tc := ⟨.hbm, 39, rfl⟩
abbrev main_call0_v13 : Ref sig .tc := ⟨.hbm, 40, rfl⟩
abbrev main_call0_v14 : Ref sig .tc := ⟨.hbm, 41, rfl⟩
abbrev main_call0_cst_1 : Ref sig .tc := ⟨.hbm, 42, rfl⟩
abbrev main_call0_v15 : Ref sig .tc := ⟨.hbm, 43, rfl⟩
abbrev main_call0_v16 : Ref sig .tc := ⟨.hbm, 44, rfl⟩
abbrev main_call0_cst_2 : Ref sig .tc := ⟨.hbm, 45, rfl⟩
abbrev main_call0_v17 : Ref sig .tc := ⟨.hbm, 46, rfl⟩
abbrev main_call0_v18 : Ref sig .tc := ⟨.hbm, 47, rfl⟩
abbrev main_call0_cst_3 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_v21_1 : Ref sig .tc := ⟨.hbm, 52, rfl⟩
abbrev main_call0_cst_4 : Ref sig .tc := ⟨.hbm, 53, rfl⟩
abbrev main_call0_cst_5 : Ref sig .tc := ⟨.hbm, 54, rfl⟩
abbrev main_call0_v23 : Ref sig .tc := ⟨.hbm, 55, rfl⟩
abbrev main_call0_cst_6 : Ref sig .tc := ⟨.hbm, 56, rfl⟩
abbrev main_call0_cst_7 : Ref sig .tc := ⟨.hbm, 57, rfl⟩
abbrev main_call0_v24 : Ref sig .tc := ⟨.hbm, 58, rfl⟩
abbrev main_call0_cst_8 : Ref sig .tc := ⟨.hbm, 59, rfl⟩
abbrev main_call0_v25 : Ref sig .tc := ⟨.hbm, 60, rfl⟩
abbrev main_call0_v26 : Ref sig .tc := ⟨.hbm, 61, rfl⟩
abbrev main_call0_cst_9 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_cst_10 : Ref sig .tc := ⟨.hbm, 68, rfl⟩
abbrev main_call0_v32 : Ref sig .tc := ⟨.hbm, 69, rfl⟩
abbrev main_v21_2 : Ref sig .tc := ⟨.hbm, 70, rfl⟩
abbrev main_v22 : Ref sig .tc := ⟨.hbm, 71, rfl⟩
abbrev main_cst_0 : Ref sig .tc := ⟨.hbm, 72, rfl⟩
abbrev main_call1_v0 : Ref sig .tc := ⟨.hbm, 73, rfl⟩
abbrev main_v23_1 : Ref sig .tc := ⟨.hbm, 74, rfl⟩
abbrev main_call1_v2 : Ref sig .tc := ⟨.hbm, 75, rfl⟩
abbrev main_v23_0 : Ref sig .tc := ⟨.hbm, 76, rfl⟩
abbrev main_call1_cst : Ref sig .tc := ⟨.hbm, 77, rfl⟩
abbrev main_v23_2 : Ref sig .tc := ⟨.hbm, 78, rfl⟩
abbrev main_call2_cst : Ref sig .tc := ⟨.hbm, 79, rfl⟩
abbrev main_call2_v0 : Ref sig .tc := ⟨.hbm, 80, rfl⟩
abbrev main_v24 : Ref sig .tc := ⟨.hbm, 81, rfl⟩
abbrev main_v25 : Ref sig .tc := ⟨.hbm, 82, rfl⟩
abbrev main_cst_1 : Ref sig .tc := ⟨.hbm, 83, rfl⟩
abbrev main_call3_v0 : Ref sig .tc := ⟨.hbm, 84, rfl⟩
abbrev main_v26_1 : Ref sig .tc := ⟨.hbm, 85, rfl⟩
abbrev main_call3_v2 : Ref sig .tc := ⟨.hbm, 86, rfl⟩
abbrev main_v26_0 : Ref sig .tc := ⟨.hbm, 87, rfl⟩
abbrev main_call3_cst : Ref sig .tc := ⟨.hbm, 88, rfl⟩
abbrev main_v26_2 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_call4_cst : Ref sig .tc := ⟨.hbm, 105, rfl⟩
abbrev main_call4_v0 : Ref sig .tc := ⟨.hbm, 106, rfl⟩
abbrev main_v42 : Ref sig .tc := ⟨.hbm, 107, rfl⟩
abbrev main_call5_cst : Ref sig .tc := ⟨.hbm, 108, rfl⟩
abbrev main_call5_v0 : Ref sig .tc := ⟨.hbm, 109, rfl⟩
abbrev main_v43 : Ref sig .tc := ⟨.hbm, 110, rfl⟩
abbrev main_call6_cst : Ref sig .tc := ⟨.hbm, 111, rfl⟩
abbrev main_call6_v0 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_2 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩

abbrev nD : Nat := 1
abbrev τ : Topo := Topo.v7x

variable {F : FTy → Type} [FloatOps F]
-- ==== Kernel2.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .f32⟩
  | .hbm, ⟨3, _⟩ => ⟨S8320x2816, .f32⟩
  | .hbm, ⟨4, _⟩ => ⟨S8320x2816, .bf16⟩
  | .hbm, ⟨5, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S1408x1024, .bf16⟩
  | .local _ .vmem, ⟨3, _⟩ => ⟨S1408x1024, .bf16⟩
  | .local _ .vmem, ⟨4, _⟩ => ⟨S640x1408, .f32⟩
  | .local _ .vmem, ⟨5, _⟩ => ⟨S640x1408, .f32⟩
  | .local _ .vmem, ⟨6, _⟩ => ⟨S640x1408, .f32⟩
  | .local _ .vmem, ⟨7, _⟩ => ⟨S640x1408, .f32⟩
  | .local _ .vmem, ⟨8, _⟩ => ⟨S640x1408, .bf16⟩
  | .local _ .vmem, ⟨9, _⟩ => ⟨S640x1408, .bf16⟩
  | .local _ .vmem, ⟨10, _⟩ => ⟨S640x1408, .bf16⟩
  | .local _ .vmem, ⟨11, _⟩ => ⟨S640x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8320x1024 : Shape := ⟨2, ![8320, 1024]⟩
abbrev S2816x1024 : Shape := ⟨2, ![2816, 1024]⟩
abbrev S8320x2816 : Shape := ⟨2, ![8320, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .f32⟩
  | .hbm, ⟨3, _⟩ => ⟨S8320x2816, .f32⟩
  | .hbm, ⟨4, _⟩ => ⟨S8320x2816, .f32⟩
  | .hbm, ⟨5, _⟩ => ⟨S8320x2816, .f32⟩
  | .hbm, ⟨6, _⟩ => ⟨S_, .f32⟩
  | .hbm, ⟨7, _⟩ => ⟨S8320x2816, .f32⟩
  | .hbm, ⟨8, _⟩ => ⟨S8320x2816, .f32⟩
  | .hbm, ⟨9, _⟩ => ⟨S_, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x2816, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S2816x1024, .f32⟩
  | .hbm, ⟨19, _⟩ => ⟨S8320x1024, .f32⟩
  | .hbm, ⟨20, _⟩ => ⟨S8320x1024, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S8320x2816, .bf16⟩
  | .hbm, ⟨29, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S8320x1024 : Shape := ⟨2, ![8320, 1024]⟩
abbrev S8320x2816 : Shape := ⟨2, ![8320, 2816]⟩
abbrev S1024x2816 : Shape := ⟨2, ![1024, 2816]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S1024x2816, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x1024 : Shape := ⟨2, ![8320, 1024]⟩
abbrev S8320x2816 : Shape := ⟨2, ![8320, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S_, .f32⟩
  | .hbm, ⟨3, _⟩ => ⟨S1024x2816, .f32⟩
  | .hbm, ⟨4, _⟩ => ⟨S8320x1024, .f32⟩
  | .hbm, ⟨5, _⟩ => ⟨S8320x2816, .f32⟩
  | .hbm, ⟨6, _⟩ => ⟨S8320x2816, .f32⟩
  | .hbm, ⟨7, _⟩ => ⟨S2816x1024, .f32⟩
  | .hbm, ⟨8, _⟩ => ⟨S1024x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8320x2816 : Shape := ⟨2, ![8320, 2816]⟩
abbrev S1024x2816 : Shape := ⟨2, ![1024, 2816]⟩
abbrev S8320x1024 : Shape := ⟨2, ![8320, 1024]⟩
abbrev S1040x2816 : Shape := ⟨2, ![1040, 2816]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .local _ .vmem, ⟨0, _⟩ => ⟨S1040x2816, .bf16⟩
  | .local _ .vmem, ⟨1, _⟩ => ⟨S1040x2816, .bf16⟩
  | .local _ .vmem, ⟨2, _⟩ => ⟨S1024x2816, .bf16⟩
  | .local _ .vmem, ⟨3, _⟩ => ⟨S1040x1024, .f32⟩
  | .local _ .vmem, ⟨4, _⟩ => ⟨S1040x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x2816 : Shape := ⟨2, ![8320, 2816]⟩
abbrev S1024x2816 : Shape := ⟨2, ![1024, 2816]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S_, .f32⟩
  | .hbm, ⟨3, _⟩ => ⟨S8320x1024, .f32⟩
  | .hbm, ⟨4, _⟩ => ⟨S1024x2816, .f32⟩
  | .hbm, ⟨5, _⟩ => ⟨S8320x2816, .f32⟩
  | .hbm, ⟨6, _⟩ => ⟨S8320x2816, .f32⟩
  | .hbm, ⟨7, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8320x1024 : Shape := ⟨2, ![8320, 1024]⟩
abbrev S1024x2816 : Shape := ⟨2, ![1024, 2816]⟩
abbrev S8320x2816 : Shape := ⟨2, ![8320, 2816]⟩
abbrev S640x1024 : Shape := ⟨2, ![640, 1024]⟩
abbrev S1024x1408 : Shape := ⟨2, ![1024, 1408]⟩
abbrev S640x1408 : Shape := ⟨2, ![640, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S1024x2816, .bf16⟩
  | .hbm, ⟨3, _⟩ => ⟨S8320x2816, .f32⟩
  | .hbm, ⟨4, _⟩ => ⟨S8320x2816, .f32⟩
  | .hbm, ⟨5, _⟩ => ⟨S8320x2816, .bf16⟩
  | .local _ .vmem, ⟨0, _⟩ => ⟨S640x1024, .bf16⟩
  | .local _ .vmem, ⟨1, _⟩ => ⟨S640x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S640x1408, .f32⟩
  | .local _ .vmem, ⟨7, _⟩ => ⟨S640x1408, .f32⟩
  | .local _ .vmem, ⟨8, _⟩ => ⟨S640x1408, .f32⟩
  | .local _ .vmem, ⟨9, _⟩ => ⟨S640x1408, .f32⟩
  | .local _ .vmem, ⟨10, _⟩ => ⟨S640x1408, .bf16⟩
  | .local _ .vmem, ⟨11, _⟩ => ⟨S640x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8320x1024 : Shape := ⟨2, ![8320, 1024]⟩
abbrev S1024x2816 : Shape := ⟨2, ![1024, 2816]⟩
abbrev S8320x2816 : Shape := ⟨2, ![8320, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S1024x2816, .bf16⟩
  | .hbm, ⟨3, _⟩ => ⟨S8320x1024, .f32⟩
  | .hbm, ⟨4, _⟩ => ⟨S1024x2816, .f32⟩
  | .hbm, ⟨5, _⟩ => ⟨S8320x2816, .f32⟩
  | .hbm, ⟨6, _⟩ => ⟨S8320x1024, .f32⟩
  | .hbm, ⟨7, _⟩ => ⟨S1024x2816, .f32⟩
  | .hbm, ⟨8, _⟩ => ⟨S8320x2816, .f32⟩
  | .hbm, ⟨9, _⟩ => ⟨S8320x2816, .f32⟩
  | .hbm, ⟨10, _⟩ => ⟨S8320x2816, .f32⟩
  | .hbm, ⟨11, _⟩ => ⟨S_, .f32⟩
  | .hbm, ⟨12, _⟩ => ⟨S8320x2816, .f32⟩
  | .hbm, ⟨13, _⟩ => ⟨S8320x2816, .f32⟩
  | .hbm, ⟨14, _⟩ => ⟨S_, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel7.lean ====
abbrev S8320x2816 : Shape := ⟨2, ![8320, 2816]⟩
abbrev S2816x1024 : Shape := ⟨2, ![2816, 1024]⟩
abbrev S8320x1024 : Shape := ⟨2, ![8320, 1024]⟩
abbrev S1040x2816 : Shape := ⟨2, ![1040, 2816]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .local _ .vmem, ⟨0, _⟩ => ⟨S1040x2816, .bf16⟩
  | .local _ .vmem, ⟨1, _⟩ => ⟨S1040x2816, .bf16⟩
  | .local _ .vmem, ⟨2, _⟩ => ⟨S2816x1024, .bf16⟩
  | .local _ .vmem, ⟨3, _⟩ => ⟨S1040x1024, .f32⟩
  | .local _ .vmem, ⟨4, _⟩ => ⟨S1040x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x2816, .f32⟩
  | .hbm, ⟨3, _⟩ => ⟨S2816x1024, .f32⟩
  | .hbm, ⟨4, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8320x1024 : Shape := ⟨2, ![8320, 1024]⟩
abbrev S1024x5120 : Shape := ⟨2, ![1024, 5120]⟩
abbrev S8320x5120 : Shape := ⟨2, ![8320, 5120]⟩
abbrev S1040x1024 : Shape := ⟨2, ![1040, 1024]⟩
abbrev S1024x1280 : Shape := ⟨2, ![1024, 1280]⟩
abbrev S1040x1280 : Shape := ⟨2, ![1040, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5120, .bf16⟩
  | .hbm, ⟨2, _⟩ => ⟨S8320x5120, .f32⟩
  | .local _ .vmem, ⟨0, _⟩ => ⟨S1040x1024, .bf16⟩
  | .local _ .vmem, ⟨1, _⟩ => ⟨S1040x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1040x1280, .f32⟩
  | .local _ .vmem, ⟨5, _⟩ => ⟨S1040x1280, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S1024x5120 : Shape := ⟨2, ![1024, 5120]⟩
abbrev S8320x5120 : Shape := ⟨2, ![8320, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5120, .bf16⟩
  | .hbm, ⟨2, _⟩ => ⟨S8320x1024, .f32⟩
  | .hbm, ⟨3, _⟩ => ⟨S1024x5120, .f32⟩
  | .hbm, ⟨4, _⟩ => ⟨S8320x5120, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8320x1536 : Shape := ⟨2, ![8320, 1536]⟩
abbrev S1536x1024 : Shape := ⟨2, ![1536, 1024]⟩
abbrev S8320x1024 : Shape := ⟨2, ![8320, 1024]⟩
abbrev S1040x1536 : Shape := ⟨2, ![1040, 1536]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1536, .bf16⟩
  | .hbm, ⟨1, _⟩ => ⟨S1536x1024, .bf16⟩
  | .hbm, ⟨2, _⟩ => ⟨S8320x1024, .f32⟩
  | .local _ .vmem, ⟨0, _⟩ => ⟨S1040x1536, .bf16⟩
  | .local _ .vmem, ⟨1, _⟩ => ⟨S1040x1536, .bf16⟩
  | .local _ .vmem, ⟨2, _⟩ => ⟨S1536x1024, .bf16⟩
  | .local _ .vmem, ⟨3, _⟩ => ⟨S1040x1024, .f32⟩
  | .local _ .vmem, ⟨4, _⟩ => ⟨S1040x1024, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x1536 : Shape := ⟨2, ![8320, 1536]⟩
abbrev S1536x1024 : Shape := ⟨2, ![1536, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S1536x1024, .bf16⟩
  | .hbm, ⟨2, _⟩ => ⟨S8320x1536, .f32⟩
  | .hbm, ⟨3, _⟩ => ⟨S1536x1024, .f32⟩
  | .hbm, ⟨4, _⟩ => ⟨S8320x1024, .f32⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8320x1024 : Shape := ⟨2, ![8320, 1024]⟩
abbrev S1536x1024 : Shape := ⟨2, ![1536, 1024]⟩
abbrev S8320x1536 : Shape := ⟨2, ![8320, 1536]⟩
abbrev S1040x1024 : Shape := ⟨2, ![1040, 1024]⟩
abbrev S768x1024 : Shape := ⟨2, ![768, 1024]⟩
abbrev S1040x768 : Shape := ⟨2, ![1040, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1536x1024, .bf16⟩
  | .hbm, ⟨2, _⟩ => ⟨S8320x1536, .f32⟩
  | .local _ .vmem, ⟨0, _⟩ => ⟨S1040x1024, .bf16⟩
  | .local _ .vmem, ⟨1, _⟩ => ⟨S1040x1024, .bf16⟩
  | .local _ .vmem, ⟨2, _⟩ => ⟨S768x1024, .bf16⟩
  | .local _ .vmem, ⟨3, _⟩ => ⟨S768x1024, .bf16⟩
  | .local _ .vmem, ⟨4, _⟩ => ⟨S1040x768, .f32⟩
  | .local _ .vmem, ⟨5, _⟩ => ⟨S1040x768, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S1536x1024 : Shape := ⟨2, ![1536, 1024]⟩
abbrev S_ : Shape := ⟨0, ![]⟩
abbrev S8320x1536 : Shape := ⟨2, ![8320, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1536x1024, .bf16⟩
  | .hbm, ⟨2, _⟩ => ⟨S_, .f32⟩
  | .hbm, ⟨3, _⟩ => ⟨S8320x1536, .f32⟩
  | .hbm, ⟨4, _⟩ => ⟨S1536x1024, .f32⟩
  | .hbm, ⟨5, _⟩ => ⟨S8320x1024, .f32⟩
  | .hbm, ⟨6, _⟩ => ⟨S8320x1024, .f32⟩
  | .hbm, ⟨7, _⟩ => ⟨S8320x1536, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8320x1536 : Shape := ⟨2, ![8320, 1536]⟩
abbrev S8320x1024 : Shape := ⟨2, ![8320, 1024]⟩
abbrev S1536x1024 : Shape := ⟨2, ![1536, 1024]⟩
abbrev S1664x768 : Shape := ⟨2, ![1664, 768]⟩
abbrev S1664x1024 : Shape := ⟨2, ![1664, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1536, .bf16⟩
  | .hbm, ⟨1, _⟩ => ⟨S8320x1024, .bf16⟩
  | .hbm, ⟨2, _⟩ => ⟨S1536x1024, .f32⟩
  | .local _ .vmem, ⟨0, _⟩ => ⟨S1664x768, .bf16⟩
  | .local _ .vmem, ⟨1, _⟩ => ⟨S1664x768, .bf16⟩
  | .local _ .vmem, ⟨2, _⟩ => ⟨S1664x1024, .bf16⟩
  | .local _ .vmem, ⟨3, _⟩ => ⟨S1664x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1536 : Shape := ⟨2, ![8320, 1536]⟩
abbrev S8320x1024 : Shape := ⟨2, ![8320, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S8320x1024, .bf16⟩
  | .hbm, ⟨2, _⟩ => ⟨S_, .f32⟩
  | .hbm, ⟨3, _⟩ => ⟨S1536x1024, .f32⟩
  | .hbm, ⟨4, _⟩ => ⟨S8320x1536, .f32⟩
  | .hbm, ⟨5, _⟩ => ⟨S8320x1024, .f32⟩
  | .hbm, ⟨6, _⟩ => ⟨S8320x1024, .f32⟩
  | .hbm, ⟨7, _⟩ => ⟨S1024x1536, .f32⟩
  | .hbm, ⟨8, _⟩ => ⟨S1536x1024, .f32⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8320x5120 : Shape := ⟨2, ![8320, 5120]⟩
abbrev S1024x5120 : Shape := ⟨2, ![1024, 5120]⟩
abbrev S8320x1024 : Shape := ⟨2, ![8320, 1024]⟩
abbrev S1040x2560 : Shape := ⟨2, ![1040, 2560]⟩
abbrev S1024x2560 : Shape := ⟨2, ![1024, 2560]⟩
abbrev S1040x1024 : Shape := ⟨2, ![1040, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5120, .bf16⟩
  | .hbm, ⟨1, _⟩ => ⟨S1024x5120, .bf16⟩
  | .hbm, ⟨2, _⟩ => ⟨S8320x1024, .f32⟩
  | .local _ .vmem, ⟨0, _⟩ => ⟨S1040x2560, .bf16⟩
  | .local _ .vmem, ⟨1, _⟩ => ⟨S1040x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S8320x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x5120 : Shape := ⟨2, ![8320, 5120]⟩
abbrev S1024x5120 : Shape := ⟨2, ![1024, 5120]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x5120, .bf16⟩
  | .hbm, ⟨1, _⟩ => ⟨S1024x5120, .bf16⟩
  | .hbm, ⟨2, _⟩ => ⟨S_, .f32⟩
  | .hbm, ⟨3, _⟩ => ⟨S8320x1024, .f32⟩
  | .hbm, ⟨4, _⟩ => ⟨S1024x5120, .f32⟩
  | .hbm, ⟨5, _⟩ => ⟨S8320x5120, .f32⟩
  | .hbm, ⟨6, _⟩ => ⟨S8320x5120, .f32⟩
  | .hbm, ⟨7, _⟩ => ⟨S8320x1024, .f32⟩
  | _, _ => ⟨S8320x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8320x1024 : Shape := ⟨2, ![8320, 1024]⟩
abbrev S8320x5120 : Shape := ⟨2, ![8320, 5120]⟩
abbrev S1024x5120 : Shape := ⟨2, ![1024, 5120]⟩
abbrev S1664x1024 : Shape := ⟨2, ![1664, 1024]⟩
abbrev S1664x1280 : Shape := ⟨2, ![1664, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x5120, .bf16⟩
  | .hbm, ⟨2, _⟩ => ⟨S1024x5120, .f32⟩
  | .local _ .vmem, ⟨0, _⟩ => ⟨S1664x1024, .bf16⟩
  | .local _ .vmem, ⟨1, _⟩ => ⟨S1664x1024, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8320x1024 : Shape := ⟨2, ![8320, 1024]⟩
abbrev S8320x5120 : Shape := ⟨2, ![8320, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x5120, .bf16⟩
  | .hbm, ⟨2, _⟩ => ⟨S_, .f32⟩
  | .hbm, ⟨3, _⟩ => ⟨S1024x5120, .f32⟩
  | .hbm, ⟨4, _⟩ => ⟨S8320x1024, .f32⟩
  | .hbm, ⟨5, _⟩ => ⟨S8320x5120, .f32⟩
  | .hbm, ⟨6, _⟩ => ⟨S8320x5120, .f32⟩
  | .hbm, ⟨7, _⟩ => ⟨S5120x1024, .f32⟩
  | .hbm, ⟨8, _⟩ => ⟨S1024x5120, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8320x1024 : Shape := ⟨2, ![8320, 1024]⟩
abbrev S1024x2048 : Shape := ⟨2, ![1024, 2048]⟩
abbrev S8320x2048 : Shape := ⟨2, ![8320, 2048]⟩
abbrev S1040x1024 : Shape := ⟨2, ![1040, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x2048, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1040x1024, .f32⟩
  | .local _ .vmem, ⟨5, _⟩ => ⟨S1040x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x1024 : Shape := ⟨2, ![8320, 1024]⟩
abbrev S1024x2048 : Shape := ⟨2, ![1024, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x1024, .f32⟩
  | .hbm, ⟨3, _⟩ => ⟨S1024x2048, .f32⟩
  | .hbm, ⟨4, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8320x1024 : Shape := ⟨2, ![8320, 1024]⟩
abbrev S1024x1024 : Shape := ⟨2, ![1024, 1024]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x1024 : Shape := ⟨2, ![8320, 1024]⟩
abbrev S1024x1024 : Shape := ⟨2, ![1024, 1024]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8320x2048 : Shape := ⟨2, ![8320, 2048]⟩
abbrev S1024x2048 : Shape := ⟨2, ![1024, 2048]⟩
abbrev S8320x1024 : Shape := ⟨2, ![8320, 1024]⟩
abbrev S1040x2048 : Shape := ⟨2, ![1040, 2048]⟩
abbrev S1040x1024 : Shape := ⟨2, ![1040, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S8320x1024, .f32⟩
  | .local _ .vmem, ⟨0, _⟩ => ⟨S1040x2048, .bf16⟩
  | .local _ .vmem, ⟨1, _⟩ => ⟨S1040x2048, .bf16⟩
  | .local _ .vmem, ⟨2, _⟩ => ⟨S1024x2048, .bf16⟩
  | .local _ .vmem, ⟨3, _⟩ => ⟨S1040x1024, .f32⟩
  | .local _ .vmem, ⟨4, _⟩ => ⟨S1040x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x2048 : Shape := ⟨2, ![8320, 2048]⟩
abbrev S1024x2048 : Shape := ⟨2, ![1024, 2048]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S_, .f32⟩
  | .hbm, ⟨3, _⟩ => ⟨S8320x1024, .f32⟩
  | .hbm, ⟨4, _⟩ => ⟨S1024x2048, .f32⟩
  | .hbm, ⟨5, _⟩ => ⟨S8320x2048, .f32⟩
  | .hbm, ⟨6, _⟩ => ⟨S8320x2048, .f32⟩
  | .hbm, ⟨7, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8320x1024 : Shape := ⟨2, ![8320, 1024]⟩
abbrev S8320x2048 : Shape := ⟨2, ![8320, 2048]⟩
abbrev S1024x2048 : Shape := ⟨2, ![1024, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S1024x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x1024 : Shape := ⟨2, ![8320, 1024]⟩
abbrev S8320x2048 : Shape := ⟨2, ![8320, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S_, .f32⟩
  | .hbm, ⟨3, _⟩ => ⟨S1024x2048, .f32⟩
  | .hbm, ⟨4, _⟩ => ⟨S8320x1024, .f32⟩
  | .hbm, ⟨5, _⟩ => ⟨S8320x2048, .f32⟩
  | .hbm, ⟨6, _⟩ => ⟨S8320x2048, .f32⟩
  | .hbm, ⟨7, _⟩ => ⟨S2048x1024, .f32⟩
  | .hbm, ⟨8, _⟩ => ⟨S1024x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1154 : Shape := ⟨2, ![2048, 1154]⟩
abbrev S512x1154 : Shape := ⟨2, ![512, 1154]⟩

abbrev nBuf : Space → Nat
  | .hbm => 7
  | .vmem => 14
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .f32⟩
  | .hbm, ⟨4, _⟩ => ⟨S2048x1154, .f32⟩
  | .hbm, ⟨5, _⟩ => ⟨S2048x1154, .f32⟩
  | .hbm, ⟨6, _⟩ => ⟨S2048x1154, .f32⟩
  | .local _ .vmem, ⟨0, _⟩ => ⟨S512x1154, .f32⟩
  | .local _ .vmem, ⟨1, _⟩ => ⟨S512x1154, .f32⟩
  | .local _ .vmem, ⟨2, _⟩ => ⟨S512x1154, .f32⟩
  | .local _ .vmem, ⟨3, _⟩ => ⟨S512x1154, .f32⟩
  | .local _ .vmem, ⟨4, _⟩ => ⟨S512x1154, .f32⟩
  | .local _ .vmem, ⟨5, _⟩ => ⟨S512x1154, .f32⟩
  | .local _ .vmem, ⟨6, _⟩ => ⟨S512x1154, .f32⟩
  | .local _ .vmem, ⟨7, _⟩ => ⟨S512x1154, .f32⟩
  | .local _ .vmem, ⟨8, _⟩ => ⟨S512x1154, .f32⟩
  | .local _ .vmem, ⟨9, _⟩ => ⟨S512x1154, .f32⟩
  | .local _ .vmem, ⟨10, _⟩ => ⟨S512x1154, .f32⟩
  | .local _ .vmem, ⟨11, _⟩ => ⟨S512x1154, .f32⟩
  | .local _ .vmem, ⟨12, _⟩ => ⟨S512x1154, .f32⟩
  | .local _ .vmem, ⟨13, _⟩ => ⟨S512x1154, .f32⟩
  | _, _ => ⟨S2048x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S2048x1154 : Shape := ⟨2, ![2048, 1154]⟩
abbrev S512x1154 : Shape := ⟨2, ![512, 1154]⟩

abbrev nBuf : Space → Nat
  | .hbm => 7
  | .vmem => 14
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .f32⟩
  | .hbm, ⟨4, _⟩ => ⟨S2048x1154, .f32⟩
  | .hbm, ⟨5, _⟩ => ⟨S2048x1154, .f32⟩
  | .hbm, ⟨6, _⟩ => ⟨S2048x1154, .f32⟩
  | .local _ .vmem, ⟨0, _⟩ => ⟨S512x1154, .f32⟩
  | .local _ .vmem, ⟨1, _⟩ => ⟨S512x1154, .f32⟩
  | .local _ .vmem, ⟨2, _⟩ => ⟨S512x1154, .f32⟩
  | .local _ .vmem, ⟨3, _⟩ => ⟨S512x1154, .f32⟩
  | .local _ .vmem, ⟨4, _⟩ => ⟨S512x1154, .f32⟩
  | .local _ .vmem, ⟨5, _⟩ => ⟨S512x1154, .f32⟩
  | .local _ .vmem, ⟨6, _⟩ => ⟨S512x1154, .f32⟩
  | .local _ .vmem, ⟨7, _⟩ => ⟨S512x1154, .f32⟩
  | .local _ .vmem, ⟨8, _⟩ => ⟨S512x1154, .f32⟩
  | .local _ .vmem, ⟨9, _⟩ => ⟨S512x1154, .f32⟩
  | .local _ .vmem, ⟨10, _⟩ => ⟨S512x1154, .f32⟩
  | .local _ .vmem, ⟨11, _⟩ => ⟨S512x1154, .f32⟩
  | .local _ .vmem, ⟨12, _⟩ => ⟨S512x1154, .f32⟩
  | .local _ .vmem, ⟨13, _⟩ => ⟨S512x1154, .f32⟩
  | _, _ => ⟨S2048x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2048x1154 : Shape := ⟨2, ![2048, 1154]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .f32⟩
  | .hbm, ⟨4, _⟩ => ⟨S_, .f32⟩
  | .hbm, ⟨5, _⟩ => ⟨S2048x1154, .f32⟩
  | .hbm, ⟨6, _⟩ => ⟨S2048x1154, .f32⟩
  | .hbm, ⟨7, _⟩ => ⟨S_, .f32⟩
  | .hbm, ⟨8, _⟩ => ⟨S2048x1154, .f32⟩
  | .hbm, ⟨9, _⟩ => ⟨S2048x1154, .f32⟩
  | .hbm, ⟨10, _⟩ => ⟨S2048x1154, .f32⟩
  | .hbm, ⟨11, _⟩ => ⟨S_, .f32⟩
  | .hbm, ⟨12, _⟩ => ⟨S2048x1154, .f32⟩
  | .hbm, ⟨13, _⟩ => ⟨S2048x1154, .f32⟩
  | .hbm, ⟨14, _⟩ => ⟨S2048x1154, .f32⟩
  | .hbm, ⟨15, _⟩ => ⟨S_, .f32⟩
  | .hbm, ⟨16, _⟩ => ⟨S2048x1154, .f32⟩
  | .hbm, ⟨17, _⟩ => ⟨S2048x1154, .f32⟩
  | .hbm, ⟨18, _⟩ => ⟨S2048x1154, .f32⟩
  | .hbm, ⟨19, _⟩ => ⟨S_, .f32⟩
  | .hbm, ⟨20, _⟩ => ⟨S2048x1154, .f32⟩
  | .hbm, ⟨21, _⟩ => ⟨S2048x1154, .f32⟩
  | .hbm, ⟨22, _⟩ => ⟨S_, .f32⟩
  | .hbm, ⟨23, _⟩ => ⟨S2048x1154, .f32⟩
  | .hbm, ⟨24, _⟩ => ⟨S2048x1154, .f32⟩
  | .hbm, ⟨25, _⟩ => ⟨S2048x1154, .f32⟩
  | .hbm, ⟨26, _⟩ => ⟨S_, .f32⟩
  | .hbm, ⟨27, _⟩ => ⟨S2048x1154, .f32⟩
  | .hbm, ⟨28, _⟩ => ⟨S2048x1154, .f32⟩
  | .hbm, ⟨29, _⟩ => ⟨S2048x1154, .f32⟩
  | .hbm, ⟨30, _⟩ => ⟨S_, .f32⟩
  | .hbm, ⟨31, _⟩ => ⟨S2048x1154, .f32⟩
  | .hbm, ⟨32, _⟩ => ⟨S2048x1154, .f32⟩
  | .hbm, ⟨33, _⟩ => ⟨S2048x1154, .f32⟩
  | .hbm, ⟨34, _⟩ => ⟨S_, .f32⟩
  | .hbm, ⟨35, _⟩ => ⟨S2048x1154, .f32⟩
  | .hbm, ⟨36, _⟩ => ⟨S2048x1154, .f32⟩
  | _, _ => ⟨S2048x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel25Ideal.lean ====
abbrev S768x1024 : Shape := ⟨2, ![768, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel26Ideal.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S62x256 : Shape := ⟨2, ![62, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S_, .f32⟩
  | .hbm, ⟨5, _⟩ => ⟨S62x256, .f32⟩
  | .hbm, ⟨6, _⟩ => ⟨S62x256, .f32⟩
  | .hbm, ⟨7, _⟩ => ⟨S_, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S_, .f32⟩
  | .hbm, ⟨12, _⟩ => ⟨S62x256, .f32⟩
  | .hbm, ⟨13, _⟩ => ⟨S62x256, .f32⟩
  | .hbm, ⟨14, _⟩ => ⟨S62x256, .f32⟩
  | .hbm, ⟨15, _⟩ => ⟨S_, .f32⟩
  | .hbm, ⟨16, _⟩ => ⟨S62x256, .f32⟩
  | .hbm, ⟨17, _⟩ => ⟨S62x256, .f32⟩
  | .hbm, ⟨18, _⟩ => ⟨S62x256, .f32⟩
  | .hbm, ⟨19, _⟩ => ⟨S_, .f32⟩
  | .hbm, ⟨20, _⟩ => ⟨S62x256, .f32⟩
  | .hbm, ⟨21, _⟩ => ⟨S62x256, .f32⟩
  | .hbm, ⟨22, _⟩ => ⟨S_, .f32⟩
  | .hbm, ⟨23, _⟩ => ⟨S62x256, .f32⟩
  | .hbm, ⟨24, _⟩ => ⟨S62x256, .f32⟩
  | .hbm, ⟨25, _⟩ => ⟨S62x256, .f32⟩
  | .hbm, ⟨26, _⟩ => ⟨S_, .f32⟩
  | .hbm, ⟨27, _⟩ => ⟨S62x256, .f32⟩
  | .hbm, ⟨28, _⟩ => ⟨S62x256, .f32⟩
  | .hbm, ⟨29, _⟩ => ⟨S62x256, .f32⟩
  | .hbm, ⟨30, _⟩ => ⟨S_, .f32⟩
  | .hbm, ⟨31, _⟩ => ⟨S62x256, .f32⟩
  | .hbm, ⟨32, _⟩ => ⟨S62x256, .f32⟩
  | .hbm, ⟨33, _⟩ => ⟨S62x256, .f32⟩
  | .hbm, ⟨34, _⟩ => ⟨S_, .f32⟩
  | .hbm, ⟨35, _⟩ => ⟨S62x256, .f32⟩
  | .hbm, ⟨36, _⟩ => ⟨S62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel29Ideal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel30Ideal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S2048x1154 : Shape := ⟨2, ![2048, 1154]⟩
abbrev S512x1154 : Shape := ⟨2, ![512, 1154]⟩

abbrev nBuf : Space → Nat
  | .hbm => 4
  | .vmem => 8
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .bf16⟩
  | .local _ .vmem, ⟨0, _⟩ => ⟨S512x1154, .f32⟩
  | .local _ .vmem, ⟨1, _⟩ => ⟨S512x1154, .f32⟩
  | .local _ .vmem, ⟨2, _⟩ => ⟨S512x1154, .f32⟩
  | .local _ .vmem, ⟨3, _⟩ => ⟨S512x1154, .f32⟩
  | .local _ .vmem, ⟨4, _⟩ => ⟨S512x1154, .f32⟩
  | .local _ .vmem, ⟨5, _⟩ => ⟨S512x1154, .f32⟩
  | .local _ .vmem, ⟨6, _⟩ => ⟨S512x1154, .bf16⟩
  | .local _ .vmem, ⟨7, _⟩ => ⟨S512x1154, .bf16⟩
  | _, _ => ⟨S2048x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1154 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel33Ideal.lean ====
abbrev S2048x1154 : Shape := ⟨2, ![2048, 1154]⟩
abbrev S512x1154 : Shape := ⟨2, ![512, 1154]⟩

abbrev nBuf : Space → Nat
  | .hbm => 4
  | .vmem => 8
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .bf16⟩
  | .local _ .vmem, ⟨0, _⟩ => ⟨S512x1154, .f32⟩
  | .local _ .vmem, ⟨1, _⟩ => ⟨S512x1154, .f32⟩
  | .local _ .vmem, ⟨2, _⟩ => ⟨S512x1154, .f32⟩
  | .local _ .vmem, ⟨3, _⟩ => ⟨S512x1154, .f32⟩
  | .local _ .vmem, ⟨4, _⟩ => ⟨S512x1154, .f32⟩
  | .local _ .vmem, ⟨5, _⟩ => ⟨S512x1154, .f32⟩
  | .local _ .vmem, ⟨6, _⟩ => ⟨S512x1154, .bf16⟩
  | .local _ .vmem, ⟨7, _⟩ => ⟨S512x1154, .bf16⟩
  | _, _ => ⟨S2048x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1154 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S2048x1154 : Shape := ⟨2, ![2048, 1154]⟩

abbrev nBuf : Space → Nat
  | .hbm => 5
  | .vmem => 0
  | .smem => 0
  | _ => 0

abbrev bufTy : (tb : Table) → Fin (tcTables nBuf tb) → BufTy
  | .hbm, ⟨0, _⟩ => ⟨S2048x1154, .f32⟩
  | .hbm, ⟨1, _⟩ => ⟨S2048x1154, .f32⟩
  | .hbm, ⟨2, _⟩ => ⟨S2048x1154, .f32⟩
  | .hbm, ⟨3, _⟩ => ⟨S2048x1154, .f32⟩
  | .hbm, ⟨4, _⟩ => ⟨S2048x1154, .bf16⟩
  | _, _ => ⟨S2048x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel34.lean ====
abbrev S768x1024 : Shape := ⟨2, ![768, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel34Ideal.lean ====
abbrev S768x1024 : Shape := ⟨2, ![768, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S768x1024 : Shape := ⟨2, ![768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .bf16⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel35.lean ====
abbrev S2048x704 : Shape := ⟨2, ![2048, 704]⟩
abbrev S512x704 : Shape := ⟨2, ![512, 704]⟩

abbrev nBuf : Space → Nat
  | .hbm => 4
  | .vmem => 8
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .bf16⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .bf16⟩
  | .local _ .vmem, ⟨7, _⟩ => ⟨S512x704, .bf16⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel35Ideal.lean ====
abbrev S2048x704 : Shape := ⟨2, ![2048, 704]⟩
abbrev S512x704 : Shape := ⟨2, ![512, 704]⟩

abbrev nBuf : Space → Nat
  | .hbm => 4
  | .vmem => 8
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .bf16⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .bf16⟩
  | .local _ .vmem, ⟨7, _⟩ => ⟨S512x704, .bf16⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference35Ideal.lean ====
abbrev S2048x704 : Shape := ⟨2, ![2048, 704]⟩

abbrev nBuf : Space → Nat
  | .hbm => 5
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .bf16⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel36.lean ====
abbrev S6144x704 : Shape := ⟨2, ![6144, 704]⟩
abbrev S512x704 : Shape := ⟨2, ![512, 704]⟩

abbrev nBuf : Space → Nat
  | .hbm => 4
  | .vmem => 8
  | .smem => 0
  | _ => 0

abbrev bufTy : (tb : Table) → Fin (tcTables nBuf tb) → BufTy
  | .hbm, ⟨0, _⟩ => ⟨S6144x704, .f32⟩
  | .hbm, ⟨1, _⟩ => ⟨S6144x704, .f32⟩
  | .hbm, ⟨2, _⟩ => ⟨S6144x704, .f32⟩
  | .hbm, ⟨3, _⟩ => ⟨S6144x704, .bf16⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .bf16⟩
  | .local _ .vmem, ⟨7, _⟩ => ⟨S512x704, .bf16⟩
  | _, _ => ⟨S6144x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel36Ideal.lean ====
abbrev S6144x704 : Shape := ⟨2, ![6144, 704]⟩
abbrev S512x704 : Shape := ⟨2, ![512, 704]⟩

abbrev nBuf : Space → Nat
  | .hbm => 4
  | .vmem => 8
  | .smem => 0
  | _ => 0

abbrev bufTy : (tb : Table) → Fin (tcTables nBuf tb) → BufTy
  | .hbm, ⟨0, _⟩ => ⟨S6144x704, .f32⟩
  | .hbm, ⟨1, _⟩ => ⟨S6144x704, .f32⟩
  | .hbm, ⟨2, _⟩ => ⟨S6144x704, .f32⟩
  | .hbm, ⟨3, _⟩ => ⟨S6144x704, .bf16⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .bf16⟩
  | .local _ .vmem, ⟨7, _⟩ => ⟨S512x704, .bf16⟩
  | _, _ => ⟨S6144x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference36Ideal.lean ====
abbrev S6144x704 : Shape := ⟨2, ![6144, 704]⟩

abbrev nBuf : Space → Nat
  | .hbm => 5
  | .vmem => 0
  | .smem => 0
  | _ => 0

abbrev bufTy : (tb : Table) → Fin (tcTables nBuf tb) → BufTy
  | .hbm, ⟨0, _⟩ => ⟨S6144x704, .f32⟩
  | .hbm, ⟨1, _⟩ => ⟨S6144x704, .f32⟩
  | .hbm, ⟨2, _⟩ => ⟨S6144x704, .f32⟩
  | .hbm, ⟨3, _⟩ => ⟨S6144x704, .f32⟩
  | .hbm, ⟨4, _⟩ => ⟨S6144x704, .bf16⟩
  | _, _ => ⟨S6144x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel37.lean ====
abbrev S1408x1024 : Shape := ⟨2, ![1408, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel37Ideal.lean ====
abbrev S1408x1024 : Shape := ⟨2, ![1408, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference37Ideal.lean ====
abbrev S1408x1024 : Shape := ⟨2, ![1408, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .bf16⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel38.lean ====
abbrev S4224x1024 : Shape := ⟨2, ![4224, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel38Ideal.lean ====
abbrev S4224x1024 : Shape := ⟨2, ![4224, 1024]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference38Ideal.lean ====
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel39.lean ====
abbrev S4096x512 : Shape := ⟨2, ![4096, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel39Ideal.lean ====
abbrev S4096x512 : Shape := ⟨2, ![4096, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel40.lean ====
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference40Ideal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S512x1154 : Shape := ⟨2, ![512, 1154]⟩

abbrev nBuf : Space → Nat
  | .hbm => 5
  | .vmem => 5
  | .smem => 0
  | _ => 0

abbrev bufTy : (tb : Table) → Fin (tcTables nBuf tb) → BufTy
  | .hbm, ⟨0, _⟩ => ⟨S512x1154, .f32⟩
  | .hbm, ⟨1, _⟩ => ⟨S512x1154, .bf16⟩
  | .hbm, ⟨2, _⟩ => ⟨S512x1154, .bf16⟩
  | .hbm, ⟨3, _⟩ => ⟨S512x1154, .bf16⟩
  | .hbm, ⟨4, _⟩ => ⟨S512x1154, .f32⟩
  | .local _ .vmem, ⟨0, _⟩ => ⟨S512x1154, .f32⟩
  | .local _ .vmem, ⟨1, _⟩ => ⟨S512x1154, .bf16⟩
  | .local _ .vmem, ⟨2, _⟩ => ⟨S512x1154, .bf16⟩
  | .local _ .vmem, ⟨3, _⟩ => ⟨S512x1154, .bf16⟩
  | .local _ .vmem, ⟨4, _⟩ => ⟨S512x1154, .f32⟩
  | _, _ => ⟨S512x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1154 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1154 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1154 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1154 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1154 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Kernel41Ideal.lean ====
abbrev S512x1154 : Shape := ⟨2, ![512, 1154]⟩

abbrev nBuf : Space → Nat
  | .hbm => 5
  | .vmem => 5
  | .smem => 0
  | _ => 0

abbrev bufTy : (tb : Table) → Fin (tcTables nBuf tb) → BufTy
  | .hbm, ⟨0, _⟩ => ⟨S512x1154, .f32⟩
  | .hbm, ⟨1, _⟩ => ⟨S512x1154, .bf16⟩
  | .hbm, ⟨2, _⟩ => ⟨S512x1154, .bf16⟩
  | .hbm, ⟨3, _⟩ => ⟨S512x1154, .bf16⟩
  | .hbm, ⟨4, _⟩ => ⟨S512x1154, .f32⟩
  | .local _ .vmem, ⟨0, _⟩ => ⟨S512x1154, .f32⟩
  | .local _ .vmem, ⟨1, _⟩ => ⟨S512x1154, .bf16⟩
  | .local _ .vmem, ⟨2, _⟩ => ⟨S512x1154, .bf16⟩
  | .local _ .vmem, ⟨3, _⟩ => ⟨S512x1154, .bf16⟩
  | .local _ .vmem, ⟨4, _⟩ => ⟨S512x1154, .f32⟩
  | _, _ => ⟨S512x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1154 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1154 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1154 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1154 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1154 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference41Ideal.lean ====
abbrev S512x1154 : Shape := ⟨2, ![512, 1154]⟩

abbrev nBuf : Space → Nat
  | .hbm => 10
  | .vmem => 0
  | .smem => 0
  | _ => 0

abbrev bufTy : (tb : Table) → Fin (tcTables nBuf tb) → BufTy
  | .hbm, ⟨0, _⟩ => ⟨S512x1154, .f32⟩
  | .hbm, ⟨1, _⟩ => ⟨S512x1154, .bf16⟩
  | .hbm, ⟨2, _⟩ => ⟨S512x1154, .bf16⟩
  | .hbm, ⟨3, _⟩ => ⟨S512x1154, .bf16⟩
  | .hbm, ⟨4, _⟩ => ⟨S512x1154, .f32⟩
  | .hbm, ⟨5, _⟩ => ⟨S512x1154, .f32⟩
  | .hbm, ⟨6, _⟩ => ⟨S512x1154, .f32⟩
  | .hbm, ⟨7, _⟩ => ⟨S512x1154, .f32⟩
  | .hbm, ⟨8, _⟩ => ⟨S512x1154, .f32⟩
  | .hbm, ⟨9, _⟩ => ⟨S512x1154, .f32⟩
  | _, _ => ⟨S512x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel42.lean ====
abbrev S192x1024 : Shape := ⟨2, ![192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S192x1024, .f32⟩
  | .hbm, ⟨1, _⟩ => ⟨S192x1024, .bf16⟩
  | .hbm, ⟨2, _⟩ => ⟨S192x1024, .bf16⟩
  | .hbm, ⟨3, _⟩ => ⟨S192x1024, .bf16⟩
  | .hbm, ⟨4, _⟩ => ⟨S192x1024, .f32⟩
  | .local _ .vmem, ⟨0, _⟩ => ⟨S192x1024, .f32⟩
  | .local _ .vmem, ⟨1, _⟩ => ⟨S192x1024, .bf16⟩
  | .local _ .vmem, ⟨2, _⟩ => ⟨S192x1024, .bf16⟩
  | .local _ .vmem, ⟨3, _⟩ => ⟨S192x1024, .bf16⟩
  | .local _ .vmem, ⟨4, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Kernel42Ideal.lean ====
abbrev S192x1024 : Shape := ⟨2, ![192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S192x1024, .f32⟩
  | .hbm, ⟨1, _⟩ => ⟨S192x1024, .bf16⟩
  | .hbm, ⟨2, _⟩ => ⟨S192x1024, .bf16⟩
  | .hbm, ⟨3, _⟩ => ⟨S192x1024, .bf16⟩
  | .hbm, ⟨4, _⟩ => ⟨S192x1024, .f32⟩
  | .local _ .vmem, ⟨0, _⟩ => ⟨S192x1024, .f32⟩
  | .local _ .vmem, ⟨1, _⟩ => ⟨S192x1024, .bf16⟩
  | .local _ .vmem, ⟨2, _⟩ => ⟨S192x1024, .bf16⟩
  | .local _ .vmem, ⟨3, _⟩ => ⟨S192x1024, .bf16⟩
  | .local _ .vmem, ⟨4, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference42Ideal.lean ====
abbrev S192x1024 : Shape := ⟨2, ![192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S192x1024, .bf16⟩
  | .hbm, ⟨2, _⟩ => ⟨S192x1024, .bf16⟩
  | .hbm, ⟨3, _⟩ => ⟨S192x1024, .bf16⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .hbm, ⟨8, _⟩ => ⟨S192x1024, .f32⟩
  | .hbm, ⟨9, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel43.lean ====
abbrev S512x704 : Shape := ⟨2, ![512, 704]⟩

abbrev nBuf : Space → Nat
  | .hbm => 5
  | .vmem => 5
  | .smem => 0
  | _ => 0

abbrev bufTy : (tb : Table) → Fin (tcTables nBuf tb) → BufTy
  | .hbm, ⟨0, _⟩ => ⟨S512x704, .f32⟩
  | .hbm, ⟨1, _⟩ => ⟨S512x704, .bf16⟩
  | .hbm, ⟨2, _⟩ => ⟨S512x704, .bf16⟩
  | .hbm, ⟨3, _⟩ => ⟨S512x704, .bf16⟩
  | .hbm, ⟨4, _⟩ => ⟨S512x704, .f32⟩
  | .local _ .vmem, ⟨0, _⟩ => ⟨S512x704, .f32⟩
  | .local _ .vmem, ⟨1, _⟩ => ⟨S512x704, .bf16⟩
  | .local _ .vmem, ⟨2, _⟩ => ⟨S512x704, .bf16⟩
  | .local _ .vmem, ⟨3, _⟩ => ⟨S512x704, .bf16⟩
  | .local _ .vmem, ⟨4, _⟩ => ⟨S512x704, .f32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Kernel43Ideal.lean ====
abbrev S512x704 : Shape := ⟨2, ![512, 704]⟩

abbrev nBuf : Space → Nat
  | .hbm => 5
  | .vmem => 5
  | .smem => 0
  | _ => 0

abbrev bufTy : (tb : Table) → Fin (tcTables nBuf tb) → BufTy
  | .hbm, ⟨0, _⟩ => ⟨S512x704, .f32⟩
  | .hbm, ⟨1, _⟩ => ⟨S512x704, .bf16⟩
  | .hbm, ⟨2, _⟩ => ⟨S512x704, .bf16⟩
  | .hbm, ⟨3, _⟩ => ⟨S512x704, .bf16⟩
  | .hbm, ⟨4, _⟩ => ⟨S512x704, .f32⟩
  | .local _ .vmem, ⟨0, _⟩ => ⟨S512x704, .f32⟩
  | .local _ .vmem, ⟨1, _⟩ => ⟨S512x704, .bf16⟩
  | .local _ .vmem, ⟨2, _⟩ => ⟨S512x704, .bf16⟩
  | .local _ .vmem, ⟨3, _⟩ => ⟨S512x704, .bf16⟩
  | .local _ .vmem, ⟨4, _⟩ => ⟨S512x704, .f32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference43Ideal.lean ====
abbrev S512x704 : Shape := ⟨2, ![512, 704]⟩

abbrev nBuf : Space → Nat
  | .hbm => 10
  | .vmem => 0
  | .smem => 0
  | _ => 0

abbrev bufTy : (tb : Table) → Fin (tcTables nBuf tb) → BufTy
  | .hbm, ⟨0, _⟩ => ⟨S512x704, .f32⟩
  | .hbm, ⟨1, _⟩ => ⟨S512x704, .bf16⟩
  | .hbm, ⟨2, _⟩ => ⟨S512x704, .bf16⟩
  | .hbm, ⟨3, _⟩ => ⟨S512x704, .bf16⟩
  | .hbm, ⟨4, _⟩ => ⟨S512x704, .f32⟩
  | .hbm, ⟨5, _⟩ => ⟨S512x704, .f32⟩
  | .hbm, ⟨6, _⟩ => ⟨S512x704, .f32⟩
  | .hbm, ⟨7, _⟩ => ⟨S512x704, .f32⟩
  | .hbm, ⟨8, _⟩ => ⟨S512x704, .f32⟩
  | .hbm, ⟨9, _⟩ => ⟨S512x704, .f32⟩
  | _, _ => ⟨S512x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel44.lean ====
abbrev S1536x704 : Shape := ⟨2, ![1536, 704]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S1536x704, .f32⟩
  | .hbm, ⟨1, _⟩ => ⟨S1536x704, .bf16⟩
  | .hbm, ⟨2, _⟩ => ⟨S1536x704, .bf16⟩
  | .hbm, ⟨3, _⟩ => ⟨S1536x704, .bf16⟩
  | .hbm, ⟨4, _⟩ => ⟨S1536x704, .f32⟩
  | .local _ .vmem, ⟨0, _⟩ => ⟨S512x704, .f32⟩
  | .local _ .vmem, ⟨1, _⟩ => ⟨S512x704, .f32⟩
  | .local _ .vmem, ⟨2, _⟩ => ⟨S512x704, .bf16⟩
  | .local _ .vmem, ⟨3, _⟩ => ⟨S512x704, .bf16⟩
  | .local _ .vmem, ⟨4, _⟩ => ⟨S512x704, .bf16⟩
  | .local _ .vmem, ⟨5, _⟩ => ⟨S512x704, .bf16⟩
  | .local _ .vmem, ⟨6, _⟩ => ⟨S512x704, .bf16⟩
  | .local _ .vmem, ⟨7, _⟩ => ⟨S512x704, .bf16⟩
  | .local _ .vmem, ⟨8, _⟩ => ⟨S512x704, .f32⟩
  | .local _ .vmem, ⟨9, _⟩ => ⟨S512x704, .f32⟩
  | _, _ => ⟨S1536x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel44Ideal.lean ====
abbrev S1536x704 : Shape := ⟨2, ![1536, 704]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S1536x704, .f32⟩
  | .hbm, ⟨1, _⟩ => ⟨S1536x704, .bf16⟩
  | .hbm, ⟨2, _⟩ => ⟨S1536x704, .bf16⟩
  | .hbm, ⟨3, _⟩ => ⟨S1536x704, .bf16⟩
  | .hbm, ⟨4, _⟩ => ⟨S1536x704, .f32⟩
  | .local _ .vmem, ⟨0, _⟩ => ⟨S512x704, .f32⟩
  | .local _ .vmem, ⟨1, _⟩ => ⟨S512x704, .f32⟩
  | .local _ .vmem, ⟨2, _⟩ => ⟨S512x704, .bf16⟩
  | .local _ .vmem, ⟨3, _⟩ => ⟨S512x704, .bf16⟩
  | .local _ .vmem, ⟨4, _⟩ => ⟨S512x704, .bf16⟩
  | .local _ .vmem, ⟨5, _⟩ => ⟨S512x704, .bf16⟩
  | .local _ .vmem, ⟨6, _⟩ => ⟨S512x704, .bf16⟩
  | .local _ .vmem, ⟨7, _⟩ => ⟨S512x704, .bf16⟩
  | .local _ .vmem, ⟨8, _⟩ => ⟨S512x704, .f32⟩
  | .local _ .vmem, ⟨9, _⟩ => ⟨S512x704, .f32⟩
  | _, _ => ⟨S1536x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference44Ideal.lean ====
abbrev S1536x704 : Shape := ⟨2, ![1536, 704]⟩

abbrev nBuf : Space → Nat
  | .hbm => 10
  | .vmem => 0
  | .smem => 0
  | _ => 0

abbrev bufTy : (tb : Table) → Fin (tcTables nBuf tb) → BufTy
  | .hbm, ⟨0, _⟩ => ⟨S1536x704, .f32⟩
  | .hbm, ⟨1, _⟩ => ⟨S1536x704, .bf16⟩
  | .hbm, ⟨2, _⟩ => ⟨S1536x704, .bf16⟩
  | .hbm, ⟨3, _⟩ => ⟨S1536x704, .bf16⟩
  | .hbm, ⟨4, _⟩ => ⟨S1536x704, .f32⟩
  | .hbm, ⟨5, _⟩ => ⟨S1536x704, .f32⟩
  | .hbm, ⟨6, _⟩ => ⟨S1536x704, .f32⟩
  | .hbm, ⟨7, _⟩ => ⟨S1536x704, .f32⟩
  | .hbm, ⟨8, _⟩ => ⟨S1536x704, .f32⟩
  | .hbm, ⟨9, _⟩ => ⟨S1536x704, .f32⟩
  | _, _ => ⟨S1536x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel45.lean ====
abbrev S352x1024 : Shape := ⟨2, ![352, 1024]⟩
abbrev S32x1024 : Shape := ⟨2, ![32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S352x1024, .f32⟩
  | .hbm, ⟨1, _⟩ => ⟨S352x1024, .bf16⟩
  | .hbm, ⟨2, _⟩ => ⟨S352x1024, .bf16⟩
  | .hbm, ⟨3, _⟩ => ⟨S352x1024, .bf16⟩
  | .hbm, ⟨4, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel45Ideal.lean ====
abbrev S352x1024 : Shape := ⟨2, ![352, 1024]⟩
abbrev S32x1024 : Shape := ⟨2, ![32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S352x1024, .f32⟩
  | .hbm, ⟨1, _⟩ => ⟨S352x1024, .bf16⟩
  | .hbm, ⟨2, _⟩ => ⟨S352x1024, .bf16⟩
  | .hbm, ⟨3, _⟩ => ⟨S352x1024, .bf16⟩
  | .hbm, ⟨4, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference45Ideal.lean ====
abbrev S352x1024 : Shape := ⟨2, ![352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .bf16⟩
  | .hbm, ⟨2, _⟩ => ⟨S352x1024, .bf16⟩
  | .hbm, ⟨3, _⟩ => ⟨S352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel46.lean ====
abbrev S1056x1024 : Shape := ⟨2, ![1056, 1024]⟩
abbrev S32x1024 : Shape := ⟨2, ![32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S1056x1024, .f32⟩
  | .hbm, ⟨1, _⟩ => ⟨S1056x1024, .bf16⟩
  | .hbm, ⟨2, _⟩ => ⟨S1056x1024, .bf16⟩
  | .hbm, ⟨3, _⟩ => ⟨S1056x1024, .bf16⟩
  | .hbm, ⟨4, _⟩ => ⟨S1056x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S32x1024, .f32⟩
  | _, _ => ⟨S1056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel46Ideal.lean ====
abbrev S1056x1024 : Shape := ⟨2, ![1056, 1024]⟩
abbrev S32x1024 : Shape := ⟨2, ![32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S1056x1024, .f32⟩
  | .hbm, ⟨1, _⟩ => ⟨S1056x1024, .bf16⟩
  | .hbm, ⟨2, _⟩ => ⟨S1056x1024, .bf16⟩
  | .hbm, ⟨3, _⟩ => ⟨S1056x1024, .bf16⟩
  | .hbm, ⟨4, _⟩ => ⟨S1056x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .bf16⟩
  | .local _ .vmem, ⟨3, _⟩ => ⟨S32x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S32x1024, .f32⟩
  | _, _ => ⟨S1056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference46Ideal.lean ====
abbrev S1056x1024 : Shape := ⟨2, ![1056, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1056x1024, .f32⟩
  | .hbm, ⟨1, _⟩ => ⟨S1056x1024, .bf16⟩
  | .hbm, ⟨2, _⟩ => ⟨S1056x1024, .bf16⟩
  | .hbm, ⟨3, _⟩ => ⟨S1056x1024, .bf16⟩
  | .hbm, ⟨4, _⟩ => ⟨S1056x1024, .f32⟩
  | .hbm, ⟨5, _⟩ => ⟨S1056x1024, .f32⟩
  | .hbm, ⟨6, _⟩ => ⟨S1056x1024, .f32⟩
  | .hbm, ⟨7, _⟩ => ⟨S1056x1024, .f32⟩
  | .hbm, ⟨8, _⟩ => ⟨S1056x1024, .f32⟩
  | .hbm, ⟨9, _⟩ => ⟨S1056x1024, .f32⟩
  | _, _ => ⟨S1056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel47.lean ====
abbrev S1024x512 : Shape := ⟨2, ![1024, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel47Ideal.lean ====
abbrev S1024x512 : Shape := ⟨2, ![1024, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference47Ideal.lean ====
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .hbm, ⟨2, _⟩ => ⟨S1024x512, .bf16⟩
  | .hbm, ⟨3, _⟩ => ⟨S1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel48.lean ====
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S256x1024, .bf16⟩
  | .hbm, ⟨3, _⟩ => ⟨S256x1024, .bf16⟩
  | .hbm, ⟨4, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference48Ideal.lean ====
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S256x1024, .bf16⟩
  | .hbm, ⟨3, _⟩ => ⟨S256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel49.lean ====
abbrev S120x1024 : Shape := ⟨2, ![120, 1024]⟩

abbrev nBuf : Space → Nat
  | .hbm => 9
  | .vmem => 9
  | .smem => 0
  | _ => 0

abbrev bufTy : (tb : Table) → Fin (tcTables nBuf tb) → BufTy
  | .hbm, ⟨0, _⟩ => ⟨S120x1024, .f32⟩
  | .hbm, ⟨1, _⟩ => ⟨S120x1024, .f32⟩
  | .hbm, ⟨2, _⟩ => ⟨S120x1024, .f32⟩
  | .hbm, ⟨3, _⟩ => ⟨S120x1024, .f32⟩
  | .hbm, ⟨4, _⟩ => ⟨S120x1024, .f32⟩
  | .hbm, ⟨5, _⟩ => ⟨S120x1024, .f32⟩
  | .hbm, ⟨6, _⟩ => ⟨S120x1024, .f32⟩
  | .hbm, ⟨7, _⟩ => ⟨S120x1024, .f32⟩
  | .hbm, ⟨8, _⟩ => ⟨S120x1024, .f32⟩
  | .local _ .vmem, ⟨0, _⟩ => ⟨S120x1024, .f32⟩
  | .local _ .vmem, ⟨1, _⟩ => ⟨S120x1024, .f32⟩
  | .local _ .vmem, ⟨2, _⟩ => ⟨S120x1024, .f32⟩
  | .local _ .vmem, ⟨3, _⟩ => ⟨S120x1024, .f32⟩
  | .local _ .vmem, ⟨4, _⟩ => ⟨S120x1024, .f32⟩
  | .local _ .vmem, ⟨5, _⟩ => ⟨S120x1024, .f32⟩
  | .local _ .vmem, ⟨6, _⟩ => ⟨S120x1024, .f32⟩
  | .local _ .vmem, ⟨7, _⟩ => ⟨S120x1024, .f32⟩
  | .local _ .vmem, ⟨8, _⟩ => ⟨S120x1024, .f32⟩
  | _, _ => ⟨S120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S120x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference49Ideal.lean ====
abbrev S120x1024 : Shape := ⟨2, ![120, 1024]⟩

abbrev nBuf : Space → Nat
  | .hbm => 15
  | .vmem => 0
  | .smem => 0
  | _ => 0

abbrev bufTy : (tb : Table) → Fin (tcTables nBuf tb) → BufTy
  | .hbm, ⟨0, _⟩ => ⟨S120x1024, .f32⟩
  | .hbm, ⟨1, _⟩ => ⟨S120x1024, .f32⟩
  | .hbm, ⟨2, _⟩ => ⟨S120x1024, .f32⟩
  | .hbm, ⟨3, _⟩ => ⟨S120x1024, .f32⟩
  | .hbm, ⟨4, _⟩ => ⟨S120x1024, .f32⟩
  | .hbm, ⟨5, _⟩ => ⟨S120x1024, .f32⟩
  | .hbm, ⟨6, _⟩ => ⟨S120x1024, .f32⟩
  | .hbm, ⟨7, _⟩ => ⟨S120x1024, .f32⟩
  | .hbm, ⟨8, _⟩ => ⟨S120x1024, .f32⟩
  | .hbm, ⟨9, _⟩ => ⟨S120x1024, .f32⟩
  | .hbm, ⟨10, _⟩ => ⟨S120x1024, .f32⟩
  | .hbm, ⟨11, _⟩ => ⟨S120x1024, .f32⟩
  | .hbm, ⟨12, _⟩ => ⟨S120x1024, .f32⟩
  | .hbm, ⟨13, _⟩ => ⟨S120x1024, .f32⟩
  | .hbm, ⟨14, _⟩ => ⟨S120x1024, .f32⟩
  | _, _ => ⟨S120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel50.lean ====
abbrev S8320x1024 : Shape := ⟨2, ![8320, 1024]⟩
abbrev S1x1024 : Shape := ⟨2, ![1, 1024]⟩
abbrev S640x1024 : Shape := ⟨2, ![640, 1024]⟩
abbrev S640x1 : Shape := ⟨2, ![640, 1]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference50Ideal.lean ====
abbrev S8320x1024 : Shape := ⟨2, ![8320, 1024]⟩
abbrev S8192x1024 : Shape := ⟨2, ![8192, 1024]⟩
abbrev S_ : Shape := ⟨0, ![]⟩
abbrev S8192 : Shape := ⟨1, ![8192]⟩

abbrev nBuf : Space → Nat
  | .hbm => 29
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel51.lean ====
abbrev S8320x1024 : Shape := ⟨2, ![8320, 1024]⟩
abbrev S1x1024 : Shape := ⟨2, ![1, 1024]⟩
abbrev S640x1024 : Shape := ⟨2, ![640, 1024]⟩
abbrev S640x1 : Shape := ⟨2, ![640, 1]⟩
abbrev S640 : Shape := ⟨1, ![640]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference51Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320, .i32⟩
  | .hbm, ⟨24, _⟩ => ⟨S8320x1, .i32⟩
  | .hbm, ⟨25, _⟩ => ⟨S_, .i32⟩
  | .hbm, ⟨26, _⟩ => ⟨S8320x1, .i32⟩
  | .hbm, ⟨27, _⟩ => ⟨S8320x1, .i1⟩
  | .hbm, ⟨28, _⟩ => ⟨S_, .f32⟩
  | .hbm, ⟨29, _⟩ => ⟨S_, .f32⟩
  | .hbm, ⟨30, _⟩ => ⟨S8320x1024, .i1⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320x1024, .f32⟩
  | .hbm, ⟨35, _⟩ => ⟨S_, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S_, .f32⟩
  | .hbm, ⟨46, _⟩ => ⟨S8320, .f32⟩
  | .hbm, ⟨47, _⟩ => ⟨S8320x1, .f32⟩
  | .hbm, ⟨48, _⟩ => ⟨S8320x1024, .f32⟩
  | .hbm, ⟨49, _⟩ => ⟨S8320x1024, .f32⟩
  | .hbm, ⟨50, _⟩ => ⟨S8320x1, .f32⟩
  | .hbm, ⟨51, _⟩ => ⟨S_, .f32⟩
  | .hbm, ⟨52, _⟩ => ⟨S8320x1, .f32⟩
  | .hbm, ⟨53, _⟩ => ⟨S8320x1, .f32⟩
  | .hbm, ⟨54, _⟩ => ⟨S_, .f32⟩
  | .hbm, ⟨55, _⟩ => ⟨S8320, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1024, .f32⟩
  | .hbm, ⟨61, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_v19_1 : Ref sig .tc := ⟨.hbm, 30, rfl⟩
abbrev main_call0_v2 : Ref sig .tc := ⟨.hbm, 31, rfl⟩
abbrev main_v19_0 : Ref sig .tc := ⟨.hbm, 32, rfl⟩
abbrev main_call0_cst : Ref sig .tc := ⟨.hbm, 33, rfl⟩
abbrev main_v19_2 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Proof.Rd.lean ====
module

public import proofs.«01_k».proof.Proof.Gen.KernelIdeal.Skeleton
public import Idealize.ShloMosaic.Lib.Pointwise

/-! Vectors of the kernels that hold real numbers: `IsR x f` says that entry `(r, c)` of the two-axis
vector `x` is the real number `f r c`. Each lemma reads one vector operation in these terms. -/

@[expose] public section

noncomputable section

namespace Cert.StickBreaking

open Idealize.ShloMosaic Cert.KernelIdeal Cert.KernelIdeal.Gen Idealize.SL.Sem

/-- The two-axis vector `x` holds the real numbers `f`. -/
def IsR {a b : ℕ} (x : (⟨2, ![a, b]⟩ : Shape).Idx → EReal) (f : ℕ → ℕ → ℝ) : Prop :=
  ∀ i, x i = ((f (i 0).val (i 1).val : ℝ) : EReal)

/-- The two-axis mask `x` is set exactly where `p` holds. -/
def IsM {a b : ℕ} (x : IVec (⟨2, ![a, b]⟩ : Shape) 1) (p : ℕ → ℕ → Prop) : Prop :=
  ∀ i, x i = 1#1 ↔ p (i 0).val (i 1).val

theorem IsR.congr {a b : ℕ} {x : (⟨2, ![a, b]⟩ : Shape).Idx → EReal} {f g : ℕ → ℕ → ℝ} (h : IsR x f)
    (e : ∀ r c, r < a → c < b → f r c = g r c) : IsR x g := fun i => by
  rw [h i, e _ _ (i 0).isLt (i 1).isLt]

/-- A finite sum of real numbers, taken among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem ofBits_zero : (Ideal.ofBits .f32 0x00000000#32 : EReal) = ((0 : ℝ) : EReal) := by
  simp [Ideal.ofBits, Ideal.ieee]
theorem ofBits_one : (Ideal.ofBits .f32 0x3F800000#32 : EReal) = ((1 : ℝ) : EReal) := by
  simp [Ideal.ofBits, Ideal.ieee, -EReal.coe_mul]; norm_num
theorem ofBits_cap : (Ideal.ofBits .f32 0x42A00000#32 : EReal) = ((80 : ℝ) : EReal) := by
  simp [Ideal.ofBits, Ideal.ieee, -EReal.coe_mul]; norm_num

/-- The scale of the logits, as the number its literal stands for. -/
def scale : ℝ := (2 : ℝ) ^ (-27 : ℤ) * 11863283

theorem ofBits_scale : (Ideal.ofBits .f32 0x3DB504F3#32 : EReal) = ((scale : ℝ) : EReal) := by
  unfold scale
  simp [Ideal.ofBits, Ideal.ieee, -EReal.coe_mul]; norm_num

section contractions
variable {f g : ℕ → ℕ → ℝ}

/-- Product of a matrix with a transposed one. -/
theorem isR_nt {l r : FVec Ideal S640x128 .bf16} (hl : IsR l f) (hr : IsR r g) :
    IsR (matmul dot_S640x128_S640x128_S640x640_1_1_0_0_n_n none l r (constant S640x640 .f32 0x00000000#32) : FVec Ideal S640x640 .f32)
      fun i j => ∑ d ∈ Finset.range 128, f i d * g j d := by
  intro i
  refine (Ideal.matmul_apply₁ dot_S640x128_S640x128_S640x640_1_1_0_0_n_n (a := 1) (K := 128) rfl rfl l r _ i).trans ?_
  simp only [hl _, hr _]
  rw [Finset.sum_range, ← coe_sum]
  refine (congrArg (· + _) ofBits_zero).trans ?_
  rw [EReal.coe_zero, zero_add]
  refine Finset.sum_congr rfl fun k _ => ?_
  rw [EReal.coe_mul]; rfl

/-- Product of a block of scores with a 128 × 128 matrix. -/
theorem isR_tri {l : FVec Ideal S640x128 .bf16} {r : FVec Ideal S128x128 .bf16} (hl : IsR l f) (hr : IsR r g) :
    IsR (matmul dot_S640x128_S128x128_S640x128_1_0_0_1_n_n none l r (constant S640x128 .f32 0x00000000#32) : FVec Ideal S640x128 .f32)
      fun i j => ∑ d ∈ Finset.range 128, f i d * g d j := by
  intro i
  refine (Ideal.matmul_apply₁ dot_S640x128_S128x128_S640x128_1_0_0_1_n_n (a := 1) (K := 128) rfl rfl l r _ i).trans ?_
  simp only [hl _, hr _]
  rw [Finset.sum_range, ← coe_sum]
  refine (congrArg (· + _) ofBits_zero).trans ?_
  rw [EReal.coe_zero, zero_add]
  refine Finset.sum_congr rfl fun k _ => ?_
  rw [EReal.coe_mul]; rfl

/-- Product of a matrix of scores with rows. -/
theorem isR_nn {l : FVec Ideal S640x640 .bf16} {r : FVec Ideal S640x128 .bf16} (hl : IsR l f) (hr : IsR r g) :
    IsR (matmul dot_S640x640_S640x128_S640x128_1_0_0_1_n_n none l r (constant S640x128 .f32 0x00000000#32) : FVec Ideal S640x128 .f32)
      fun i j => ∑ d ∈ Finset.range 640, f i d * g d j := by
  intro i
  refine (Ideal.matmul_apply₁ dot_S640x640_S640x128_S640x128_1_0_0_1_n_n (a := 1) (K := 640) rfl rfl l r _ i).trans ?_
  simp only [hl _, hr _]
  rw [Finset.sum_range, ← coe_sum]
  refine (congrArg (· + _) ofBits_zero).trans ?_
  rw [EReal.coe_zero, zero_add]
  refine Finset.sum_congr rfl fun k _ => ?_
  rw [EReal.coe_mul]; rfl

/-- Product of a transposed matrix of scores with rows. -/
theorem isR_tn {l : FVec Ideal S640x640 .bf16} {r : FVec Ideal S640x128 .bf16} (hl : IsR l f) (hr : IsR r g) :
    IsR (matmul dot_S640x640_S640x128_S640x128_0_0_1_1_n_n none l r (constant S640x128 .f32 0x00000000#32) : FVec Ideal S640x128 .f32)
      fun i j => ∑ d ∈ Finset.range 640, f d i * g d j := by
  intro i
  refine (Ideal.matmul_apply₁ dot_S640x640_S640x128_S640x128_0_0_1_1_n_n (a := 0) (K := 640) rfl rfl l r _ i).trans ?_
  simp only [hl _, hr _]
  rw [Finset.sum_range, ← coe_sum]
  refine (congrArg (· + _) ofBits_zero).trans ?_
  rw [EReal.coe_zero, zero_add]
  refine Finset.sum_congr rfl fun k _ => ?_
  rw [EReal.coe_mul]; rfl

end contractions

section pointwise
variable {a b : ℕ} {f g : ℕ → ℕ → ℝ} {x y : FVec Ideal (⟨2, ![a, b]⟩ : Shape) .f32}

theorem isR_trunc (hx : IsR x f) : IsR (truncf .bf16 x bitsLt_bf16_f32) f := hx
theorem isR_ext {x : FVec Ideal (⟨2, ![a, b]⟩ : Shape) .bf16} (hx : IsR x f) : IsR (extf .f32 x bitsLt_bf16_f32) f := hx

theorem isR_add (hx : IsR x f) (hy : IsR y g) : IsR (addf x y) fun r c => f r c + g r c := fun i => by
  show x i + y i = _
  rw [hx i, hy i, EReal.coe_add]
theorem isR_sub (hx : IsR x f) (hy : IsR y g) : IsR (subf x y) fun r c => f r c - g r c := fun i => by
  show x i - y i = _
  rw [hx i, hy i, EReal.coe_sub]
theorem isR_mul (hx : IsR x f) (hy : IsR y g) : IsR (mulf x y) fun r c => f r c * g r c := fun i => by
  show x i * y i = _
  rw [hx i, hy i, EReal.coe_mul]
theorem isR_exp (hx : IsR x f) : IsR (exp x) fun r c => Real.exp (f r c) := fun i => by
  show Ideal.exp (x i) = _
  rw [hx i]; rfl
theorem isR_log (hx : IsR x f) (h : ∀ r c, 0 < f r c) : IsR (log x) fun r c => Real.log (f r c) := fun i => by
  show Ideal.log (x i) = _
  rw [hx i]
  show (if _ then _ else _) = _
  rw [if_neg (not_le.mpr (h _ _))]
theorem isR_min (hx : IsR x f) (hy : IsR y g) : IsR (minimumf x y) fun r c => min (f r c) (g r c) := fun i => by
  show min (x i) (y i) = _
  rw [hx i, hy i, EReal.coe_strictMono.monotone.map_min]

theorem isR_const {s : EReal} {q : ℝ} (h : s = (q : EReal)) :
    IsR (broadcast (⟨2, ![a, b]⟩ : Shape) s) fun _ _ => q := fun _ => h

theorem isR_select {m : IVec (⟨2, ![a, b]⟩ : Shape) 1} {p : ℕ → ℕ → Prop} [∀ r c, Decidable (p r c)] (hm : IsM m p) (hx : IsR x f) (hy : IsR y g) :
    IsR (select m x y) fun r c => if p r c then f r c else g r c := fun i => by
  show (if m i = 1#1 then x i else y i) = _
  by_cases h : p (i 0).val (i 1).val
  · rw [if_pos ((hm i).mpr h), hx i]; simp only [if_pos h]
  · rw [if_neg (fun q => h ((hm i).mp q)), hy i]; simp only [if_neg h]

end pointwise

section layout
variable {f g : ℕ → ℕ → ℝ}

theorem isR_cast {x : FVec Ideal S640x128 .f32} (hx : IsR x f) : IsR (shapeCast S640x128 x shapeCasts_S640x128_S640x128) f := by
  rw [shapeCast_self]; exact hx

/-- A block of 128 columns of a matrix of scores. -/
theorem isR_slice {x : FVec Ideal S640x640 .f32} (hx : IsR x f) (o : ℕ) (h : Shape.Slices S640x640 ![0, o] S640x128) :
    IsR (extractStridedSlice S640x128 ![0, o] x h) fun r c => f r (o + c) := fun i => by
  show x _ = _
  rw [hx _]
  congr 2
  · simp

/-- One column of a block of 128. -/
theorem isR_col {x : FVec Ideal S640x128 .f32} (hx : IsR x f) (o : ℕ) (h : Shape.Slices S640x128 ![0, o] S640x1) :
    IsR (extractStridedSlice S640x1 ![0, o] x h) fun r _ => f r o := fun i => by
  have h1 : (i 1).val < 1 := (i 1).isLt
  show x _ = _
  rw [hx _]
  congr 2
  · simp
  · show o + (i 1).val = o
    omega

theorem isR_bcast {x : FVec Ideal S640x1 .f32} (hx : IsR x f) :
    IsR (broadcastTo S640x128 x broadcasts_S640x1_S640x128) fun r _ => f r 0 := fun i => by
  simp only [pointwise]
  rw [hx _]
  rfl

theorem ofBool_eq_one (b : Bool) : BitVec.ofBool b = 1#1 ↔ b = true := by cases b <;> decide

theorem isM_lane {v : IVec S640x128 32} (hv : ∀ i, v i = BitVec.ofNat 32 (i 1).val) {w : BitVec 32} {j : ℕ} (hw : w = BitVec.ofNat 32 j)
    (hj : j < 128) : IsM (cmpi .eq v (broadcast S640x128 w)) fun _ c => c = j := fun i => by
  show IntOp.cmpi .eq (v i) w = 1#1 ↔ _
  rw [hv, hw]
  have h1 : (i 1).val < 128 := (i 1).isLt
  show IntOp.cmpi .eq _ _ = _ ↔ (i 1).val = j
  have e : BitVec.ofNat 32 (i 1).val = BitVec.ofNat 32 j ↔ (i 1).val = j :=
    ⟨fun q => by have := congrArg BitVec.toNat q; simp only [BitVec.toNat_ofNat] at this; omega, fun q => by rw [q]⟩
  show BitVec.ofBool (_ == _) = 1#1 ↔ _
  rw [ofBool_eq_one, beq_iff_eq, e]

theorem isR_lane {m : IVec S640x128 1} {j : ℕ} (hm : IsM m fun _ c => c = j) (hj : j < 128) {x : FVec Ideal S640x128 .f32} (hx : IsR x f) :
    IsR (shapeCast S640x1 (multiReduction .add [1] S640 (select m x (broadcast S640x128 (Scalar.ofBits .f32 0x00000000#32)))
      0x00000000#32 reduces_S640x128_S640 (.inl rfl) rfl) shapeCasts_S640_S640x1) fun r _ => f r j := fun i => by
  have hs := isR_select hm hx (isR_const ofBits_zero)
  simp only [pointwise]
  have e : ∀ k : Fin 128, Scalar.select (m (ix2 (i 0) k)) (x (ix2 (i 0) k)) 0 = ((if k.val = j then f (i 0).val k.val else 0 : ℝ) : EReal) :=
    fun k => (congrArg (Scalar.select (m (ix2 (i 0) k)) (x (ix2 (i 0) k))) (ofBits_zero.trans EReal.coe_zero).symm).trans (hs (ix2 (i 0) k))
  rw [Finset.sum_congr rfl fun k _ => e k, coe_sum, ← Finset.sum_range fun k => if k = j then f (i 0).val k else 0,
    Finset.sum_ite_eq' (Finset.range 128) j fun k => f (i 0).val k, if_pos (Finset.mem_range.mpr hj)]

theorem isR_cat {x0 x1 x2 x3 x4 : FVec Ideal S640x128 .f32} {f : ℕ → ℕ → ℕ → ℝ} (h0 : IsR x0 (f 0)) (h1 : IsR x1 (f 1)) (h2 : IsR x2 (f 2))
    (h3 : IsR x3 (f 3)) (h4 : IsR x4 (f 4)) :
    IsR (concatenate S640x640 1 [⟨S640x128, x0⟩, ⟨S640x128, x1⟩, ⟨S640x128, x2⟩, ⟨S640x128, x3⟩, ⟨S640x128, x4⟩] concatenates_S640x128_S640x128_S640x128_S640x128_S640x128_S640x640_d1)
      fun r c => f (c / 128) r (c % 128) := fun i => by
  simp only [pointwise]
  have h : (i 1).val < 640 := (i 1).isLt
  split
  · rename_i hh
    have hh : (i 1).val < 128 := hh
    refine (h0 _).trans ?_
    show ((f 0 (i 0).val (i 1).val : ℝ) : EReal) = _
    rw [show (i 1).val / 128 = 0 by omega, show (i 1).val % 128 = (i 1).val by omega]
  split
  · rename_i q0 hh
    have hh : (i 1).val - 128 < 128 := hh
    have q0 : ¬ (i 1).val < 128 := q0
    refine (h1 _).trans ?_
    show ((f 1 (i 0).val ((i 1).val - 128) : ℝ) : EReal) = _
    rw [show (i 1).val / 128 = 1 by omega, show (i 1).val % 128 = (i 1).val - 128 by omega]
  split
  · rename_i _ q0 hh
    have hh : (i 1).val - 128 - 128 < 128 := hh
    have q0 : ¬ (i 1).val - 128 < 128 := q0
    refine (h2 _).trans ?_
    show ((f 2 (i 0).val ((i 1).val - 128 - 128) : ℝ) : EReal) = _
    rw [show (i 1).val / 128 = 2 by omega, show (i 1).val % 128 = (i 1).val - 128 - 128 by omega]
  split
  · rename_i _ _ q0 hh
    have hh : (i 1).val - 128 - 128 - 128 < 128 := hh
    have q0 : ¬ (i 1).val - 128 - 128 < 128 := q0
    refine (h3 _).trans ?_
    show ((f 3 (i 0).val ((i 1).val - 128 - 128 - 128) : ℝ) : EReal) = _
    rw [show (i 1).val / 128 = 3 by omega, show (i 1).val % 128 = (i 1).val - 128 - 128 - 128 by omega]
  · rename_i _ _ _ q0
    have q0 : ¬ (i 1).val - 128 - 128 - 128 < 128 := q0
    refine (h4 _).trans ?_
    show ((f 4 (i 0).val ((i 1).val - 128 - 128 - 128 - 128) : ℝ) : EReal) = _
    rw [show (i 1).val / 128 = 4 by omega, show (i 1).val % 128 = (i 1).val - 128 - 128 - 128 - 128 by omega]

end layout
end Cert.StickBreaking
-- ==== Proof.Head.lean ====
module

public import proofs.«01_k».proof.Proof.Rd

/-! Stick-breaking attention over one head, as real numbers: the logits, the logarithms of the
remaining stick, the weights, their gradient and the four results; and how sums over a block of keys
join into the sums over all keys. -/

@[expose] public section

noncomputable section

namespace Cert.StickBreaking

open Finset

/-- Query `t` attends to key `s`: an earlier position that is not padding. -/
def Attends (t s : ℕ) : Prop := s < t ∧ 112 ≤ s

instance (t s : ℕ) : Decidable (Attends t s) := by unfold Attends; infer_instance

/-- One head's queries, keys, values and the gradient of its output: row, then column. -/
structure Head where
  q : ℕ → ℕ → ℝ
  k : ℕ → ℕ → ℝ
  v : ℕ → ℕ → ℝ
  o : ℕ → ℕ → ℝ

namespace Head
variable (D : Head)

/-- The logit of query `t` at key `s`. -/
def Z (t s : ℕ) : ℝ := (∑ d ∈ range 128, D.q t d * D.k s d) * scale
/-- The logarithm of the share of the stick that key `s` leaves. -/
def L (t s : ℕ) : ℝ := if Attends t s then -Real.log (1 + Real.exp (D.Z t s)) else 0
/-- The logarithm of what is left of the stick once the keys from `s` on took their share. -/
def Suf (t s : ℕ) : ℝ := ∑ i ∈ Ico s 8320, D.L t i
/-- The weight of key `s` in the output of query `t`. -/
def W (t s : ℕ) : ℝ := if Attends t s then Real.exp (D.Z t s + D.Suf t s) else 0
/-- The gradient of the weight times the weight. -/
def G (t s : ℕ) : ℝ := (∑ d ∈ range 128, D.o t d * D.v s d) * D.W t s
/-- The sum of `G` over the keys up to `s`. -/
def Pre (t s : ℕ) : ℝ := ∑ i ∈ range (s + 1), D.G t i
/-- The gradient of the product of query `t` and key `s`. -/
def DZ (t s : ℕ) : ℝ := (D.G t s - if Attends t s then Real.exp (D.Z t s + D.L t s) * D.Pre t s else 0) * scale
/-- The output of the attention. -/
def Out (t d : ℕ) : ℝ := ∑ s ∈ range 8320, D.W t s * D.v s d
/-- The gradient of the values. -/
def DV (s d : ℕ) : ℝ := ∑ t ∈ range 8320, D.W t s * D.o t d
/-- The gradient of the keys. -/
def DK (s d : ℕ) : ℝ := ∑ t ∈ range 8320, D.DZ t s * D.q t d
/-- The gradient of the queries. -/
def DQ (t d : ℕ) : ℝ := ∑ s ∈ range 8320, D.DZ t s * D.k s d

/-- The logits of attended keys stay under the kernels' cap. -/
def Capped : Prop := ∀ t s, t < 8320 → Attends t s → D.Z t s ≤ 80

theorem L_of_not {t s : ℕ} (h : ¬ Attends t s) : D.L t s = 0 := if_neg h
theorem W_of_not {t s : ℕ} (h : ¬ Attends t s) : D.W t s = 0 := if_neg h
theorem G_of_not {t s : ℕ} (h : ¬ Attends t s) : D.G t s = 0 := by unfold G; rw [D.W_of_not h, mul_zero]
theorem DZ_of_not {t s : ℕ} (h : ¬ Attends t s) : D.DZ t s = 0 := by
  unfold DZ; rw [D.G_of_not h, if_neg h]; simp

theorem not_attends {t s : ℕ} (h : t ≤ s) : ¬ Attends t s := fun q => absurd q.1 (not_lt.mpr h)

end Head

/-- A block's sum against the lower triangle is the sum from a key to the block's end. -/
theorem sum_tri (f : ℕ → ℝ) (o c : ℕ) (hc : c ≤ 128) :
    ∑ a ∈ range 128, f (o + a) * (if c ≤ a then 1 else 0) = ∑ i ∈ Ico (o + c) (o + 128), f i := by
  rw [sum_Ico_eq_sum_range, show o + 128 - (o + c) = 128 - c by omega]
  simp only [mul_ite, mul_one, mul_zero]
  rw [← sum_filter, show (range 128).filter (fun a => c ≤ a) = Ico c 128 by ext x; simp; omega, sum_Ico_eq_sum_range]
  exact sum_congr rfl fun x _ => by rw [Nat.add_assoc]

/-- A block's sum against the upper triangle is the sum from the block's start up to a key. -/
theorem sum_prefix (f : ℕ → ℝ) (o c : ℕ) (hc : c < 128) :
    ∑ a ∈ range 128, f (o + a) * (if a ≤ c then 1 else 0) = ∑ i ∈ Ico o (o + c + 1), f i := by
  rw [sum_Ico_eq_sum_range, show o + c + 1 - o = c + 1 by omega]
  simp only [mul_ite, mul_one, mul_zero]
  rw [← sum_filter, show (range 128).filter (fun a => a ≤ c) = range (c + 1) by ext x; simp; omega]

end Cert.StickBreaking
-- ==== Proof.Voc.lean ====
module

public import proofs.«01_k».proof.Proof.Head

/-! The vector computations both kernels share, under names: one group of keys against one tile of
queries. -/

@[expose] public section

noncomputable section

namespace Cert.StickBreaking

open Idealize.ShloMosaic Cert.KernelIdeal Cert.KernelIdeal.Gen Idealize.SL.Sem

variable {F : FTy → Type} [FloatOps F]

/-- The mask of a group: keys `640 g + c` that queries `640 t + r` attend to. -/
def maskV (t g : BitVec 32) : IVec S640x640 1 :=
  andi (cmpi .slt (addi (broadcast S640x640 (Scalar.muli g 640#32)) (iota .tc S640x640 32 [1] iota_S640x640_d1_w32))
      (addi (broadcast S640x640 (Scalar.muli t 640#32)) (iota .tc S640x640 32 [0] iota_S640x640_d0_w32)))
    (cmpi .sge (addi (broadcast S640x640 (Scalar.muli g 640#32)) (iota .tc S640x640 32 [1] iota_S640x640_d1_w32)) (broadcast S640x640 112#32))

/-- Scores outside the mask set to zero. -/
def masked (m : IVec S640x640 1) (x : FVec F S640x640 .f32) : FVec F S640x640 .f32 :=
  select m x (broadcast S640x640 (Scalar.ofBits .f32 0x00000000#32))

/-- The logits. -/
def zV (q : FVec F S640x128 .bf16) (k : FVec F S640x128 .f32) : FVec F S640x640 .f32 :=
  mulf (matmul dot_S640x128_S640x128_S640x640_1_1_0_0_n_n none q (truncf .bf16 k bitsLt_bf16_f32) (constant S640x640 .f32 0x00000000#32))
    (broadcast S640x640 (Scalar.ofBits .f32 0x3DB504F3#32))

/-- The logarithms of the shares the keys leave, before the mask. -/
def lV (z : FVec F S640x640 .f32) : FVec F S640x640 .f32 :=
  subf (subf (minimumf z (broadcast S640x640 (Scalar.ofBits .f32 0x42A00000#32))) z)
    (log (addf (broadcast S640x640 (Scalar.ofBits .f32 0x3F800000#32)) (exp (minimumf z (broadcast S640x640 (Scalar.ofBits .f32 0x42A00000#32))))))

/-- The running sums of a block, its two halves apart. -/
def cumV (tri : FVec F S128x128 .bf16) (x : FVec F S640x128 .f32) : FVec F S640x128 .f32 :=
  addf (matmul dot_S640x128_S128x128_S640x128_1_0_0_1_n_n none (truncf .bf16 x bitsLt_bf16_f32) tri (constant S640x128 .f32 0x00000000#32))
    (matmul dot_S640x128_S128x128_S640x128_1_0_0_1_n_n none
      (truncf .bf16 (subf x (extf .f32 (truncf .bf16 x bitsLt_bf16_f32) bitsLt_bf16_f32)) bitsLt_bf16_f32) tri (constant S640x128 .f32 0x00000000#32))

/-- Block `0` of a matrix of scores; the next four alike. -/
def blk0 (x : FVec F S640x640 .f32) : FVec F S640x128 .f32 := extractStridedSlice S640x128 ![0, 0] x slices_S640x640_o0_0_S640x128
def blk1 (x : FVec F S640x640 .f32) : FVec F S640x128 .f32 := extractStridedSlice S640x128 ![0, 128] x slices_S640x640_o0_128_S640x128
def blk2 (x : FVec F S640x640 .f32) : FVec F S640x128 .f32 := extractStridedSlice S640x128 ![0, 256] x slices_S640x640_o0_256_S640x128
def blk3 (x : FVec F S640x640 .f32) : FVec F S640x128 .f32 := extractStridedSlice S640x128 ![0, 384] x slices_S640x640_o0_384_S640x128
def blk4 (x : FVec F S640x640 .f32) : FVec F S640x128 .f32 := extractStridedSlice S640x128 ![0, 512] x slices_S640x640_o0_512_S640x128

/-- Five blocks side by side. -/
def catV (x0 x1 x2 x3 x4 : FVec F S640x128 .f32) : FVec F S640x640 .f32 :=
  concatenate S640x640 1 [⟨S640x128, x0⟩, ⟨S640x128, x1⟩, ⟨S640x128, x2⟩, ⟨S640x128, x3⟩, ⟨S640x128, x4⟩]
    concatenates_S640x128_S640x128_S640x128_S640x128_S640x128_S640x640_d1

/-- A column beside every column of a block. -/
def colV (x : FVec F S640x1 .f32) : FVec F S640x128 .f32 := broadcastTo S640x128 x broadcasts_S640x1_S640x128

/-- The first column of a block, in every column; the last likewise. -/
def firstV (x : FVec F S640x128 .f32) : FVec F S640x128 .f32 := colV (extractStridedSlice S640x1 ![0, 0] x slices_S640x128_o0_0_S640x1)
def lastV (x : FVec F S640x128 .f32) : FVec F S640x128 .f32 := colV (extractStridedSlice S640x1 ![0, 127] x slices_S640x128_o0_127_S640x1)

/-- The lane `w` of the saved sums. -/
def laneV (lane : IVec S640x128 32) (w : BitVec 32) (x : FVec F S640x128 .f32) : FVec F S640x1 .f32 :=
  shapeCast S640x1 (multiReduction .add [1] S640 (select (cmpi .eq lane (broadcast S640x128 w)) x (broadcast S640x128 (Scalar.ofBits .f32 0x00000000#32)))
    0x00000000#32 reduces_S640x128_S640 (.inl rfl) rfl) shapeCasts_S640_S640x1

/-- The saved sums with lane `w` set. -/
def saveV (lane : IVec S640x128 32) (w : BitVec 32) (run x : FVec F S640x128 .f32) : FVec F S640x128 .f32 :=
  select (cmpi .eq lane (broadcast S640x128 w)) run x

/-- The weights from the logits, the sums inside each block and the sums after each block. -/
def weightV (mk : FVec F S640x640 .f32 → FVec F S640x640 .f32) (z : FVec F S640x640 .f32)
    (c0 c1 c2 c3 c4 r0 r1 r2 r3 r4 : FVec F S640x128 .f32) : FVec F S640x640 .f32 :=
  mk (exp (addf z (catV (addf c0 r0) (addf c1 r1) (addf c2 r2) (addf c3 r3) (addf c4 r4))))

section forward
variable (tri : FVec F S128x128 .bf16) (l : FVec F S640x640 .f32) (run : FVec F S640x128 .f32)

/-- The sums after block 4, 3, … of a group: the sums after the group, then a block's own sum more each time. -/
def run3V : FVec F S640x128 .f32 := addf run (firstV (cumV tri (blk4 l)))
def run2V : FVec F S640x128 .f32 := addf (run3V tri l run) (firstV (cumV tri (blk3 l)))
def run1V : FVec F S640x128 .f32 := addf (run2V tri l run) (firstV (cumV tri (blk2 l)))
def run0V : FVec F S640x128 .f32 := addf (run1V tri l run) (firstV (cumV tri (blk1 l)))
/-- The sums over the group and what follows it. -/
def runNextV : FVec F S640x128 .f32 := addf (run0V tri l run) (firstV (cumV tri (blk0 l)))

/-- The saved sums with the group's five lanes set. -/
def savedV (lane : IVec S640x128 32) (j0 j1 j2 j3 j4 : BitVec 32) (s : FVec F S640x128 .f32) : FVec F S640x128 .f32 :=
  saveV lane j0 (run0V tri l run) (saveV lane j1 (run1V tri l run) (saveV lane j2 (run2V tri l run)
    (saveV lane j3 (run3V tri l run) (saveV lane j4 run s))))

/-- The forward kernel's weights of a group. -/
def wFwdV (mk : FVec F S640x640 .f32 → FVec F S640x640 .f32) (z : FVec F S640x640 .f32) : FVec F S640x640 .f32 :=
  weightV mk z (cumV tri (blk0 l)) (cumV tri (blk1 l)) (cumV tri (blk2 l)) (cumV tri (blk3 l)) (cumV tri (blk4 l))
    (run0V tri l run) (run1V tri l run) (run2V tri l run) (run3V tri l run) run

end forward

/-- The backward kernel's weights of a group. -/
def wBwdV (mk : FVec F S640x640 .f32 → FVec F S640x640 .f32) (tri : FVec F S128x128 .bf16) (l z : FVec F S640x640 .f32) (lane : IVec S640x128 32)
    (j0 j1 j2 j3 j4 : BitVec 32) (s : FVec F S640x128 .f32) : FVec F S640x640 .f32 :=
  weightV mk z (cumV tri (blk0 l)) (cumV tri (blk1 l)) (cumV tri (blk2 l)) (cumV tri (blk3 l)) (cumV tri (blk4 l))
    (colV (laneV lane j0 s)) (colV (laneV lane j1 s)) (colV (laneV lane j2 s)) (colV (laneV lane j3 s)) (colV (laneV lane j4 s))

/-- The gradient of the weights times the weights. -/
def gV (o : FVec F S640x128 .bf16) (v : FVec F S640x128 .f32) (w : FVec F S640x640 .f32) : FVec F S640x640 .f32 :=
  mulf (matmul dot_S640x128_S640x128_S640x640_1_1_0_0_n_n none o (truncf .bf16 v bitsLt_bf16_f32) (constant S640x640 .f32 0x00000000#32)) w

section prefixes
variable (pre : FVec F S128x128 .bf16) (g : FVec F S640x640 .f32) (gp : FVec F S640x128 .f32)

/-- The sums before block 1, 2, … of a group. -/
def gp1V : FVec F S640x128 .f32 := addf gp (lastV (cumV pre (blk0 g)))
def gp2V : FVec F S640x128 .f32 := addf (gp1V pre g gp) (lastV (cumV pre (blk1 g)))
def gp3V : FVec F S640x128 .f32 := addf (gp2V pre g gp) (lastV (cumV pre (blk2 g)))
def gp4V : FVec F S640x128 .f32 := addf (gp3V pre g gp) (lastV (cumV pre (blk3 g)))
/-- The sums over the groups up to this one. -/
def gpNextV : FVec F S640x128 .f32 := addf (gp4V pre g gp) (lastV (cumV pre (blk4 g)))

/-- The running sums over the keys up to each. -/
def gcumV : FVec F S640x640 .f32 :=
  catV (addf (cumV pre (blk0 g)) gp) (addf (cumV pre (blk1 g)) (gp1V pre g gp)) (addf (cumV pre (blk2 g)) (gp2V pre g gp))
    (addf (cumV pre (blk3 g)) (gp3V pre g gp)) (addf (cumV pre (blk4 g)) (gp4V pre g gp))

end prefixes

/-- The gradient of the products of queries and keys. -/
def dzV (mk : FVec F S640x640 .f32 → FVec F S640x640 .f32) (z l g c : FVec F S640x640 .f32) : FVec F S640x640 .bf16 :=
  truncf .bf16 (mulf (subf g (mk (mulf (exp (addf z l)) c))) (broadcast S640x640 (Scalar.ofBits .f32 0x3DB504F3#32))) bitsLt_bf16_f32

/-- Rows added to: a matrix of scores times rows, and its transpose times rows. -/
def accNN (old : FVec F S640x128 .f32) (w : FVec F S640x640 .bf16) (x : FVec F S640x128 .bf16) : FVec F S640x128 .f32 :=
  addf (shapeCast S640x128 old shapeCasts_S640x128_S640x128)
    (matmul dot_S640x640_S640x128_S640x128_1_0_0_1_n_n none w x (constant S640x128 .f32 0x00000000#32))
def accTN (old : FVec F S640x128 .f32) (w : FVec F S640x640 .bf16) (x : FVec F S640x128 .bf16) : FVec F S640x128 .f32 :=
  addf (shapeCast S640x128 old shapeCasts_S640x128_S640x128)
    (matmul dot_S640x640_S640x128_S640x128_0_0_1_1_n_n none w x (constant S640x128 .f32 0x00000000#32))

/-! One group of the backward kernel, from what it loads: keys, values, saved sums and running sums. -/

section group
variable (mk : FVec F S640x640 .f32 → FVec F S640x640 .f32) (q o : FVec F S640x128 .bf16) (tri pre : FVec F S128x128 .bf16)
  (lane : IVec S640x128 32) (j0 j1 j2 j3 j4 : BitVec 32) (k v : FVec F S640x128 .f32) (s gp : FVec F S640x128 .f32)

def groupW : FVec F S640x640 .f32 := wBwdV mk tri (mk (lV (zV q k))) (zV q k) lane j0 j1 j2 j3 j4 s
def groupG : FVec F S640x640 .f32 := gV o v (groupW mk q tri lane j0 j1 j2 j3 j4 k s)
def groupDZ : FVec F S640x640 .bf16 :=
  dzV mk (zV q k) (mk (lV (zV q k))) (groupG mk q o tri lane j0 j1 j2 j3 j4 k v s)
    (gcumV pre (groupG mk q o tri lane j0 j1 j2 j3 j4 k v s) gp)

/-- What a group leaves in the rows of the values' gradient, in the rows of the keys' gradient, in
the queries' gradient and in the running sums. -/
def groupDv (old : FVec F S640x128 .f32) : FVec F S640x128 .f32 :=
  accTN old (truncf .bf16 (groupW mk q tri lane j0 j1 j2 j3 j4 k s) bitsLt_bf16_f32) o
def groupDk (old : FVec F S640x128 .f32) : FVec F S640x128 .f32 := accTN old (groupDZ mk q o tri pre lane j0 j1 j2 j3 j4 k v s gp) q
def groupDq (old : FVec F S640x128 .f32) : FVec F S640x128 .f32 :=
  accNN old (groupDZ mk q o tri pre lane j0 j1 j2 j3 j4 k v s gp) (truncf .bf16 k bitsLt_bf16_f32)
def groupGp : FVec F S640x128 .f32 := gpNextV pre (groupG mk q o tri lane j0 j1 j2 j3 j4 k v s) gp

end group

end Cert.StickBreaking
-- ==== Proof.Group.lean ====
module

public import proofs.«01_k».proof.Proof.Voc

/-! One group of keys against one tile of queries, read as real numbers: what the shared vector
computations hold in terms of the head's logits, weights and gradients. -/

@[expose] public section

noncomputable section

namespace Cert.StickBreaking

open Idealize.ShloMosaic Cert.KernelIdeal Cert.KernelIdeal.Gen Idealize.SL.Sem Finset

/-- The operation `mk` sets to zero the scores of group `g` that tile `t` does not attend to. -/
def IsMk (t g : ℕ) (mk : FVec Ideal S640x640 .f32 → FVec Ideal S640x640 .f32) : Prop :=
  ∀ (x : FVec Ideal S640x640 .f32) (f : ℕ → ℕ → ℝ), IsR x f →
    IsR (mk x) fun r c => if Attends (640 * t + r) (640 * g + c) then f r c else 0

/-- Where every query of the tile attends to every key of the group, nothing is set to zero. -/
theorem isMk_id {t g : ℕ} (h0 : 1 ≤ g) (h1 : g < t) : IsMk t g id := fun x f hx =>
  IsR.congr (show IsR (id x) f from hx) fun r c hr hc => (if_pos ⟨by omega, by omega⟩).symm

theorem isMk_masked {t g : ℕ} {m : IVec S640x640 1} (hm : IsM m fun r c => Attends (640 * t + r) (640 * g + c)) :
    IsMk t g (masked m) := fun x f hx => isR_select hm hx (isR_const ofBits_zero)

/-- A block of a matrix of scores. -/
theorem isR_blk0 {x : FVec Ideal S640x640 .f32} {f : ℕ → ℕ → ℝ} (hx : IsR x f) : IsR (blk0 x) fun r c => f r (128 * 0 + c) := isR_slice hx 0 _
theorem isR_blk1 {x : FVec Ideal S640x640 .f32} {f : ℕ → ℕ → ℝ} (hx : IsR x f) : IsR (blk1 x) fun r c => f r (128 * 1 + c) := isR_slice hx 128 _
theorem isR_blk2 {x : FVec Ideal S640x640 .f32} {f : ℕ → ℕ → ℝ} (hx : IsR x f) : IsR (blk2 x) fun r c => f r (128 * 2 + c) := isR_slice hx 256 _
theorem isR_blk3 {x : FVec Ideal S640x640 .f32} {f : ℕ → ℕ → ℝ} (hx : IsR x f) : IsR (blk3 x) fun r c => f r (128 * 3 + c) := isR_slice hx 384 _
theorem isR_blk4 {x : FVec Ideal S640x640 .f32} {f : ℕ → ℕ → ℝ} (hx : IsR x f) : IsR (blk4 x) fun r c => f r (128 * 4 + c) := isR_slice hx 512 _

/-- Running sums: the second half of the split adds nothing. -/
theorem isR_cum {tri : FVec Ideal S128x128 .bf16} {x : FVec Ideal S640x128 .f32} {f g : ℕ → ℕ → ℝ} (hx : IsR x f) (ht : IsR tri g) :
    IsR (cumV tri x) fun r c => ∑ a ∈ range 128, f r a * g a c :=
  (isR_add (isR_tri (isR_trunc hx) ht) (isR_tri (isR_trunc (isR_sub hx (isR_ext (isR_trunc hx)))) ht)).congr fun r c _ _ => by
    simp

/-- The sums from a key of a block to its end, where the block begins at key `o`. -/
theorem isR_suffix {tri : FVec Ideal S128x128 .bf16} (ht : IsR tri fun a b => if b ≤ a then 1 else 0) {x : FVec Ideal S640x128 .f32} {f : ℕ → ℕ → ℝ} (o : ℕ)
    (hx : IsR x fun r c => f r (o + c)) : IsR (cumV tri x) fun r c => ∑ i ∈ Ico (o + c) (o + 128), f r i :=
  (isR_cum hx ht).congr fun r c _ hc => sum_tri (f r) o c hc.le

/-- The sums from the beginning of a block up to a key. -/
theorem isR_prefix {pre : FVec Ideal S128x128 .bf16} (ht : IsR pre fun a b => if a ≤ b then 1 else 0) {x : FVec Ideal S640x128 .f32} {f : ℕ → ℕ → ℝ} (o : ℕ)
    (hx : IsR x fun r c => f r (o + c)) : IsR (cumV pre x) fun r c => ∑ i ∈ Ico o (o + c + 1), f r i :=
  (isR_cum hx ht).congr fun r c _ hc => sum_prefix (f r) o c hc

theorem isR_first {x : FVec Ideal S640x128 .f32} {f : ℕ → ℕ → ℝ} (hx : IsR x f) : IsR (firstV x) fun r _ => f r 0 :=
  isR_bcast (f := fun r _ => f r 0) (isR_col hx 0 slices_S640x128_o0_0_S640x1)
theorem isR_last {x : FVec Ideal S640x128 .f32} {f : ℕ → ℕ → ℝ} (hx : IsR x f) : IsR (lastV x) fun r _ => f r 127 :=
  isR_bcast (f := fun r _ => f r 127) (isR_col hx 127 slices_S640x128_o0_127_S640x1)

section logits
variable {D : Head} {t g : ℕ} {mk : FVec Ideal S640x640 .f32 → FVec Ideal S640x640 .f32} (hmk : IsMk t g mk)
  {q : FVec Ideal S640x128 .bf16} {k : FVec Ideal S640x128 .f32}

/-- The logits. -/
theorem isR_z (hq : IsR q fun r d => D.q (640 * t + r) d) (hk : IsR k fun c d => D.k (640 * g + c) d) :
    IsR (zV q k) fun r c => D.Z (640 * t + r) (640 * g + c) :=
  isR_mul (isR_nt hq (isR_trunc hk)) (isR_const ofBits_scale)

include hmk in
/-- The logarithms of the shares left. -/
theorem isR_l (hcap : D.Capped) (ht : t < 13) {z : FVec Ideal S640x640 .f32} (hz : IsR z fun r c => D.Z (640 * t + r) (640 * g + c)) :
    IsR (mk (lV z)) fun r c => D.L (640 * t + r) (640 * g + c) := by
  have hc := isR_const (a := 640) (b := 640) ofBits_cap
  have h1 := isR_const (a := 640) (b := 640) ofBits_one
  refine (hmk _ _ (isR_sub (isR_sub (isR_min hz hc) hz) (isR_log (isR_add h1 (isR_exp (isR_min hz hc))) fun r c => by positivity))).congr
    fun r c hr _ => ?_
  unfold Head.L
  by_cases h : Attends (640 * t + r) (640 * g + c)
  · rw [if_pos h, if_pos h, min_eq_left (hcap _ _ (by omega) h)]; ring
  · rw [if_neg h, if_neg h]

include hmk in
/-- The weights, from the sums from each key on. -/
theorem isR_weight {z : FVec Ideal S640x640 .f32} (hz : IsR z fun r c => D.Z (640 * t + r) (640 * g + c))
    {c0 c1 c2 c3 c4 r0 r1 r2 r3 r4 : FVec Ideal S640x128 .f32}
    (h0 : IsR (addf c0 r0) fun r c => D.Suf (640 * t + r) (640 * g + 128 * 0 + c))
    (h1 : IsR (addf c1 r1) fun r c => D.Suf (640 * t + r) (640 * g + 128 * 1 + c))
    (h2 : IsR (addf c2 r2) fun r c => D.Suf (640 * t + r) (640 * g + 128 * 2 + c))
    (h3 : IsR (addf c3 r3) fun r c => D.Suf (640 * t + r) (640 * g + 128 * 3 + c))
    (h4 : IsR (addf c4 r4) fun r c => D.Suf (640 * t + r) (640 * g + 128 * 4 + c)) :
    IsR (weightV mk z c0 c1 c2 c3 c4 r0 r1 r2 r3 r4) fun r c => D.W (640 * t + r) (640 * g + c) := by
  refine (hmk _ _ (isR_exp (isR_add hz (isR_cat (f := fun b r c => D.Suf (640 * t + r) (640 * g + 128 * b + c)) h0 h1 h2 h3 h4)))).congr
    fun r c _ _ => ?_
  unfold Head.W
  rw [show 640 * g + 128 * (c / 128) + c % 128 = 640 * g + c by omega]

end logits

/-- A block's sums and the sums after the block. -/
theorem suf_split (D : Head) (t s e : ℕ) (h : s ≤ e) (he : e ≤ 8320) : ∑ i ∈ Ico s e, D.L t i + ∑ i ∈ Ico e 8320, D.L t i = D.Suf t s :=
  sum_Ico_consecutive _ h he

/-- The sums before a block and the sums of the block up to a key. -/
theorem pre_split (D : Head) (t o s : ℕ) (h : o ≤ s) :
    ∑ i ∈ Ico o (s + 1), D.G t i + ∑ i ∈ range o, D.G t i = D.Pre t s := by
  rw [add_comm, range_eq_Ico, sum_Ico_consecutive _ (by omega) (by omega), ← range_eq_Ico]; rfl

section forward
variable {D : Head} {t g : ℕ} (hg : g < 13) {tri : FVec Ideal S128x128 .bf16} (htri : IsR tri fun a b => if b ≤ a then 1 else 0)
  {l : FVec Ideal S640x640 .f32} (hl : IsR l fun r c => D.L (640 * t + r) (640 * g + c)) {run : FVec Ideal S640x128 .f32}
  (hrun : IsR run fun r _ => ∑ i ∈ Ico (640 * (g + 1)) 8320, D.L (640 * t + r) i)

/-- The sums from a key to the end of its block. -/
theorem isR_within {x : FVec Ideal S640x128 .f32} (b : ℕ) (htri : IsR tri fun a b => if b ≤ a then 1 else 0)
    (hx : IsR x fun r c => D.L (640 * t + r) (640 * g + (128 * b + c))) :
    IsR (cumV tri x) fun r c => ∑ i ∈ Ico (640 * g + 128 * b + c) (640 * g + 128 * b + 128), D.L (640 * t + r) i :=
  isR_suffix htri (f := fun r i => D.L (640 * t + r) i) (640 * g + 128 * b)
    (hx.congr fun r c _ _ => by rw [← Nat.add_assoc])

/-- One block more among the sums that follow. -/
theorem isR_run {x run : FVec Ideal S640x128 .f32} (b : ℕ) (hb : b < 5) (hg : g < 13)
    (hx : IsR x fun r c => ∑ i ∈ Ico (640 * g + 128 * b + c) (640 * g + 128 * b + 128), D.L (640 * t + r) i)
    (hr : IsR run fun r _ => ∑ i ∈ Ico (640 * g + 128 * b + 128) 8320, D.L (640 * t + r) i) :
    IsR (addf run (firstV x)) fun r _ => ∑ i ∈ Ico (640 * g + 128 * b) 8320, D.L (640 * t + r) i :=
  (isR_add hr (isR_first hx)).congr fun r c _ _ => by
    rw [add_comm]; exact sum_Ico_consecutive _ (by omega) (by omega)

include hg htri hl hrun

theorem isR_run3 : IsR (run3V tri l run) fun r _ => ∑ i ∈ Ico (640 * g + 128 * 4) 8320, D.L (640 * t + r) i :=
  isR_run 4 (by omega) hg (isR_within 4 htri (isR_blk4 hl)) (hrun.congr fun r _ _ _ => by rw [show 640 * (g + 1) = 640 * g + 128 * 4 + 128 by omega])
theorem isR_run2 : IsR (run2V tri l run) fun r _ => ∑ i ∈ Ico (640 * g + 128 * 3) 8320, D.L (640 * t + r) i :=
  isR_run 3 (by omega) hg (isR_within 3 htri (isR_blk3 hl)) (isR_run3 hg htri hl hrun)
theorem isR_run1 : IsR (run1V tri l run) fun r _ => ∑ i ∈ Ico (640 * g + 128 * 2) 8320, D.L (640 * t + r) i :=
  isR_run 2 (by omega) hg (isR_within 2 htri (isR_blk2 hl)) (isR_run2 hg htri hl hrun)
theorem isR_run0 : IsR (run0V tri l run) fun r _ => ∑ i ∈ Ico (640 * g + 128 * 1) 8320, D.L (640 * t + r) i :=
  isR_run 1 (by omega) hg (isR_within 1 htri (isR_blk1 hl)) (isR_run1 hg htri hl hrun)
/-- The sums over a group and what follows it. -/
theorem isR_runNext : IsR (runNextV tri l run) fun r _ => ∑ i ∈ Ico (640 * g) 8320, D.L (640 * t + r) i :=
  isR_run 0 (by omega) hg (isR_within 0 htri (isR_blk0 hl)) (isR_run0 hg htri hl hrun)

/-- The forward kernel's weights. -/
theorem isR_wFwd {mk : FVec Ideal S640x640 .f32 → FVec Ideal S640x640 .f32} (hmk : IsMk t g mk)
    {z : FVec Ideal S640x640 .f32} (hz : IsR z fun r c => D.Z (640 * t + r) (640 * g + c)) :
    IsR (wFwdV tri l run mk z) fun r c => D.W (640 * t + r) (640 * g + c) := by
  refine isR_weight hmk hz ?_ ?_ ?_ ?_ ?_
  · exact (isR_add (isR_within 0 htri (isR_blk0 hl)) (isR_run0 hg htri hl hrun)).congr fun r c _ _ => suf_split D _ _ _ (by omega) (by omega)
  · exact (isR_add (isR_within 1 htri (isR_blk1 hl)) (isR_run1 hg htri hl hrun)).congr fun r c _ _ => suf_split D _ _ _ (by omega) (by omega)
  · exact (isR_add (isR_within 2 htri (isR_blk2 hl)) (isR_run2 hg htri hl hrun)).congr fun r c _ _ => suf_split D _ _ _ (by omega) (by omega)
  · exact (isR_add (isR_within 3 htri (isR_blk3 hl)) (isR_run3 hg htri hl hrun)).congr fun r c _ _ => suf_split D _ _ _ (by omega) (by omega)
  · exact (isR_add (isR_within 4 htri (isR_blk4 hl)) hrun).congr fun r c _ _ => suf_split D _ _ _ (by omega) (by omega)

/-- The saved sums of a group: lane `j` holds the sum after block `j`. -/
theorem isR_saved {lane : IVec S640x128 32} (hlane : ∀ i, lane i = BitVec.ofNat 32 (i 1).val) {j0 j1 j2 j3 j4 : BitVec 32}
    (h0 : j0 = BitVec.ofNat 32 (5 * g + 0)) (h1 : j1 = BitVec.ofNat 32 (5 * g + 1)) (h2 : j2 = BitVec.ofNat 32 (5 * g + 2))
    (h3 : j3 = BitVec.ofNat 32 (5 * g + 3)) (h4 : j4 = BitVec.ofNat 32 (5 * g + 4)) {s : FVec Ideal S640x128 .f32}
    (hs : IsR s fun r j => if 5 * (g + 1) ≤ j then ∑ i ∈ Ico (128 * (j + 1)) 8320, D.L (640 * t + r) i else 0) :
    IsR (savedV tri l run lane j0 j1 j2 j3 j4 s) fun r j => if 5 * g ≤ j then ∑ i ∈ Ico (128 * (j + 1)) 8320, D.L (640 * t + r) i else 0 := by
  refine (isR_select (isM_lane hlane h0 (by omega)) (isR_run0 hg htri hl hrun) (isR_select (isM_lane hlane h1 (by omega)) (isR_run1 hg htri hl hrun)
    (isR_select (isM_lane hlane h2 (by omega)) (isR_run2 hg htri hl hrun) (isR_select (isM_lane hlane h3 (by omega)) (isR_run3 hg htri hl hrun)
      (isR_select (isM_lane hlane h4 (by omega)) hrun hs))))).congr fun r j _ _ => ?_
  by_cases e0 : j = 5 * g + 0
  · subst e0; rw [if_pos rfl, if_pos (by omega), show 640 * g + 128 * 1 = 128 * (5 * g + 0 + 1) by omega]
  rw [if_neg e0]
  by_cases e1 : j = 5 * g + 1
  · subst e1; rw [if_pos rfl, if_pos (by omega), show 640 * g + 128 * 2 = 128 * (5 * g + 1 + 1) by omega]
  rw [if_neg e1]
  by_cases e2 : j = 5 * g + 2
  · subst e2; rw [if_pos rfl, if_pos (by omega), show 640 * g + 128 * 3 = 128 * (5 * g + 2 + 1) by omega]
  rw [if_neg e2]
  by_cases e3 : j = 5 * g + 3
  · subst e3; rw [if_pos rfl, if_pos (by omega), show 640 * g + 128 * 4 = 128 * (5 * g + 3 + 1) by omega]
  rw [if_neg e3]
  by_cases e4 : j = 5 * g + 4
  · subst e4; rw [if_pos rfl, if_pos (by omega), show 640 * (g + 1) = 128 * (5 * g + 4 + 1) by omega]
  rw [if_neg e4]
  by_cases h : 5 * g ≤ j
  · rw [if_pos h, if_pos (by omega)]
  · rw [if_neg h, if_neg (by omega)]

end forward

section backward
variable {D : Head} {t g : ℕ} (ht : t < 13) (hg : g < 13) (hcap : D.Capped)
  {mk : FVec Ideal S640x640 .f32 → FVec Ideal S640x640 .f32} (hmk : IsMk t g mk)
  {tri : FVec Ideal S128x128 .bf16} (htri : IsR tri fun a b => if b ≤ a then 1 else 0)
  {pre : FVec Ideal S128x128 .bf16} (hpre : IsR pre fun a b => if a ≤ b then 1 else 0)
  {lane : IVec S640x128 32} (hlane : ∀ i, lane i = BitVec.ofNat 32 (i 1).val) {j0 j1 j2 j3 j4 : BitVec 32}
  (h0 : j0 = BitVec.ofNat 32 (5 * g + 0)) (h1 : j1 = BitVec.ofNat 32 (5 * g + 1)) (h2 : j2 = BitVec.ofNat 32 (5 * g + 2))
  (h3 : j3 = BitVec.ofNat 32 (5 * g + 3)) (h4 : j4 = BitVec.ofNat 32 (5 * g + 4))
  {q o : FVec Ideal S640x128 .bf16} (hq : IsR q fun r d => D.q (640 * t + r) d) (ho : IsR o fun r d => D.o (640 * t + r) d)
  {k v : FVec Ideal S640x128 .f32} (hk : IsR k fun c d => D.k (640 * g + c) d) (hv : IsR v fun c d => D.v (640 * g + c) d)
  {s : FVec Ideal S640x128 .f32} (hs : IsR s fun r j => ∑ i ∈ Ico (128 * (j + 1)) 8320, D.L (640 * t + r) i)
  {gp : FVec Ideal S640x128 .f32} (hgp : IsR gp fun r _ => ∑ i ∈ range (640 * g), D.G (640 * t + r) i)

include ht hg hcap hmk htri hlane h0 h1 h2 h3 h4 hq hk hs in
/-- The backward kernel's weights. -/
theorem isR_groupW : IsR (groupW mk q tri lane j0 j1 j2 j3 j4 k s) fun r c => D.W (640 * t + r) (640 * g + c) := by
  have hz := isR_z (D := D) (t := t) (g := g) hq hk
  have hl := isR_l hmk hcap ht hz
  refine isR_weight hmk hz ?_ ?_ ?_ ?_ ?_
  · exact (isR_add (isR_within 0 htri (isR_blk0 hl)) (isR_bcast (isR_lane (isM_lane hlane h0 (by omega)) (by omega) hs))).congr fun r c _ _ => by
      rw [show 128 * (5 * g + 0 + 1) = 640 * g + 128 * 0 + 128 by omega]; exact suf_split D _ _ _ (by omega) (by omega)
  · exact (isR_add (isR_within 1 htri (isR_blk1 hl)) (isR_bcast (isR_lane (isM_lane hlane h1 (by omega)) (by omega) hs))).congr fun r c _ _ => by
      rw [show 128 * (5 * g + 1 + 1) = 640 * g + 128 * 1 + 128 by omega]; exact suf_split D _ _ _ (by omega) (by omega)
  · exact (isR_add (isR_within 2 htri (isR_blk2 hl)) (isR_bcast (isR_lane (isM_lane hlane h2 (by omega)) (by omega) hs))).congr fun r c _ _ => by
      rw [show 128 * (5 * g + 2 + 1) = 640 * g + 128 * 2 + 128 by omega]; exact suf_split D _ _ _ (by omega) (by omega)
  · exact (isR_add (isR_within 3 htri (isR_blk3 hl)) (isR_bcast (isR_lane (isM_lane hlane h3 (by omega)) (by omega) hs))).congr fun r c _ _ => by
      rw [show 128 * (5 * g + 3 + 1) = 640 * g + 128 * 3 + 128 by omega]; exact suf_split D _ _ _ (by omega) (by omega)
  · exact (isR_add (isR_within 4 htri (isR_blk4 hl)) (isR_bcast (isR_lane (isM_lane hlane h4 (by omega)) (by omega) hs))).congr fun r c _ _ => by
      rw [show 128 * (5 * g + 4 + 1) = 640 * g + 128 * 4 + 128 by omega]; exact suf_split D _ _ _ (by omega) (by omega)

include ht hg hcap hmk htri hlane h0 h1 h2 h3 h4 hq ho hk hv hs in
/-- The gradient of the weights times the weights. -/
theorem isR_groupG : IsR (groupG mk q o tri lane j0 j1 j2 j3 j4 k v s) fun r c => D.G (640 * t + r) (640 * g + c) :=
  isR_mul (isR_nt ho (isR_trunc hv)) (isR_groupW ht hg hcap hmk htri hlane h0 h1 h2 h3 h4 hq hk hs)

/-- The sums from a block's beginning up to a key. -/
theorem isR_upto {x : FVec Ideal S640x128 .f32} (b : ℕ) (hpre : IsR pre fun a b => if a ≤ b then 1 else 0)
    (hx : IsR x fun r c => D.G (640 * t + r) (640 * g + (128 * b + c))) :
    IsR (cumV pre x) fun r c => ∑ i ∈ Ico (640 * g + 128 * b) (640 * g + 128 * b + c + 1), D.G (640 * t + r) i :=
  isR_prefix hpre (f := fun r i => D.G (640 * t + r) i) (640 * g + 128 * b)
    (hx.congr fun r c _ _ => by rw [← Nat.add_assoc])

/-- One block more among the sums that go before. -/
theorem isR_gp {x gp : FVec Ideal S640x128 .f32} (b : ℕ)
    (hx : IsR x fun r c => ∑ i ∈ Ico (640 * g + 128 * b) (640 * g + 128 * b + c + 1), D.G (640 * t + r) i)
    (hr : IsR gp fun r _ => ∑ i ∈ range (640 * g + 128 * b), D.G (640 * t + r) i) :
    IsR (addf gp (lastV x)) fun r _ => ∑ i ∈ range (640 * g + 128 * (b + 1)), D.G (640 * t + r) i :=
  (isR_add hr (isR_last hx)).congr fun r c _ _ => by
    rw [range_eq_Ico, range_eq_Ico, sum_Ico_consecutive _ (by omega) (by omega)]; rfl

section prefixes
variable {gg : FVec Ideal S640x640 .f32} (hgg : IsR gg fun r c => D.G (640 * t + r) (640 * g + c))
include hpre hgg hgp

theorem isR_gp1 : IsR (gp1V pre gg gp) fun r _ => ∑ i ∈ range (640 * g + 128 * (0 + 1)), D.G (640 * t + r) i :=
  isR_gp 0 (isR_upto 0 hpre (isR_blk0 hgg)) hgp
theorem isR_gp2 : IsR (gp2V pre gg gp) fun r _ => ∑ i ∈ range (640 * g + 128 * (1 + 1)), D.G (640 * t + r) i :=
  isR_gp 1 (isR_upto 1 hpre (isR_blk1 hgg)) (isR_gp1 hpre hgp hgg)
theorem isR_gp3 : IsR (gp3V pre gg gp) fun r _ => ∑ i ∈ range (640 * g + 128 * (2 + 1)), D.G (640 * t + r) i :=
  isR_gp 2 (isR_upto 2 hpre (isR_blk2 hgg)) (isR_gp2 hpre hgp hgg)
theorem isR_gp4 : IsR (gp4V pre gg gp) fun r _ => ∑ i ∈ range (640 * g + 128 * (3 + 1)), D.G (640 * t + r) i :=
  isR_gp 3 (isR_upto 3 hpre (isR_blk3 hgg)) (isR_gp3 hpre hgp hgg)
/-- The sums over the groups up to this one. -/
theorem isR_gpNext : IsR (gpNextV pre gg gp) fun r _ => ∑ i ∈ range (640 * (g + 1)), D.G (640 * t + r) i :=
  (isR_gp 4 (isR_upto 4 hpre (isR_blk4 hgg)) (isR_gp4 hpre hgp hgg)).congr fun r _ _ _ => by
    rw [show 640 * g + 128 * (4 + 1) = 640 * (g + 1) by omega]

/-- The running sums over the keys up to each. -/
theorem isR_gcum : IsR (gcumV pre gg gp) fun r c => D.Pre (640 * t + r) (640 * g + c) := by
  refine (isR_cat (f := fun b r c => D.Pre (640 * t + r) (640 * g + 128 * b + c)) ?_ ?_ ?_ ?_ ?_).congr fun r c _ _ => by
    rw [show 640 * g + 128 * (c / 128) + c % 128 = 640 * g + c by omega]
  · exact (isR_add (isR_upto 0 hpre (isR_blk0 hgg)) hgp).congr fun r c _ _ => pre_split D _ _ _ (by omega)
  · exact (isR_add (isR_upto 1 hpre (isR_blk1 hgg)) (isR_gp1 hpre hgp hgg)).congr fun r c _ _ => pre_split D _ _ _ (by omega)
  · exact (isR_add (isR_upto 2 hpre (isR_blk2 hgg)) (isR_gp2 hpre hgp hgg)).congr fun r c _ _ => pre_split D _ _ _ (by omega)
  · exact (isR_add (isR_upto 3 hpre (isR_blk3 hgg)) (isR_gp3 hpre hgp hgg)).congr fun r c _ _ => pre_split D _ _ _ (by omega)
  · exact (isR_add (isR_upto 4 hpre (isR_blk4 hgg)) (isR_gp4 hpre hgp hgg)).congr fun r c _ _ => pre_split D _ _ _ (by omega)

end prefixes

include ht hg hcap hmk htri hpre hlane h0 h1 h2 h3 h4 hq ho hk hv hs hgp

/-- The gradient of the products of queries and keys. -/
theorem isR_groupDZ : IsR (groupDZ mk q o tri pre lane j0 j1 j2 j3 j4 k v s gp) fun r c => D.DZ (640 * t + r) (640 * g + c) := by
  have hz := isR_z (D := D) (t := t) (g := g) hq hk
  have hl := isR_l hmk hcap ht hz
  have hG := isR_groupG ht hg hcap hmk htri hlane h0 h1 h2 h3 h4 hq ho hk hv hs
  exact isR_trunc (isR_mul (isR_sub hG (hmk _ _ (isR_mul (isR_exp (isR_add hz hl)) (isR_gcum hpre hgp hG)))) (isR_const ofBits_scale))

/-- What a group adds to its rows of the values' gradient. -/
theorem isR_groupDv {old : FVec Ideal S640x128 .f32} {f : ℕ → ℕ → ℝ} (hold : IsR old f) :
    IsR (groupDv mk q o tri lane j0 j1 j2 j3 j4 k s old) fun c d =>
      f c d + ∑ r ∈ range 640, D.W (640 * t + r) (640 * g + c) * D.o (640 * t + r) d :=
  isR_add (isR_cast hold) (isR_tn (isR_trunc (isR_groupW ht hg hcap hmk htri hlane h0 h1 h2 h3 h4 hq hk hs)) ho)

/-- What a group adds to its rows of the keys' gradient. -/
theorem isR_groupDk {old : FVec Ideal S640x128 .f32} {f : ℕ → ℕ → ℝ} (hold : IsR old f) :
    IsR (groupDk mk q o tri pre lane j0 j1 j2 j3 j4 k v s gp old) fun c d =>
      f c d + ∑ r ∈ range 640, D.DZ (640 * t + r) (640 * g + c) * D.q (640 * t + r) d :=
  isR_add (isR_cast hold) (isR_tn (isR_groupDZ ht hg hcap hmk htri hpre hlane h0 h1 h2 h3 h4 hq ho hk hv hs hgp) hq)

/-- What a group adds to the queries' gradient. -/
theorem isR_groupDq {old : FVec Ideal S640x128 .f32} {f : ℕ → ℕ → ℝ} (hold : IsR old f) :
    IsR (groupDq mk q o tri pre lane j0 j1 j2 j3 j4 k v s gp old) fun r d =>
      f r d + ∑ c ∈ range 640, D.DZ (640 * t + r) (640 * g + c) * D.k (640 * g + c) d :=
  isR_add (isR_cast hold) (isR_nn (isR_groupDZ ht hg hcap hmk htri hpre hlane h0 h1 h2 h3 h4 hq ho hk hv hs hgp) (isR_trunc hk))

/-- The running sums a group leaves. -/
theorem isR_groupGp : IsR (groupGp mk q o tri pre lane j0 j1 j2 j3 j4 k v s gp) fun r _ => ∑ i ∈ range (640 * (g + 1)), D.G (640 * t + r) i :=
  isR_gpNext hpre hgp (isR_groupG ht hg hcap hmk htri hlane h0 h1 h2 h3 h4 hq ho hk hv hs)

end backward

end Cert.StickBreaking
-- ==== Proof.Step.lean ====
module

public import proofs.«01_k».proof.Proof.Group
public import Idealize.ShloMosaic.Lib.VecWindow

/-! What the buffers of a tile hold between two groups of keys, in both kernels, and that one group
leads from one such state to the next. -/

@[expose] public section

noncomputable section

namespace Cert.StickBreaking

open Idealize.ShloMosaic Cert.KernelIdeal Cert.KernelIdeal.Gen Idealize.SL.Sem Finset

/-- The 640 rows from row `640 n` on. -/
theorem isR_window {x : FVec Ideal S8320x128 .f32} {f : ℕ → ℕ → ℝ} (hx : IsR x f) (n : ℕ)
    (inb : ∀ a, (![640 * n, 0] : Fin 2 → ℕ) a + S640x128.size a ≤ S8320x128.size a) :
    IsR (a := 640) (b := 128) (VecWindow.window x ![640 * n, 0] S640x128.size inb) fun r c => f (640 * n + r) c := fun i => by
  show x _ = _
  rw [hx _]
  show ((f (640 * n + 1 * (i 0).val) (0 + 1 * (i 1).val) : ℝ) : EReal) = _
  rw [one_mul, one_mul, zero_add]

/-- An array with 640 rows replaced from row `640 n` on. -/
theorem isR_put {x : FVec Ideal S8320x128 .f32} {f : ℕ → ℕ → ℝ} (hx : IsR x f) {w : FVec Ideal S640x128 .f32} {g : ℕ → ℕ → ℝ} (hw : IsR w g) (n : ℕ) :
    IsR (a := 8320) (b := 128) (VecWindow.put (s := S8320x128) x ![640 * n, 0] S640x128.size w)
      fun r c => if 640 * n ≤ r ∧ r < 640 * n + 640 then g (r - 640 * n) c else f r c := fun i => by
  unfold VecWindow.put
  by_cases h : 640 * n ≤ (i 0).val ∧ (i 0).val < 640 * n + 640
  · have h' : ∀ a, (![640 * n, 0] : Fin 2 → ℕ) a ≤ (i a).val ∧ (i a).val < (![640 * n, 0] : Fin 2 → ℕ) a + S640x128.size a := by
      intro a
      match a with
      | 0 => exact h
      | 1 => exact ⟨Nat.zero_le _, by have := (i 1).isLt; change (i 1).val < 0 + 128; change (i 1).val < 128 at this; omega⟩
    rw [dif_pos h']
    exact (hw _).trans (congrArg Real.toEReal (if_pos h).symm)
  · rw [dif_neg (fun h' => h (h' 0))]
    exact (hx i).trans (congrArg Real.toEReal (if_neg h).symm)

/-- Group `n` has its rows inside the arrays. -/
theorem rows_inb {n : ℕ} (hn : n < 13) : ∀ a, (![640 * n, 0] : Fin 2 → ℕ) a + S640x128.size a ≤ S8320x128.size a := fun a => by
  match a with
  | 0 => show 640 * n + 640 ≤ 8320; omega
  | 1 => show 0 + 128 ≤ 128; omega

/-- A load of a group's rows. -/
theorem readAt_rows (v : View sig .tc .vmem S8320x128 .f32) (f : v.ty.Contents (Elt Ideal)) {off : Fin 2 → ℕ} {n : ℕ} (h : off = ![640 * n, 0]) (hn : n < 13)
    (inb : ∀ a, off a + S640x128.size a ≤ S8320x128.size a) :
    v.readAt (Elt Ideal) (Rect.unit (s := S8320x128) off S640x128.size inb).toLoadRect f
      = VecWindow.window (v.read (Elt Ideal) f) ![640 * n, 0] S640x128.size (rows_inb hn) := View.readAt_unit v f inb h (rows_inb hn)

/-- A load of a whole tile. -/
theorem readAt_tile (v : View sig .tc .vmem S640x128 .f32) (f : v.ty.Contents (Elt Ideal)) (inb : ∀ a, (![0, 0] : Fin 2 → ℕ) a + S640x128.size a ≤ S640x128.size a) :
    v.readAt (Elt Ideal) (Rect.unit (s := S640x128) ![0, 0] S640x128.size inb).toLoadRect f = v.read (Elt Ideal) f := View.readAt_full v f inb

/-- A load of a whole block of saved sums. -/
theorem readAt_saved (v : View sig .tc .vmem S1x1x640x128 .f32) (f : v.ty.Contents (Elt Ideal))
    (inb : ∀ a, (![0, 0, 0, 0] : Fin 4 → ℕ) a + S1x1x640x128.size a ≤ S1x1x640x128.size a) :
    v.readAt (Elt Ideal) (Rect.unit (s := S1x1x640x128) ![0, 0, 0, 0] S1x1x640x128.size inb).toLoadRect f = v.read (Elt Ideal) f := View.readAt_full v f inb

/-- A tile after a store of the whole tile. -/
theorem read_tile (v : View sig .tc .vmem S640x128 .f32) (f : v.ty.Contents (Elt Ideal)) (inb : ∀ a, (![0, 0] : Fin 2 → ℕ) a + S640x128.size a ≤ S640x128.size a)
    (w : FVec Ideal S640x128 .f32) (L : List (View.Piece (Elt Ideal) S640x128 .f32)) :
    v.read (Elt Ideal) (v.writes (Elt Ideal) f (⟨Rect.unit (s := S640x128) ![0, 0] S640x128.size inb, w⟩ :: L)) = w := View.read_writes_full v f inb w L

/-- A block of saved sums after a store of the whole block. -/
theorem read_saved (v : View sig .tc .vmem S1x1x640x128 .f32) (f : v.ty.Contents (Elt Ideal))
    (inb : ∀ a, (![0, 0, 0, 0] : Fin 4 → ℕ) a + S1x1x640x128.size a ≤ S1x1x640x128.size a)
    (w : FVec Ideal S1x1x640x128 .f32) (L : List (View.Piece (Elt Ideal) S1x1x640x128 .f32)) :
    v.read (Elt Ideal) (v.writes (Elt Ideal) f (⟨Rect.unit (s := S1x1x640x128) ![0, 0, 0, 0] S1x1x640x128.size inb, w⟩ :: L)) = w := View.read_writes_full v f inb w L

/-- An array after a store of a group's rows. -/
theorem read_rows (v : View sig .tc .vmem S8320x128 .f32) (f : v.ty.Contents (Elt Ideal)) {off : Fin 2 → ℕ} {n : ℕ} (h : off = ![640 * n, 0])
    (inb : ∀ a, off a + S640x128.size a ≤ S8320x128.size a) (w : FVec Ideal S640x128 .f32) (L : List (View.Piece (Elt Ideal) S8320x128 .f32)) :
    v.read (Elt Ideal) (v.writes (Elt Ideal) f (⟨Rect.unit (s := S8320x128) off S640x128.size inb, w⟩ :: L))
      = VecWindow.put (s := S8320x128) (v.read (Elt Ideal) (v.writes (Elt Ideal) f L)) ![640 * n, 0] S640x128.size w := View.read_writes_cons_put v f inb w L h

/-- A block of saved sums stored and read back. -/
theorem saved_cast (x : FVec Ideal S640x128 .f32) :
    shapeCast S640x128 (shapeCast S1x1x640x128 x shapeCasts_S640x128_S1x1x640x128) shapeCasts_S1x1x640x128_S640x128 = x := by
  rw [shapeCast_shapeCast]

/-! ### The backward kernel -/

/-- Before group `n` of tile `t`: the queries' gradient summed over the keys so far, the keys' and
values' gradients summed over the queries so far, and the running sums. -/
structure BInv (D : Head) (t n : ℕ) (x7 : FVec Ideal S640x128 .f32) (x8 x9 : FVec Ideal S8320x128 .f32) (x10 : FVec Ideal S640x128 .f32) : Prop where
  dq : IsR x7 fun r d => ∑ s ∈ range (640 * n), D.DZ (640 * t + r) s * D.k s d
  dk : IsR x8 fun s d => ∑ u ∈ range (if s < 640 * n then 640 * (t + 1) else 640 * t), D.DZ u s * D.q u d
  dv : IsR x9 fun s d => ∑ u ∈ range (if s < 640 * n then 640 * (t + 1) else 640 * t), D.W u s * D.o u d
  gp : IsR x10 fun r _ => ∑ i ∈ range (640 * n), D.G (640 * t + r) i

/-- Rows of sums over the queries, after a group added its own. -/
theorem isR_rows {t n : ℕ} {x : FVec Ideal S8320x128 .f32} {w : FVec Ideal S640x128 .f32} {f : ℕ → ℕ → ℕ → ℝ}
    (hx : IsR x fun s d => ∑ u ∈ range (if s < 640 * n then 640 * (t + 1) else 640 * t), f u s d)
    (hw : IsR w fun c d => ∑ u ∈ range (640 * t), f u (640 * n + c) d + ∑ r ∈ range 640, f (640 * t + r) (640 * n + c) d) :
    IsR (a := 8320) (b := 128) (VecWindow.put (s := S8320x128) x ![640 * n, 0] S640x128.size w)
      fun s d => ∑ u ∈ range (if s < 640 * (n + 1) then 640 * (t + 1) else 640 * t), f u s d :=
  (isR_put hx hw n).congr fun s d _ _ => by
    by_cases h : 640 * n ≤ s ∧ s < 640 * n + 640
    · rw [if_pos h, if_pos (by omega), show 640 * (t + 1) = 640 * t + 640 by omega, sum_range_add, show 640 * n + (s - 640 * n) = s by omega]
    · rw [if_neg h]
      by_cases h' : s < 640 * n
      · rw [if_pos h', if_pos (by omega)]
      · rw [if_neg h', if_neg (by omega)]

section backward
variable {D : Head} {t n : ℕ} (ht : t < 13) (hn : n < 13) (hcap : D.Capped)
  {mk : FVec Ideal S640x640 .f32 → FVec Ideal S640x640 .f32} (hmk : IsMk t n mk)
  {tri : FVec Ideal S128x128 .bf16} (htri : IsR tri fun a b => if b ≤ a then 1 else 0)
  {pre : FVec Ideal S128x128 .bf16} (hpre : IsR pre fun a b => if a ≤ b then 1 else 0)
  {lane : IVec S640x128 32} (hlane : ∀ i, lane i = BitVec.ofNat 32 (i 1).val) {j0 j1 j2 j3 j4 : BitVec 32}
  (h0 : j0 = BitVec.ofNat 32 (5 * n + 0)) (h1 : j1 = BitVec.ofNat 32 (5 * n + 1)) (h2 : j2 = BitVec.ofNat 32 (5 * n + 2))
  (h3 : j3 = BitVec.ofNat 32 (5 * n + 3)) (h4 : j4 = BitVec.ofNat 32 (5 * n + 4))
  {q o : FVec Ideal S640x128 .bf16} (hq : IsR q fun r d => D.q (640 * t + r) d) (ho : IsR o fun r d => D.o (640 * t + r) d)
  {k v : FVec Ideal S640x128 .f32} (hk : IsR k fun c d => D.k (640 * n + c) d) (hv : IsR v fun c d => D.v (640 * n + c) d)
  {s : FVec Ideal S640x128 .f32} (hs : IsR s fun r j => ∑ i ∈ Ico (128 * (j + 1)) 8320, D.L (640 * t + r) i)
  {x7 : FVec Ideal S640x128 .f32} {x8 x9 : FVec Ideal S8320x128 .f32} {x10 : FVec Ideal S640x128 .f32} (h : BInv D t n x7 x8 x9 x10)
  (inb : ∀ a, (![640 * n, 0] : Fin 2 → ℕ) a + S640x128.size a ≤ S8320x128.size a)

include ht hn hcap hmk htri hpre hlane h0 h1 h2 h3 h4 hq ho hs

include hk hv h in
/-- One group leads from one state to the next. -/
theorem BInv.step : BInv D t (n + 1) (groupDq mk q o tri pre lane j0 j1 j2 j3 j4 k v s x10 x7)
    (VecWindow.put (s := S8320x128) x8 ![640 * n, 0] S640x128.size
      (groupDk mk q o tri pre lane j0 j1 j2 j3 j4 k v s x10 (VecWindow.window x8 ![640 * n, 0] S640x128.size inb)))
    (VecWindow.put (s := S8320x128) x9 ![640 * n, 0] S640x128.size
      (groupDv mk q o tri lane j0 j1 j2 j3 j4 k s (VecWindow.window x9 ![640 * n, 0] S640x128.size inb)))
    (groupGp mk q o tri pre lane j0 j1 j2 j3 j4 k v s x10) where
  dq := (isR_groupDq ht hn hcap hmk htri hpre hlane h0 h1 h2 h3 h4 hq ho hk hv hs h.gp h.dq).congr fun r d _ _ => by
    rw [show 640 * (n + 1) = 640 * n + 640 by omega, sum_range_add]
  dk := isR_rows (f := fun u s d => D.DZ u s * D.q u d) h.dk
    ((isR_groupDk ht hn hcap hmk htri hpre hlane h0 h1 h2 h3 h4 hq ho hk hv hs h.gp (isR_window h.dk n inb)).congr fun c d _ _ => by
      rw [if_neg (by omega)])
  dv := isR_rows (f := fun u s d => D.W u s * D.o u d) h.dv
    ((isR_groupDv ht hn hcap hmk htri hpre hlane h0 h1 h2 h3 h4 hq ho hk hv hs h.gp (isR_window h.dv n inb)).congr fun c d _ _ => by
      rw [if_neg (by omega)])
  gp := isR_groupGp ht hn hcap hmk htri hpre hlane h0 h1 h2 h3 h4 hq ho hk hv hs h.gp

/-- The same at the buffers: one group's loads and stores lead from one state to the next. -/
theorem BInv.store {v3 v4 v8 v9 : View sig .tc .vmem S8320x128 .f32} {v7 v10 : View sig .tc .vmem S640x128 .f32}
    {X3 : v3.ty.Contents (Elt Ideal)} {X4 : v4.ty.Contents (Elt Ideal)} {f7 : v7.ty.Contents (Elt Ideal)} {f8 : v8.ty.Contents (Elt Ideal)}
    {f9 : v9.ty.Contents (Elt Ideal)} {f10 : v10.ty.Contents (Elt Ideal)}
    (hk : IsR (v3.read (Elt Ideal) X3) D.k) (hv : IsR (v4.read (Elt Ideal) X4) D.v)
    (h : BInv D t n (v7.read (Elt Ideal) f7) (v8.read (Elt Ideal) f8) (v9.read (Elt Ideal) f9) (v10.read (Elt Ideal) f10))
    {off : Fin 2 → ℕ} (hoff : off = ![640 * n, 0]) (inb : ∀ a, off a + S640x128.size a ≤ S8320x128.size a)
    (inbt : ∀ a, (![0, 0] : Fin 2 → ℕ) a + S640x128.size a ≤ S640x128.size a) :
    BInv D t (n + 1)
      (v7.read (Elt Ideal) (v7.writes (Elt Ideal) f7 [⟨(Rect.unit (s := S640x128) ![0, 0] S640x128.size inbt), groupDq mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect f10) (v7.readAt (Elt Ideal) (Rect.unit (s := S640x128) ![0, 0] S640x128.size inbt).toLoadRect f7)⟩]))
      (v8.read (Elt Ideal) (v8.writes (Elt Ideal) f8 [⟨(Rect.unit (s := S8320x128) off S640x128.size inb), groupDk mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect f10) (v8.readAt (Elt Ideal) (Rect.unit (s := S8320x128) off S640x128.size inb).toLoadRect f8)⟩]))
      (v9.read (Elt Ideal) (v9.writes (Elt Ideal) f9 [⟨(Rect.unit (s := S8320x128) off S640x128.size inb), groupDv mk q o tri lane j0 j1 j2 j3 j4 (v3.readAt (Elt Ideal) (Rect.unit (s := S8320x128) off S640x128.size inb).toLoadRect X3)
        s (v9.readAt (Elt Ideal) (Rect.unit (s := S8320x128) off S640x128.size inb).toLoadRect f9)⟩]))
      (v10.read (Elt Ideal) (v10.writes (Elt Ideal) f10 [⟨(Rect.unit (s := S640x128) ![0, 0] S640x128.size inbt), shapeCast S640x128 (groupGp mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect f10)) shapeCasts_S640x128_S640x128⟩])) := by
  rw [read_tile, read_tile, read_rows _ _ hoff, read_rows _ _ hoff, View.writes_nil, View.writes_nil, readAt_rows v3 _ hoff hn, readAt_rows v4 _ hoff hn,
    readAt_rows v8 _ hoff hn, readAt_rows v9 _ hoff hn, readAt_tile, readAt_tile, shapeCast_self]
  exact BInv.step ht hn hcap hmk htri hpre hlane h0 h1 h2 h3 h4 hq ho (isR_window hk _ (rows_inb hn)) (isR_window hv _ (rows_inb hn)) hs h (rows_inb hn)

/-- The same after earlier stores. -/
theorem BInv.store_cons {L7 : List (View.Piece (Elt Ideal) S640x128 .f32)} {L8 : List (View.Piece (Elt Ideal) S8320x128 .f32)} {L9 : List (View.Piece (Elt Ideal) S8320x128 .f32)} {L10 : List (View.Piece (Elt Ideal) S640x128 .f32)} {v3 v4 v8 v9 : View sig .tc .vmem S8320x128 .f32} {v7 v10 : View sig .tc .vmem S640x128 .f32}
    {X3 : v3.ty.Contents (Elt Ideal)} {X4 : v4.ty.Contents (Elt Ideal)} {f7 : v7.ty.Contents (Elt Ideal)} {f8 : v8.ty.Contents (Elt Ideal)}
    {f9 : v9.ty.Contents (Elt Ideal)} {f10 : v10.ty.Contents (Elt Ideal)}
    (hk : IsR (v3.read (Elt Ideal) X3) D.k) (hv : IsR (v4.read (Elt Ideal) X4) D.v)
    (h : BInv D t n (v7.read (Elt Ideal) (v7.writes (Elt Ideal) f7 L7)) (v8.read (Elt Ideal) (v8.writes (Elt Ideal) f8 L8)) (v9.read (Elt Ideal) (v9.writes (Elt Ideal) f9 L9)) (v10.read (Elt Ideal) (v10.writes (Elt Ideal) f10 L10)))
    {off : Fin 2 → ℕ} (hoff : off = ![640 * n, 0]) (inb : ∀ a, off a + S640x128.size a ≤ S8320x128.size a)
    (inbt : ∀ a, (![0, 0] : Fin 2 → ℕ) a + S640x128.size a ≤ S640x128.size a) :
    BInv D t (n + 1)
      (v7.read (Elt Ideal) (v7.writes (Elt Ideal) f7 (⟨(Rect.unit (s := S640x128) ![0, 0] S640x128.size inbt), groupDq mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect (v10.writes (Elt Ideal) f10 L10)) (v7.readAt (Elt Ideal) (Rect.unit (s := S640x128) ![0, 0] S640x128.size inbt).toLoadRect (v7.writes (Elt Ideal) f7 L7))⟩ :: L7)))
      (v8.read (Elt Ideal) (v8.writes (Elt Ideal) f8 (⟨(Rect.unit (s := S8320x128) off S640x128.size inb), groupDk mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect (v10.writes (Elt Ideal) f10 L10)) (v8.readAt (Elt Ideal) (Rect.unit (s := S8320x128) off S640x128.size inb).toLoadRect (v8.writes (Elt Ideal) f8 L8))⟩ :: L8)))
      (v9.read (Elt Ideal) (v9.writes (Elt Ideal) f9 (⟨(Rect.unit (s := S8320x128) off S640x128.size inb), groupDv mk q o tri lane j0 j1 j2 j3 j4 (v3.readAt (Elt Ideal) (Rect.unit (s := S8320x128) off S640x128.size inb).toLoadRect X3)
        s (v9.readAt (Elt Ideal) (Rect.unit (s := S8320x128) off S640x128.size inb).toLoadRect (v9.writes (Elt Ideal) f9 L9))⟩ :: L9)))
      (v10.read (Elt Ideal) (v10.writes (Elt Ideal) f10 (⟨(Rect.unit (s := S640x128) ![0, 0] S640x128.size inbt), shapeCast S640x128 (groupGp mk q o tri pre lane j0 j1 j2 j3 j4 (v3.readAt (Elt Ideal) (Rect.unit (s := S8320x128) off S640x128.size inb).toLoadRect X3)
        (v4.readAt (Elt Ideal) (Rect.unit (s := S8320x128) off S640x128.size inb).toLoadRect X4) s (v10.readAt (Elt Ideal) (Rect.unit (s := S640x128) ![0, 0] S640x128.size inbt).toLoadRect (v10.writes (Elt Ideal) f10 L10))) shapeCasts_S640x128_S640x128⟩ :: L10))) := by
  exact BInv.store ht hn hcap hmk htri hpre hlane h0 h1 h2 h3 h4 hq ho hs hk hv h hoff inb inbt

end backward

/-! ### The forward kernel -/

section vocabulary
variable {F : FTy → Type} [FloatOps F] (mk : FVec F S640x640 .f32 → FVec F S640x640 .f32) (q : FVec F S640x128 .bf16) (tri : FVec F S128x128 .bf16)
  (lane : IVec S640x128 32) (j0 j1 j2 j3 j4 : BitVec 32) (k v : FVec F S640x128 .f32) (run : FVec F S640x128 .f32)

/-- What a group of the forward kernel leaves in the output, in the saved sums and in the running sums. -/
def groupOut (old : FVec F S640x128 .f32) : FVec F S640x128 .f32 :=
  accNN old (truncf .bf16 (wFwdV tri (mk (lV (zV q k))) run mk (zV q k)) bitsLt_bf16_f32) (truncf .bf16 v bitsLt_bf16_f32)
def groupSaved (s : FVec F S640x128 .f32) : FVec F S640x128 .f32 := savedV tri (mk (lV (zV q k))) run lane j0 j1 j2 j3 j4 s
def groupRun : FVec F S640x128 .f32 := runNextV tri (mk (lV (zV q k))) run

end vocabulary

/-- Once the groups from `n` on are done in tile `t`: the output summed over their keys, the saved
sums of their blocks, and the running sums. -/
structure FInv (D : Head) (t n : ℕ) (x5 x6 x7 : FVec Ideal S640x128 .f32) : Prop where
  out : IsR x5 fun r d => ∑ s ∈ Ico (640 * n) 8320, D.W (640 * t + r) s * D.v s d
  saved : IsR x6 fun r j => if 5 * n ≤ j then ∑ i ∈ Ico (128 * (j + 1)) 8320, D.L (640 * t + r) i else 0
  run : IsR x7 fun r _ => ∑ i ∈ Ico (640 * n) 8320, D.L (640 * t + r) i

/-- One group leads from one state to the next. -/
theorem FInv.step {D : Head} {t n : ℕ} (ht : t < 13) (hn : n < 13) (hcap : D.Capped)
    {mk : FVec Ideal S640x640 .f32 → FVec Ideal S640x640 .f32} (hmk : IsMk t n mk)
    {tri : FVec Ideal S128x128 .bf16} (htri : IsR tri fun a b => if b ≤ a then 1 else 0)
    {lane : IVec S640x128 32} (hlane : ∀ i, lane i = BitVec.ofNat 32 (i 1).val) {j0 j1 j2 j3 j4 : BitVec 32}
    (h0 : j0 = BitVec.ofNat 32 (5 * n + 0)) (h1 : j1 = BitVec.ofNat 32 (5 * n + 1)) (h2 : j2 = BitVec.ofNat 32 (5 * n + 2))
    (h3 : j3 = BitVec.ofNat 32 (5 * n + 3)) (h4 : j4 = BitVec.ofNat 32 (5 * n + 4))
    {q : FVec Ideal S640x128 .bf16} (hq : IsR q fun r d => D.q (640 * t + r) d)
    {k v : FVec Ideal S640x128 .f32} (hk : IsR k fun c d => D.k (640 * n + c) d) (hv : IsR v fun c d => D.v (640 * n + c) d)
    {x5 x6 x7 : FVec Ideal S640x128 .f32} (h : FInv D t (n + 1) x5 x6 x7) :
    FInv D t n (groupOut mk q tri k v x7 x5) (groupSaved mk q tri lane j0 j1 j2 j3 j4 k x7 x6) (groupRun mk q tri k x7) := by
  have hz := isR_z (D := D) (t := t) (g := n) hq hk
  have hl := isR_l hmk hcap ht hz
  exact
  { out := (isR_add (isR_cast h.out) (isR_nn (isR_trunc (isR_wFwd hn htri hl h.run hmk hz)) (isR_trunc hv))).congr fun r d _ _ => by
      rw [← sum_Ico_consecutive _ (show 640 * n ≤ 640 * (n + 1) by omega) (show 640 * (n + 1) ≤ 8320 by omega),
        sum_Ico_eq_sum_range _ (640 * n) (640 * (n + 1)), show 640 * (n + 1) - 640 * n = 640 by omega, add_comm]
    saved := isR_saved hn htri hl h.run hlane h0 h1 h2 h3 h4 h.saved
    run := isR_runNext hn htri hl h.run }

/-- The same at the buffers. -/
theorem FInv.store {D : Head} {t n : ℕ} (ht : t < 13) (hn : n < 13) (hcap : D.Capped)
    {mk : FVec Ideal S640x640 .f32 → FVec Ideal S640x640 .f32} (hmk : IsMk t n mk)
    {tri : FVec Ideal S128x128 .bf16} (htri : IsR tri fun a b => if b ≤ a then 1 else 0)
    {lane : IVec S640x128 32} (hlane : ∀ i, lane i = BitVec.ofNat 32 (i 1).val) {j0 j1 j2 j3 j4 : BitVec 32}
    (h0 : j0 = BitVec.ofNat 32 (5 * n + 0)) (h1 : j1 = BitVec.ofNat 32 (5 * n + 1)) (h2 : j2 = BitVec.ofNat 32 (5 * n + 2))
    (h3 : j3 = BitVec.ofNat 32 (5 * n + 3)) (h4 : j4 = BitVec.ofNat 32 (5 * n + 4))
    {q : FVec Ideal S640x128 .bf16} (hq : IsR q fun r d => D.q (640 * t + r) d)
    {v3 v4 : View sig .tc .vmem S8320x128 .f32} {v5 v7 : View sig .tc .vmem S640x128 .f32} {v6 : View sig .tc .vmem S1x1x640x128 .f32}
    {X3 : v3.ty.Contents (Elt Ideal)} {X4 : v4.ty.Contents (Elt Ideal)} {f5 : v5.ty.Contents (Elt Ideal)} {f6 : v6.ty.Contents (Elt Ideal)}
    {f7 : v7.ty.Contents (Elt Ideal)}
    (hk : IsR (v3.read (Elt Ideal) X3) D.k) (hv : IsR (v4.read (Elt Ideal) X4) D.v)
    (h : FInv D t (n + 1) (v5.read (Elt Ideal) f5) (shapeCast S640x128 (v6.read (Elt Ideal) f6) shapeCasts_S1x1x640x128_S640x128) (v7.read (Elt Ideal) f7))
    {off : Fin 2 → ℕ} (hoff : off = ![640 * n, 0]) (inb : ∀ a, off a + S640x128.size a ≤ S8320x128.size a)
    (inbt : ∀ a, (![0, 0] : Fin 2 → ℕ) a + S640x128.size a ≤ S640x128.size a)
    (inbs : ∀ a, (![0, 0, 0, 0] : Fin 4 → ℕ) a + S1x1x640x128.size a ≤ S1x1x640x128.size a) :
    FInv D t n
      (v5.read (Elt Ideal) (v5.writes (Elt Ideal) f5 [⟨(Rect.unit (s := S640x128) ![0, 0] S640x128.size inbt), groupOut mk q tri (v3.readAt (Elt Ideal) (Rect.unit (s := S8320x128) off S640x128.size inb).toLoadRect X3)
        (v4.readAt (Elt Ideal) (Rect.unit (s := S8320x128) off S640x128.size inb).toLoadRect X4) (v7.readAt (Elt Ideal) (Rect.unit (s := S640x128) ![0, 0] S640x128.size inbt).toLoadRect f7) (v5.readAt (Elt Ideal) (Rect.unit (s := S640x128) ![0, 0] S640x128.size inbt).toLoadRect f5)⟩]))
      (shapeCast S640x128 (v6.read (Elt Ideal) (v6.writes (Elt Ideal) f6 [⟨(Rect.unit (s := S1x1x640x128) ![0, 0, 0, 0] S1x1x640x128.size inbs), shapeCast S1x1x640x128 (groupSaved mk q tri lane j0 j1 j2 j3 j4
        (v3.readAt (Elt Ideal) (Rect.unit (s := S8320x128) off S640x128.size inb).toLoadRect X3) (v7.readAt (Elt Ideal) (Rect.unit (s := S640x128) ![0, 0] S640x128.size inbt).toLoadRect f7)
        (shapeCast S640x128 (v6.readAt (Elt Ideal) (Rect.unit (s := S1x1x640x128) ![0, 0, 0, 0] S1x1x640x128.size inbs).toLoadRect f6) shapeCasts_S1x1x640x128_S640x128)) shapeCasts_S640x128_S1x1x640x128⟩])) shapeCasts_S1x1x640x128_S640x128)
      (v7.read (Elt Ideal) (v7.writes (Elt Ideal) f7 [⟨(Rect.unit (s := S640x128) ![0, 0] S640x128.size inbt), shapeCast S640x128 (groupRun mk q tri (v3.readAt (Elt Ideal) (Rect.unit (s := S8320x128) off S640x128.size inb).toLoadRect X3)
        (v7.readAt (Elt Ideal) (Rect.unit (s := S640x128) ![0, 0] S640x128.size inbt).toLoadRect f7)) shapeCasts_S640x128_S640x128⟩])) := by
  rw [read_tile, read_tile, read_saved, saved_cast, readAt_rows v3 _ hoff hn, readAt_rows v4 _ hoff hn, readAt_tile, readAt_tile, readAt_saved, shapeCast_self]
  exact FInv.step ht hn hcap hmk htri hlane h0 h1 h2 h3 h4 hq (isR_window hk _ (rows_inb hn)) (isR_window hv _ (rows_inb hn)) h

/-- The same after earlier stores. -/
theorem FInv.store_cons {L5 : List (View.Piece (Elt Ideal) S640x128 .f32)} {L6 : List (View.Piece (Elt Ideal) S1x1x640x128 .f32)} {L7 : List (View.Piece (Elt Ideal) S640x128 .f32)} {D : Head} {t n : ℕ} (ht : t < 13) (hn : n < 13) (hcap : D.Capped)
    {mk : FVec Ideal S640x640 .f32 → FVec Ideal S640x640 .f32} (hmk : IsMk t n mk)
    {tri : FVec Ideal S128x128 .bf16} (htri : IsR tri fun a b => if b ≤ a then 1 else 0)
    {lane : IVec S640x128 32} (hlane : ∀ i, lane i = BitVec.ofNat 32 (i 1).val) {j0 j1 j2 j3 j4 : BitVec 32}
    (h0 : j0 = BitVec.ofNat 32 (5 * n + 0)) (h1 : j1 = BitVec.ofNat 32 (5 * n + 1)) (h2 : j2 = BitVec.ofNat 32 (5 * n + 2))
    (h3 : j3 = BitVec.ofNat 32 (5 * n + 3)) (h4 : j4 = BitVec.ofNat 32 (5 * n + 4))
    {q : FVec Ideal S640x128 .bf16} (hq : IsR q fun r d => D.q (640 * t + r) d)
    {v3 v4 : View sig .tc .vmem S8320x128 .f32} {v5 v7 : View sig .tc .vmem S640x128 .f32} {v6 : View sig .tc .vmem S1x1x640x128 .f32}
    {X3 : v3.ty.Contents (Elt Ideal)} {X4 : v4.ty.Contents (Elt Ideal)} {f5 : v5.ty.Contents (Elt Ideal)} {f6 : v6.ty.Contents (Elt Ideal)}
    {f7 : v7.ty.Contents (Elt Ideal)}
    (hk : IsR (v3.read (Elt Ideal) X3) D.k) (hv : IsR (v4.read (Elt Ideal) X4) D.v)
    (h : FInv D t (n + 1) (v5.read (Elt Ideal) (v5.writes (Elt Ideal) f5 L5)) (shapeCast S640x128 (v6.read (Elt Ideal) (v6.writes (Elt Ideal) f6 L6)) shapeCasts_S1x1x640x128_S640x128) (v7.read (Elt Ideal) (v7.writes (Elt Ideal) f7 L7)))
    {off : Fin 2 → ℕ} (hoff : off = ![640 * n, 0]) (inb : ∀ a, off a + S640x128.size a ≤ S8320x128.size a)
    (inbt : ∀ a, (![0, 0] : Fin 2 → ℕ) a + S640x128.size a ≤ S640x128.size a)
    (inbs : ∀ a, (![0, 0, 0, 0] : Fin 4 → ℕ) a + S1x1x640x128.size a ≤ S1x1x640x128.size a) :
    FInv D t n
      (v5.read (Elt Ideal) (v5.writes (Elt Ideal) f5 (⟨(Rect.unit (s := S640x128) ![0, 0] S640x128.size inbt), groupOut mk q tri (v3.readAt (Elt Ideal) (Rect.unit (s := S8320x128) off S640x128.size inb).toLoadRect X3)
        (v4.readAt (Elt Ideal) (Rect.unit (s := S8320x128) off S640x128.size inb).toLoadRect X4) (v7.readAt (Elt Ideal) (Rect.unit (s := S640x128) ![0, 0] S640x128.size inbt).toLoadRect (v7.writes (Elt Ideal) f7 L7)) (v5.readAt (Elt Ideal) (Rect.unit (s := S640x128) ![0, 0] S640x128.size inbt).toLoadRect (v5.writes (Elt Ideal) f5 L5))⟩ :: L5)))
      (shapeCast S640x128 (v6.read (Elt Ideal) (v6.writes (Elt Ideal) f6 (⟨(Rect.unit (s := S1x1x640x128) ![0, 0, 0, 0] S1x1x640x128.size inbs), shapeCast S1x1x640x128 (groupSaved mk q tri lane j0 j1 j2 j3 j4
        (v3.readAt (Elt Ideal) (Rect.unit (s := S8320x128) off S640x128.size inb).toLoadRect X3) (v7.readAt (Elt Ideal) (Rect.unit (s := S640x128) ![0, 0] S640x128.size inbt).toLoadRect (v7.writes (Elt Ideal) f7 L7))
        (shapeCast S640x128 (v6.readAt (Elt Ideal) (Rect.unit (s := S1x1x640x128) ![0, 0, 0, 0] S1x1x640x128.size inbs).toLoadRect (v6.writes (Elt Ideal) f6 L6)) shapeCasts_S1x1x640x128_S640x128)) shapeCasts_S640x128_S1x1x640x128⟩ :: L6))) shapeCasts_S1x1x640x128_S640x128)
      (v7.read (Elt Ideal) (v7.writes (Elt Ideal) f7 (⟨(Rect.unit (s := S640x128) ![0, 0] S640x128.size inbt), shapeCast S640x128 (groupRun mk q tri (v3.readAt (Elt Ideal) (Rect.unit (s := S8320x128) off S640x128.size inb).toLoadRect X3)
        (v7.readAt (Elt Ideal) (Rect.unit (s := S640x128) ![0, 0] S640x128.size inbt).toLoadRect (v7.writes (Elt Ideal) f7 L7))) shapeCasts_S640x128_S640x128⟩ :: L7))) := by
  exact FInv.store ht hn hcap hmk htri hlane h0 h1 h2 h3 h4 hq hk hv h hoff inb inbt inbs

end Cert.StickBreaking
-- ==== Proof.Const.lean ====
module

public import proofs.«01_k».proof.Proof.Step

/-! The constants of both kernels: the two triangles, the lane numbers and the masks. -/

@[expose] public section

noncomputable section

namespace Cert.StickBreaking

open Idealize.ShloMosaic Cert.KernelIdeal Cert.KernelIdeal.Gen Idealize.SL.Sem Finset

section vocabulary
variable {F : FTy → Type} [FloatOps F]

/-- Ones on and below the diagonal. -/
def triV : FVec F S128x128 .bf16 :=
  truncf .bf16 (sitofp .f32 (extui 32 (cmpi .sge (iota .tc S128x128 32 [0] iota_S128x128_d0_w32) (iota .tc S128x128 32 [1] iota_S128x128_d1_w32)) natLt_1_32)) bitsLt_bf16_f32
/-- Ones on and above the diagonal. -/
def preV : FVec F S128x128 .bf16 :=
  truncf .bf16 (sitofp .f32 (extui 32 (cmpi .sle (iota .tc S128x128 32 [0] iota_S128x128_d0_w32) (iota .tc S128x128 32 [1] iota_S128x128_d1_w32)) natLt_1_32)) bitsLt_bf16_f32
/-- The number of each lane. -/
def lanesV : IVec S640x128 32 := iota .tc S640x128 32 [1] iota_S640x128_d1_w32

end vocabulary

theorem iota_single (κ : Kind) (s : Shape) (w : ℕ) (d : Fin s.rank) (h : s.Iotas κ w [d]) (i : s.Idx) : iota κ s w [d] h i = BitVec.ofNat w (i d).val := by
  show BitVec.ofNat w (0 * s.size d + (i d).val) = _
  rw [Nat.zero_mul, Nat.zero_add]

theorem toInt_small {n : ℕ} (h : n < 10000) : (BitVec.ofNat 32 n).toInt = n := by
  rw [BitVec.toInt_eq_toNat_of_lt (by rw [BitVec.toNat_ofNat]; omega), BitVec.toNat_ofNat, Nat.mod_eq_of_lt (by omega)]

theorem sitofp_bit (p : Prop) [Decidable p] : (((((if p then 1#1 else 0#1 : BitVec 1).setWidth 32).toInt : ℝ)) : EReal) = ((if p then (1 : ℝ) else 0 : ℝ) : EReal) := by
  by_cases h : p
  · rw [if_pos h, if_pos h]; norm_num
  · rw [if_neg h, if_neg h]; norm_num

theorem isR_triV : IsR (triV (F := Ideal)) fun a b => if b ≤ a then 1 else 0 := fun i => by
  have h0 : (i 0).val < 128 := (i 0).isLt
  have h1 : (i 1).val < 128 := (i 1).isLt
  have e : cmpi .sge (iota .tc S128x128 32 [0] iota_S128x128_d0_w32) (iota .tc S128x128 32 [1] iota_S128x128_d1_w32) i = if (i 1).val ≤ (i 0).val then 1#1 else 0#1 := by
    show IntOp.cmpi .sge (iota .tc S128x128 32 [0] iota_S128x128_d0_w32 i) (iota .tc S128x128 32 [1] iota_S128x128_d1_w32 i) = _
    rw [iota_single, iota_single]
    show BitVec.ofBool ((BitVec.ofNat 32 (i 1).val).sle (BitVec.ofNat 32 (i 0).val)) = _
    rw [BitVec.sle, toInt_small (by omega), toInt_small (by omega)]
    by_cases h : (i 1).val ≤ (i 0).val
    · rw [if_pos h, decide_eq_true (by exact_mod_cast h)]; rfl
    · rw [if_neg h, decide_eq_false (by exact_mod_cast h)]; rfl
  show ((((cmpi .sge (iota .tc S128x128 32 [0] iota_S128x128_d0_w32) (iota .tc S128x128 32 [1] iota_S128x128_d1_w32) i).setWidth 32).toInt : ℝ) : EReal) = _
  rw [e]
  exact sitofp_bit _

theorem isR_preV : IsR (preV (F := Ideal)) fun a b => if a ≤ b then 1 else 0 := fun i => by
  have h0 : (i 0).val < 128 := (i 0).isLt
  have h1 : (i 1).val < 128 := (i 1).isLt
  have e : cmpi .sle (iota .tc S128x128 32 [0] iota_S128x128_d0_w32) (iota .tc S128x128 32 [1] iota_S128x128_d1_w32) i = if (i 0).val ≤ (i 1).val then 1#1 else 0#1 := by
    show IntOp.cmpi .sle (iota .tc S128x128 32 [0] iota_S128x128_d0_w32 i) (iota .tc S128x128 32 [1] iota_S128x128_d1_w32 i) = _
    rw [iota_single, iota_single]
    show BitVec.ofBool ((BitVec.ofNat 32 (i 0).val).sle (BitVec.ofNat 32 (i 1).val)) = _
    rw [BitVec.sle, toInt_small (by omega), toInt_small (by omega)]
    by_cases h : (i 0).val ≤ (i 1).val
    · rw [if_pos h, decide_eq_true (by exact_mod_cast h)]; rfl
    · rw [if_neg h, decide_eq_false (by exact_mod_cast h)]; rfl
  show ((((cmpi .sle (iota .tc S128x128 32 [0] iota_S128x128_d0_w32) (iota .tc S128x128 32 [1] iota_S128x128_d1_w32) i).setWidth 32).toInt : ℝ) : EReal) = _
  rw [e]
  exact sitofp_bit _

theorem lanesV_apply (j : S640x128.Idx) : lanesV j = BitVec.ofNat 32 (j 1).val := iota_single _ _ _ _ _ _

/-- The mask of group `g` and tile `t`. -/
theorem isM_maskV {t g : ℕ} (ht : t < 13) (hg : g < 13) {wt wg : BitVec 32} (et : wt = BitVec.ofNat 32 t) (eg : wg = BitVec.ofNat 32 g) :
    IsM (maskV wt wg) fun r c => Attends (640 * t + r) (640 * g + c) := fun i => by
  have h0 : (i 0).val < 640 := (i 0).isLt
  have h1 : (i 1).val < 640 := (i 1).isLt
  have et' : ∀ n r : ℕ, BitVec.ofNat 32 n * 640#32 + BitVec.ofNat 32 r = BitVec.ofNat 32 (640 * n + r) := fun n r => by
    rw [BitVec.ofNat_add, BitVec.ofNat_mul, BitVec.mul_comm]
  show IntOp.cmpi .slt (wg * 640#32 + iota .tc S640x640 32 [1] iota_S640x640_d1_w32 i) (wt * 640#32 + iota .tc S640x640 32 [0] iota_S640x640_d0_w32 i)
    &&& IntOp.cmpi .sge (wg * 640#32 + iota .tc S640x640 32 [1] iota_S640x640_d1_w32 i) 112#32 = 1#1 ↔ _
  rw [iota_single, iota_single, et, eg, et', et']
  show BitVec.ofBool ((BitVec.ofNat 32 (640 * g + (i 1).val)).slt (BitVec.ofNat 32 (640 * t + (i 0).val)))
    &&& BitVec.ofBool ((BitVec.ofNat 32 112).sle (BitVec.ofNat 32 (640 * g + (i 1).val))) = 1#1 ↔ _
  rw [BitVec.slt, BitVec.sle, toInt_small (by omega), toInt_small (by omega), toInt_small (by omega), BitVec.ofBool_and_ofBool, ofBool_eq_one,
    Bool.and_eq_true, decide_eq_true_iff, decide_eq_true_iff]
  unfold Attends
  norm_cast

end Cert.StickBreaking
-- ==== Proof.Sums.lean ====
module

public import proofs.«01_k».proof.Proof.Const
public import proofs.«01_k».proof.Proof.Head

/-! Running sums along the last of three axes, read at an index; the logarithm of one plus an
exponential as the reference evaluates it; and sums of products of real numbers. -/

@[expose] public section

noncomputable section

namespace Cert.StickBreaking

open Idealize.ShloMosaic Idealize.SL.Sem Finset

/-- The three-axis array `x` holds the real numbers `f`. -/
def IsH {a b c : ℕ} (x : (⟨3, ![a, b, c]⟩ : Shape).Idx → EReal) (f : ℕ → ℕ → ℕ → ℝ) : Prop :=
  ∀ i, x i = ((f (i 0).val (i 1).val (i 2).val : ℝ) : EReal)

theorem sum_mul_coe (n : ℕ) (f g : ℕ → ℝ) :
    ∑ k : Fin n, (((f k.val : ℝ) : EReal) * ((g k.val : ℝ) : EReal)) = ((∑ d ∈ range n, f d * g d : ℝ) : EReal) := by
  rw [Finset.sum_range, ← coe_sum]
  exact Finset.sum_congr rfl fun k _ => (EReal.coe_mul _ _).symm

/-- A left fold of additions of real numbers is their sum. -/
theorem foldl_add_coe {ι : Type} (l : List ι) (g : ι → EReal) (f : ι → ℝ) (hg : ∀ a ∈ l, g a = ((f a : ℝ) : EReal)) (v : EReal) (z : ℝ)
    (hv : v = ((z : ℝ) : EReal)) : l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, EReal.coe_add]), List.map_cons, List.sum_cons, add_assoc]

theorem sum_finRange (N : ℕ) (f : ℕ → ℝ) : ((List.finRange N).map fun n => f n.val).sum = ∑ n ∈ range N, f n := by
  rw [Finset.sum_range]
  exact (Fin.sum_univ_def fun n : Fin N => f n.val).symm

theorem numel3 (N : ℕ) : (⟨3, ![1, 1, N]⟩ : Shape).numel = N := by
  show ∏ a : Fin 3, (![1, 1, N] : Fin 3 → Nat) a = N
  rw [Fin.prod_univ_three]
  show 1 * 1 * N = N
  omega

theorem symm3 {N : ℕ} (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have e := congrArg Fin.val ((⟨3, ![1, 1, N]⟩ : Shape).rowMajor.apply_symm_apply n)
  rw [Shape.rowMajor_val_three] at e
  have a0 : ((⟨3, ![1, 1, N]⟩ : Shape).rowMajor.symm n 0).val < 1 := ((⟨3, ![1, 1, N]⟩ : Shape).rowMajor.symm n 0).isLt
  have a1 : ((⟨3, ![1, 1, N]⟩ : Shape).rowMajor.symm n 1).val < 1 := ((⟨3, ![1, 1, N]⟩ : Shape).rowMajor.symm n 1).isLt
  have z0 : ((⟨3, ![1, 1, N]⟩ : Shape).rowMajor.symm n 0).val = 0 := by omega
  have z1 : ((⟨3, ![1, 1, N]⟩ : Shape).rowMajor.symm n 1).val = 0 := by omega
  refine ⟨z0, z1, ?_⟩
  rw [z0, z1] at e
  rw [← e]
  show _ = (0 * _ + 0) * _ + _
  rw [Nat.zero_mul, Nat.zero_add, Nat.zero_mul, Nat.zero_add]

variable {A B N M : ℕ} {x : (⟨3, ![A, B, N]⟩ : Shape).Idx → EReal} {f : ℕ → ℕ → ℕ → ℝ} {u : Shape} {init : u.Idx → EReal}

/-- The running sum from the end: the sum of the entries from an index on. -/
theorem suffix_sum (hN : M + 1 = N) (hx : IsH x f) (h : (⟨3, ![A, B, N]⟩ : Shape).ReduceWindows (![1, 1, N] : Fin 3 → Nat) ![1, 1, 1] ![0, 0, 0] ![0, 0, M] ⟨3, ![A, B, N]⟩)
    (hu : 0 < u.numel) (h0 : ∀ i, init i = ((0 : ℝ) : EReal)) (i : (⟨3, ![A, B, N]⟩ : Shape).Idx) :
    (Host.reduceWindowAdd (F := Ideal) (φ := .f32) ![1, 1, N] ![1, 1, 1] ![0, 0, 0] ![0, 0, M] x init h hu : FVec Ideal _ .f32) i
      = ((∑ s ∈ Ico (i 2).val N, f (i 0).val (i 1).val s : ℝ) : EReal) := by
  have hi : (i 2).val < N := (i 2).isLt
  show Ideal.hostReduceWindowAdd _ _ _ _ h x _ i = _
  unfold Ideal.hostReduceWindowAdd Host.reduceWindow
  refine (foldl_add_coe _ _ (fun n => if (i 2).val + n.val < N then f (i 0).val (i 1).val ((i 2).val + n.val) else 0) (fun n _ => ?_) _ 0 (h0 _)).trans ?_
  · obtain ⟨w0, w1, w2⟩ := symm3 n
    have b0 : (i 0).val < A := (i 0).isLt
    have b1 : (i 1).val < B := (i 1).isLt
    dsimp only
    split
    · next hin =>
      have h2 := (hin 2).2
      change (i 2).val * 1 + ((⟨3, ![1, 1, N]⟩ : Shape).rowMajor.symm n 2).val - 0 < N at h2
      rw [w2] at h2
      rw [if_pos (by omega), hx]
      congr 2
      · show (i 0).val * 1 + ((⟨3, ![1, 1, N]⟩ : Shape).rowMajor.symm n 0).val - 0 = _
        omega
      · show (i 1).val * 1 + ((⟨3, ![1, 1, N]⟩ : Shape).rowMajor.symm n 1).val - 0 = _
        omega
      · show (i 2).val * 1 + ((⟨3, ![1, 1, N]⟩ : Shape).rowMajor.symm n 2).val - 0 = _
        omega
    · next hin =>
      rw [if_neg, h0]
      intro hlt
      refine hin fun a => ?_
      match a with
      | ⟨0, _⟩ =>
        show 0 ≤ (i 0).val * 1 + ((⟨3, ![1, 1, N]⟩ : Shape).rowMajor.symm n 0).val ∧ (i 0).val * 1 + ((⟨3, ![1, 1, N]⟩ : Shape).rowMajor.symm n 0).val - 0 < A
        omega
      | ⟨1, _⟩ =>
        show 0 ≤ (i 1).val * 1 + ((⟨3, ![1, 1, N]⟩ : Shape).rowMajor.symm n 1).val ∧ (i 1).val * 1 + ((⟨3, ![1, 1, N]⟩ : Shape).rowMajor.symm n 1).val - 0 < B
        omega
      | ⟨2, _⟩ =>
        show 0 ≤ (i 2).val * 1 + ((⟨3, ![1, 1, N]⟩ : Shape).rowMajor.symm n 2).val ∧ (i 2).val * 1 + ((⟨3, ![1, 1, N]⟩ : Shape).rowMajor.symm n 2).val - 0 < N
        omega
  · refine congrArg (fun a : ℝ => (a : EReal)) ?_
    rw [zero_add]
    refine (sum_finRange _ fun n => if (i 2).val + n < N then f (i 0).val (i 1).val ((i 2).val + n) else 0).trans ?_
    rw [show (⟨3, ![1, 1, N]⟩ : Shape).numel = N from numel3 N, ← sum_filter, sum_Ico_eq_sum_range,
      show (range N).filter (fun n => (i 2).val + n < N) = range (N - (i 2).val) by ext y; simp; omega]

/-- The running sum: the sum of the entries up to an index. -/
theorem prefix_sum (hN : M + 1 = N) (hx : IsH x f) (h : (⟨3, ![A, B, N]⟩ : Shape).ReduceWindows (![1, 1, N] : Fin 3 → Nat) ![1, 1, 1] ![0, 0, M] ![0, 0, 0] ⟨3, ![A, B, N]⟩)
    (hu : 0 < u.numel) (h0 : ∀ i, init i = ((0 : ℝ) : EReal)) (i : (⟨3, ![A, B, N]⟩ : Shape).Idx) :
    (Host.reduceWindowAdd (F := Ideal) (φ := .f32) ![1, 1, N] ![1, 1, 1] ![0, 0, M] ![0, 0, 0] x init h hu : FVec Ideal _ .f32) i
      = ((∑ s ∈ range ((i 2).val + 1), f (i 0).val (i 1).val s : ℝ) : EReal) := by
  have hi : (i 2).val < N := (i 2).isLt
  show Ideal.hostReduceWindowAdd _ _ _ _ h x _ i = _
  unfold Ideal.hostReduceWindowAdd Host.reduceWindow
  refine (foldl_add_coe _ _ (fun n => if M ≤ (i 2).val + n.val then f (i 0).val (i 1).val ((i 2).val + n.val - M) else 0) (fun n _ => ?_) _ 0 (h0 _)).trans ?_
  · obtain ⟨w0, w1, w2⟩ := symm3 n
    have hn : n.val < N := (n.cast (numel3 N)).isLt
    have b0 : (i 0).val < A := (i 0).isLt
    have b1 : (i 1).val < B := (i 1).isLt
    dsimp only
    split
    · next hin =>
      have h2 := (hin 2).1
      change M ≤ (i 2).val * 1 + ((⟨3, ![1, 1, N]⟩ : Shape).rowMajor.symm n 2).val at h2
      rw [w2] at h2
      rw [if_pos (by omega), hx]
      congr 2
      · show (i 0).val * 1 + ((⟨3, ![1, 1, N]⟩ : Shape).rowMajor.symm n 0).val - 0 = _
        omega
      · show (i 1).val * 1 + ((⟨3, ![1, 1, N]⟩ : Shape).rowMajor.symm n 1).val - 0 = _
        omega
      · show (i 2).val * 1 + ((⟨3, ![1, 1, N]⟩ : Shape).rowMajor.symm n 2).val - M = _
        omega
    · next hin =>
      rw [if_neg, h0]
      intro hlt
      refine hin fun a => ?_
      match a with
      | ⟨0, _⟩ =>
        show 0 ≤ (i 0).val * 1 + ((⟨3, ![1, 1, N]⟩ : Shape).rowMajor.symm n 0).val ∧ (i 0).val * 1 + ((⟨3, ![1, 1, N]⟩ : Shape).rowMajor.symm n 0).val - 0 < A
        omega
      | ⟨1, _⟩ =>
        show 0 ≤ (i 1).val * 1 + ((⟨3, ![1, 1, N]⟩ : Shape).rowMajor.symm n 1).val ∧ (i 1).val * 1 + ((⟨3, ![1, 1, N]⟩ : Shape).rowMajor.symm n 1).val - 0 < B
        omega
      | ⟨2, _⟩ =>
        show M ≤ (i 2).val * 1 + ((⟨3, ![1, 1, N]⟩ : Shape).rowMajor.symm n 2).val ∧ (i 2).val * 1 + ((⟨3, ![1, 1, N]⟩ : Shape).rowMajor.symm n 2).val - M < N
        omega
  · refine congrArg (fun a : ℝ => (a : EReal)) ?_
    rw [zero_add]
    refine (sum_finRange _ fun n => if M ≤ (i 2).val + n then f (i 0).val (i 1).val ((i 2).val + n - M) else 0).trans ?_
    rw [show (⟨3, ![1, 1, N]⟩ : Shape).numel = N from numel3 N, ← sum_filter,
      show (range N).filter (fun n => M ≤ (i 2).val + n) = Ico (M - (i 2).val) N by ext y; simp; omega, sum_Ico_eq_sum_range,
      show N - (M - (i 2).val) = (i 2).val + 1 by omega]
    exact sum_congr rfl fun k _ => by rw [show (i 2).val + (M - (i 2).val + k) - M = k by omega]

/-- The logarithm of one plus an exponential, from the larger of the number and zero. -/
theorem softplus_real (z : ℝ) : max z 0 + Real.log (1 + Real.exp (-max z (-z))) = Real.log (1 + Real.exp z) := by
  rcases le_total 0 z with hz | hz
  · rw [max_eq_left hz, max_eq_left (by linarith)]
    rw [show z + Real.log (1 + Real.exp (-z)) = Real.log (Real.exp z) + Real.log (1 + Real.exp (-z)) by rw [Real.log_exp],
      ← Real.log_mul (Real.exp_pos z).ne' (by positivity), mul_add, mul_one, ← Real.exp_add, add_neg_cancel, Real.exp_zero, add_comm]
  · rw [max_eq_right hz, max_eq_right (by linarith), neg_neg, zero_add]

theorem softplus_coe (z : ℝ) :
    Scalar.select (Ideal.cmp .une (((z : ℝ) : EReal) - ((0 : ℝ) : EReal)) (((z : ℝ) : EReal) - ((0 : ℝ) : EReal))) (((z : ℝ) : EReal) + ((0 : ℝ) : EReal))
      (max ((z : ℝ) : EReal) ((0 : ℝ) : EReal)
        + Ideal.log1p (Ideal.exp (-max (((z : ℝ) : EReal) - ((0 : ℝ) : EReal)) (-(((z : ℝ) : EReal) - ((0 : ℝ) : EReal))))))
      = ((Real.log (1 + Real.exp z) : ℝ) : EReal) := by
  have e : Ideal.cmp .une (((z : ℝ) : EReal) - ((0 : ℝ) : EReal)) (((z : ℝ) : EReal) - ((0 : ℝ) : EReal)) = 0#1 := by
    show BitVec.ofBool (decide (_ ≠ _)) = _
    rw [decide_eq_false (fun hne => hne rfl)]; rfl
  rw [e]
  show max ((z : ℝ) : EReal) ((0 : ℝ) : EReal) + Ideal.log1p (Ideal.exp (-max (((z : ℝ) : EReal) - ((0 : ℝ) : EReal)) (-(((z : ℝ) : EReal) - ((0 : ℝ) : EReal))))) = _
  rw [← EReal.coe_sub, sub_zero, ← EReal.coe_neg, ← EReal.coe_strictMono.monotone.map_max, ← EReal.coe_strictMono.monotone.map_max, ← EReal.coe_neg, Ideal.exp_coe]
  unfold Ideal.log1p
  rw [← EReal.coe_one, ← EReal.coe_add, Ideal.log_coe, if_neg (by have := Real.exp_pos (-max z (-z)); linarith), ← EReal.coe_add, softplus_real]

end Cert.StickBreaking
-- ==== Proof.Trip0.lean ====
module

public import proofs.«01_k».proof.Proof.Step
public import proofs.«01_k».proof.Proof.Gen.KernelIdeal.Frame

/-! One trip of the forward kernel's loop over the groups between the diagonal and the first. -/

@[expose] public section

noncomputable section

namespace Cert.StickBreaking

open Idealize.ShloMosaic Cert.KernelIdeal Cert.KernelIdeal.Gen Idealize.SL.Sem Finset

section pieces
variable {F : FTy → Type} [FloatOps F]

/-- The number of block `w` in the group of trip `k`. -/
def trip0_word (arg1 c0_i32_55 c1_i32_57 : BitVec 32) (i : grid0.Coords) (k : Fin (k0_t1_loop i).trips) (w : BitVec 32) : BitVec 32 :=
  Scalar.addi (Scalar.muli (Scalar.subi (Scalar.subi arg1 1#32) (Scf.iv c0_i32_55 c1_i32_57 k)) 5#32) w

variable (𝒱 : Variants) (c : Dev nD) (bd : Option 𝒱.V) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (arg1 : BitVec 32) (v1 : FVec F S640x128 .bf16) (v2 : IVec S640x128 32) (v8 : FVec F S128x128 .bf16) (c0_i32_55 : BitVec 32) (c1_i32_57 : BitVec 32) (X_arg3 : BufTy.Contents (Elt F) arg3.view.ty) (X_arg4 : BufTy.Contents (Elt F) arg4.view.ty) (k : Fin (k0_t1_loop i).trips) (f5 : BufTy.Contents (Elt F) arg5.view.ty) (f6 : BufTy.Contents (Elt F) arg6.view.ty) (f7 : BufTy.Contents (Elt F) arg7.view.ty)

theorem trip0_out : (trip_k0_t1 (F := F) 𝒱 c bd i arg2 harg2 arg3 harg3 arg4 harg4 arg5 harg5 arg6 harg6 arg7 harg7 arg1 v1 v2 v8 c0_i32_55 c1_i32_57 X_arg3 X_arg4 k).1 f5 f6 f7 = [⟨(Rect.unit (s := S640x128) ![0, 0] S640x128.size inb_S640x128_S640x128_0_0), (groupOut id v1 v8 (arg3.view.readAt (Elt F) (Rect.unit (s := S8320x128) (k0_off2 i k) S640x128.size (k0_off2_inb i k)).toLoadRect X_arg3) (arg4.view.readAt (Elt F) (Rect.unit (s := S8320x128) (k0_off2 i k) S640x128.size (k0_off2_inb i k)).toLoadRect X_arg4) (arg7.view.readAt (Elt F) (Rect.unit (s := S640x128) ![0, 0] S640x128.size inb_S640x128_S640x128_0_0).toLoadRect f7) (arg5.view.readAt (Elt F) (Rect.unit (s := S640x128) ![0, 0] S640x128.size inb_S640x128_S640x128_0_0).toLoadRect f5))⟩] := by
  unfold trip_k0_t1
  dsimp only
  congr 1

theorem trip0_saved : (trip_k0_t1 (F := F) 𝒱 c bd i arg2 harg2 arg3 harg3 arg4 harg4 arg5 harg5 arg6 harg6 arg7 harg7 arg1 v1 v2 v8 c0_i32_55 c1_i32_57 X_arg3 X_arg4 k).2.1 f5 f6 f7 = [⟨(Rect.unit (s := S1x1x640x128) ![0, 0, 0, 0] S1x1x640x128.size inb_S1x1x640x128_S1x1x640x128_0_0_0_0), (shapeCast S1x1x640x128 (groupSaved id v1 v8 v2 (trip0_word arg1 c0_i32_55 c1_i32_57 i k 0#32) (trip0_word arg1 c0_i32_55 c1_i32_57 i k 1#32) (trip0_word arg1 c0_i32_55 c1_i32_57 i k 2#32) (trip0_word arg1 c0_i32_55 c1_i32_57 i k 3#32) (trip0_word arg1 c0_i32_55 c1_i32_57 i k 4#32) (arg3.view.readAt (Elt F) (Rect.unit (s := S8320x128) (k0_off2 i k) S640x128.size (k0_off2_inb i k)).toLoadRect X_arg3) (arg7.view.readAt (Elt F) (Rect.unit (s := S640x128) ![0, 0] S640x128.size inb_S640x128_S640x128_0_0).toLoadRect f7) (shapeCast S640x128 (arg6.view.readAt (Elt F) (Rect.unit (s := S1x1x640x128) ![0, 0, 0, 0] S1x1x640x128.size inb_S1x1x640x128_S1x1x640x128_0_0_0_0).toLoadRect f6) shapeCasts_S1x1x640x128_S640x128)) shapeCasts_S640x128_S1x1x640x128)⟩] := by
  unfold trip_k0_t1
  dsimp only
  congr 1

theorem trip0_run : (trip_k0_t1 (F := F) 𝒱 c bd i arg2 harg2 arg3 harg3 arg4 harg4 arg5 harg5 arg6 harg6 arg7 harg7 arg1 v1 v2 v8 c0_i32_55 c1_i32_57 X_arg3 X_arg4 k).2.2.1 f5 f6 f7 = [⟨(Rect.unit (s := S640x128) ![0, 0] S640x128.size inb_S640x128_S640x128_0_0), (shapeCast S640x128 (groupRun id v1 v8 (arg3.view.readAt (Elt F) (Rect.unit (s := S8320x128) (k0_off2 i k) S640x128.size (k0_off2_inb i k)).toLoadRect X_arg3) (arg7.view.readAt (Elt F) (Rect.unit (s := S640x128) ![0, 0] S640x128.size inb_S640x128_S640x128_0_0).toLoadRect f7)) shapeCasts_S640x128_S640x128)⟩] := by
  unfold trip_k0_t1
  dsimp only
  congr 1

end pieces

end Cert.StickBreaking
-- ==== Proof.Loop0.lean ====
module

public import proofs.«01_k».proof.Proof.Trip0

/-! The forward kernel's loop over the groups between the diagonal and the first. -/

@[expose] public section

noncomputable section

namespace Cert.StickBreaking

open Idealize.ShloMosaic Cert.KernelIdeal Cert.KernelIdeal.Gen Idealize.SL.Sem Finset

/-- The loop runs once for every group between the first and the diagonal. -/
theorem loop0_trips : ∀ i : grid0.Coords, (k0_t1_loop i).trips = (i 1).val - 1 := by decide +kernel
/-- No trips are left over. -/
theorem loop0_rest : ∀ i : grid0.Coords, (k0_t2_loop i).trips = 0 := by decide +kernel
/-- Trip `k` of tile `t` reads the rows of group `t - 1 - k`. -/
theorem loop0_off : ∀ (i : grid0.Coords) (k : Fin (k0_t1_loop i).trips), k0_off2 i k = ![640 * ((i 1).val - 1 - k.val), 0] := by decide +kernel
/-- The blocks of trip `k` are those of group `t - 1 - k`. -/
theorem loop0_word : ∀ (i : grid0.Coords) (k : Fin (k0_t1_loop i).trips) (w : Fin 5),
    trip0_word (BitVec.ofNat 32 (i 1).val) 0#32 1#32 i k (BitVec.ofNat 32 w.val) = BitVec.ofNat 32 (5 * ((i 1).val - 1 - k.val) + w.val) := by decide +kernel

/-- After the loop's first `m` trips the last `m` groups before the diagonal are done. -/
theorem loop0 {D : Head} (hcap : D.Capped) (𝒱 : Variants) (c : Dev nD) (bd : Option 𝒱.V) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)  (v1 : FVec Ideal S640x128 .bf16) (v2 : IVec S640x128 32) (v8 : FVec Ideal S128x128 .bf16)   (X_arg3 : BufTy.Contents (Elt Ideal) arg3.view.ty) (X_arg4 : BufTy.Contents (Elt Ideal) arg4.view.ty) (G_arg5 : BufTy.Contents (Elt Ideal) arg5.view.ty) (G_arg6 : BufTy.Contents (Elt Ideal) arg6.view.ty) (G_arg7 : BufTy.Contents (Elt Ideal) arg7.view.ty)
    (hq : IsR v1 fun r d => D.q (640 * (i 1).val + r) d)
    (hlane : ∀ j, v2 j = BitVec.ofNat 32 (j 1).val) (htri : IsR v8 fun a b => if b ≤ a then 1 else 0)
    (hk : IsR (arg3.view.read (Elt Ideal) X_arg3) D.k) (hv : IsR (arg4.view.read (Elt Ideal) X_arg4) D.v)
    (h : FInv D (i 1).val ((i 1).val - 0) (arg5.view.read (Elt Ideal) (arg5.view.writes (Elt Ideal) G_arg5 [])) (shapeCast S640x128 (arg6.view.read (Elt Ideal) (arg6.view.writes (Elt Ideal) G_arg6 [])) shapeCasts_S1x1x640x128_S640x128) (arg7.view.read (Elt Ideal) (arg7.view.writes (Elt Ideal) G_arg7 []))) :
    ∀ m, m ≤ (k0_t1_loop i).trips → FInv D (i 1).val ((i 1).val - m) (arg5.view.read (Elt Ideal) (arg5.view.writes (Elt Ideal) G_arg5 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).1)) (shapeCast S640x128 (arg6.view.read (Elt Ideal) (arg6.view.writes (Elt Ideal) G_arg6 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.1)) shapeCasts_S1x1x640x128_S640x128) (arg7.view.read (Elt Ideal) (arg7.view.writes (Elt Ideal) G_arg7 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.2))
  | 0, _ => h
  | m + 1, hm => by
    have ih := loop0 hcap 𝒱 c bd i arg2 harg2 arg3 harg3 arg4 harg4 arg5 harg5 arg6 harg6 arg7 harg7 v1 v2 v8 X_arg3 X_arg4 G_arg5 G_arg6 G_arg7 hq hlane htri hk hv h m (Nat.le_of_succ_le hm)
    have ht : (i 1).val < 13 := (i 1).isLt
    have hlt : m < (i 1).val - 1 := by rw [← loop0_trips i]; exact hm
    have hoff := loop0_off i ⟨m, hm⟩
    have hw := loop0_word i ⟨m, hm⟩
    rw [pb_k0_t1_succ (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 ⟨m, hm⟩]
    show FInv D (i 1).val ((i 1).val - (m + 1)) (arg5.view.read (Elt Ideal) (arg5.view.writes (Elt Ideal) G_arg5 ((trip_k0_t1 (F := Ideal) 𝒱 c bd i arg2 harg2 arg3 harg3 arg4 harg4 arg5 harg5 arg6 harg6 arg7 harg7 (BitVec.ofNat 32 (i 1).val) v1 v2 v8 0#32 1#32 X_arg3 X_arg4 ⟨m, hm⟩).1 (arg5.view.writes (Elt Ideal) G_arg5 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).1) (arg6.view.writes (Elt Ideal) G_arg6 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.1) (arg7.view.writes (Elt Ideal) G_arg7 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.2) ++ (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).1))) (shapeCast S640x128 (arg6.view.read (Elt Ideal) (arg6.view.writes (Elt Ideal) G_arg6 ((trip_k0_t1 (F := Ideal) 𝒱 c bd i arg2 harg2 arg3 harg3 arg4 harg4 arg5 harg5 arg6 harg6 arg7 harg7 (BitVec.ofNat 32 (i 1).val) v1 v2 v8 0#32 1#32 X_arg3 X_arg4 ⟨m, hm⟩).2.1 (arg5.view.writes (Elt Ideal) G_arg5 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).1) (arg6.view.writes (Elt Ideal) G_arg6 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.1) (arg7.view.writes (Elt Ideal) G_arg7 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.2) ++ (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.1))) shapeCasts_S1x1x640x128_S640x128) (arg7.view.read (Elt Ideal) (arg7.view.writes (Elt Ideal) G_arg7 ((trip_k0_t1 (F := Ideal) 𝒱 c bd i arg2 harg2 arg3 harg3 arg4 harg4 arg5 harg5 arg6 harg6 arg7 harg7 (BitVec.ofNat 32 (i 1).val) v1 v2 v8 0#32 1#32 X_arg3 X_arg4 ⟨m, hm⟩).2.2.1 (arg5.view.writes (Elt Ideal) G_arg5 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).1) (arg6.view.writes (Elt Ideal) G_arg6 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.1) (arg7.view.writes (Elt Ideal) G_arg7 (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.2) ++ (pb_k0_t1 (F := Ideal) 𝒱 c bd i arg2 harg2 arg3 harg3 arg4 harg4 arg5 harg5 arg6 harg6 arg7 harg7 (BitVec.ofNat 32 (i 1).val) v1 v2 v8 0#32 1#32 X_arg3 X_arg4 G_arg5 G_arg6 G_arg7 m).2.2)))
    rw [View.writes_append, View.writes_append, View.writes_append, trip0_out, trip0_saved, trip0_run]
    rw [show (i 1).val - m = (i 1).val - 1 - m + 1 by omega] at ih
    rw [show (i 1).val - (m + 1) = (i 1).val - 1 - m by omega]
    exact FInv.store (n := (i 1).val - 1 - m) ht (by omega) hcap (isMk_id (by omega) (by omega)) htri hlane (hw 0) (hw 1) (hw 2) (hw 3) (hw 4) hq
      hk hv ih hoff _ _ _

end Cert.StickBreaking
-- ==== Proof.Point0A.lean ====
module

public import proofs.«01_k».proof.Proof.Loop0
public import proofs.«01_k».proof.Proof.Const
public import proofs.«01_k».proof.Proof.Gen.KernelIdeal.Frame
import all proofs.«01_k».proof.Proof.Gen.KernelIdeal.Frame

/-! The first tile of queries, in the forward kernel. -/

@[expose] public section

noncomputable section

namespace Cert.StickBreaking

open Idealize.ShloMosaic Cert.KernelIdeal Cert.KernelIdeal.Gen Idealize.SL.Sem Finset Head

section lists
variable {F : FTy → Type} [FloatOps F]

/-- What the loop stores. -/
def fAP1 (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) := (pb_k0_t1 (F := F) Variants.none c none i arg2 harg2 arg3 harg3 arg4 harg4 arg5 harg5 arg6 harg6 arg7 harg7 (BitVec.ofNat 32 (i 1).val) (kernelRun0_A.sl.r (F := F) c arg2 harg2 x0) kernelRun0_A.sl.v2 k0_pay66 0#32 1#32 (harg3.unread x1) (harg4.unread x2) (arg5.view.writes (Elt F) arg5.view.junk (kernelRun0_A.sl.H3_2 (F := F) c i arg2 harg2 arg3 harg3 arg4 harg4 arg5 arg7 x0 x1 x2)) (arg6.view.writes (Elt F) arg6.view.junk (kernelRun0_A.sl.H4_2 (F := F) c i arg2 harg2 arg3 harg3 arg6 arg7 x0 x1)) (arg7.view.writes (Elt F) arg7.view.junk (kernelRun0_A.sl.HS0_2 (F := F) c i arg2 harg2 arg3 harg3 arg7 x0 x1)) (Scf.trips (k0_t1_loop i).lb (k0_t1_loop i).ub (k0_t1_loop i).st))
/-- What the rest of the loop stores. -/
def fAP2 (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) := (pb_k0_t2 (F := F) Variants.none c none i arg2 harg2 arg3 harg3 arg4 harg4 arg5 harg5 arg6 harg6 arg7 harg7 (BitVec.ofNat 32 (i 1).val) (kernelRun0_A.sl.r (F := F) c arg2 harg2 x0) kernelRun0_A.sl.v2 k0_pay66 (kernelRun0_A.sl.v163 i) (harg3.unread x1) (harg4.unread x2) (arg5.view.writes (Elt F) arg5.view.junk ((fAP1 c i arg2 harg2 arg3 harg3 arg4 harg4 arg5 harg5 arg6 harg6 arg7 harg7 x0 x1 x2).1 ++ (kernelRun0_A.sl.H3_2 (F := F) c i arg2 harg2 arg3 harg3 arg4 harg4 arg5 arg7 x0 x1 x2))) (arg6.view.writes (Elt F) arg6.view.junk ((fAP1 c i arg2 harg2 arg3 harg3 arg4 harg4 arg5 harg5 arg6 harg6 arg7 harg7 x0 x1 x2).2.1 ++ (kernelRun0_A.sl.H4_2 (F := F) c i arg2 harg2 arg3 harg3 arg6 arg7 x0 x1))) (arg7.view.writes (Elt F) arg7.view.junk ((fAP1 c i arg2 harg2 arg3 harg3 arg4 harg4 arg5 harg5 arg6 harg6 arg7 harg7 x0 x1 x2).2.2 ++ (kernelRun0_A.sl.HS0_2 (F := F) c i arg2 harg2 arg3 harg3 arg7 x0 x1))) (Scf.trips (k0_t2_loop i).lb (k0_t2_loop i).ub (k0_t2_loop i).st))

theorem list0A_out (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : ¬cond0_0 i)
    (x0 : Vec F S640x128 .f32) (x1 : Vec F S8320x128 .f32) (x2 : Vec F S8320x128 .f32) : (kernelRun0_A (F := F) c i arg2 harg2 arg3 harg3 arg4 harg4 arg5 harg5 arg6 harg6 arg7 harg7 hc0 x0 x1 x2).1 = ((fAP2 c i arg2 harg2 arg3 harg3 arg4 harg4 arg5 harg5 arg6 harg6 arg7 harg7 x0 x1 x2).1 ++ ((fAP1 c i arg2 harg2 arg3 harg3 arg4 harg4 arg5 harg5 arg6 harg6 arg7 harg7 x0 x1 x2).1 ++ (kernelRun0_A.sl.H3_2 (F := F) c i arg2 harg2 arg3 harg3 arg4 harg4 arg5 arg7 x0 x1 x2))) := by
  rfl
theorem list0A_saved (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : ¬cond0_0 i)
    (x0 : Vec F S640x128 .f32) (x1 : Vec F S8320x128 .f32) (x2 : Vec F S8320x128 .f32) : (kernelRun0_A (F := F) c i arg2 harg2 arg3 harg3 arg4 harg4 arg5 harg5 arg6 harg6 arg7 harg7 hc0 x0 x1 x2).2.1 = ((fAP2 c i arg2 harg2 arg3 harg3 arg4 harg4 arg5 harg5 arg6 harg6 arg7 harg7 x0 x1 x2).2.1 ++ ((fAP1 c i arg2 harg2 arg3 harg3 arg4 harg4 arg5 harg5 arg6 harg6 arg7 harg7 x0 x1 x2).2.1 ++ (kernelRun0_A.sl.H4_2 (F := F) c i arg2 harg2 arg3 harg3 arg6 arg7 x0 x1))) := by
  rfl

end lists

theorem point0_off1 : ∀ i : grid0.Coords, k0_off1 i = ![640 * (i 1).val, 0] := by decide +kernel
theorem point0_word : ∀ (i : grid0.Coords) (w : Fin 5), Scalar.addi (Scalar.muli (BitVec.ofNat 32 (i 1).val) 5#32) (BitVec.ofNat 32 w.val) = BitVec.ofNat 32 (5 * (i 1).val + w.val) := by decide +kernel

/-- Reading what three equal lists of stores leave. -/
theorem FInv.of_eq {D : Head} {t n : ℕ} {v5 : View sig .tc .vmem S640x128 .f32} {v6 : View sig .tc .vmem S1x1x640x128 .f32} {f5 : v5.ty.Contents (Elt Ideal)} {f6 : v6.ty.Contents (Elt Ideal)}
    {x7 : FVec Ideal S640x128 .f32} {L5 M5 : List (View.Piece (Elt Ideal) S640x128 .f32)} {L6 M6 : List (View.Piece (Elt Ideal) S1x1x640x128 .f32)}
    (h : FInv D t n (v5.read (Elt Ideal) (v5.writes (Elt Ideal) f5 L5)) (shapeCast S640x128 (v6.read (Elt Ideal) (v6.writes (Elt Ideal) f6 L6)) shapeCasts_S1x1x640x128_S640x128) x7)
    (e5 : M5 = L5) (e6 : M6 = L6) :
    FInv D t n (v5.read (Elt Ideal) (v5.writes (Elt Ideal) f5 M5)) (shapeCast S640x128 (v6.read (Elt Ideal) (v6.writes (Elt Ideal) f6 M6)) shapeCasts_S1x1x640x128_S640x128) x7 := by
  subst e5; subst e6; exact h

/-- Nothing done yet. -/
theorem point0A_zero {D : Head} (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32) : FInv D (i 1).val ((i 1).val + 1) (arg5.view.read (Elt Ideal) (arg5.view.writes (Elt Ideal) arg5.view.junk (kernelRun0_A.sl.H3_1 (F := Ideal) ))) (shapeCast S640x128 (arg6.view.read (Elt Ideal) (arg6.view.writes (Elt Ideal) arg6.view.junk (kernelRun0_A.sl.H4_1 (F := Ideal) ))) shapeCasts_S1x1x640x128_S640x128) (arg7.view.read (Elt Ideal) (arg7.view.writes (Elt Ideal) arg7.view.junk (kernelRun0_A.sl.HS0_1 (F := Ideal) ))) := by
  have hz : ∀ {a : ℕ} {s : ℕ} (r : ℕ), 640 * ((i 1).val + 1) ≤ a → r < 640 → s ∈ Ico a 8320 → ¬ Attends (640 * (i 1).val + r) s := fun r ha hr hs => not_attends (by rw [mem_Ico] at hs; omega)
  refine ⟨?_, ?_, ?_⟩
  · refine IsR.congr (f := fun _ _ => 0) ?_ fun r d hr _ => (sum_eq_zero fun s hs => by rw [D.W_of_not (hz r le_rfl hr hs), zero_mul]).symm
    intro j
    show arg5.view.read (Elt Ideal) (arg5.view.writes (Elt Ideal) arg5.view.junk (⟨(Rect.unit (s := S640x128) ![0, 0] S640x128.size inb_S640x128_S640x128_0_0), _⟩ :: [])) j = _
    rw [read_tile]
    exact ofBits_zero
  · refine IsR.congr (f := fun _ _ => 0) ?_ fun r d hr _ => ?_
    · intro j
      show shapeCast S640x128 (arg6.view.read (Elt Ideal) (arg6.view.writes (Elt Ideal) arg6.view.junk (⟨(Rect.unit (s := S1x1x640x128) ![0, 0, 0, 0] S1x1x640x128.size inb_S1x1x640x128_S1x1x640x128_0_0_0_0), _⟩ :: []))) shapeCasts_S1x1x640x128_S640x128 j = _
      rw [read_saved]
      exact ofBits_zero
    · split_ifs with h
      · exact (sum_eq_zero fun s hs => D.L_of_not (hz r (by omega) hr hs)).symm
      · rfl
  · refine IsR.congr (f := fun _ _ => 0) ?_ fun r d hr _ => (sum_eq_zero fun s hs => D.L_of_not (hz r le_rfl hr hs)).symm
    intro j
    show arg7.view.read (Elt Ideal) (arg7.view.writes (Elt Ideal) arg7.view.junk (⟨(Rect.unit (s := S640x128) ![0, 0] S640x128.size inb_S640x128_S640x128_0_0), _⟩ :: [])) j = _
    rw [read_tile]
    exact ofBits_zero

/-- After the diagonal group. -/
theorem point0A_diag {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32)
    (hq : IsR x0 fun r d => D.q (640 * (i 1).val + r) d) (hk : IsR x1 D.k) (hv : IsR x2 D.v) :
    FInv D (i 1).val ((i 1).val) (arg5.view.read (Elt Ideal) (arg5.view.writes (Elt Ideal) arg5.view.junk (kernelRun0_A.sl.H3_2 (F := Ideal) c i arg2 harg2 arg3 harg3 arg4 harg4 arg5 arg7 x0 x1 x2))) (shapeCast S640x128 (arg6.view.read (Elt Ideal) (arg6.view.writes (Elt Ideal) arg6.view.junk (kernelRun0_A.sl.H4_2 (F := Ideal) c i arg2 harg2 arg3 harg3 arg6 arg7 x0 x1))) shapeCasts_S1x1x640x128_S640x128) (arg7.view.read (Elt Ideal) (arg7.view.writes (Elt Ideal) arg7.view.junk (kernelRun0_A.sl.HS0_2 (F := Ideal) c i arg2 harg2 arg3 harg3 arg7 x0 x1))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have eq : IsR (kernelRun0_A.sl.r (F := Ideal) c arg2 harg2 x0) fun r d => D.q (640 * (i 1).val + r) d := fun j => by
    have h := hq j
    rw [← Memref.IsWhole.read_unread harg2 x0, ← readAt_tile] at h
    exact h

  exact FInv.store_cons (L5 := (kernelRun0_A.sl.H3_1 (F := Ideal) )) (L6 := (kernelRun0_A.sl.H4_1 (F := Ideal) )) (L7 := (kernelRun0_A.sl.HS0_1 (F := Ideal) )) (n := (i 1).val) (mk := masked (maskV (BitVec.ofNat 32 (i 1).val) (BitVec.ofNat 32 (i 1).val))) (q := (kernelRun0_A.sl.r (F := Ideal) c arg2 harg2 x0)) (tri := triV) (lane := lanesV)
    (j0 := (Scalar.addi (Scalar.muli (BitVec.ofNat 32 (i 1).val) 5#32) 0#32)) (j1 := (Scalar.addi (Scalar.muli (BitVec.ofNat 32 (i 1).val) 5#32) 1#32)) (j2 := (Scalar.addi (Scalar.muli (BitVec.ofNat 32 (i 1).val) 5#32) 2#32)) (j3 := (Scalar.addi (Scalar.muli (BitVec.ofNat 32 (i 1).val) 5#32) 3#32)) (j4 := (Scalar.addi (Scalar.muli (BitVec.ofNat 32 (i 1).val) 5#32) 4#32)) (X3 := harg3.unread x1) (X4 := harg4.unread x2)
    (f5 := arg5.view.junk) (f6 := arg6.view.junk) (f7 := arg7.view.junk)
    ht ht hcap (isMk_masked (isM_maskV ht ht rfl rfl)) isR_triV lanesV_apply (point0_word i 0) (point0_word i 1) (point0_word i 2) (point0_word i 3) (point0_word i 4) eq e3 e4
    (point0A_zero c i arg2 harg2 arg3 harg3 arg4 harg4 arg5 harg5 arg6 harg6 arg7 harg7 x0 x1 x2) (off := k0_off1 i) (point0_off1 i) (k0_off1_inb i) inb_S640x128_S640x128_0_0 inb_S1x1x640x128_S1x1x640x128_0_0_0_0

theorem point0A_rest (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32) : fAP2 (F := Ideal) c i arg2 harg2 arg3 harg3 arg4 harg4 arg5 harg5 arg6 harg6 arg7 harg7 x0 x1 x2 = ([], [], []) := by
  unfold fAP2
  rw [show Scf.trips (k0_t2_loop i).lb (k0_t2_loop i).ub (k0_t2_loop i).st = 0 from loop0_rest i]
  rfl

/-- After the loop. -/
theorem point0A_loop {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32)
    (hq : IsR x0 fun r d => D.q (640 * (i 1).val + r) d) (hk : IsR x1 D.k) (hv : IsR x2 D.v) :
    FInv D (i 1).val ((i 1).val - ((i 1).val - 1)) (arg5.view.read (Elt Ideal) (arg5.view.writes (Elt Ideal) arg5.view.junk ((fAP2 c i arg2 harg2 arg3 harg3 arg4 harg4 arg5 harg5 arg6 harg6 arg7 harg7 x0 x1 x2).1 ++ ((fAP1 c i arg2 harg2 arg3 harg3 arg4 harg4 arg5 harg5 arg6 harg6 arg7 harg7 x0 x1 x2).1 ++ (kernelRun0_A.sl.H3_2 (F := Ideal) c i arg2 harg2 arg3 harg3 arg4 harg4 arg5 arg7 x0 x1 x2))))) (shapeCast S640x128 (arg6.view.read (Elt Ideal) (arg6.view.writes (Elt Ideal) arg6.view.junk ((fAP2 c i arg2 harg2 arg3 harg3 arg4 harg4 arg5 harg5 arg6 harg6 arg7 harg7 x0 x1 x2).2.1 ++ ((fAP1 c i arg2 harg2 arg3 harg3 arg4 harg4 arg5 harg5 arg6 harg6 arg7 harg7 x0 x1 x2).2.1 ++ (kernelRun0_A.sl.H4_2 (F := Ideal) c i arg2 harg2 arg3 harg3 arg6 arg7 x0 x1))))) shapeCasts_S1x1x640x128_S640x128) (arg7.view.read (Elt Ideal) (arg7.view.writes (Elt Ideal) arg7.view.junk ((fAP2 c i arg2 harg2 arg3 harg3 arg4 harg4 arg5 harg5 arg6 harg6 arg7 harg7 x0 x1 x2).2.2 ++ ((fAP1 c i arg2 harg2 arg3 harg3 arg4 harg4 arg5 harg5 arg6 harg6 arg7 harg7 x0 x1 x2).2.2 ++ (kernelRun0_A.sl.HS0_2 (F := Ideal) c i arg2 harg2 arg3 harg3 arg7 x0 x1))))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have eq : IsR (kernelRun0_A.sl.r (F := Ideal) c arg2 harg2 x0) fun r d => D.q (640 * (i 1).val + r) d := fun j => by
    have h := hq j
    rw [← Memref.IsWhole.read_unread harg2 x0, ← readAt_tile] at h
    exact h

  have b1 := point0A_diag hcap c i arg2 harg2 arg3 harg3 arg4 harg4 arg5 harg5 arg6 harg6 arg7 harg7 x0 x1 x2 hq hk hv
  have b2 := loop0 hcap Variants.none c none i arg2 harg2 arg3 harg3 arg4 harg4 arg5 harg5 arg6 harg6 arg7 harg7 (kernelRun0_A.sl.r (F := Ideal) c arg2 harg2 x0) kernelRun0_A.sl.v2 k0_pay66 (harg3.unread x1) (harg4.unread x2) (arg5.view.writes (Elt Ideal) arg5.view.junk (kernelRun0_A.sl.H3_2 (F := Ideal) c i arg2 harg2 arg3 harg3 arg4 harg4 arg5 arg7 x0 x1 x2)) (arg6.view.writes (Elt Ideal) arg6.view.junk (kernelRun0_A.sl.H4_2 (F := Ideal) c i arg2 harg2 arg3 harg3 arg6 arg7 x0 x1)) (arg7.view.writes (Elt Ideal) arg7.view.junk (kernelRun0_A.sl.HS0_2 (F := Ideal) c i arg2 harg2 arg3 harg3 arg7 x0 x1))
    eq lanesV_apply isR_triV e3 e4 (by rw [View.writes_nil, View.writes_nil, View.writes_nil]; exact b1) (Scf.trips (k0_t1_loop i).lb (k0_t1_loop i).ub (k0_t1_loop i).st) (le_refl (k0_t1_loop i).trips)
  rw [point0A_rest, List.nil_append, List.nil_append, List.nil_append, View.writes_append, View.writes_append, View.writes_append]
  unfold fAP1
  have e : Scf.trips (k0_t1_loop i).lb (k0_t1_loop i).ub (k0_t1_loop i).st = (i 1).val - 1 := loop0_trips i
  rw [e] at b2
  rw [e]
  exact b2

/-- The first tile of queries. -/
theorem point0_A {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : ¬cond0_0 i)
    (x0 : Vec Ideal S640x128 .f32) (x1 : Vec Ideal S8320x128 .f32) (x2 : Vec Ideal S8320x128 .f32) (hi : (i 1).val = 0)
    (hq : IsR x0 fun r d => D.q (640 * (i 1).val + r) d) (hk : IsR x1 D.k) (hv : IsR x2 D.v) :
    ∃ x7, FInv D (i 1).val 0 (arg5.view.read (Elt Ideal) (arg5.view.writes (Elt Ideal) arg5.view.junk (kernelRun0_A (F := Ideal) c i arg2 harg2 arg3 harg3 arg4 harg4 arg5 harg5 arg6 harg6 arg7 harg7 hc0 x0 x1 x2).1))
      (shapeCast S640x128 (arg6.view.read (Elt Ideal) (arg6.view.writes (Elt Ideal) arg6.view.junk (kernelRun0_A (F := Ideal) c i arg2 harg2 arg3 harg3 arg4 harg4 arg5 harg5 arg6 harg6 arg7 harg7 hc0 x0 x1 x2).2.1)) shapeCasts_S1x1x640x128_S640x128) x7 := by
  have h := point0A_loop hcap c i arg2 harg2 arg3 harg3 arg4 harg4 arg5 harg5 arg6 harg6 arg7 harg7 x0 x1 x2 hq hk hv
  have e : (i 1).val - ((i 1).val - 1) = 0 := by omega
  exact ⟨_, FInv.of_eq (e ▸ h) (list0A_out c i arg2 harg2 arg3 harg3 arg4 harg4 arg5 harg5 arg6 harg6 arg7 harg7 hc0 x0 x1 x2) (list0A_saved c i arg2 harg2 arg3 harg3 arg4 harg4 arg5 harg5 arg6 harg6 arg7 harg7 hc0 x0 x1 x2)⟩

end Cert.StickBreaking
-- ==== Proof.Point0B.lean ====
module

public import proofs.«01_k».proof.Proof.Point0A
public import proofs.«01_k».proof.Proof.Const
public import proofs.«01_k».proof.Proof.Gen.KernelIdeal.Frame
import all proofs.«01_k».proof.Proof.Gen.KernelIdeal.Frame

/-! A tile of queries after the first, in the forward kernel. -/

@[expose] public section

noncomputable section

namespace Cert.StickBreaking

open Idealize.ShloMosaic Cert.KernelIdeal Cert.KernelIdeal.Gen Idealize.SL.Sem Finset Head

section lists
variable {F : FTy → Type} [FloatOps F]

/-- What the loop stores. -/
def fBP1 (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) := (pb_k0_t1 (F := F) Variants.none c none i arg2 harg2 arg3 harg3 arg4 harg4 arg5 harg5 arg6 harg6 arg7 harg7 (BitVec.ofNat 32 (i 1).val) (kernelRun0_B.sl.r (F := F) c arg2 harg2 x0) kernelRun0_B.sl.v2 k0_pay66 0#32 1#32 (harg3.unread x1) (harg4.unread x2) (arg5.view.writes (Elt F) arg5.view.junk (kernelRun0_B.sl.H3_2 (F := F) c i arg2 harg2 arg3 harg3 arg4 harg4 arg5 arg7 x0 x1 x2)) (arg6.view.writes (Elt F) arg6.view.junk (kernelRun0_B.sl.H4_2 (F := F) c i arg2 harg2 arg3 harg3 arg6 arg7 x0 x1)) (arg7.view.writes (Elt F) arg7.view.junk (kernelRun0_B.sl.HS0_2 (F := F) c i arg2 harg2 arg3 harg3 arg7 x0 x1)) (Scf.trips (k0_t1_loop i).lb (k0_t1_loop i).ub (k0_t1_loop i).st))
/-- What the rest of the loop stores. -/
def fBP2 (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) := (pb_k0_t2 (F := F) Variants.none c none i arg2 harg2 arg3 harg3 arg4 harg4 arg5 harg5 arg6 harg6 arg7 harg7 (BitVec.ofNat 32 (i 1).val) (kernelRun0_B.sl.r (F := F) c arg2 harg2 x0) kernelRun0_B.sl.v2 k0_pay66 (kernelRun0_B.sl.v163 i) (harg3.unread x1) (harg4.unread x2) (arg5.view.writes (Elt F) arg5.view.junk ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2))) (arg6.view.writes (Elt F) arg6.view.junk ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))) (arg7.view.writes (Elt F) arg7.view.junk ((fBP1 c i arg2 harg2 arg3 harg3 arg4 harg4 arg5 harg5 arg6 harg6 arg7 harg7 x0 x1 x2).2.2 ++ (kernelRun0_B.sl.HS0_2 (F := F) c i arg2 harg2 arg3 harg3 arg7 x0 x1))) (Scf.trips (k0_t2_loop i).lb (k0_t2_loop i).ub (k0_t2_loop i).st))

theorem first0_out (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) : (k0_pay10 (kernelRun0_B.sl.r_16 i) (kernelRun0_B.sl.r_17 (F := F) c arg2 harg2 arg3 harg3 x0 x1) (kernelRun0_B.sl.r_21 (F := F) c i arg2 harg2 arg3 harg3 x0 x1) (kernelRun0_B.sl.r_24 (F := F) c i arg2 harg2 arg3 harg3 x0 x1) (kernelRun0_B.sl.r_25 (F := F) c i arg2 harg2 arg3 harg3 x0 x1) (kernelRun0_B.sl.r_26 (F := F) c i arg2 harg2 arg3 harg3 x0 x1) (kernelRun0_B.sl.r_27 (F := F) c i arg2 harg2 arg3 harg3 x0 x1) (kernelRun0_B.sl.v235 (F := F) c i arg2 harg2 arg3 harg3 arg4 harg4 arg5 harg5 arg6 harg6 arg7 harg7 x0 x1 x2) (kernelRun0_B.sl.r_28 (F := F) c i arg2 harg2 arg3 harg3 arg4 harg4 arg5 harg5 arg6 harg6 arg7 harg7 x0 x1 x2) (kernelRun0_B.sl.r_29 (F := F) c i arg2 harg2 arg3 harg3 arg4 harg4 arg5 harg5 arg6 harg6 arg7 harg7 x0 x1 x2) (kernelRun0_B.sl.r_31 (F := F) c i arg2 harg2 arg3 harg3 arg4 harg4 arg5 harg5 arg6 harg6 arg7 harg7 x0 x1 x2) (kernelRun0_B.sl.v268 (F := F) c i arg2 harg2 arg3 harg3 arg4 harg4 arg5 harg5 arg6 harg6 arg7 harg7 x0 x1 x2) (arg4.view.readAt (Elt F) (Rect.unit (s := S8320x128) ![0, 0] S640x128.size inb_S8320x128_S640x128_0_0).toLoadRect (harg4.unread x2))) = (groupOut (masked (maskV (BitVec.ofNat 32 (i 1).val) 0#32)) (kernelRun0_B.sl.r (F := F) c arg2 harg2 x0) triV (arg3.view.readAt (Elt F) (Rect.unit (s := S8320x128) ![0, 0] S640x128.size inb_S8320x128_S640x128_0_0).toLoadRect (harg3.unread x1)) (arg4.view.readAt (Elt F) (Rect.unit (s := S8320x128) ![0, 0] S640x128.size inb_S8320x128_S640x128_0_0).toLoadRect (harg4.unread x2))) (kernelRun0_B.sl.v235 (F := F) c i arg2 harg2 arg3 harg3 arg4 harg4 arg5 harg5 arg6 harg6 arg7 harg7 x0 x1 x2) (kernelRun0_B.sl.v268 (F := F) c i arg2 harg2 arg3 harg3 arg4 harg4 arg5 harg5 arg6 harg6 arg7 harg7 x0 x1 x2) := by
  rfl
theorem first0_saved (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) : (k0_pay11 kernelRun0_B.sl.v2 (kernelRun0_B.sl.r_24 (F := F) c i arg2 harg2 arg3 harg3 x0 x1) (kernelRun0_B.sl.r_30 (F := F) c i arg2 harg2 arg3 harg3 arg4 harg4 arg5 harg5 arg6 harg6 arg7 harg7 x0 x1 x2) (kernelRun0_B.sl.r_31 (F := F) c i arg2 harg2 arg3 harg3 arg4 harg4 arg5 harg5 arg6 harg6 arg7 harg7 x0 x1 x2) k0_pay64) = (fun run s => shapeCast S1x1x640x128 (groupSaved (masked (maskV (BitVec.ofNat 32 (i 1).val) 0#32)) (kernelRun0_B.sl.r (F := F) c arg2 harg2 x0) triV lanesV 0#32 1#32 2#32 3#32 4#32 (arg3.view.readAt (Elt F) (Rect.unit (s := S8320x128) ![0, 0] S640x128.size inb_S8320x128_S640x128_0_0).toLoadRect (harg3.unread x1)) run (shapeCast S640x128 s shapeCasts_S1x1x640x128_S640x128)) shapeCasts_S640x128_S1x1x640x128) (kernelRun0_B.sl.v235 (F := F) c i arg2 harg2 arg3 harg3 arg4 harg4 arg5 harg5 arg6 harg6 arg7 harg7 x0 x1 x2) (kernelRun0_B.sl.v236 (F := F) c i arg2 harg2 arg3 harg3 arg4 harg4 arg5 harg5 arg6 harg6 arg7 harg7 x0 x1 x2) := by
  rfl
theorem load0_run (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) : (kernelRun0_B.sl.v235 (F := F) c i arg2 harg2 arg3 harg3 arg4 harg4 arg5 harg5 arg6 harg6 arg7 harg7 x0 x1 x2) = (arg7.view.readAt (Elt F) (Rect.unit (s := S640x128) ![0, 0] S640x128.size inb_S640x128_S640x128_0_0).toLoadRect (arg7.view.writes (Elt F) arg7.view.junk ((fBP2 c i arg2 harg2 arg3 harg3 arg4 harg4 arg5 harg5 arg6 harg6 arg7 harg7 x0 x1 x2).2.2 ++ ((fBP1 c i arg2 harg2 arg3 harg3 arg4 harg4 arg5 harg5 arg6 harg6 arg7 harg7 x0 x1 x2).2.2 ++ (kernelRun0_B.sl.HS0_2 (F := F) c i arg2 harg2 arg3 harg3 arg7 x0 x1))))) := by
  rfl
theorem load0_out (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) : (kernelRun0_B.sl.v268 (F := F) c i arg2 harg2 arg3 harg3 arg4 harg4 arg5 harg5 arg6 harg6 arg7 harg7 x0 x1 x2) = (arg5.view.readAt (Elt F) (Rect.unit (s := S640x128) ![0, 0] S640x128.size inb_S640x128_S640x128_0_0).toLoadRect (arg5.view.writes (Elt F) arg5.view.junk ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2))))) := by
  rfl
theorem load0_saved (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec F S640x128 .f32) (x1 : Vec F S8320x128 .f32) (x2 : Vec F S8320x128 .f32) : (kernelRun0_B.sl.v236 (F := F) c i arg2 harg2 arg3 harg3 arg4 harg4 arg5 harg5 arg6 harg6 arg7 harg7 x0 x1 x2) = (arg6.view.readAt (Elt F) (Rect.unit (s := S1x1x640x128) ![0, 0, 0, 0] S1x1x640x128.size inb_S1x1x640x128_S1x1x640x128_0_0_0_0).toLoadRect (arg6.view.writes (Elt F) arg6.view.junk ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))))) := by
  rfl
theorem stores0_out (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : cond0_0 i)
    (x0 : Vec F S640x128 .f32) (x1 : Vec F S8320x128 .f32) (x2 : Vec F S8320x128 .f32) : (kernelRun0_B (F := F) c i arg2 harg2 arg3 harg3 arg4 harg4 arg5 harg5 arg6 harg6 arg7 harg7 hc0 x0 x1 x2).1 = ⟨(Rect.unit (s := S640x128) ![0, 0] S640x128.size inb_S640x128_S640x128_0_0), (k0_pay10 (kernelRun0_B.sl.r_16 i) (kernelRun0_B.sl.r_17 (F := F) c arg2 harg2 arg3 harg3 x0 x1) (kernelRun0_B.sl.r_21 (F := F) c i arg2 harg2 arg3 harg3 x0 x1) (kernelRun0_B.sl.r_24 (F := F) c i arg2 harg2 arg3 harg3 x0 x1) (kernelRun0_B.sl.r_25 (F := F) c i arg2 harg2 arg3 harg3 x0 x1) (kernelRun0_B.sl.r_26 (F := F) c i arg2 harg2 arg3 harg3 x0 x1) (kernelRun0_B.sl.r_27 (F := F) c i arg2 harg2 arg3 harg3 x0 x1) (kernelRun0_B.sl.v235 (F := F) c i arg2 harg2 arg3 harg3 arg4 harg4 arg5 harg5 arg6 harg6 arg7 harg7 x0 x1 x2) (kernelRun0_B.sl.r_28 (F := F) c i arg2 harg2 arg3 harg3 arg4 harg4 arg5 harg5 arg6 harg6 arg7 harg7 x0 x1 x2) (kernelRun0_B.sl.r_29 (F := F) c i arg2 harg2 arg3 harg3 arg4 harg4 arg5 harg5 arg6 harg6 arg7 harg7 x0 x1 x2) (kernelRun0_B.sl.r_31 (F := F) c i arg2 harg2 arg3 harg3 arg4 harg4 arg5 harg5 arg6 harg6 arg7 harg7 x0 x1 x2) (kernelRun0_B.sl.v268 (F := F) c i arg2 harg2 arg3 harg3 arg4 harg4 arg5 harg5 arg6 harg6 arg7 harg7 x0 x1 x2) (arg4.view.readAt (Elt F) (Rect.unit (s := S8320x128) ![0, 0] S640x128.size inb_S8320x128_S640x128_0_0).toLoadRect (harg4.unread x2)))⟩ :: ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2))) := by
  rfl
theorem stores0_saved (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : cond0_0 i)
    (x0 : Vec F S640x128 .f32) (x1 : Vec F S8320x128 .f32) (x2 : Vec F S8320x128 .f32) : (kernelRun0_B (F := F) c i arg2 harg2 arg3 harg3 arg4 harg4 arg5 harg5 arg6 harg6 arg7 harg7 hc0 x0 x1 x2).2.1 = ⟨(Rect.unit (s := S1x1x640x128) ![0, 0, 0, 0] S1x1x640x128.size inb_S1x1x640x128_S1x1x640x128_0_0_0_0), (k0_pay11 kernelRun0_B.sl.v2 (kernelRun0_B.sl.r_24 (F := F) c i arg2 harg2 arg3 harg3 x0 x1) (kernelRun0_B.sl.r_30 (F := F) c i arg2 harg2 arg3 harg3 arg4 harg4 arg5 harg5 arg6 harg6 arg7 harg7 x0 x1 x2) (kernelRun0_B.sl.r_31 (F := F) c i arg2 harg2 arg3 harg3 arg4 harg4 arg5 harg5 arg6 harg6 arg7 harg7 x0 x1 x2) k0_pay64)⟩ :: ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))) := by
  rfl
/-- What the point stores, in the vocabulary of the groups. -/
theorem list0_out (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : cond0_0 i)
    (x0 : Vec F S640x128 .f32) (x1 : Vec F S8320x128 .f32) (x2 : Vec F S8320x128 .f32) : (kernelRun0_B (F := F) c i arg2 harg2 arg3 harg3 arg4 harg4 arg5 harg5 arg6 harg6 arg7 harg7 hc0 x0 x1 x2).1 = ⟨(Rect.unit (s := S640x128) ![0, 0] S640x128.size inb_S640x128_S640x128_0_0), (groupOut (masked (maskV (BitVec.ofNat 32 (i 1).val) 0#32)) (kernelRun0_B.sl.r (F := F) c arg2 harg2 x0) triV (arg3.view.readAt (Elt F) (Rect.unit (s := S8320x128) ![0, 0] S640x128.size inb_S8320x128_S640x128_0_0).toLoadRect (harg3.unread x1)) (arg4.view.readAt (Elt F) (Rect.unit (s := S8320x128) ![0, 0] S640x128.size inb_S8320x128_S640x128_0_0).toLoadRect (harg4.unread x2))) (arg7.view.readAt (Elt F) (Rect.unit (s := S640x128) ![0, 0] S640x128.size inb_S640x128_S640x128_0_0).toLoadRect (arg7.view.writes (Elt F) arg7.view.junk ((fBP2 c i arg2 harg2 arg3 harg3 arg4 harg4 arg5 harg5 arg6 harg6 arg7 harg7 x0 x1 x2).2.2 ++ ((fBP1 c i arg2 harg2 arg3 harg3 arg4 harg4 arg5 harg5 arg6 harg6 arg7 harg7 x0 x1 x2).2.2 ++ (kernelRun0_B.sl.HS0_2 (F := F) c i arg2 harg2 arg3 harg3 arg7 x0 x1))))) (arg5.view.readAt (Elt F) (Rect.unit (s := S640x128) ![0, 0] S640x128.size inb_S640x128_S640x128_0_0).toLoadRect (arg5.view.writes (Elt F) arg5.view.junk ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2)))))⟩ :: ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2))) :=
  (stores0_out c i arg2 harg2 arg3 harg3 arg4 harg4 arg5 harg5 arg6 harg6 arg7 harg7 hc0 x0 x1 x2).trans (congrArg (fun w => (⟨(Rect.unit (s := S640x128) ![0, 0] S640x128.size inb_S640x128_S640x128_0_0), w⟩ : View.Piece (Elt F) S640x128 .f32) :: ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := F) c i arg2 harg2 arg3 harg3 arg4 harg4 arg5 arg7 x0 x1 x2))))
    ((first0_out c i arg2 harg2 arg3 harg3 arg4 harg4 arg5 harg5 arg6 harg6 arg7 harg7 x0 x1 x2).trans (congrArg₂ (groupOut (masked (maskV (BitVec.ofNat 32 (i 1).val) 0#32)) (kernelRun0_B.sl.r (F := F) c arg2 harg2 x0) triV (arg3.view.readAt (Elt F) (Rect.unit (s := S8320x128) ![0, 0] S640x128.size inb_S8320x128_S640x128_0_0).toLoadRect (harg3.unread x1)) (arg4.view.readAt (Elt F) (Rect.unit (s := S8320x128) ![0, 0] S640x128.size inb_S8320x128_S640x128_0_0).toLoadRect (harg4.unread x2))) (load0_run c i arg2 harg2 arg3 harg3 arg4 harg4 arg5 harg5 arg6 harg6 arg7 harg7 x0 x1 x2) (load0_out c i arg2 harg2 arg3 harg3 arg4 harg4 arg5 harg5 arg6 harg6 arg7 harg7 x0 x1 x2))))
theorem list0_saved (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : cond0_0 i)
    (x0 : Vec F S640x128 .f32) (x1 : Vec F S8320x128 .f32) (x2 : Vec F S8320x128 .f32) : (kernelRun0_B (F := F) c i arg2 harg2 arg3 harg3 arg4 harg4 arg5 harg5 arg6 harg6 arg7 harg7 hc0 x0 x1 x2).2.1 = ⟨(Rect.unit (s := S1x1x640x128) ![0, 0, 0, 0] S1x1x640x128.size inb_S1x1x640x128_S1x1x640x128_0_0_0_0), (shapeCast S1x1x640x128 (groupSaved (masked (maskV (BitVec.ofNat 32 (i 1).val) 0#32)) (kernelRun0_B.sl.r (F := F) c arg2 harg2 x0) triV lanesV 0#32 1#32 2#32 3#32 4#32 (arg3.view.readAt (Elt F) (Rect.unit (s := S8320x128) ![0, 0] S640x128.size inb_S8320x128_S640x128_0_0).toLoadRect (harg3.unread x1)) (arg7.view.readAt (Elt F) (Rect.unit (s := S640x128) ![0, 0] S640x128.size inb_S640x128_S640x128_0_0).toLoadRect (arg7.view.writes (Elt F) arg7.view.junk ((fBP2 c i arg2 harg2 arg3 harg3 arg4 harg4 arg5 harg5 arg6 harg6 arg7 harg7 x0 x1 x2).2.2 ++ ((fBP1 c i arg2 harg2 arg3 harg3 arg4 harg4 arg5 harg5 arg6 harg6 arg7 harg7 x0 x1 x2).2.2 ++ (kernelRun0_B.sl.HS0_2 (F := F) c i arg2 harg2 arg3 harg3 arg7 x0 x1))))) (shapeCast S640x128 (arg6.view.readAt (Elt F) (Rect.unit (s := S1x1x640x128) ![0, 0, 0, 0] S1x1x640x128.size inb_S1x1x640x128_S1x1x640x128_0_0_0_0).toLoadRect (arg6.view.writes (Elt F) arg6.view.junk ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))))) shapeCasts_S1x1x640x128_S640x128)) shapeCasts_S640x128_S1x1x640x128)⟩ :: ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))) :=
  (stores0_saved c i arg2 harg2 arg3 harg3 arg4 harg4 arg5 harg5 arg6 harg6 arg7 harg7 hc0 x0 x1 x2).trans (congrArg (fun w => (⟨(Rect.unit (s := S1x1x640x128) ![0, 0, 0, 0] S1x1x640x128.size inb_S1x1x640x128_S1x1x640x128_0_0_0_0), w⟩ : View.Piece (Elt F) S1x1x640x128 .f32) :: ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := F) c i arg2 harg2 arg3 harg3 arg6 arg7 x0 x1))))
    ((first0_saved c i arg2 harg2 arg3 harg3 arg4 harg4 arg5 harg5 arg6 harg6 arg7 harg7 x0 x1 x2).trans (congrArg₂ (fun run s => shapeCast S1x1x640x128 (groupSaved (masked (maskV (BitVec.ofNat 32 (i 1).val) 0#32)) (kernelRun0_B.sl.r (F := F) c arg2 harg2 x0) triV lanesV 0#32 1#32 2#32 3#32 4#32 (arg3.view.readAt (Elt F) (Rect.unit (s := S8320x128) ![0, 0] S640x128.size inb_S8320x128_S640x128_0_0).toLoadRect (harg3.unread x1)) run (shapeCast S640x128 s shapeCasts_S1x1x640x128_S640x128)) shapeCasts_S640x128_S1x1x640x128) (load0_run c i arg2 harg2 arg3 harg3 arg4 harg4 arg5 harg5 arg6 harg6 arg7 harg7 x0 x1 x2) (load0_saved c i arg2 harg2 arg3 harg3 arg4 harg4 arg5 harg5 arg6 harg6 arg7 harg7 x0 x1 x2))))

end lists

/-- Nothing done yet. -/
theorem point0B_zero {D : Head} (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32) : FInv D (i 1).val ((i 1).val + 1) (arg5.view.read (Elt Ideal) (arg5.view.writes (Elt Ideal) arg5.view.junk (kernelRun0_B.sl.H3_1 (F := Ideal) ))) (shapeCast S640x128 (arg6.view.read (Elt Ideal) (arg6.view.writes (Elt Ideal) arg6.view.junk (kernelRun0_B.sl.H4_1 (F := Ideal) ))) shapeCasts_S1x1x640x128_S640x128) (arg7.view.read (Elt Ideal) (arg7.view.writes (Elt Ideal) arg7.view.junk (kernelRun0_B.sl.HS0_1 (F := Ideal) ))) := by
  have hz : ∀ {a : ℕ} {s : ℕ} (r : ℕ), 640 * ((i 1).val + 1) ≤ a → r < 640 → s ∈ Ico a 8320 → ¬ Attends (640 * (i 1).val + r) s := fun r ha hr hs => not_attends (by rw [mem_Ico] at hs; omega)
  refine ⟨?_, ?_, ?_⟩
  · refine IsR.congr (f := fun _ _ => 0) ?_ fun r d hr _ => (sum_eq_zero fun s hs => by rw [D.W_of_not (hz r le_rfl hr hs), zero_mul]).symm
    intro j
    show arg5.view.read (Elt Ideal) (arg5.view.writes (Elt Ideal) arg5.view.junk (⟨(Rect.unit (s := S640x128) ![0, 0] S640x128.size inb_S640x128_S640x128_0_0), _⟩ :: [])) j = _
    rw [read_tile]
    exact ofBits_zero
  · refine IsR.congr (f := fun _ _ => 0) ?_ fun r d hr _ => ?_
    · intro j
      show shapeCast S640x128 (arg6.view.read (Elt Ideal) (arg6.view.writes (Elt Ideal) arg6.view.junk (⟨(Rect.unit (s := S1x1x640x128) ![0, 0, 0, 0] S1x1x640x128.size inb_S1x1x640x128_S1x1x640x128_0_0_0_0), _⟩ :: []))) shapeCasts_S1x1x640x128_S640x128 j = _
      rw [read_saved]
      exact ofBits_zero
    · split_ifs with h
      · exact (sum_eq_zero fun s hs => D.L_of_not (hz r (by omega) hr hs)).symm
      · rfl
  · refine IsR.congr (f := fun _ _ => 0) ?_ fun r d hr _ => (sum_eq_zero fun s hs => D.L_of_not (hz r le_rfl hr hs)).symm
    intro j
    show arg7.view.read (Elt Ideal) (arg7.view.writes (Elt Ideal) arg7.view.junk (⟨(Rect.unit (s := S640x128) ![0, 0] S640x128.size inb_S640x128_S640x128_0_0), _⟩ :: [])) j = _
    rw [read_tile]
    exact ofBits_zero

/-- After the diagonal group. -/
theorem point0B_diag {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32)
    (hq : IsR x0 fun r d => D.q (640 * (i 1).val + r) d) (hk : IsR x1 D.k) (hv : IsR x2 D.v) :
    FInv D (i 1).val ((i 1).val) (arg5.view.read (Elt Ideal) (arg5.view.writes (Elt Ideal) arg5.view.junk (kernelRun0_B.sl.H3_2 (F := Ideal) c i arg2 harg2 arg3 harg3 arg4 harg4 arg5 arg7 x0 x1 x2))) (shapeCast S640x128 (arg6.view.read (Elt Ideal) (arg6.view.writes (Elt Ideal) arg6.view.junk (kernelRun0_B.sl.H4_2 (F := Ideal) c i arg2 harg2 arg3 harg3 arg6 arg7 x0 x1))) shapeCasts_S1x1x640x128_S640x128) (arg7.view.read (Elt Ideal) (arg7.view.writes (Elt Ideal) arg7.view.junk (kernelRun0_B.sl.HS0_2 (F := Ideal) c i arg2 harg2 arg3 harg3 arg7 x0 x1))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have eq : IsR (kernelRun0_B.sl.r (F := Ideal) c arg2 harg2 x0) fun r d => D.q (640 * (i 1).val + r) d := fun j => by
    have h := hq j
    rw [← Memref.IsWhole.read_unread harg2 x0, ← readAt_tile] at h
    exact h

  exact FInv.store_cons (L5 := (kernelRun0_B.sl.H3_1 (F := Ideal) )) (L6 := (kernelRun0_B.sl.H4_1 (F := Ideal) )) (L7 := (kernelRun0_B.sl.HS0_1 (F := Ideal) )) (n := (i 1).val) (mk := masked (maskV (BitVec.ofNat 32 (i 1).val) (BitVec.ofNat 32 (i 1).val))) (q := (kernelRun0_B.sl.r (F := Ideal) c arg2 harg2 x0)) (tri := triV) (lane := lanesV)
    (j0 := (Scalar.addi (Scalar.muli (BitVec.ofNat 32 (i 1).val) 5#32) 0#32)) (j1 := (Scalar.addi (Scalar.muli (BitVec.ofNat 32 (i 1).val) 5#32) 1#32)) (j2 := (Scalar.addi (Scalar.muli (BitVec.ofNat 32 (i 1).val) 5#32) 2#32)) (j3 := (Scalar.addi (Scalar.muli (BitVec.ofNat 32 (i 1).val) 5#32) 3#32)) (j4 := (Scalar.addi (Scalar.muli (BitVec.ofNat 32 (i 1).val) 5#32) 4#32)) (X3 := harg3.unread x1) (X4 := harg4.unread x2)
    (f5 := arg5.view.junk) (f6 := arg6.view.junk) (f7 := arg7.view.junk)
    ht ht hcap (isMk_masked (isM_maskV ht ht rfl rfl)) isR_triV lanesV_apply (point0_word i 0) (point0_word i 1) (point0_word i 2) (point0_word i 3) (point0_word i 4) eq e3 e4
    (point0B_zero c i arg2 harg2 arg3 harg3 arg4 harg4 arg5 harg5 arg6 harg6 arg7 harg7 x0 x1 x2) (off := k0_off1 i) (point0_off1 i) (k0_off1_inb i) inb_S640x128_S640x128_0_0 inb_S1x1x640x128_S1x1x640x128_0_0_0_0

theorem point0B_rest (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32) : fBP2 (F := Ideal) c i arg2 harg2 arg3 harg3 arg4 harg4 arg5 harg5 arg6 harg6 arg7 harg7 x0 x1 x2 = ([], [], []) := by
  unfold fBP2
  rw [show Scf.trips (k0_t2_loop i).lb (k0_t2_loop i).ub (k0_t2_loop i).st = 0 from loop0_rest i]
  rfl

/-- After the loop. -/
theorem point0B_loop {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole)
    (x0 : Vec Ideal S640x128 .f32) (x1 : Vec Ideal S8320x128 .f32) (x2 : Vec Ideal S8320x128 .f32)
    (hq : IsR x0 fun r d => D.q (640 * (i 1).val + r) d) (hk : IsR x1 D.k) (hv : IsR x2 D.v) :
    FInv D (i 1).val ((i 1).val - ((i 1).val - 1)) (arg5.view.read (Elt Ideal) (arg5.view.writes (Elt Ideal) arg5.view.junk ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := Ideal) c i arg2 harg2 arg3 harg3 arg4 harg4 arg5 arg7 x0 x1 x2))))) (shapeCast S640x128 (arg6.view.read (Elt Ideal) (arg6.view.writes (Elt Ideal) arg6.view.junk ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := Ideal) c i arg2 harg2 arg3 harg3 arg6 arg7 x0 x1))))) shapeCasts_S1x1x640x128_S640x128) (arg7.view.read (Elt Ideal) (arg7.view.writes (Elt Ideal) arg7.view.junk ((fBP2 c i arg2 harg2 arg3 harg3 arg4 harg4 arg5 harg5 arg6 harg6 arg7 harg7 x0 x1 x2).2.2 ++ ((fBP1 c i arg2 harg2 arg3 harg3 arg4 harg4 arg5 harg5 arg6 harg6 arg7 harg7 x0 x1 x2).2.2 ++ (kernelRun0_B.sl.HS0_2 (F := Ideal) c i arg2 harg2 arg3 harg3 arg7 x0 x1))))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have eq : IsR (kernelRun0_B.sl.r (F := Ideal) c arg2 harg2 x0) fun r d => D.q (640 * (i 1).val + r) d := fun j => by
    have h := hq j
    rw [← Memref.IsWhole.read_unread harg2 x0, ← readAt_tile] at h
    exact h

  have b1 := point0B_diag hcap c i arg2 harg2 arg3 harg3 arg4 harg4 arg5 harg5 arg6 harg6 arg7 harg7 x0 x1 x2 hq hk hv
  have b2 := loop0 hcap Variants.none c none i arg2 harg2 arg3 harg3 arg4 harg4 arg5 harg5 arg6 harg6 arg7 harg7 (kernelRun0_B.sl.r (F := Ideal) c arg2 harg2 x0) kernelRun0_B.sl.v2 k0_pay66 (harg3.unread x1) (harg4.unread x2) (arg5.view.writes (Elt Ideal) arg5.view.junk (kernelRun0_B.sl.H3_2 (F := Ideal) c i arg2 harg2 arg3 harg3 arg4 harg4 arg5 arg7 x0 x1 x2)) (arg6.view.writes (Elt Ideal) arg6.view.junk (kernelRun0_B.sl.H4_2 (F := Ideal) c i arg2 harg2 arg3 harg3 arg6 arg7 x0 x1)) (arg7.view.writes (Elt Ideal) arg7.view.junk (kernelRun0_B.sl.HS0_2 (F := Ideal) c i arg2 harg2 arg3 harg3 arg7 x0 x1))
    eq lanesV_apply isR_triV e3 e4 (by rw [View.writes_nil, View.writes_nil, View.writes_nil]; exact b1) (Scf.trips (k0_t1_loop i).lb (k0_t1_loop i).ub (k0_t1_loop i).st) (le_refl (k0_t1_loop i).trips)
  rw [point0B_rest, List.nil_append, List.nil_append, List.nil_append, View.writes_append, View.writes_append, View.writes_append]
  unfold fBP1
  have e : Scf.trips (k0_t1_loop i).lb (k0_t1_loop i).ub (k0_t1_loop i).st = (i 1).val - 1 := loop0_trips i
  rw [e] at b2
  rw [e]
  exact b2

/-- A later tile of queries. -/
theorem point0_B {D : Head} (hcap : D.Capped) (c : Dev nD) (i : grid0.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S640x128 .f32) (harg5 : arg5.IsWhole) (arg6 : Memref sig .tc .vmem S1x1x640x128 .f32) (harg6 : arg6.IsWhole) (arg7 : Memref sig .tc .vmem S640x128 .f32) (harg7 : arg7.IsWhole) (hc0 : cond0_0 i)
    (x0 : Vec Ideal S640x128 .f32) (x1 : Vec Ideal S8320x128 .f32) (x2 : Vec Ideal S8320x128 .f32) (hi : 1 ≤ (i 1).val)
    (hq : IsR x0 fun r d => D.q (640 * (i 1).val + r) d) (hk : IsR x1 D.k) (hv : IsR x2 D.v) :
    ∃ x7, FInv D (i 1).val 0 (arg5.view.read (Elt Ideal) (arg5.view.writes (Elt Ideal) arg5.view.junk (kernelRun0_B (F := Ideal) c i arg2 harg2 arg3 harg3 arg4 harg4 arg5 harg5 arg6 harg6 arg7 harg7 hc0 x0 x1 x2).1))
      (shapeCast S640x128 (arg6.view.read (Elt Ideal) (arg6.view.writes (Elt Ideal) arg6.view.junk (kernelRun0_B (F := Ideal) c i arg2 harg2 arg3 harg3 arg4 harg4 arg5 harg5 arg6 harg6 arg7 harg7 hc0 x0 x1 x2).2.1)) shapeCasts_S1x1x640x128_S640x128) x7 := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have eq : IsR (kernelRun0_B.sl.r (F := Ideal) c arg2 harg2 x0) fun r d => D.q (640 * (i 1).val + r) d := fun j => by
    have h := hq j
    rw [← Memref.IsWhole.read_unread harg2 x0, ← readAt_tile] at h
    exact h

  have h := point0B_loop hcap c i arg2 harg2 arg3 harg3 arg4 harg4 arg5 harg5 arg6 harg6 arg7 harg7 x0 x1 x2 hq hk hv
  rw [show (i 1).val - ((i 1).val - 1) = 0 + 1 by omega] at h
  exact ⟨_, FInv.of_eq (FInv.store_cons (L5 := ((fBP2 c i arg2 harg2 arg3 harg3 arg4 harg4 arg5 harg5 arg6 harg6 arg7 harg7 x0 x1 x2).1 ++ ((fBP1 c i arg2 harg2 arg3 harg3 arg4 harg4 arg5 harg5 arg6 harg6 arg7 harg7 x0 x1 x2).1 ++ (kernelRun0_B.sl.H3_2 (F := Ideal) c i arg2 harg2 arg3 harg3 arg4 harg4 arg5 arg7 x0 x1 x2)))) (L6 := ((fBP2 c i arg2 harg2 arg3 harg3 arg4 harg4 arg5 harg5 arg6 harg6 arg7 harg7 x0 x1 x2).2.1 ++ ((fBP1 c i arg2 harg2 arg3 harg3 arg4 harg4 arg5 harg5 arg6 harg6 arg7 harg7 x0 x1 x2).2.1 ++ (kernelRun0_B.sl.H4_2 (F := Ideal) c i arg2 harg2 arg3 harg3 arg6 arg7 x0 x1)))) (L7 := ((fBP2 c i arg2 harg2 arg3 harg3 arg4 harg4 arg5 harg5 arg6 harg6 arg7 harg7 x0 x1 x2).2.2 ++ ((fBP1 c i arg2 harg2 arg3 harg3 arg4 harg4 arg5 harg5 arg6 harg6 arg7 harg7 x0 x1 x2).2.2 ++ (kernelRun0_B.sl.HS0_2 (F := Ideal) c i arg2 harg2 arg3 harg3 arg7 x0 x1)))) (n := 0) (mk := masked (maskV (BitVec.ofNat 32 (i 1).val) 0#32)) (q := (kernelRun0_B.sl.r (F := Ideal) c arg2 harg2 x0)) (tri := triV) (lane := lanesV)
    (j0 := 0#32) (j1 := 1#32) (j2 := 2#32) (j3 := 3#32) (j4 := 4#32) (X3 := harg3.unread x1) (X4 := harg4.unread x2)
    (f5 := arg5.view.junk) (f6 := arg6.view.junk) (f7 := arg7.view.junk)
    ht (by omega) hcap (isMk_masked (isM_maskV ht (by omega) rfl rfl)) isR_triV lanesV_apply rfl rfl rfl rfl rfl eq e3 e4
    h (off := ![0, 0]) rfl inb_S8320x128_S640x128_0_0 inb_S640x128_S640x128_0_0 inb_S1x1x640x128_S1x1x640x128_0_0_0_0) (list0_out c i arg2 harg2 arg3 harg3 arg4 harg4 arg5 harg5 arg6 harg6 arg7 harg7 hc0 x0 x1 x2) (list0_saved c i arg2 harg2 arg3 harg3 arg4 harg4 arg5 harg5 arg6 harg6 arg7 harg7 hc0 x0 x1 x2)⟩

end Cert.StickBreaking
-- ==== Proof.Arr0.lean ====
module

public import proofs.«01_k».proof.Proof.Point0B
public import Idealize.ShloMosaic.Lib.Pipeline.ValueKit.Geometry

/-! What the forward kernel leaves in its two result arrays, from the heads its arguments hold. -/

@[expose] public section

noncomputable section

namespace Cert.StickBreaking

open Idealize.ShloMosaic Idealize.ShloMosaic.TcCoe Cert.KernelIdeal Cert.KernelIdeal.Gen Idealize.SL.Sem Finset Head

/-- The projections `P` and the gradients `M` hold the four heads `D`. -/
structure Feeds (D : ℕ → Head) (P : S8320x5120.Idx → EReal) (M : S8320x1536.Idx → EReal) : Prop where
  q : ∀ h r d (i : S8320x5120.Idx), h < 4 → d < 128 → (i 0).val = r → (i 1).val = 3072 + 128 * h + d → P i = (((D h).q r d : ℝ) : EReal)
  k : ∀ h r d (i : S8320x5120.Idx), h < 4 → d < 128 → (i 0).val = r → (i 1).val = 3584 + 128 * h + d → P i = (((D h).k r d : ℝ) : EReal)
  v : ∀ h r d (i : S8320x5120.Idx), h < 4 → d < 128 → (i 0).val = r → (i 1).val = 4096 + 128 * h + d → P i = (((D h).v r d : ℝ) : EReal)
  o : ∀ h r d (i : S8320x1536.Idx), h < 4 → d < 128 → (i 0).val = r → (i 1).val = 1024 + 128 * h + d → M i = (((D h).o r d : ℝ) : EReal)

variable (V : (c : Dev nD) → (b : Ref sig .tc) → Buf (Elt Ideal) ((c : Thread nD τ).loc b))

theorem index0_0 : ∀ t : Fin cfg0.N, win0_0.index t = ![(grid0.coords t 1).val, 24 + (grid0.coords t 0).val] :=
  (by decide +kernel : ∀ t : Fin grid0.N, _)
theorem index0_1 : ∀ t : Fin cfg0.N, win0_1.index t = ![0, 28 + (grid0.coords t 0).val] :=
  (by decide +kernel : ∀ t : Fin grid0.N, _)
theorem index0_2 : ∀ t : Fin cfg0.N, win0_2.index t = ![0, 32 + (grid0.coords t 0).val] :=
  (by decide +kernel : ∀ t : Fin grid0.N, _)
theorem index0_3 : ∀ t : Fin cfg0.N, win0_3.index t = ![(grid0.coords t 1).val, (grid0.coords t 0).val] :=
  (by decide +kernel : ∀ t : Fin grid0.N, _)
theorem index0_4 : ∀ t : Fin cfg0.N, win0_4.index t = ![(grid0.coords t 0).val, (grid0.coords t 1).val, 0, 0] :=
  (by decide +kernel : ∀ t : Fin grid0.N, _)
theorem coords0 : ∀ t : Fin cfg0.N, (grid0.coords t 0).val = t.val / 13 ∧ (grid0.coords t 1).val = t.val % 13 :=
  (by decide +kernel : ∀ t : Fin grid0.N, _)

/-- A block of saved sums, as the kernels see it and as the arrays hold it. -/
theorem saved_apply (x : S1x1x640x128.Idx → EReal) (j : S640x128.Idx) (y : S1x1x640x128.Idx) (h2 : (y 2).val = (j 0).val) (h3 : (y 3).val = (j 1).val) :
    shapeCast S640x128 x shapeCasts_S1x1x640x128_S640x128 j = x y := by
  refine shapeCast_apply x _ j y ?_
  have y0 : (y 0).val < 1 := (y 0).isLt
  have y1 : (y 1).val < 1 := (y 1).isLt
  rw [Shape.rowMajor_val_four, Shape.rowMajor_val_two, h2, h3, show (y 0).val = 0 by omega, show (y 1).val = 0 by omega]
  simp

variable {V} {D : ℕ → Head} {c : Dev nD}

theorem block0_q (hF : Feeds D (V c main_arg0) (V c main_arg1)) (t : Fin cfg0.N) :
    IsR (a := 640) (b := 128) (iblk0 V c 0 t) fun r d => (D (grid0.coords t 0).val).q (640 * (grid0.coords t 1).val + r) d := by
  intro j
  have h : (grid0.coords t 0).val < 4 := (grid0.coords t 0).isLt
  unfold iblk0
  rw [View.read_apply]
  refine hF.q _ _ _ _ h (j 1).isLt ?_ ?_
  · show win0_0.index t 0 * 640 + 1 * (j 0).val = _
    rw [index0_0 t]; show (grid0.coords t 1).val * 640 + 1 * (j 0).val = _; omega
  · show win0_0.index t 1 * 128 + 1 * (j 1).val = _
    rw [index0_0 t]; show (24 + (grid0.coords t 0).val) * 128 + 1 * (j 1).val = _; omega

theorem block0_k (hF : Feeds D (V c main_arg0) (V c main_arg1)) (t : Fin cfg0.N) :
    IsR (a := 8320) (b := 128) (iblk0 V c 1 t) (D (grid0.coords t 0).val).k := by
  intro j
  have h : (grid0.coords t 0).val < 4 := (grid0.coords t 0).isLt
  unfold iblk0
  rw [View.read_apply]
  refine hF.k _ _ _ _ h (j 1).isLt ?_ ?_
  · show win0_1.index t 0 * 8320 + 1 * (j 0).val = _
    rw [index0_1 t]; show 0 * 8320 + 1 * (j 0).val = _; omega
  · show win0_1.index t 1 * 128 + 1 * (j 1).val = _
    rw [index0_1 t]; show (28 + (grid0.coords t 0).val) * 128 + 1 * (j 1).val = _; omega

theorem block0_v (hF : Feeds D (V c main_arg0) (V c main_arg1)) (t : Fin cfg0.N) :
    IsR (a := 8320) (b := 128) (iblk0 V c 2 t) (D (grid0.coords t 0).val).v := by
  intro j
  have h : (grid0.coords t 0).val < 4 := (grid0.coords t 0).isLt
  unfold iblk0
  rw [View.read_apply]
  refine hF.v _ _ _ _ h (j 1).isLt ?_ ?_
  · show win0_2.index t 0 * 8320 + 1 * (j 0).val = _
    rw [index0_2 t]; show 0 * 8320 + 1 * (j 0).val = _; omega
  · show win0_2.index t 1 * 128 + 1 * (j 1).val = _
    rw [index0_2 t]; show (32 + (grid0.coords t 0).val) * 128 + 1 * (j 1).val = _; omega

/-- What a point leaves in the two staging buffers. -/
theorem outs0 (hF : Feeds D (V c main_arg0) (V c main_arg1)) (hcap : ∀ h, (D h).Capped) (t : Fin cfg0.N) :
    ∃ x7, FInv (D (grid0.coords t 0).val) (grid0.coords t 1).val 0 (outsAt0 V c t.val t.isLt).1
      (shapeCast S640x128 (outsAt0 V c t.val t.isLt).2 shapeCasts_S1x1x640x128_S640x128) x7 := by
  have e := (coords0 t).2
  by_cases h0 : 1 ≤ t.val % 13
  · rw [outsAt0_B V c t h0]
    dsimp only
    unfold out0_B_3 out0_B_4
    obtain ⟨x7, hx⟩ := point0_B (hcap (grid0.coords t 0).val) c (grid0.coords t) (ms0_0 t) (hs0_0 t) (ms0_1 t) (hs0_1 t) (ms0_2 t) (hs0_2 t) (ms0_3 t) (hs0_3 t) (ms0_4 t) (hs0_4 t) scM0_0 (Memref.isWhole_whole _)
      ((hcond0_0 t).mpr h0) (iblk0 V c 0 t) (iblk0 V c 1 t) (iblk0 V c 2 t) (by rw [e]; exact h0) (block0_q hF t) (block0_k hF t) (block0_v hF t)
    refine ⟨x7, ?_⟩
    rw [View.read_writes_of_cover _ _ (ms0_3 t).view (ms0_3 t).view.junk _ (cover0_B_3 c _ _ _ _ _ _ _ _ _ _ _ _ _ _ _ _ _),
      View.read_writes_of_cover _ _ (ms0_4 t).view (ms0_4 t).view.junk _ (cover0_B_4 c _ _ _ _ _ _ _ _ _ _ _ _ _ _ _ _ _)]
    exact hx
  · rw [outsAt0_A V c t h0]
    dsimp only
    unfold out0_A_3 out0_A_4
    obtain ⟨x7, hx⟩ := point0_A (hcap (grid0.coords t 0).val) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) (iblk0 V c 0 t) (iblk0 V c 1 t) (iblk0 V c 2 t) (by omega) (block0_q hF t) (block0_k hF t) (block0_v hF t)
    refine ⟨x7, ?_⟩
    rw [View.read_writes_of_cover _ _ (ms0_3 t).view (ms0_3 t).view.junk _ (cover0_A_3 c _ _ _ _ _ _ _ _ _ _ _ _ _ _ _ _ _),
      View.read_writes_of_cover _ _ (ms0_4 t).view (ms0_4 t).view.junk _ (cover0_A_4 c _ _ _ _ _ _ _ _ _ _ _ _ _ _ _ _ _)]
    exact hx

/-- The outputs. -/
theorem final0_out (hF : Feeds D (V c main_arg0) (V c main_arg1)) (hcap : ∀ h, (D h).Capped) (i : S8320x512.Idx) :
    (dat0 V c).arrAt 3 cfg0.N i = (((D ((i 1).val / 128)).Out (i 0).val ((i 1).val % 128) : ℝ) : EReal) := by
  refine (dat0 V c).arrAt_forall_of_covers 3 (fun i v => v = (((D ((i 1).val / 128)).Out (i 0).val ((i 1).val % 128) : ℝ) : EReal)) (by decide +kernel) (fun t _ y => ?_) i
  have y1 : (y 1).val < 128 := (y 1).isLt
  obtain ⟨x7, hx⟩ := outs0 hF hcap t
  have e0 : (((cfg0.win 3).blk t).view.emb y 0).val = 640 * (grid0.coords t 1).val + (y 0).val := by
    show win0_3.index t 0 * 640 + 1 * (y 0).val = _
    rw [index0_3 t]; show (grid0.coords t 1).val * 640 + 1 * (y 0).val = _; omega
  have e1 : (((cfg0.win 3).blk t).view.emb y 1).val = 128 * (grid0.coords t 0).val + (y 1).val := by
    show win0_3.index t 1 * 128 + 1 * (y 1).val = _
    rw [index0_3 t]; show (grid0.coords t 0).val * 128 + 1 * (y 1).val = _; omega
  rw [e0, e1, show (128 * (grid0.coords t 0).val + (y 1).val) / 128 = (grid0.coords t 0).val by omega, show (128 * (grid0.coords t 0).val + (y 1).val) % 128 = (y 1).val by omega]
  show (dat0 V c).after 3 t y = _
  rw [after0_3]
  refine (hx.out y).trans ?_
  rw [mul_zero, ← range_eq_Ico]
  rfl

/-- The logarithms of what is left of the stick after each block of keys. -/
theorem final0_saved (hF : Feeds D (V c main_arg0) (V c main_arg1)) (hcap : ∀ h, (D h).Capped) (i : S4x13x640x128.Idx) :
    (dat0 V c).arrAt 4 cfg0.N i = (((∑ s ∈ Ico (128 * ((i 3).val + 1)) 8320, (D (i 0).val).L (640 * (i 1).val + (i 2).val) s : ℝ)) : EReal) := by
  refine (dat0 V c).arrAt_forall_of_covers 4 (fun i v => v = (((∑ s ∈ Ico (128 * ((i 3).val + 1)) 8320, (D (i 0).val).L (640 * (i 1).val + (i 2).val) s : ℝ)) : EReal)) (by decide +kernel) (fun t _ y => ?_) i
  obtain ⟨x7, hx⟩ := outs0 hF hcap t
  have y0 : (y 0).val < 1 := (y 0).isLt
  have y1 : (y 1).val < 1 := (y 1).isLt
  have e0 : (((cfg0.win 4).blk t).view.emb y 0).val = (grid0.coords t 0).val := by
    show win0_4.index t 0 * 1 + 1 * (y 0).val = _
    rw [index0_4 t]; show (grid0.coords t 0).val * 1 + 1 * (y 0).val = _; omega
  have e1 : (((cfg0.win 4).blk t).view.emb y 1).val = (grid0.coords t 1).val := by
    show win0_4.index t 1 * 1 + 1 * (y 1).val = _
    rw [index0_4 t]; show (grid0.coords t 1).val * 1 + 1 * (y 1).val = _; omega
  have e2 : (((cfg0.win 4).blk t).view.emb y 2).val = (y 2).val := by
    show win0_4.index t 2 * 640 + 1 * (y 2).val = _
    rw [index0_4 t]; show 0 * 640 + 1 * (y 2).val = _; omega
  have e3 : (((cfg0.win 4).blk t).view.emb y 3).val = (y 3).val := by
    show win0_4.index t 3 * 128 + 1 * (y 3).val = _
    rw [index0_4 t]; show 0 * 128 + 1 * (y 3).val = _; omega
  rw [e0, e1, e2, e3]
  show (dat0 V c).after 4 t y = _
  rw [after0_4]
  rw [← saved_apply (outsAt0 V c t.val t.isLt).2 (ix2 (y 2) (y 3)) y rfl rfl]
  refine (hx.saved (ix2 (y 2) (y 3))).trans ?_
  exact congrArg (fun a : ℝ => (a : EReal)) (if_pos (show 5 * 0 ≤ (y 3).val from by omega))

end Cert.StickBreaking
-- ==== Proof.Trip1.lean ====
module

public import proofs.«01_k».proof.Proof.Step
public import proofs.«01_k».proof.Proof.Gen.KernelIdeal.Frame

/-! One trip of the backward kernel's loop over the groups between the first and the diagonal. -/

@[expose] public section

noncomputable section

namespace Cert.StickBreaking

open Idealize.ShloMosaic Cert.KernelIdeal Cert.KernelIdeal.Gen Idealize.SL.Sem Finset

section pieces
variable {F : FTy → Type} [FloatOps F]

/-- The number of block `w` in the group of trip `k`. -/
def trip1_word (c0_i32_13 c1_i32_15 : BitVec 32) (i : grid1.Coords) (k : Fin (k1_t1_loop i).trips) (w : BitVec 32) : BitVec 32 :=
  Scalar.addi (Scalar.muli (Scalar.addi 1#32 (Scf.iv c0_i32_13 c1_i32_15 k)) 5#32) w

variable (𝒱 : Variants) (c : Dev nD) (bd : Option 𝒱.V) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (arg1 : BitVec 32) (v10 : FVec F S640x128 .bf16) (v12 : FVec F S640x128 .bf16) (v13 : IVec S640x128 32) (v19 : FVec F S128x128 .bf16) (v23 : FVec F S128x128 .bf16) (c0_i32_13 : BitVec 32) (v33 : BitVec 32) (c1_i32_15 : BitVec 32) (X_arg3 : BufTy.Contents (Elt F) arg3.view.ty) (X_arg4 : BufTy.Contents (Elt F) arg4.view.ty) (X_arg5 : BufTy.Contents (Elt F) arg5.view.ty) (k : Fin (k1_t1_loop i).trips) (f7 : BufTy.Contents (Elt F) arg7.view.ty) (f8 : BufTy.Contents (Elt F) arg8.view.ty) (f9 : BufTy.Contents (Elt F) arg9.view.ty) (f10 : BufTy.Contents (Elt F) arg10.view.ty)

theorem trip1_dq : (trip_k1_t1 (F := F) 𝒱 c bd i arg2 harg2 arg3 harg3 arg4 harg4 arg5 harg5 arg6 harg6 arg7 harg7 arg8 harg8 arg9 harg9 arg10 harg10 arg1 v10 v12 v13 v19 v23 c0_i32_13 v33 c1_i32_15 X_arg3 X_arg4 X_arg5 k).1 f7 f8 f9 f10 = [⟨(Rect.unit (s := S640x128) ![0, 0] S640x128.size inb_S640x128_S640x128_0_0), (groupDq id v10 v12 v19 v23 v13 (trip1_word c0_i32_13 c1_i32_15 i k 0#32) (trip1_word c0_i32_13 c1_i32_15 i k 1#32) (trip1_word c0_i32_13 c1_i32_15 i k 2#32) (trip1_word c0_i32_13 c1_i32_15 i k 3#32) (trip1_word c0_i32_13 c1_i32_15 i k 4#32) (arg3.view.readAt (Elt F) (Rect.unit (s := S8320x128) (k1_off1 i k) S640x128.size (k1_off1_inb i k)).toLoadRect X_arg3) (arg4.view.readAt (Elt F) (Rect.unit (s := S8320x128) (k1_off1 i k) S640x128.size (k1_off1_inb i k)).toLoadRect X_arg4) (shapeCast S640x128 (arg5.view.readAt (Elt F) (Rect.unit (s := S1x1x640x128) ![0, 0, 0, 0] S1x1x640x128.size inb_S1x1x640x128_S1x1x640x128_0_0_0_0).toLoadRect X_arg5) shapeCasts_S1x1x640x128_S640x128) (arg10.view.readAt (Elt F) (Rect.unit (s := S640x128) ![0, 0] S640x128.size inb_S640x128_S640x128_0_0).toLoadRect f10) (arg7.view.readAt (Elt F) (Rect.unit (s := S640x128) ![0, 0] S640x128.size inb_S640x128_S640x128_0_0).toLoadRect f7))⟩] := by
  unfold trip_k1_t1
  dsimp only
  congr 1

theorem trip1_dk : (trip_k1_t1 (F := F) 𝒱 c bd i arg2 harg2 arg3 harg3 arg4 harg4 arg5 harg5 arg6 harg6 arg7 harg7 arg8 harg8 arg9 harg9 arg10 harg10 arg1 v10 v12 v13 v19 v23 c0_i32_13 v33 c1_i32_15 X_arg3 X_arg4 X_arg5 k).2.1 f7 f8 f9 f10 = [⟨(Rect.unit (s := S8320x128) (k1_off1 i k) S640x128.size (k1_off1_inb i k)), (groupDk id v10 v12 v19 v23 v13 (trip1_word c0_i32_13 c1_i32_15 i k 0#32) (trip1_word c0_i32_13 c1_i32_15 i k 1#32) (trip1_word c0_i32_13 c1_i32_15 i k 2#32) (trip1_word c0_i32_13 c1_i32_15 i k 3#32) (trip1_word c0_i32_13 c1_i32_15 i k 4#32) (arg3.view.readAt (Elt F) (Rect.unit (s := S8320x128) (k1_off1 i k) S640x128.size (k1_off1_inb i k)).toLoadRect X_arg3) (arg4.view.readAt (Elt F) (Rect.unit (s := S8320x128) (k1_off1 i k) S640x128.size (k1_off1_inb i k)).toLoadRect X_arg4) (shapeCast S640x128 (arg5.view.readAt (Elt F) (Rect.unit (s := S1x1x640x128) ![0, 0, 0, 0] S1x1x640x128.size inb_S1x1x640x128_S1x1x640x128_0_0_0_0).toLoadRect X_arg5) shapeCasts_S1x1x640x128_S640x128) (arg10.view.readAt (Elt F) (Rect.unit (s := S640x128) ![0, 0] S640x128.size inb_S640x128_S640x128_0_0).toLoadRect f10) (arg8.view.readAt (Elt F) (Rect.unit (s := S8320x128) (k1_off1 i k) S640x128.size (k1_off1_inb i k)).toLoadRect f8))⟩] := by
  unfold trip_k1_t1
  dsimp only
  congr 1

theorem trip1_dv : (trip_k1_t1 (F := F) 𝒱 c bd i arg2 harg2 arg3 harg3 arg4 harg4 arg5 harg5 arg6 harg6 arg7 harg7 arg8 harg8 arg9 harg9 arg10 harg10 arg1 v10 v12 v13 v19 v23 c0_i32_13 v33 c1_i32_15 X_arg3 X_arg4 X_arg5 k).2.2.1 f7 f8 f9 f10 = [⟨(Rect.unit (s := S8320x128) (k1_off1 i k) S640x128.size (k1_off1_inb i k)), (groupDv id v10 v12 v19 v13 (trip1_word c0_i32_13 c1_i32_15 i k 0#32) (trip1_word c0_i32_13 c1_i32_15 i k 1#32) (trip1_word c0_i32_13 c1_i32_15 i k 2#32) (trip1_word c0_i32_13 c1_i32_15 i k 3#32) (trip1_word c0_i32_13 c1_i32_15 i k 4#32) (arg3.view.readAt (Elt F) (Rect.unit (s := S8320x128) (k1_off1 i k) S640x128.size (k1_off1_inb i k)).toLoadRect X_arg3) (shapeCast S640x128 (arg5.view.readAt (Elt F) (Rect.unit (s := S1x1x640x128) ![0, 0, 0, 0] S1x1x640x128.size inb_S1x1x640x128_S1x1x640x128_0_0_0_0).toLoadRect X_arg5) shapeCasts_S1x1x640x128_S640x128) (arg9.view.readAt (Elt F) (Rect.unit (s := S8320x128) (k1_off1 i k) S640x128.size (k1_off1_inb i k)).toLoadRect f9))⟩] := by
  unfold trip_k1_t1
  dsimp only
  congr 1

theorem trip1_gp : (trip_k1_t1 (F := F) 𝒱 c bd i arg2 harg2 arg3 harg3 arg4 harg4 arg5 harg5 arg6 harg6 arg7 harg7 arg8 harg8 arg9 harg9 arg10 harg10 arg1 v10 v12 v13 v19 v23 c0_i32_13 v33 c1_i32_15 X_arg3 X_arg4 X_arg5 k).2.2.2.1 f7 f8 f9 f10 = [⟨(Rect.unit (s := S640x128) ![0, 0] S640x128.size inb_S640x128_S640x128_0_0), (shapeCast S640x128 (groupGp id v10 v12 v19 v23 v13 (trip1_word c0_i32_13 c1_i32_15 i k 0#32) (trip1_word c0_i32_13 c1_i32_15 i k 1#32) (trip1_word c0_i32_13 c1_i32_15 i k 2#32) (trip1_word c0_i32_13 c1_i32_15 i k 3#32) (trip1_word c0_i32_13 c1_i32_15 i k 4#32) (arg3.view.readAt (Elt F) (Rect.unit (s := S8320x128) (k1_off1 i k) S640x128.size (k1_off1_inb i k)).toLoadRect X_arg3) (arg4.view.readAt (Elt F) (Rect.unit (s := S8320x128) (k1_off1 i k) S640x128.size (k1_off1_inb i k)).toLoadRect X_arg4) (shapeCast S640x128 (arg5.view.readAt (Elt F) (Rect.unit (s := S1x1x640x128) ![0, 0, 0, 0] S1x1x640x128.size inb_S1x1x640x128_S1x1x640x128_0_0_0_0).toLoadRect X_arg5) shapeCasts_S1x1x640x128_S640x128) (arg10.view.readAt (Elt F) (Rect.unit (s := S640x128) ![0, 0] S640x128.size inb_S640x128_S640x128_0_0).toLoadRect f10)) shapeCasts_S640x128_S640x128)⟩] := by
  unfold trip_k1_t1
  dsimp only
  congr 1

end pieces

end Cert.StickBreaking
-- ==== Proof.Loop1.lean ====
module

public import proofs.«01_k».proof.Proof.Trip1

/-! The backward kernel's loop over the groups between the first and the diagonal. -/

@[expose] public section

noncomputable section

namespace Cert.StickBreaking

open Idealize.ShloMosaic Cert.KernelIdeal Cert.KernelIdeal.Gen Idealize.SL.Sem Finset

/-- The loop runs once for every group between the first and the diagonal. -/
theorem loop1_trips : ∀ i : grid1.Coords, (k1_t1_loop i).trips = (i 1).val - 1 := by decide +kernel
/-- No trips are left over. -/
theorem loop1_rest : ∀ i : grid1.Coords, (k1_t2_loop i).trips = 0 := by decide +kernel
/-- Trip `k` reads and writes the rows of group `k + 1`. -/
theorem loop1_off : ∀ (i : grid1.Coords) (k : Fin (k1_t1_loop i).trips), k1_off1 i k = ![640 * (k.val + 1), 0] := by decide +kernel
/-- The blocks of trip `k` are those of group `k + 1`. -/
theorem loop1_word : ∀ (i : grid1.Coords) (k : Fin (k1_t1_loop i).trips) (w : Fin 5),
    trip1_word 0#32 1#32 i k (BitVec.ofNat 32 w.val) = BitVec.ofNat 32 (5 * (k.val + 1) + w.val) := by decide +kernel

/-- After the loop's first `m` trips the groups up to `m` are done. -/
theorem loop1 {D : Head} (hcap : D.Capped) (𝒱 : Variants) (c : Dev nD) (bd : Option 𝒱.V) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (arg1 : BitVec 32) (v10 : FVec Ideal S640x128 .bf16) (v12 : FVec Ideal S640x128 .bf16) (v13 : IVec S640x128 32) (v19 : FVec Ideal S128x128 .bf16) (v23 : FVec Ideal S128x128 .bf16)  (v33 : BitVec 32)  (X_arg3 : BufTy.Contents (Elt Ideal) arg3.view.ty) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (G_arg9 : BufTy.Contents (Elt Ideal) arg9.view.ty) (G_arg10 : BufTy.Contents (Elt Ideal) arg10.view.ty)
    (hq : IsR v10 fun r d => D.q (640 * (i 1).val + r) d) (ho : IsR v12 fun r d => D.o (640 * (i 1).val + r) d)
    (hlane : ∀ j, v13 j = BitVec.ofNat 32 (j 1).val) (htri : IsR v19 fun a b => if b ≤ a then 1 else 0) (hpre : IsR v23 fun a b => if a ≤ b then 1 else 0)
    (hk : IsR (arg3.view.read (Elt Ideal) X_arg3) D.k) (hv : IsR (arg4.view.read (Elt Ideal) X_arg4) D.v)
    (hs : IsR (shapeCast S640x128 (arg5.view.read (Elt Ideal) X_arg5) shapeCasts_S1x1x640x128_S640x128)
      fun r j => ∑ a ∈ Ico (128 * (j + 1)) 8320, D.L (640 * (i 1).val + r) a)
    (h : BInv D (i 1).val (0 + 1) (arg7.view.read (Elt Ideal) (arg7.view.writes (Elt Ideal) G_arg7 [])) (arg8.view.read (Elt Ideal) (arg8.view.writes (Elt Ideal) G_arg8 [])) (arg9.view.read (Elt Ideal) (arg9.view.writes (Elt Ideal) G_arg9 [])) (arg10.view.read (Elt Ideal) (arg10.view.writes (Elt Ideal) G_arg10 []))) :
    ∀ m, m ≤ (k1_t1_loop i).trips → BInv D (i 1).val (m + 1) (arg7.view.read (Elt Ideal) (arg7.view.writes (Elt Ideal) G_arg7 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1)) (arg8.view.read (Elt Ideal) (arg8.view.writes (Elt Ideal) G_arg8 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1)) (arg9.view.read (Elt Ideal) (arg9.view.writes (Elt Ideal) G_arg9 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1)) (arg10.view.read (Elt Ideal) (arg10.view.writes (Elt Ideal) G_arg10 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2))
  | 0, _ => h
  | m + 1, hm => by
    have ih := loop1 hcap 𝒱 c bd i arg2 harg2 arg3 harg3 arg4 harg4 arg5 harg5 arg6 harg6 arg7 harg7 arg8 harg8 arg9 harg9 arg10 harg10 arg1 v10 v12 v13 v19 v23 v33 X_arg3 X_arg4 X_arg5 G_arg7 G_arg8 G_arg9 G_arg10 hq ho hlane htri hpre hk hv hs h m (Nat.le_of_succ_le hm)
    have ht : (i 1).val < 13 := (i 1).isLt
    have hlt : m < (i 1).val - 1 := by rw [← loop1_trips i]; exact hm
    have hn : m + 1 < 13 := by omega
    have hoff := loop1_off i ⟨m, hm⟩
    have hw := loop1_word i ⟨m, hm⟩
    rw [pb_k1_t1_succ (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 ⟨m, hm⟩]
    show BInv D (i 1).val (m + 1 + 1) (arg7.view.read (Elt Ideal) (arg7.view.writes (Elt Ideal) G_arg7 ((trip_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 ⟨m, hm⟩).1 (arg7.view.writes (Elt Ideal) G_arg7 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1) (arg8.view.writes (Elt Ideal) G_arg8 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1) (arg9.view.writes (Elt Ideal) G_arg9 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1) (arg10.view.writes (Elt Ideal) G_arg10 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2) ++ (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1))) (arg8.view.read (Elt Ideal) (arg8.view.writes (Elt Ideal) G_arg8 ((trip_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 ⟨m, hm⟩).2.1 (arg7.view.writes (Elt Ideal) G_arg7 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1) (arg8.view.writes (Elt Ideal) G_arg8 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1) (arg9.view.writes (Elt Ideal) G_arg9 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1) (arg10.view.writes (Elt Ideal) G_arg10 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2) ++ (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1))) (arg9.view.read (Elt Ideal) (arg9.view.writes (Elt Ideal) G_arg9 ((trip_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 ⟨m, hm⟩).2.2.1 (arg7.view.writes (Elt Ideal) G_arg7 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1) (arg8.view.writes (Elt Ideal) G_arg8 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1) (arg9.view.writes (Elt Ideal) G_arg9 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1) (arg10.view.writes (Elt Ideal) G_arg10 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2) ++ (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1))) (arg10.view.read (Elt Ideal) (arg10.view.writes (Elt Ideal) G_arg10 ((trip_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 ⟨m, hm⟩).2.2.2.1 (arg7.view.writes (Elt Ideal) G_arg7 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).1) (arg8.view.writes (Elt Ideal) G_arg8 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.1) (arg9.view.writes (Elt Ideal) G_arg9 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.1) (arg10.view.writes (Elt Ideal) G_arg10 (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2) ++ (pb_k1_t1 (F := Ideal) 𝒱 c bd i arg2 harg2 arg3 harg3 arg4 harg4 arg5 harg5 arg6 harg6 arg7 harg7 arg8 harg8 arg9 harg9 arg10 harg10 arg1 v10 v12 v13 v19 v23 0#32 v33 1#32 X_arg3 X_arg4 X_arg5 G_arg7 G_arg8 G_arg9 G_arg10 m).2.2.2)))
    rw [View.writes_append, View.writes_append, View.writes_append, View.writes_append, trip1_dq, trip1_dk, trip1_dv, trip1_gp]
    exact BInv.store ht hn hcap (isMk_id (by omega) (by omega)) htri hpre hlane (hw 0) (hw 1) (hw 2) (hw 3) (hw 4) hq ho
      (by rw [readAt_saved]; exact hs) hk hv ih hoff _ _

end Cert.StickBreaking
-- ==== Proof.Point1.lean ====
module

public import proofs.«01_k».proof.Proof.Loop1
public import proofs.«01_k».proof.Proof.Const
public import proofs.«01_k».proof.Proof.Gen.KernelIdeal.Frame
import all proofs.«01_k».proof.Proof.Gen.KernelIdeal.Frame

/-! One point of the backward kernel: all groups of one tile of queries. -/

@[expose] public section

noncomputable section

namespace Cert.StickBreaking

open Idealize.ShloMosaic Cert.KernelIdeal Cert.KernelIdeal.Gen Idealize.SL.Sem Finset

section lists
variable {F : FTy → Type} [FloatOps F]

/-- What the first group stores in the keys' gradient. -/
def b1L8 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : List (View.Piece (Elt F) S8320x128 .f32) := [⟨(Rect.unit (s := S8320x128) ![0, 0] S640x128.size inb_S8320x128_S640x128_0_0), k1_pay115 (arg2.view.readAt (Elt F) (Rect.unit (s := S640x128) ![0, 0] S640x128.size inb_S640x128_S640x128_0_0).toLoadRect (harg2.unread x0)) (kernelRun1_B.sl.r_2 i) (kernelRun1_B.sl.r_3 (F := F) c arg2 harg2 arg3 harg3 x0 x1) (kernelRun1_B.sl.r_4 (F := F) c i arg2 harg2 arg3 harg3 x0 x1) (kernelRun1_B.sl.r_18 (F := F) c i arg2 harg2 arg3 harg3 arg4 harg4 arg5 harg5 arg6 harg6 x0 x1 x2 x3 x4) (kernelRun1_B.sl.r_22 (F := F) c i arg2 harg2 arg3 harg3 arg4 harg4 arg5 harg5 arg6 harg6 x0 x1 x2 x3 x4) (kernelRun1_B.sl.r_23 (F := F) c i arg2 harg2 arg3 harg3 arg4 harg4 arg5 harg5 arg6 harg6 x0 x1 x2 x3 x4) (kernelRun1_B.sl.r_24 (F := F) c i arg2 harg2 arg3 harg3 arg4 harg4 arg5 harg5 arg6 harg6 arg10 x0 x1 x2 x3 x4) (kernelRun1_B.sl.r_25 (F := F) c i arg2 harg2 arg3 harg3 arg4 harg4 arg5 harg5 arg6 harg6 arg10 x0 x1 x2 x3 x4) (kernelRun1_B.sl.r_26 (F := F) c i arg2 harg2 arg3 harg3 arg4 harg4 arg5 harg5 arg6 harg6 arg10 x0 x1 x2 x3 x4) (kernelRun1_B.sl.r_27 (F := F) c i arg2 harg2 arg3 harg3 arg4 harg4 arg5 harg5 arg6 harg6 arg10 x0 x1 x2 x3 x4) (kernelRun1_B.sl.r_28 (F := F) c i arg2 harg2 arg3 harg3 arg4 harg4 arg5 harg5 arg6 harg6 arg10 x0 x1 x2 x3 x4) (arg8.view.readAt (Elt F) (Rect.unit (s := S8320x128) ![0, 0] S640x128.size inb_S8320x128_S640x128_0_0).toLoadRect (harg8.unread xo6))⟩]
/-- What the first group stores in the values' gradient. -/
def b1L9 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : List (View.Piece (Elt F) S8320x128 .f32) := [⟨(Rect.unit (s := S8320x128) ![0, 0] S640x128.size inb_S8320x128_S640x128_0_0), k1_pay22 (k1_pay110 (arg6.view.readAt (Elt F) (Rect.unit (s := S640x128) ![0, 0] S640x128.size inb_S640x128_S640x128_0_0).toLoadRect (harg6.unread x4))) kernelRun1_B.sl.v13 (kernelRun1_B.sl.r_2 i) (kernelRun1_B.sl.r_3 (F := F) c arg2 harg2 arg3 harg3 x0 x1) (kernelRun1_B.sl.r_8 (F := F) c i arg2 harg2 arg3 harg3 x0 x1) (kernelRun1_B.sl.r_11 (F := F) c i arg2 harg2 arg3 harg3 x0 x1) (kernelRun1_B.sl.r_12 (F := F) c i arg2 harg2 arg3 harg3 x0 x1) (kernelRun1_B.sl.r_13 (F := F) c i arg2 harg2 arg3 harg3 x0 x1) (kernelRun1_B.sl.r_14 (F := F) c i arg2 harg2 arg3 harg3 x0 x1) (kernelRun1_B.sl.r_15 (F := F) c arg5 harg5 x3) (kernelRun1_B.sl.r_16 (F := F) c arg5 harg5 x3) (kernelRun1_B.sl.r_17 (F := F) c arg5 harg5 x3) (k1_pay19 kernelRun1_B.sl.v13) k1_pay20 (arg9.view.readAt (Elt F) (Rect.unit (s := S8320x128) ![0, 0] S640x128.size inb_S8320x128_S640x128_0_0).toLoadRect (harg9.unread xo7))⟩]
/-- What the loop stores. -/
def b1P1 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) := (pb_k1_t1 (F := F) Variants.none c none i arg2 harg2 arg3 harg3 arg4 harg4 arg5 harg5 arg6 harg6 arg7 harg7 arg8 harg8 arg9 harg9 arg10 harg10 (BitVec.ofNat 32 (i 1).val) (kernelRun1_B.sl.r_29 (F := F) c arg2 harg2 x0) (kernelRun1_B.sl.r_30 (F := F) c arg6 harg6 x4) kernelRun1_B.sl.v13 k1_pay111 k1_pay112 0#32 (kernelRun1_B.sl.v33 i) 1#32 (harg3.unread x1) (harg4.unread x2) (harg5.unread x3) (arg7.view.writes (Elt F) arg7.view.junk (kernelRun1_B.sl.H5_2 (F := F) c i arg2 harg2 arg3 harg3 arg4 harg4 arg5 harg5 arg6 harg6 arg7 arg10 x0 x1 x2 x3 x4)) (arg8.view.writes (Elt F) (harg8.unread xo6) (b1L8 c i arg2 harg2 arg3 harg3 arg4 harg4 arg5 harg5 arg6 harg6 arg7 harg7 arg8 harg8 arg9 harg9 arg10 harg10 x0 x1 x2 x3 x4 xo6 xo7)) (arg9.view.writes (Elt F) (harg9.unread xo7) (b1L9 c i arg2 harg2 arg3 harg3 arg4 harg4 arg5 harg5 arg6 harg6 arg7 harg7 arg8 harg8 arg9 harg9 arg10 harg10 x0 x1 x2 x3 x4 xo6 xo7)) (arg10.view.writes (Elt F) arg10.view.junk (kernelRun1_B.sl.HS0_2 (F := F) c i arg2 harg2 arg3 harg3 arg4 harg4 arg5 harg5 arg6 harg6 arg10 x0 x1 x2 x3 x4)) (Scf.trips (k1_t1_loop i).lb (k1_t1_loop i).ub (k1_t1_loop i).st))
/-- What the rest of the loop stores. -/
def b1P2 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) := (pb_k1_t2 (F := F) Variants.none c none i arg2 harg2 arg3 harg3 arg4 harg4 arg5 harg5 arg6 harg6 arg7 harg7 arg8 harg8 arg9 harg9 arg10 harg10 (BitVec.ofNat 32 (i 1).val) (kernelRun1_B.sl.r_29 (F := F) c arg2 harg2 x0) (kernelRun1_B.sl.r_30 (F := F) c arg6 harg6 x4) kernelRun1_B.sl.v13 k1_pay111 k1_pay112 0#32 (kernelRun1_B.sl.v33 i) 1#32 (harg3.unread x1) (harg4.unread x2) (harg5.unread x3) (arg7.view.writes (Elt F) arg7.view.junk ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4))) (arg8.view.writes (Elt F) (harg8.unread xo6) ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))) (arg9.view.writes (Elt F) (harg9.unread xo7) ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))) (arg10.view.writes (Elt F) arg10.view.junk ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := F) c i arg2 harg2 arg3 harg3 arg4 harg4 arg5 harg5 arg6 harg6 arg10 x0 x1 x2 x3 x4))) (Scf.trips (k1_t2_loop i).lb (k1_t2_loop i).ub (k1_t2_loop i).st))

end lists

/-- Nothing done yet in the second tile or a later one. -/
theorem point1_zero {D : Head} (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec Ideal S640x128 .f32) (x1 : Vec Ideal S8320x128 .f32) (x2 : Vec Ideal S8320x128 .f32) (x3 : Vec Ideal S1x1x640x128 .f32) (x4 : Vec Ideal S640x128 .f32) (xo6 : Vec Ideal S8320x128 .f32) (xo7 : Vec Ideal S8320x128 .f32)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d)
    (h6 : IsR xo6 fun s d => ∑ u ∈ range (640 * (i 1).val), D.DZ u s * D.q u d)
    (h7 : IsR xo7 fun s d => ∑ u ∈ range (640 * (i 1).val), D.W u s * D.o u d) :
    BInv D (i 1).val (0) (arg7.view.read (Elt Ideal) (arg7.view.writes (Elt Ideal) arg7.view.junk (kernelRun1_B.sl.H5_1 (F := Ideal) ))) (arg8.view.read (Elt Ideal) (arg8.view.writes (Elt Ideal) (harg8.unread xo6) [])) (arg9.view.read (Elt Ideal) (arg9.view.writes (Elt Ideal) (harg9.unread xo7) [])) (arg10.view.read (Elt Ideal) (arg10.view.writes (Elt Ideal) arg10.view.junk (kernelRun1_B.sl.HS0_1 (F := Ideal) ))) := by
  refine ⟨?_, ?_, ?_, ?_⟩
  · refine IsR.congr (f := fun _ _ => 0) ?_ fun r d _ _ => by simp
    intro j
    show arg7.view.read (Elt Ideal) (arg7.view.writes (Elt Ideal) arg7.view.junk (⟨(Rect.unit (s := S640x128) ![0, 0] S640x128.size inb_S640x128_S640x128_0_0), _⟩ :: [])) j = _
    rw [read_tile]
    exact ofBits_zero
  · rw [View.writes_nil, Memref.IsWhole.read_unread]
    exact h6.congr fun s d _ _ => by simp
  · rw [View.writes_nil, Memref.IsWhole.read_unread]
    exact h7.congr fun s d _ _ => by simp
  · refine IsR.congr (f := fun _ _ => 0) ?_ fun r d _ _ => by simp
    intro j
    show arg10.view.read (Elt Ideal) (arg10.view.writes (Elt Ideal) arg10.view.junk (⟨(Rect.unit (s := S640x128) ![0, 0] S640x128.size inb_S640x128_S640x128_0_0), _⟩ :: [])) j = _
    rw [read_tile]
    exact ofBits_zero

/-- After the first group. -/
theorem point1_first {D : Head} (hcap : D.Capped) (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec Ideal S640x128 .f32) (x1 : Vec Ideal S8320x128 .f32) (x2 : Vec Ideal S8320x128 .f32) (x3 : Vec Ideal S1x1x640x128 .f32) (x4 : Vec Ideal S640x128 .f32) (xo6 : Vec Ideal S8320x128 .f32) (xo7 : Vec Ideal S8320x128 .f32) (hi : 1 ≤ (i 1).val)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d)
    (h6 : IsR xo6 fun s d => ∑ u ∈ range (640 * (i 1).val), D.DZ u s * D.q u d)
    (h7 : IsR xo7 fun s d => ∑ u ∈ range (640 * (i 1).val), D.W u s * D.o u d) :
    BInv D (i 1).val (0 + 1) (arg7.view.read (Elt Ideal) (arg7.view.writes (Elt Ideal) arg7.view.junk (kernelRun1_B.sl.H5_2 (F := Ideal) c i arg2 harg2 arg3 harg3 arg4 harg4 arg5 harg5 arg6 harg6 arg7 arg10 x0 x1 x2 x3 x4))) (arg8.view.read (Elt Ideal) (arg8.view.writes (Elt Ideal) (harg8.unread xo6) (b1L8 c i arg2 harg2 arg3 harg3 arg4 harg4 arg5 harg5 arg6 harg6 arg7 harg7 arg8 harg8 arg9 harg9 arg10 harg10 x0 x1 x2 x3 x4 xo6 xo7))) (arg9.view.read (Elt Ideal) (arg9.view.writes (Elt Ideal) (harg9.unread xo7) (b1L9 c i arg2 harg2 arg3 harg3 arg4 harg4 arg5 harg5 arg6 harg6 arg7 harg7 arg8 harg8 arg9 harg9 arg10 harg10 x0 x1 x2 x3 x4 xo6 xo7))) (arg10.view.read (Elt Ideal) (arg10.view.writes (Elt Ideal) arg10.view.junk (kernelRun1_B.sl.HS0_2 (F := Ideal) c i arg2 harg2 arg3 harg3 arg4 harg4 arg5 harg5 arg6 harg6 arg10 x0 x1 x2 x3 x4))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have e5 : IsR (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128) fun r j => ∑ a ∈ Ico (128 * (j + 1)) 8320, D.L (640 * (i 1).val + r) a := by rw [readAt_saved, Memref.IsWhole.read_unread]; exact hs
  have eq : IsR (kernelRun1_B.sl.r_29 (F := Ideal) c arg2 harg2 x0) fun r d => D.q (640 * (i 1).val + r) d := fun j => by
    have h := hq j
    rw [← Memref.IsWhole.read_unread harg2 x0, ← readAt_tile] at h
    exact h
  have eo : IsR (kernelRun1_B.sl.r_30 (F := Ideal) c arg6 harg6 x4) fun r d => D.o (640 * (i 1).val + r) d := fun j => by
    have h := ho j
    rw [← Memref.IsWhole.read_unread harg6 x4, ← readAt_tile] at h
    exact h

  exact BInv.store_cons (L7 := (kernelRun1_B.sl.H5_1 (F := Ideal) )) (L8 := []) (L9 := []) (L10 := (kernelRun1_B.sl.HS0_1 (F := Ideal) )) (n := 0) (mk := masked (maskV (BitVec.ofNat 32 (i 1).val) 0#32)) (q := (kernelRun1_B.sl.r_29 (F := Ideal) c arg2 harg2 x0)) (o := (kernelRun1_B.sl.r_30 (F := Ideal) c arg6 harg6 x4)) (tri := triV) (pre := preV) (lane := lanesV)
    (j0 := 0#32) (j1 := 1#32) (j2 := 2#32) (j3 := 3#32) (j4 := 4#32) (s := (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128)) (X3 := harg3.unread x1) (X4 := harg4.unread x2)
    (f7 := arg7.view.junk) (f8 := harg8.unread xo6) (f9 := harg9.unread xo7) (f10 := arg10.view.junk)
    ht (by omega) hcap (isMk_masked (isM_maskV ht (by omega) rfl rfl)) isR_triV isR_preV lanesV_apply rfl rfl rfl rfl rfl eq eo e5 e3 e4
    (point1_zero c i arg2 harg2 arg3 harg3 arg4 harg4 arg5 harg5 arg6 harg6 arg7 harg7 arg8 harg8 arg9 harg9 arg10 harg10 x0 x1 x2 x3 x4 xo6 xo7 hq hk hv hs ho h6 h7) (off := ![0, 0]) rfl inb_S8320x128_S640x128_0_0 inb_S640x128_S640x128_0_0

theorem point1_rest (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec Ideal S640x128 .f32) (x1 : Vec Ideal S8320x128 .f32) (x2 : Vec Ideal S8320x128 .f32) (x3 : Vec Ideal S1x1x640x128 .f32) (x4 : Vec Ideal S640x128 .f32) (xo6 : Vec Ideal S8320x128 .f32) (xo7 : Vec Ideal S8320x128 .f32) : b1P2 (F := Ideal) c i arg2 harg2 arg3 harg3 arg4 harg4 arg5 harg5 arg6 harg6 arg7 harg7 arg8 harg8 arg9 harg9 arg10 harg10 x0 x1 x2 x3 x4 xo6 xo7 = ([], [], [], []) := by
  unfold b1P2
  rw [show Scf.trips (k1_t2_loop i).lb (k1_t2_loop i).ub (k1_t2_loop i).st = 0 from loop1_rest i]
  rfl

/-- After the loop. -/
theorem point1_loop {D : Head} (hcap : D.Capped) (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec Ideal S640x128 .f32) (x1 : Vec Ideal S8320x128 .f32) (x2 : Vec Ideal S8320x128 .f32) (x3 : Vec Ideal S1x1x640x128 .f32) (x4 : Vec Ideal S640x128 .f32) (xo6 : Vec Ideal S8320x128 .f32) (xo7 : Vec Ideal S8320x128 .f32) (hi : 1 ≤ (i 1).val)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d)
    (h6 : IsR xo6 fun s d => ∑ u ∈ range (640 * (i 1).val), D.DZ u s * D.q u d)
    (h7 : IsR xo7 fun s d => ∑ u ∈ range (640 * (i 1).val), D.W u s * D.o u d) :
    BInv D (i 1).val ((i 1).val) (arg7.view.read (Elt Ideal) (arg7.view.writes (Elt Ideal) arg7.view.junk ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := Ideal) c i arg2 harg2 arg3 harg3 arg4 harg4 arg5 harg5 arg6 harg6 arg7 arg10 x0 x1 x2 x3 x4))))) (arg8.view.read (Elt Ideal) (arg8.view.writes (Elt Ideal) (harg8.unread xo6) ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))))) (arg9.view.read (Elt Ideal) (arg9.view.writes (Elt Ideal) (harg9.unread xo7) ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))))) (arg10.view.read (Elt Ideal) (arg10.view.writes (Elt Ideal) arg10.view.junk ((b1P2 c i arg2 harg2 arg3 harg3 arg4 harg4 arg5 harg5 arg6 harg6 arg7 harg7 arg8 harg8 arg9 harg9 arg10 harg10 x0 x1 x2 x3 x4 xo6 xo7).2.2.2 ++ ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := Ideal) c i arg2 harg2 arg3 harg3 arg4 harg4 arg5 harg5 arg6 harg6 arg10 x0 x1 x2 x3 x4))))) := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have e5 : IsR (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128) fun r j => ∑ a ∈ Ico (128 * (j + 1)) 8320, D.L (640 * (i 1).val + r) a := by rw [readAt_saved, Memref.IsWhole.read_unread]; exact hs
  have eq : IsR (kernelRun1_B.sl.r_29 (F := Ideal) c arg2 harg2 x0) fun r d => D.q (640 * (i 1).val + r) d := fun j => by
    have h := hq j
    rw [← Memref.IsWhole.read_unread harg2 x0, ← readAt_tile] at h
    exact h
  have eo : IsR (kernelRun1_B.sl.r_30 (F := Ideal) c arg6 harg6 x4) fun r d => D.o (640 * (i 1).val + r) d := fun j => by
    have h := ho j
    rw [← Memref.IsWhole.read_unread harg6 x4, ← readAt_tile] at h
    exact h

  have b1 := point1_first hcap c i arg2 harg2 arg3 harg3 arg4 harg4 arg5 harg5 arg6 harg6 arg7 harg7 arg8 harg8 arg9 harg9 arg10 harg10 x0 x1 x2 x3 x4 xo6 xo7 hi hq hk hv hs ho h6 h7
  have b2 := loop1 hcap Variants.none c none i arg2 harg2 arg3 harg3 arg4 harg4 arg5 harg5 arg6 harg6 arg7 harg7 arg8 harg8 arg9 harg9 arg10 harg10 (BitVec.ofNat 32 (i 1).val) (kernelRun1_B.sl.r_29 (F := Ideal) c arg2 harg2 x0) (kernelRun1_B.sl.r_30 (F := Ideal) c arg6 harg6 x4) kernelRun1_B.sl.v13 k1_pay111 k1_pay112 (kernelRun1_B.sl.v33 i) (harg3.unread x1) (harg4.unread x2) (harg5.unread x3) (arg7.view.writes (Elt Ideal) arg7.view.junk (kernelRun1_B.sl.H5_2 (F := Ideal) c i arg2 harg2 arg3 harg3 arg4 harg4 arg5 harg5 arg6 harg6 arg7 arg10 x0 x1 x2 x3 x4)) (arg8.view.writes (Elt Ideal) (harg8.unread xo6) (b1L8 c i arg2 harg2 arg3 harg3 arg4 harg4 arg5 harg5 arg6 harg6 arg7 harg7 arg8 harg8 arg9 harg9 arg10 harg10 x0 x1 x2 x3 x4 xo6 xo7)) (arg9.view.writes (Elt Ideal) (harg9.unread xo7) (b1L9 c i arg2 harg2 arg3 harg3 arg4 harg4 arg5 harg5 arg6 harg6 arg7 harg7 arg8 harg8 arg9 harg9 arg10 harg10 x0 x1 x2 x3 x4 xo6 xo7)) (arg10.view.writes (Elt Ideal) arg10.view.junk (kernelRun1_B.sl.HS0_2 (F := Ideal) c i arg2 harg2 arg3 harg3 arg4 harg4 arg5 harg5 arg6 harg6 arg10 x0 x1 x2 x3 x4))
    eq eo lanesV_apply isR_triV isR_preV e3 e4 (by rw [readAt_saved] at e5; exact e5) (by rw [View.writes_nil, View.writes_nil, View.writes_nil, View.writes_nil]; exact b1) (Scf.trips (k1_t1_loop i).lb (k1_t1_loop i).ub (k1_t1_loop i).st) (le_refl (k1_t1_loop i).trips)
  unfold b1P1
  rw [point1_rest, List.nil_append, List.nil_append, List.nil_append, List.nil_append, View.writes_append, View.writes_append, View.writes_append, View.writes_append]
  have e : Scf.trips (k1_t1_loop i).lb (k1_t1_loop i).ub (k1_t1_loop i).st + 1 = (i 1).val := by
    show (k1_t1_loop i).trips + 1 = _
    rw [loop1_trips i]; omega
  rw [e] at b2
  exact b2

theorem point1_off3 : ∀ i : grid1.Coords, k1_off3 i = ![640 * (i 1).val, 0] := by decide +kernel
theorem point1_word : ∀ (i : grid1.Coords) (w : Fin 5), Scalar.addi (Scalar.muli (BitVec.ofNat 32 (i 1).val) 5#32) (BitVec.ofNat 32 w.val) = BitVec.ofNat 32 (5 * (i 1).val + w.val) := by decide +kernel

end Cert.StickBreaking
-- ==== Proof.Point1B.lean ====
module

public import proofs.«01_k».proof.Proof.Point1
public import proofs.«01_k».proof.Proof.Gen.KernelIdeal.Frame
import all proofs.«01_k».proof.Proof.Gen.KernelIdeal.Frame

/-! A tile of queries after the first, in the backward kernel: its diagonal group. -/

@[expose] public section

noncomputable section

namespace Cert.StickBreaking

open Idealize.ShloMosaic Cert.KernelIdeal Cert.KernelIdeal.Gen Idealize.SL.Sem Finset

section lists
variable {F : FTy → Type} [FloatOps F]

theorem diag1_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B.sl.r_58 (F := F) c i arg2 harg2 arg3 harg3 arg4 harg4 arg5 harg5 arg6 harg6 arg7 harg7 arg8 harg8 arg9 harg9 arg10 harg10 x0 x1 x2 x3 x4 xo6 xo7) = (groupDq (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_B.sl.v174 (F := F) c i arg2 harg2 arg3 harg3 arg4 harg4 arg5 harg5 arg6 harg6 arg7 harg7 arg8 harg8 arg9 harg9 arg10 harg10 x0 x1 x2 x3 x4 xo6 xo7) (kernelRun1_B.sl.v252 (F := F) c i arg2 harg2 arg3 harg3 arg4 harg4 arg5 harg5 arg6 harg6 arg7 harg7 arg8 harg8 arg9 harg9 arg10 harg10 x0 x1 x2 x3 x4 xo6 xo7)) := by
  rfl
theorem diag1_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (k1_pay160 (kernelRun1_B.sl.r_29 (F := F) c arg2 harg2 x0) k1_pay112 (kernelRun1_B.sl.r_33 i) (kernelRun1_B.sl.r_34 (F := F) c i arg2 harg2 arg3 harg3 x0 x1) (kernelRun1_B.sl.r_35 (F := F) c i arg2 harg2 arg3 harg3 x0 x1) (kernelRun1_B.sl.r_49 (F := F) c i arg2 harg2 arg3 harg3 arg4 harg4 arg5 harg5 arg6 harg6 x0 x1 x2 x3 x4) (kernelRun1_B.sl.v174 (F := F) c i arg2 harg2 arg3 harg3 arg4 harg4 arg5 harg5 arg6 harg6 arg7 harg7 arg8 harg8 arg9 harg9 arg10 harg10 x0 x1 x2 x3 x4 xo6 xo7) (kernelRun1_B.sl.r_50 (F := F) c i arg2 harg2 arg3 harg3 arg4 harg4 arg5 harg5 arg6 harg6 x0 x1 x2 x3 x4) (kernelRun1_B.sl.r_51 (F := F) c i arg2 harg2 arg3 harg3 arg4 harg4 arg5 harg5 arg6 harg6 x0 x1 x2 x3 x4) (kernelRun1_B.sl.r_52 (F := F) c i arg2 harg2 arg3 harg3 arg4 harg4 arg5 harg5 arg6 harg6 x0 x1 x2 x3 x4) (kernelRun1_B.sl.r_53 (F := F) c i arg2 harg2 arg3 harg3 arg4 harg4 arg5 harg5 arg6 harg6 x0 x1 x2 x3 x4) (kernelRun1_B.sl.r_54 (F := F) c i arg2 harg2 arg3 harg3 arg4 harg4 arg5 harg5 arg6 harg6 x0 x1 x2 x3 x4) (kernelRun1_B.sl.r_55 (F := F) c i arg2 harg2 arg3 harg3 arg4 harg4 arg5 harg5 arg6 harg6 x0 x1 x2 x3 x4) (kernelRun1_B.sl.r_56 (F := F) c i arg2 harg2 arg3 harg3 arg4 harg4 arg5 harg5 arg6 harg6 x0 x1 x2 x3 x4) (kernelRun1_B.sl.v246 (F := F) c i arg2 harg2 arg3 harg3 arg4 harg4 arg5 harg5 arg6 harg6 arg7 harg7 arg8 harg8 arg9 harg9 arg10 harg10 x0 x1 x2 x3 x4 xo6 xo7)) = (groupDk (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_B.sl.v174 (F := F) c i arg2 harg2 arg3 harg3 arg4 harg4 arg5 harg5 arg6 harg6 arg7 harg7 arg8 harg8 arg9 harg9 arg10 harg10 x0 x1 x2 x3 x4 xo6 xo7) (kernelRun1_B.sl.v246 (F := F) c i arg2 harg2 arg3 harg3 arg4 harg4 arg5 harg5 arg6 harg6 arg7 harg7 arg8 harg8 arg9 harg9 arg10 harg10 x0 x1 x2 x3 x4 xo6 xo7)) := by
  rfl
theorem diag1_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (k1_pay144 (kernelRun1_B.sl.r_30 (F := F) c arg6 harg6 x4) (kernelRun1_B.sl.r_48 (F := F) c i arg2 harg2 arg3 harg3 arg5 harg5 x0 x1 x3) (kernelRun1_B.sl.v164 (F := F) c i arg2 harg2 arg3 harg3 arg4 harg4 arg5 harg5 arg6 harg6 arg7 harg7 arg8 harg8 arg9 harg9 arg10 harg10 x0 x1 x2 x3 x4 xo6 xo7)) = (groupDv (masked (maskV (BitVec.ofNat 32 (i 1).val) (BitVec.ofNat 32 (i 1).val))) (kernelRun1_B.sl.r_29 (F := F) c arg2 harg2 x0) (kernelRun1_B.sl.r_30 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_B.sl.v164 (F := F) c i arg2 harg2 arg3 harg3 arg4 harg4 arg5 harg5 arg6 harg6 arg7 harg7 arg8 harg8 arg9 harg9 arg10 harg10 x0 x1 x2 x3 x4 xo6 xo7)) := by
  rfl

theorem load1_gp (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B.sl.v174 (F := F) c i arg2 harg2 arg3 harg3 arg4 harg4 arg5 harg5 arg6 harg6 arg7 harg7 arg8 harg8 arg9 harg9 arg10 harg10 x0 x1 x2 x3 x4 xo6 xo7) = (arg10.view.readAt (Elt F) (Rect.unit (s := S640x128) ![0, 0] S640x128.size inb_S640x128_S640x128_0_0).toLoadRect (arg10.view.writes (Elt F) arg10.view.junk ((b1P2 c i arg2 harg2 arg3 harg3 arg4 harg4 arg5 harg5 arg6 harg6 arg7 harg7 arg8 harg8 arg9 harg9 arg10 harg10 x0 x1 x2 x3 x4 xo6 xo7).2.2.2 ++ ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := F) c i arg2 harg2 arg3 harg3 arg4 harg4 arg5 harg5 arg6 harg6 arg10 x0 x1 x2 x3 x4))))) := by
  rfl
theorem load1_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B.sl.v252 (F := F) c i arg2 harg2 arg3 harg3 arg4 harg4 arg5 harg5 arg6 harg6 arg7 harg7 arg8 harg8 arg9 harg9 arg10 harg10 x0 x1 x2 x3 x4 xo6 xo7) = (arg7.view.readAt (Elt F) (Rect.unit (s := S640x128) ![0, 0] S640x128.size inb_S640x128_S640x128_0_0).toLoadRect (arg7.view.writes (Elt F) arg7.view.junk ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4))))) := by
  rfl
theorem load1_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B.sl.v246 (F := F) c i arg2 harg2 arg3 harg3 arg4 harg4 arg5 harg5 arg6 harg6 arg7 harg7 arg8 harg8 arg9 harg9 arg10 harg10 x0 x1 x2 x3 x4 xo6 xo7) = (arg8.view.readAt (Elt F) (Rect.unit (s := S8320x128) (k1_off3 i) S640x128.size (k1_off3_inb i)).toLoadRect (arg8.view.writes (Elt F) (harg8.unread xo6) ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))))) := by
  rfl
theorem load1_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B.sl.v164 (F := F) c i arg2 harg2 arg3 harg3 arg4 harg4 arg5 harg5 arg6 harg6 arg7 harg7 arg8 harg8 arg9 harg9 arg10 harg10 x0 x1 x2 x3 x4 xo6 xo7) = (arg9.view.readAt (Elt F) (Rect.unit (s := S8320x128) (k1_off3 i) S640x128.size (k1_off3_inb i)).toLoadRect (arg9.view.writes (Elt F) (harg9.unread xo7) ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))))) := by
  rfl

theorem stores1_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).1 = ⟨(Rect.unit (s := S640x128) ![0, 0] S640x128.size inb_S640x128_S640x128_0_0), (kernelRun1_B.sl.r_58 (F := F) c i arg2 harg2 arg3 harg3 arg4 harg4 arg5 harg5 arg6 harg6 arg7 harg7 arg8 harg8 arg9 harg9 arg10 harg10 x0 x1 x2 x3 x4 xo6 xo7)⟩ :: ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4))) := by
  rfl
theorem stores1_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).2.1 = ⟨(Rect.unit (s := S8320x128) (k1_off3 i) S640x128.size (k1_off3_inb i)), (k1_pay160 (kernelRun1_B.sl.r_29 (F := F) c arg2 harg2 x0) k1_pay112 (kernelRun1_B.sl.r_33 i) (kernelRun1_B.sl.r_34 (F := F) c i arg2 harg2 arg3 harg3 x0 x1) (kernelRun1_B.sl.r_35 (F := F) c i arg2 harg2 arg3 harg3 x0 x1) (kernelRun1_B.sl.r_49 (F := F) c i arg2 harg2 arg3 harg3 arg4 harg4 arg5 harg5 arg6 harg6 x0 x1 x2 x3 x4) (kernelRun1_B.sl.v174 (F := F) c i arg2 harg2 arg3 harg3 arg4 harg4 arg5 harg5 arg6 harg6 arg7 harg7 arg8 harg8 arg9 harg9 arg10 harg10 x0 x1 x2 x3 x4 xo6 xo7) (kernelRun1_B.sl.r_50 (F := F) c i arg2 harg2 arg3 harg3 arg4 harg4 arg5 harg5 arg6 harg6 x0 x1 x2 x3 x4) (kernelRun1_B.sl.r_51 (F := F) c i arg2 harg2 arg3 harg3 arg4 harg4 arg5 harg5 arg6 harg6 x0 x1 x2 x3 x4) (kernelRun1_B.sl.r_52 (F := F) c i arg2 harg2 arg3 harg3 arg4 harg4 arg5 harg5 arg6 harg6 x0 x1 x2 x3 x4) (kernelRun1_B.sl.r_53 (F := F) c i arg2 harg2 arg3 harg3 arg4 harg4 arg5 harg5 arg6 harg6 x0 x1 x2 x3 x4) (kernelRun1_B.sl.r_54 (F := F) c i arg2 harg2 arg3 harg3 arg4 harg4 arg5 harg5 arg6 harg6 x0 x1 x2 x3 x4) (kernelRun1_B.sl.r_55 (F := F) c i arg2 harg2 arg3 harg3 arg4 harg4 arg5 harg5 arg6 harg6 x0 x1 x2 x3 x4) (kernelRun1_B.sl.r_56 (F := F) c i arg2 harg2 arg3 harg3 arg4 harg4 arg5 harg5 arg6 harg6 x0 x1 x2 x3 x4) (kernelRun1_B.sl.v246 (F := F) c i arg2 harg2 arg3 harg3 arg4 harg4 arg5 harg5 arg6 harg6 arg7 harg7 arg8 harg8 arg9 harg9 arg10 harg10 x0 x1 x2 x3 x4 xo6 xo7))⟩ :: ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))) := by
  rfl
theorem stores1_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).2.2.1 = ⟨(Rect.unit (s := S8320x128) (k1_off3 i) S640x128.size (k1_off3_inb i)), (k1_pay144 (kernelRun1_B.sl.r_30 (F := F) c arg6 harg6 x4) (kernelRun1_B.sl.r_48 (F := F) c i arg2 harg2 arg3 harg3 arg5 harg5 x0 x1 x3) (kernelRun1_B.sl.v164 (F := F) c i arg2 harg2 arg3 harg3 arg4 harg4 arg5 harg5 arg6 harg6 arg7 harg7 arg8 harg8 arg9 harg9 arg10 harg10 x0 x1 x2 x3 x4 xo6 xo7))⟩ :: ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))) := by
  rfl

/-- What the point stores, in the vocabulary of the groups. -/
theorem list1_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).1 = ⟨(Rect.unit (s := S640x128) ![0, 0] S640x128.size inb_S640x128_S640x128_0_0), (groupDq (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg10.view.readAt (Elt F) (Rect.unit (s := S640x128) ![0, 0] S640x128.size inb_S640x128_S640x128_0_0).toLoadRect (arg10.view.writes (Elt F) arg10.view.junk ((b1P2 c i arg2 harg2 arg3 harg3 arg4 harg4 arg5 harg5 arg6 harg6 arg7 harg7 arg8 harg8 arg9 harg9 arg10 harg10 x0 x1 x2 x3 x4 xo6 xo7).2.2.2 ++ ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := F) c i arg2 harg2 arg3 harg3 arg4 harg4 arg5 harg5 arg6 harg6 arg10 x0 x1 x2 x3 x4))))) (arg7.view.readAt (Elt F) (Rect.unit (s := S640x128) ![0, 0] S640x128.size inb_S640x128_S640x128_0_0).toLoadRect (arg7.view.writes (Elt F) arg7.view.junk ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4)))))⟩ :: ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4))) :=
  (stores1_dq c i arg2 harg2 arg3 harg3 arg4 harg4 arg5 harg5 arg6 harg6 arg7 harg7 arg8 harg8 arg9 harg9 arg10 harg10 hc0 hc1 x0 x1 x2 x3 x4 xo6 xo7).trans (congrArg (fun w => (⟨(Rect.unit (s := S640x128) ![0, 0] S640x128.size inb_S640x128_S640x128_0_0), w⟩ : View.Piece (Elt F) S640x128 .f32) :: ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := F) c i arg2 harg2 arg3 harg3 arg4 harg4 arg5 harg5 arg6 harg6 arg7 arg10 x0 x1 x2 x3 x4))))
    ((diag1_dq c i arg2 harg2 arg3 harg3 arg4 harg4 arg5 harg5 arg6 harg6 arg7 harg7 arg8 harg8 arg9 harg9 arg10 harg10 x0 x1 x2 x3 x4 xo6 xo7).trans (congrArg₂ (groupDq (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1_gp c i arg2 harg2 arg3 harg3 arg4 harg4 arg5 harg5 arg6 harg6 arg7 harg7 arg8 harg8 arg9 harg9 arg10 harg10 x0 x1 x2 x3 x4 xo6 xo7) (load1_dq c i arg2 harg2 arg3 harg3 arg4 harg4 arg5 harg5 arg6 harg6 arg7 harg7 arg8 harg8 arg9 harg9 arg10 harg10 x0 x1 x2 x3 x4 xo6 xo7))))
theorem list1_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).2.1 = ⟨(Rect.unit (s := S8320x128) (k1_off3 i) S640x128.size (k1_off3_inb i)), (groupDk (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg10.view.readAt (Elt F) (Rect.unit (s := S640x128) ![0, 0] S640x128.size inb_S640x128_S640x128_0_0).toLoadRect (arg10.view.writes (Elt F) arg10.view.junk ((b1P2 c i arg2 harg2 arg3 harg3 arg4 harg4 arg5 harg5 arg6 harg6 arg7 harg7 arg8 harg8 arg9 harg9 arg10 harg10 x0 x1 x2 x3 x4 xo6 xo7).2.2.2 ++ ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := F) c i arg2 harg2 arg3 harg3 arg4 harg4 arg5 harg5 arg6 harg6 arg10 x0 x1 x2 x3 x4))))) (arg8.view.readAt (Elt F) (Rect.unit (s := S8320x128) (k1_off3 i) S640x128.size (k1_off3_inb i)).toLoadRect (arg8.view.writes (Elt F) (harg8.unread xo6) ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7)))))⟩ :: ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))) :=
  (stores1_dk c i arg2 harg2 arg3 harg3 arg4 harg4 arg5 harg5 arg6 harg6 arg7 harg7 arg8 harg8 arg9 harg9 arg10 harg10 hc0 hc1 x0 x1 x2 x3 x4 xo6 xo7).trans (congrArg (fun w => (⟨(Rect.unit (s := S8320x128) (k1_off3 i) S640x128.size (k1_off3_inb i)), w⟩ : View.Piece (Elt F) S8320x128 .f32) :: ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7))))
    ((diag1_dk c i arg2 harg2 arg3 harg3 arg4 harg4 arg5 harg5 arg6 harg6 arg7 harg7 arg8 harg8 arg9 harg9 arg10 harg10 x0 x1 x2 x3 x4 xo6 xo7).trans (congrArg₂ (groupDk (masked (maskV (BitVec.ofNat 32 (i 1).val) (BitVec.ofNat 32 (i 1).val))) (kernelRun1_B.sl.r_29 (F := F) c arg2 harg2 x0) (kernelRun1_B.sl.r_30 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1_gp c i arg2 harg2 arg3 harg3 arg4 harg4 arg5 harg5 arg6 harg6 arg7 harg7 arg8 harg8 arg9 harg9 arg10 harg10 x0 x1 x2 x3 x4 xo6 xo7) (load1_dk c i arg2 harg2 arg3 harg3 arg4 harg4 arg5 harg5 arg6 harg6 arg7 harg7 arg8 harg8 arg9 harg9 arg10 harg10 x0 x1 x2 x3 x4 xo6 xo7))))
theorem list1_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec F S640x128 .f32) (x1 : Vec F S8320x128 .f32) (x2 : Vec F S8320x128 .f32) (x3 : Vec F S1x1x640x128 .f32) (x4 : Vec F S640x128 .f32) (xo6 : Vec F S8320x128 .f32) (xo7 : Vec F S8320x128 .f32) : (kernelRun1_B (F := F) c i arg2 harg2 arg3 harg3 arg4 harg4 arg5 harg5 arg6 harg6 arg7 harg7 arg8 harg8 arg9 harg9 arg10 harg10 hc0 hc1 x0 x1 x2 x3 x4 xo6 xo7).2.2.1 = ⟨(Rect.unit (s := S8320x128) (k1_off3 i) S640x128.size (k1_off3_inb i)), (groupDv (masked (maskV (BitVec.ofNat 32 (i 1).val) (BitVec.ofNat 32 (i 1).val))) (kernelRun1_B.sl.r_29 (F := F) c arg2 harg2 x0) (kernelRun1_B.sl.r_30 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg9.view.readAt (Elt F) (Rect.unit (s := S8320x128) (k1_off3 i) S640x128.size (k1_off3_inb i)).toLoadRect (arg9.view.writes (Elt F) (harg9.unread xo7) ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7)))))⟩ :: ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))) :=
  (stores1_dv c i arg2 harg2 arg3 harg3 arg4 harg4 arg5 harg5 arg6 harg6 arg7 harg7 arg8 harg8 arg9 harg9 arg10 harg10 hc0 hc1 x0 x1 x2 x3 x4 xo6 xo7).trans (congrArg (fun w => (⟨(Rect.unit (s := S8320x128) (k1_off3 i) S640x128.size (k1_off3_inb i)), w⟩ : View.Piece (Elt F) S8320x128 .f32) :: ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7))))
    ((diag1_dv c i arg2 harg2 arg3 harg3 arg4 harg4 arg5 harg5 arg6 harg6 arg7 harg7 arg8 harg8 arg9 harg9 arg10 harg10 x0 x1 x2 x3 x4 xo6 xo7).trans (congrArg (groupDv (masked (maskV (BitVec.ofNat 32 (i 1).val) (BitVec.ofNat 32 (i 1).val))) (kernelRun1_B.sl.r_29 (F := F) c arg2 harg2 x0) (kernelRun1_B.sl.r_30 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1_dv c i arg2 harg2 arg3 harg3 arg4 harg4 arg5 harg5 arg6 harg6 arg7 harg7 arg8 harg8 arg9 harg9 arg10 harg10 x0 x1 x2 x3 x4 xo6 xo7))))

end lists

/-- Reading what two equal lists of stores leave. -/
theorem BInv.of_eq {D : Head} {t n : ℕ} {v8 v9 : View sig .tc .vmem S8320x128 .f32} {v7 : View sig .tc .vmem S640x128 .f32} {f7 : v7.ty.Contents (Elt Ideal)} {f8 : v8.ty.Contents (Elt Ideal)}
    {f9 : v9.ty.Contents (Elt Ideal)} {x10 : FVec Ideal S640x128 .f32} {L7 M7 : List (View.Piece (Elt Ideal) S640x128 .f32)} {L8 M8 L9 M9 : List (View.Piece (Elt Ideal) S8320x128 .f32)}
    (h : BInv D t n (v7.read (Elt Ideal) (v7.writes (Elt Ideal) f7 L7)) (v8.read (Elt Ideal) (v8.writes (Elt Ideal) f8 L8)) (v9.read (Elt Ideal) (v9.writes (Elt Ideal) f9 L9)) x10)
    (e7 : M7 = L7) (e8 : M8 = L8) (e9 : M9 = L9) :
    BInv D t n (v7.read (Elt Ideal) (v7.writes (Elt Ideal) f7 M7)) (v8.read (Elt Ideal) (v8.writes (Elt Ideal) f8 M8)) (v9.read (Elt Ideal) (v9.writes (Elt Ideal) f9 M9)) x10 := by
  subst e7; subst e8; subst e9; exact h

/-- A later tile of queries: all its groups. -/
theorem point1_B {D : Head} (hcap : D.Capped) (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : ¬cond1_0 i) (hc1 : cond1_1 i)
    (x0 : Vec Ideal S640x128 .f32) (x1 : Vec Ideal S8320x128 .f32) (x2 : Vec Ideal S8320x128 .f32) (x3 : Vec Ideal S1x1x640x128 .f32) (x4 : Vec Ideal S640x128 .f32) (xo6 : Vec Ideal S8320x128 .f32) (xo7 : Vec Ideal S8320x128 .f32) (hi : 1 ≤ (i 1).val)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d)
    (h6 : IsR xo6 fun s d => ∑ u ∈ range (640 * (i 1).val), D.DZ u s * D.q u d)
    (h7 : IsR xo7 fun s d => ∑ u ∈ range (640 * (i 1).val), D.W u s * D.o u d) :
    ∃ x10, BInv D (i 1).val ((i 1).val + 1) (arg7.view.read (Elt Ideal) (arg7.view.writes (Elt Ideal) arg7.view.junk (kernelRun1_B (F := Ideal) c i arg2 harg2 arg3 harg3 arg4 harg4 arg5 harg5 arg6 harg6 arg7 harg7 arg8 harg8 arg9 harg9 arg10 harg10 hc0 hc1 x0 x1 x2 x3 x4 xo6 xo7).1))
      (arg8.view.read (Elt Ideal) (arg8.view.writes (Elt Ideal) (harg8.unread xo6) (kernelRun1_B (F := Ideal) c i arg2 harg2 arg3 harg3 arg4 harg4 arg5 harg5 arg6 harg6 arg7 harg7 arg8 harg8 arg9 harg9 arg10 harg10 hc0 hc1 x0 x1 x2 x3 x4 xo6 xo7).2.1))
      (arg9.view.read (Elt Ideal) (arg9.view.writes (Elt Ideal) (harg9.unread xo7) (kernelRun1_B (F := Ideal) c i arg2 harg2 arg3 harg3 arg4 harg4 arg5 harg5 arg6 harg6 arg7 harg7 arg8 harg8 arg9 harg9 arg10 harg10 hc0 hc1 x0 x1 x2 x3 x4 xo6 xo7).2.2.1)) x10 := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have e5 : IsR (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128) fun r j => ∑ a ∈ Ico (128 * (j + 1)) 8320, D.L (640 * (i 1).val + r) a := by rw [readAt_saved, Memref.IsWhole.read_unread]; exact hs
  have eq : IsR (kernelRun1_B.sl.r_29 (F := Ideal) c arg2 harg2 x0) fun r d => D.q (640 * (i 1).val + r) d := fun j => by
    have h := hq j
    rw [← Memref.IsWhole.read_unread harg2 x0, ← readAt_tile] at h
    exact h
  have eo : IsR (kernelRun1_B.sl.r_30 (F := Ideal) c arg6 harg6 x4) fun r d => D.o (640 * (i 1).val + r) d := fun j => by
    have h := ho j
    rw [← Memref.IsWhole.read_unread harg6 x4, ← readAt_tile] at h
    exact h

  exact ⟨_, BInv.of_eq (BInv.store_cons (L7 := ((b1P2 c i arg2 harg2 arg3 harg3 arg4 harg4 arg5 harg5 arg6 harg6 arg7 harg7 arg8 harg8 arg9 harg9 arg10 harg10 x0 x1 x2 x3 x4 xo6 xo7).1 ++ ((b1P1 c i arg2 harg2 arg3 harg3 arg4 harg4 arg5 harg5 arg6 harg6 arg7 harg7 arg8 harg8 arg9 harg9 arg10 harg10 x0 x1 x2 x3 x4 xo6 xo7).1 ++ (kernelRun1_B.sl.H5_2 (F := Ideal) c i arg2 harg2 arg3 harg3 arg4 harg4 arg5 harg5 arg6 harg6 arg7 arg10 x0 x1 x2 x3 x4)))) (L8 := ((b1P2 c i arg2 harg2 arg3 harg3 arg4 harg4 arg5 harg5 arg6 harg6 arg7 harg7 arg8 harg8 arg9 harg9 arg10 harg10 x0 x1 x2 x3 x4 xo6 xo7).2.1 ++ ((b1P1 c i arg2 harg2 arg3 harg3 arg4 harg4 arg5 harg5 arg6 harg6 arg7 harg7 arg8 harg8 arg9 harg9 arg10 harg10 x0 x1 x2 x3 x4 xo6 xo7).2.1 ++ (b1L8 c i arg2 harg2 arg3 harg3 arg4 harg4 arg5 harg5 arg6 harg6 arg7 harg7 arg8 harg8 arg9 harg9 arg10 harg10 x0 x1 x2 x3 x4 xo6 xo7)))) (L9 := ((b1P2 c i arg2 harg2 arg3 harg3 arg4 harg4 arg5 harg5 arg6 harg6 arg7 harg7 arg8 harg8 arg9 harg9 arg10 harg10 x0 x1 x2 x3 x4 xo6 xo7).2.2.1 ++ ((b1P1 c i arg2 harg2 arg3 harg3 arg4 harg4 arg5 harg5 arg6 harg6 arg7 harg7 arg8 harg8 arg9 harg9 arg10 harg10 x0 x1 x2 x3 x4 xo6 xo7).2.2.1 ++ (b1L9 c i arg2 harg2 arg3 harg3 arg4 harg4 arg5 harg5 arg6 harg6 arg7 harg7 arg8 harg8 arg9 harg9 arg10 harg10 x0 x1 x2 x3 x4 xo6 xo7)))) (L10 := ((b1P2 c i arg2 harg2 arg3 harg3 arg4 harg4 arg5 harg5 arg6 harg6 arg7 harg7 arg8 harg8 arg9 harg9 arg10 harg10 x0 x1 x2 x3 x4 xo6 xo7).2.2.2 ++ ((b1P1 c i arg2 harg2 arg3 harg3 arg4 harg4 arg5 harg5 arg6 harg6 arg7 harg7 arg8 harg8 arg9 harg9 arg10 harg10 x0 x1 x2 x3 x4 xo6 xo7).2.2.2 ++ (kernelRun1_B.sl.HS0_2 (F := Ideal) c i arg2 harg2 arg3 harg3 arg4 harg4 arg5 harg5 arg6 harg6 arg10 x0 x1 x2 x3 x4)))) (n := (i 1).val) (mk := masked (maskV (BitVec.ofNat 32 (i 1).val) (BitVec.ofNat 32 (i 1).val))) (q := (kernelRun1_B.sl.r_29 (F := Ideal) c arg2 harg2 x0)) (o := (kernelRun1_B.sl.r_30 (F := Ideal) c arg6 harg6 x4)) (tri := triV) (pre := preV) (lane := lanesV)
    (s := (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128)) (X3 := harg3.unread x1) (X4 := harg4.unread x2)
    (f7 := arg7.view.junk) (f8 := harg8.unread xo6) (f9 := harg9.unread xo7) (f10 := arg10.view.junk)
    ht ht hcap (isMk_masked (isM_maskV ht ht rfl rfl)) isR_triV isR_preV lanesV_apply (point1_word i 0) (point1_word i 1) (point1_word i 2) (point1_word i 3) (point1_word i 4) eq eo e5 e3 e4
    (point1_loop hcap c i arg2 harg2 arg3 harg3 arg4 harg4 arg5 harg5 arg6 harg6 arg7 harg7 arg8 harg8 arg9 harg9 arg10 harg10 x0 x1 x2 x3 x4 xo6 xo7 hi hq hk hv hs ho h6 h7) (off := k1_off3 i) (point1_off3 i) (k1_off3_inb i) inb_S640x128_S640x128_0_0)
    (list1_dq c i arg2 harg2 arg3 harg3 arg4 harg4 arg5 harg5 arg6 harg6 arg7 harg7 arg8 harg8 arg9 harg9 arg10 harg10 hc0 hc1 x0 x1 x2 x3 x4 xo6 xo7) (list1_dk c i arg2 harg2 arg3 harg3 arg4 harg4 arg5 harg5 arg6 harg6 arg7 harg7 arg8 harg8 arg9 harg9 arg10 harg10 hc0 hc1 x0 x1 x2 x3 x4 xo6 xo7) (list1_dv c i arg2 harg2 arg3 harg3 arg4 harg4 arg5 harg5 arg6 harg6 arg7 harg7 arg8 harg8 arg9 harg9 arg10 harg10 hc0 hc1 x0 x1 x2 x3 x4 xo6 xo7)⟩

end Cert.StickBreaking
-- ==== Proof.Point1A.lean ====
module

public import proofs.«01_k».proof.Proof.Point1B
public import proofs.«01_k».proof.Proof.Gen.KernelIdeal.Frame
import all proofs.«01_k».proof.Proof.Gen.KernelIdeal.Frame

/-! The first tile of queries, in the backward kernel. -/

@[expose] public section

noncomputable section

namespace Cert.StickBreaking

open Idealize.ShloMosaic Cert.KernelIdeal Cert.KernelIdeal.Gen Idealize.SL.Sem Finset

section lists
variable {F : FTy → Type} [FloatOps F]

/-- What the loop stores. -/
def a1P1 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) := (pb_k1_t1 (F := F) Variants.none c none i arg2 harg2 arg3 harg3 arg4 harg4 arg5 harg5 arg6 harg6 arg7 harg7 arg8 harg8 arg9 harg9 arg10 harg10 (BitVec.ofNat 32 (i 1).val) (kernelRun1_A.sl.r (F := F) c arg2 harg2 x0) (kernelRun1_A.sl.r_1 (F := F) c arg6 harg6 x4) kernelRun1_A.sl.v13 k1_pay111 k1_pay112 0#32 (kernelRun1_A.sl.v33 i) 1#32 (harg3.unread x1) (harg4.unread x2) (harg5.unread x3) (arg7.view.writes (Elt F) arg7.view.junk (kernelRun1_A.sl.H5_1 (F := F) )) (arg8.view.writes (Elt F) arg8.view.junk (kernelRun1_A.sl.H6_1 (F := F) )) (arg9.view.writes (Elt F) arg9.view.junk (kernelRun1_A.sl.H7_1 (F := F) )) (arg10.view.writes (Elt F) arg10.view.junk (kernelRun1_A.sl.HS0_1 (F := F) )) (Scf.trips (k1_t1_loop i).lb (k1_t1_loop i).ub (k1_t1_loop i).st))
/-- What the rest of the loop stores. -/
def a1P2 (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) := (pb_k1_t2 (F := F) Variants.none c none i arg2 harg2 arg3 harg3 arg4 harg4 arg5 harg5 arg6 harg6 arg7 harg7 arg8 harg8 arg9 harg9 arg10 harg10 (BitVec.ofNat 32 (i 1).val) (kernelRun1_A.sl.r (F := F) c arg2 harg2 x0) (kernelRun1_A.sl.r_1 (F := F) c arg6 harg6 x4) kernelRun1_A.sl.v13 k1_pay111 k1_pay112 0#32 (kernelRun1_A.sl.v33 i) 1#32 (harg3.unread x1) (harg4.unread x2) (harg5.unread x3) (arg7.view.writes (Elt F) arg7.view.junk ((a1P1 c i arg2 harg2 arg3 harg3 arg4 harg4 arg5 harg5 arg6 harg6 arg7 harg7 arg8 harg8 arg9 harg9 arg10 harg10 x0 x1 x2 x3 x4).1 ++ (kernelRun1_A.sl.H5_1 (F := F) ))) (arg8.view.writes (Elt F) arg8.view.junk ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) ))) (arg9.view.writes (Elt F) arg9.view.junk ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) ))) (arg10.view.writes (Elt F) arg10.view.junk ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := F) ))) (Scf.trips (k1_t2_loop i).lb (k1_t2_loop i).ub (k1_t2_loop i).st))

theorem diag1A_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (kernelRun1_A.sl.r_29 (F := F) c i arg2 harg2 arg3 harg3 arg4 harg4 arg5 harg5 arg6 harg6 arg7 harg7 arg8 harg8 arg9 harg9 arg10 harg10 x0 x1 x2 x3 x4) = (groupDq (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_A.sl.v174 (F := F) c i arg2 harg2 arg3 harg3 arg4 harg4 arg5 harg5 arg6 harg6 arg7 harg7 arg8 harg8 arg9 harg9 arg10 harg10 x0 x1 x2 x3 x4) (kernelRun1_A.sl.v252 (F := F) c i arg2 harg2 arg3 harg3 arg4 harg4 arg5 harg5 arg6 harg6 arg7 harg7 arg8 harg8 arg9 harg9 arg10 harg10 x0 x1 x2 x3 x4)) := by
  rfl
theorem diag1A_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (k1_pay160 (kernelRun1_A.sl.r (F := F) c arg2 harg2 x0) k1_pay112 (kernelRun1_A.sl.r_4 i) (kernelRun1_A.sl.r_5 (F := F) c i arg2 harg2 arg3 harg3 x0 x1) (kernelRun1_A.sl.r_6 (F := F) c i arg2 harg2 arg3 harg3 x0 x1) (kernelRun1_A.sl.r_20 (F := F) c i arg2 harg2 arg3 harg3 arg4 harg4 arg5 harg5 arg6 harg6 x0 x1 x2 x3 x4) (kernelRun1_A.sl.v174 (F := F) c i arg2 harg2 arg3 harg3 arg4 harg4 arg5 harg5 arg6 harg6 arg7 harg7 arg8 harg8 arg9 harg9 arg10 harg10 x0 x1 x2 x3 x4) (kernelRun1_A.sl.r_21 (F := F) c i arg2 harg2 arg3 harg3 arg4 harg4 arg5 harg5 arg6 harg6 x0 x1 x2 x3 x4) (kernelRun1_A.sl.r_22 (F := F) c i arg2 harg2 arg3 harg3 arg4 harg4 arg5 harg5 arg6 harg6 x0 x1 x2 x3 x4) (kernelRun1_A.sl.r_23 (F := F) c i arg2 harg2 arg3 harg3 arg4 harg4 arg5 harg5 arg6 harg6 x0 x1 x2 x3 x4) (kernelRun1_A.sl.r_24 (F := F) c i arg2 harg2 arg3 harg3 arg4 harg4 arg5 harg5 arg6 harg6 x0 x1 x2 x3 x4) (kernelRun1_A.sl.r_25 (F := F) c i arg2 harg2 arg3 harg3 arg4 harg4 arg5 harg5 arg6 harg6 x0 x1 x2 x3 x4) (kernelRun1_A.sl.r_26 (F := F) c i arg2 harg2 arg3 harg3 arg4 harg4 arg5 harg5 arg6 harg6 x0 x1 x2 x3 x4) (kernelRun1_A.sl.r_27 (F := F) c i arg2 harg2 arg3 harg3 arg4 harg4 arg5 harg5 arg6 harg6 x0 x1 x2 x3 x4) (kernelRun1_A.sl.v246 (F := F) c i arg2 harg2 arg3 harg3 arg4 harg4 arg5 harg5 arg6 harg6 arg7 harg7 arg8 harg8 arg9 harg9 arg10 harg10 x0 x1 x2 x3 x4)) = (groupDk (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_A.sl.v174 (F := F) c i arg2 harg2 arg3 harg3 arg4 harg4 arg5 harg5 arg6 harg6 arg7 harg7 arg8 harg8 arg9 harg9 arg10 harg10 x0 x1 x2 x3 x4) (kernelRun1_A.sl.v246 (F := F) c i arg2 harg2 arg3 harg3 arg4 harg4 arg5 harg5 arg6 harg6 arg7 harg7 arg8 harg8 arg9 harg9 arg10 harg10 x0 x1 x2 x3 x4)) := by
  rfl
theorem diag1A_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (k1_pay144 (kernelRun1_A.sl.r_1 (F := F) c arg6 harg6 x4) (kernelRun1_A.sl.r_19 (F := F) c i arg2 harg2 arg3 harg3 arg5 harg5 x0 x1 x3) (kernelRun1_A.sl.v164 (F := F) c i arg2 harg2 arg3 harg3 arg4 harg4 arg5 harg5 arg6 harg6 arg7 harg7 arg8 harg8 arg9 harg9 arg10 harg10 x0 x1 x2 x3 x4)) = (groupDv (masked (maskV (BitVec.ofNat 32 (i 1).val) (BitVec.ofNat 32 (i 1).val))) (kernelRun1_A.sl.r (F := F) c arg2 harg2 x0) (kernelRun1_A.sl.r_1 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128) (kernelRun1_A.sl.v164 (F := F) c i arg2 harg2 arg3 harg3 arg4 harg4 arg5 harg5 arg6 harg6 arg7 harg7 arg8 harg8 arg9 harg9 arg10 harg10 x0 x1 x2 x3 x4)) := by
  rfl

theorem load1A_gp (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (kernelRun1_A.sl.v174 (F := F) c i arg2 harg2 arg3 harg3 arg4 harg4 arg5 harg5 arg6 harg6 arg7 harg7 arg8 harg8 arg9 harg9 arg10 harg10 x0 x1 x2 x3 x4) = (arg10.view.readAt (Elt F) (Rect.unit (s := S640x128) ![0, 0] S640x128.size inb_S640x128_S640x128_0_0).toLoadRect (arg10.view.writes (Elt F) arg10.view.junk ((a1P2 c i arg2 harg2 arg3 harg3 arg4 harg4 arg5 harg5 arg6 harg6 arg7 harg7 arg8 harg8 arg9 harg9 arg10 harg10 x0 x1 x2 x3 x4).2.2.2 ++ ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := F) ))))) := by
  rfl
theorem load1A_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (kernelRun1_A.sl.v252 (F := F) c i arg2 harg2 arg3 harg3 arg4 harg4 arg5 harg5 arg6 harg6 arg7 harg7 arg8 harg8 arg9 harg9 arg10 harg10 x0 x1 x2 x3 x4) = (arg7.view.readAt (Elt F) (Rect.unit (s := S640x128) ![0, 0] S640x128.size inb_S640x128_S640x128_0_0).toLoadRect (arg7.view.writes (Elt F) arg7.view.junk ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := F) ))))) := by
  rfl
theorem load1A_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (kernelRun1_A.sl.v246 (F := F) c i arg2 harg2 arg3 harg3 arg4 harg4 arg5 harg5 arg6 harg6 arg7 harg7 arg8 harg8 arg9 harg9 arg10 harg10 x0 x1 x2 x3 x4) = (arg8.view.readAt (Elt F) (Rect.unit (s := S8320x128) (k1_off3 i) S640x128.size (k1_off3_inb i)).toLoadRect (arg8.view.writes (Elt F) arg8.view.junk ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) ))))) := by
  rfl
theorem load1A_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec F S640x128 .f32) (x1 : Vec F S8320x128 .f32) (x2 : Vec F S8320x128 .f32) (x3 : Vec F S1x1x640x128 .f32) (x4 : Vec F S640x128 .f32) : (kernelRun1_A.sl.v164 (F := F) c i arg2 harg2 arg3 harg3 arg4 harg4 arg5 harg5 arg6 harg6 arg7 harg7 arg8 harg8 arg9 harg9 arg10 harg10 x0 x1 x2 x3 x4) = (arg9.view.readAt (Elt F) (Rect.unit (s := S8320x128) (k1_off3 i) S640x128.size (k1_off3_inb i)).toLoadRect (arg9.view.writes (Elt F) arg9.view.junk ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) ))))) := by
  rfl

theorem stores1A_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).1 = ⟨(Rect.unit (s := S640x128) ![0, 0] S640x128.size inb_S640x128_S640x128_0_0), (kernelRun1_A.sl.r_29 (F := F) c i arg2 harg2 arg3 harg3 arg4 harg4 arg5 harg5 arg6 harg6 arg7 harg7 arg8 harg8 arg9 harg9 arg10 harg10 x0 x1 x2 x3 x4)⟩ :: ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := F) ))) := by
  rfl
theorem stores1A_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).2.1 = ⟨(Rect.unit (s := S8320x128) (k1_off3 i) S640x128.size (k1_off3_inb i)), (k1_pay160 (kernelRun1_A.sl.r (F := F) c arg2 harg2 x0) k1_pay112 (kernelRun1_A.sl.r_4 i) (kernelRun1_A.sl.r_5 (F := F) c i arg2 harg2 arg3 harg3 x0 x1) (kernelRun1_A.sl.r_6 (F := F) c i arg2 harg2 arg3 harg3 x0 x1) (kernelRun1_A.sl.r_20 (F := F) c i arg2 harg2 arg3 harg3 arg4 harg4 arg5 harg5 arg6 harg6 x0 x1 x2 x3 x4) (kernelRun1_A.sl.v174 (F := F) c i arg2 harg2 arg3 harg3 arg4 harg4 arg5 harg5 arg6 harg6 arg7 harg7 arg8 harg8 arg9 harg9 arg10 harg10 x0 x1 x2 x3 x4) (kernelRun1_A.sl.r_21 (F := F) c i arg2 harg2 arg3 harg3 arg4 harg4 arg5 harg5 arg6 harg6 x0 x1 x2 x3 x4) (kernelRun1_A.sl.r_22 (F := F) c i arg2 harg2 arg3 harg3 arg4 harg4 arg5 harg5 arg6 harg6 x0 x1 x2 x3 x4) (kernelRun1_A.sl.r_23 (F := F) c i arg2 harg2 arg3 harg3 arg4 harg4 arg5 harg5 arg6 harg6 x0 x1 x2 x3 x4) (kernelRun1_A.sl.r_24 (F := F) c i arg2 harg2 arg3 harg3 arg4 harg4 arg5 harg5 arg6 harg6 x0 x1 x2 x3 x4) (kernelRun1_A.sl.r_25 (F := F) c i arg2 harg2 arg3 harg3 arg4 harg4 arg5 harg5 arg6 harg6 x0 x1 x2 x3 x4) (kernelRun1_A.sl.r_26 (F := F) c i arg2 harg2 arg3 harg3 arg4 harg4 arg5 harg5 arg6 harg6 x0 x1 x2 x3 x4) (kernelRun1_A.sl.r_27 (F := F) c i arg2 harg2 arg3 harg3 arg4 harg4 arg5 harg5 arg6 harg6 x0 x1 x2 x3 x4) (kernelRun1_A.sl.v246 (F := F) c i arg2 harg2 arg3 harg3 arg4 harg4 arg5 harg5 arg6 harg6 arg7 harg7 arg8 harg8 arg9 harg9 arg10 harg10 x0 x1 x2 x3 x4))⟩ :: ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) ))) := by
  rfl
theorem stores1A_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).2.2.1 = ⟨(Rect.unit (s := S8320x128) (k1_off3 i) S640x128.size (k1_off3_inb i)), (k1_pay144 (kernelRun1_A.sl.r_1 (F := F) c arg6 harg6 x4) (kernelRun1_A.sl.r_19 (F := F) c i arg2 harg2 arg3 harg3 arg5 harg5 x0 x1 x3) (kernelRun1_A.sl.v164 (F := F) c i arg2 harg2 arg3 harg3 arg4 harg4 arg5 harg5 arg6 harg6 arg7 harg7 arg8 harg8 arg9 harg9 arg10 harg10 x0 x1 x2 x3 x4))⟩ :: ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) ))) := by
  rfl

/-- What the point stores, in the vocabulary of the groups. -/
theorem list1A_dq (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).1 = ⟨(Rect.unit (s := S640x128) ![0, 0] S640x128.size inb_S640x128_S640x128_0_0), (groupDq (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg10.view.readAt (Elt F) (Rect.unit (s := S640x128) ![0, 0] S640x128.size inb_S640x128_S640x128_0_0).toLoadRect (arg10.view.writes (Elt F) arg10.view.junk ((a1P2 c i arg2 harg2 arg3 harg3 arg4 harg4 arg5 harg5 arg6 harg6 arg7 harg7 arg8 harg8 arg9 harg9 arg10 harg10 x0 x1 x2 x3 x4).2.2.2 ++ ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := F) ))))) (arg7.view.readAt (Elt F) (Rect.unit (s := S640x128) ![0, 0] S640x128.size inb_S640x128_S640x128_0_0).toLoadRect (arg7.view.writes (Elt F) arg7.view.junk ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := F) )))))⟩ :: ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := F) ))) :=
  (stores1A_dq c i arg2 harg2 arg3 harg3 arg4 harg4 arg5 harg5 arg6 harg6 arg7 harg7 arg8 harg8 arg9 harg9 arg10 harg10 hc0 hc1 x0 x1 x2 x3 x4).trans (congrArg (fun w => (⟨(Rect.unit (s := S640x128) ![0, 0] S640x128.size inb_S640x128_S640x128_0_0), w⟩ : View.Piece (Elt F) S640x128 .f32) :: ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := F) ))))
    ((diag1A_dq c i arg2 harg2 arg3 harg3 arg4 harg4 arg5 harg5 arg6 harg6 arg7 harg7 arg8 harg8 arg9 harg9 arg10 harg10 x0 x1 x2 x3 x4).trans (congrArg₂ (groupDq (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1A_gp c i arg2 harg2 arg3 harg3 arg4 harg4 arg5 harg5 arg6 harg6 arg7 harg7 arg8 harg8 arg9 harg9 arg10 harg10 x0 x1 x2 x3 x4) (load1A_dq c i arg2 harg2 arg3 harg3 arg4 harg4 arg5 harg5 arg6 harg6 arg7 harg7 arg8 harg8 arg9 harg9 arg10 harg10 x0 x1 x2 x3 x4))))
theorem list1A_dk (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).2.1 = ⟨(Rect.unit (s := S8320x128) (k1_off3 i) S640x128.size (k1_off3_inb i)), (groupDk (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg10.view.readAt (Elt F) (Rect.unit (s := S640x128) ![0, 0] S640x128.size inb_S640x128_S640x128_0_0).toLoadRect (arg10.view.writes (Elt F) arg10.view.junk ((a1P2 c i arg2 harg2 arg3 harg3 arg4 harg4 arg5 harg5 arg6 harg6 arg7 harg7 arg8 harg8 arg9 harg9 arg10 harg10 x0 x1 x2 x3 x4).2.2.2 ++ ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := F) ))))) (arg8.view.readAt (Elt F) (Rect.unit (s := S8320x128) (k1_off3 i) S640x128.size (k1_off3_inb i)).toLoadRect (arg8.view.writes (Elt F) arg8.view.junk ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) )))))⟩ :: ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) ))) :=
  (stores1A_dk c i arg2 harg2 arg3 harg3 arg4 harg4 arg5 harg5 arg6 harg6 arg7 harg7 arg8 harg8 arg9 harg9 arg10 harg10 hc0 hc1 x0 x1 x2 x3 x4).trans (congrArg (fun w => (⟨(Rect.unit (s := S8320x128) (k1_off3 i) S640x128.size (k1_off3_inb i)), w⟩ : View.Piece (Elt F) S8320x128 .f32) :: ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := F) ))))
    ((diag1A_dk c i arg2 harg2 arg3 harg3 arg4 harg4 arg5 harg5 arg6 harg6 arg7 harg7 arg8 harg8 arg9 harg9 arg10 harg10 x0 x1 x2 x3 x4).trans (congrArg₂ (groupDk (masked (maskV (BitVec.ofNat 32 (i 1).val) (BitVec.ofNat 32 (i 1).val))) (kernelRun1_A.sl.r (F := F) c arg2 harg2 x0) (kernelRun1_A.sl.r_1 (F := F) c arg6 harg6 x4) triV preV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (arg4.view.readAt (Elt F) (Rect.unit (s := S8320x128) (k1_off3 i) S640x128.size (k1_off3_inb i)).toLoadRect (harg4.unread x2)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1A_gp c i arg2 harg2 arg3 harg3 arg4 harg4 arg5 harg5 arg6 harg6 arg7 harg7 arg8 harg8 arg9 harg9 arg10 harg10 x0 x1 x2 x3 x4) (load1A_dk c i arg2 harg2 arg3 harg3 arg4 harg4 arg5 harg5 arg6 harg6 arg7 harg7 arg8 harg8 arg9 harg9 arg10 harg10 x0 x1 x2 x3 x4))))
theorem list1A_dv (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec F S640x128 .f32) (x1 : Vec F S8320x128 .f32) (x2 : Vec F S8320x128 .f32) (x3 : Vec F S1x1x640x128 .f32) (x4 : Vec F S640x128 .f32) : (kernelRun1_A (F := F) c i arg2 harg2 arg3 harg3 arg4 harg4 arg5 harg5 arg6 harg6 arg7 harg7 arg8 harg8 arg9 harg9 arg10 harg10 hc0 hc1 x0 x1 x2 x3 x4).2.2.1 = ⟨(Rect.unit (s := S8320x128) (k1_off3 i) S640x128.size (k1_off3_inb i)), (groupDv (masked (maskV (BitVec.ofNat 32 (i 1).val) (BitVec.ofNat 32 (i 1).val))) (kernelRun1_A.sl.r (F := F) c arg2 harg2 x0) (kernelRun1_A.sl.r_1 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (arg9.view.readAt (Elt F) (Rect.unit (s := S8320x128) (k1_off3 i) S640x128.size (k1_off3_inb i)).toLoadRect (arg9.view.writes (Elt F) arg9.view.junk ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) )))))⟩ :: ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) ))) :=
  (stores1A_dv c i arg2 harg2 arg3 harg3 arg4 harg4 arg5 harg5 arg6 harg6 arg7 harg7 arg8 harg8 arg9 harg9 arg10 harg10 hc0 hc1 x0 x1 x2 x3 x4).trans (congrArg (fun w => (⟨(Rect.unit (s := S8320x128) (k1_off3 i) S640x128.size (k1_off3_inb i)), w⟩ : View.Piece (Elt F) S8320x128 .f32) :: ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := F) ))))
    ((diag1A_dv c i arg2 harg2 arg3 harg3 arg4 harg4 arg5 harg5 arg6 harg6 arg7 harg7 arg8 harg8 arg9 harg9 arg10 harg10 x0 x1 x2 x3 x4).trans (congrArg (groupDv (masked (maskV (BitVec.ofNat 32 (i 1).val) (BitVec.ofNat 32 (i 1).val))) (kernelRun1_A.sl.r (F := F) c arg2 harg2 x0) (kernelRun1_A.sl.r_1 (F := F) c arg6 harg6 x4) triV lanesV (Scalar.addi (Scalar.muli (BitVec.ofNat 32 (i 1).val) 5#32) 0#32) (Scalar.addi (Scalar.muli (BitVec.ofNat 32 (i 1).val) 5#32) 1#32) (Scalar.addi (Scalar.muli (BitVec.ofNat 32 (i 1).val) 5#32) 2#32) (Scalar.addi (Scalar.muli (BitVec.ofNat 32 (i 1).val) 5#32) 3#32) (Scalar.addi (Scalar.muli (BitVec.ofNat 32 (i 1).val) 5#32) 4#32) (arg3.view.readAt (Elt F) (Rect.unit (s := S8320x128) (k1_off3 i) S640x128.size (k1_off3_inb i)).toLoadRect (harg3.unread x1)) (shapeCast S640x128 (arg5.view.readAt (Elt F) (Rect.unit (s := S1x1x640x128) ![0, 0, 0, 0] S1x1x640x128.size inb_S1x1x640x128_S1x1x640x128_0_0_0_0).toLoadRect (harg5.unread x3)) shapeCasts_S1x1x640x128_S640x128)) (load1A_dv c i arg2 harg2 arg3 harg3 arg4 harg4 arg5 harg5 arg6 harg6 arg7 harg7 arg8 harg8 arg9 harg9 arg10 harg10 x0 x1 x2 x3 x4))))

end lists

/-- The loops of the first tile do nothing, so nothing is done yet. -/
theorem point1A_loop {D : Head} (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole)
    (x0 : Vec Ideal S640x128 .f32) (x1 : Vec Ideal S8320x128 .f32) (x2 : Vec Ideal S8320x128 .f32) (x3 : Vec Ideal S1x1x640x128 .f32) (x4 : Vec Ideal S640x128 .f32) (hi : (i 1).val = 0)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d) :
    BInv D (i 1).val ((i 1).val) (arg7.view.read (Elt Ideal) (arg7.view.writes (Elt Ideal) arg7.view.junk ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := Ideal) ))))) (arg8.view.read (Elt Ideal) (arg8.view.writes (Elt Ideal) arg8.view.junk ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := Ideal) ))))) (arg9.view.read (Elt Ideal) (arg9.view.writes (Elt Ideal) arg9.view.junk ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := Ideal) ))))) (arg10.view.read (Elt Ideal) (arg10.view.writes (Elt Ideal) arg10.view.junk ((a1P2 c i arg2 harg2 arg3 harg3 arg4 harg4 arg5 harg5 arg6 harg6 arg7 harg7 arg8 harg8 arg9 harg9 arg10 harg10 x0 x1 x2 x3 x4).2.2.2 ++ ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := Ideal) ))))) := by
  have e1 : a1P1 (F := Ideal) c i arg2 harg2 arg3 harg3 arg4 harg4 arg5 harg5 arg6 harg6 arg7 harg7 arg8 harg8 arg9 harg9 arg10 harg10 x0 x1 x2 x3 x4 = ([], [], [], []) := by
    unfold a1P1
    rw [show Scf.trips (k1_t1_loop i).lb (k1_t1_loop i).ub (k1_t1_loop i).st = 0 from (loop1_trips i).trans (by rw [hi])]
    rfl
  have e2 : a1P2 (F := Ideal) c i arg2 harg2 arg3 harg3 arg4 harg4 arg5 harg5 arg6 harg6 arg7 harg7 arg8 harg8 arg9 harg9 arg10 harg10 x0 x1 x2 x3 x4 = ([], [], [], []) := by
    unfold a1P2
    rw [show Scf.trips (k1_t2_loop i).lb (k1_t2_loop i).ub (k1_t2_loop i).st = 0 from loop1_rest i]
    rfl
  rw [e2, List.nil_append, List.nil_append, List.nil_append, List.nil_append, e1, List.nil_append, List.nil_append, List.nil_append, List.nil_append, hi]
  refine ⟨?_, ?_, ?_, ?_⟩
  · refine IsR.congr (f := fun _ _ => 0) ?_ fun r d _ _ => by simp
    intro j
    show arg7.view.read (Elt Ideal) (arg7.view.writes (Elt Ideal) arg7.view.junk (⟨(Rect.unit (s := S640x128) ![0, 0] S640x128.size inb_S640x128_S640x128_0_0), _⟩ :: [])) j = _
    rw [read_tile]
    exact ofBits_zero
  · refine IsR.congr (f := fun _ _ => 0) ?_ fun r d _ _ => by simp
    intro j
    show arg8.view.read (Elt Ideal) (arg8.view.writes (Elt Ideal) arg8.view.junk (⟨(Rect.unit (s := S8320x128) ![0, 0] S8320x128.size inb_S8320x128_S8320x128_0_0), _⟩ :: [])) j = _
    rw [View.read_writes_full]
    exact ofBits_zero
  · refine IsR.congr (f := fun _ _ => 0) ?_ fun r d _ _ => by simp
    intro j
    show arg9.view.read (Elt Ideal) (arg9.view.writes (Elt Ideal) arg9.view.junk (⟨(Rect.unit (s := S8320x128) ![0, 0] S8320x128.size inb_S8320x128_S8320x128_0_0), _⟩ :: [])) j = _
    rw [View.read_writes_full]
    exact ofBits_zero
  · refine IsR.congr (f := fun _ _ => 0) ?_ fun r d _ _ => by simp
    intro j
    show arg10.view.read (Elt Ideal) (arg10.view.writes (Elt Ideal) arg10.view.junk (⟨(Rect.unit (s := S640x128) ![0, 0] S640x128.size inb_S640x128_S640x128_0_0), _⟩ :: [])) j = _
    rw [read_tile]
    exact ofBits_zero

/-- The first tile of queries: its only group. -/
theorem point1_A {D : Head} (hcap : D.Capped) (c : Dev nD) (i : grid1.Coords) (arg2 : Memref sig .tc .vmem S640x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S1x1x640x128 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S8320x128 .f32) (harg8 : arg8.IsWhole) (arg9 : Memref sig .tc .vmem S8320x128 .f32) (harg9 : arg9.IsWhole) (arg10 : Memref sig .tc .vmem S640x128 .f32) (harg10 : arg10.IsWhole) (hc0 : cond1_0 i) (hc1 : ¬cond1_1 i)
    (x0 : Vec Ideal S640x128 .f32) (x1 : Vec Ideal S8320x128 .f32) (x2 : Vec Ideal S8320x128 .f32) (x3 : Vec Ideal S1x1x640x128 .f32) (x4 : Vec Ideal S640x128 .f32) (hi : (i 1).val = 0)
    (hq : IsR x0 fun r d => D.q (640 * (i 1).val + r) d) (hk : IsR x1 D.k) (hv : IsR x2 D.v)
    (hs : IsR (shapeCast S640x128 x3 shapeCasts_S1x1x640x128_S640x128) fun r j => ∑ a ∈ Ico (128 * (j + 1)) 8320, D.L (640 * (i 1).val + r) a)
    (ho : IsR x4 fun r d => D.o (640 * (i 1).val + r) d) :
    ∃ x10, BInv D (i 1).val ((i 1).val + 1) (arg7.view.read (Elt Ideal) (arg7.view.writes (Elt Ideal) arg7.view.junk (kernelRun1_A (F := Ideal) c i arg2 harg2 arg3 harg3 arg4 harg4 arg5 harg5 arg6 harg6 arg7 harg7 arg8 harg8 arg9 harg9 arg10 harg10 hc0 hc1 x0 x1 x2 x3 x4).1))
      (arg8.view.read (Elt Ideal) (arg8.view.writes (Elt Ideal) arg8.view.junk (kernelRun1_A (F := Ideal) c i arg2 harg2 arg3 harg3 arg4 harg4 arg5 harg5 arg6 harg6 arg7 harg7 arg8 harg8 arg9 harg9 arg10 harg10 hc0 hc1 x0 x1 x2 x3 x4).2.1))
      (arg9.view.read (Elt Ideal) (arg9.view.writes (Elt Ideal) arg9.view.junk (kernelRun1_A (F := Ideal) c i arg2 harg2 arg3 harg3 arg4 harg4 arg5 harg5 arg6 harg6 arg7 harg7 arg8 harg8 arg9 harg9 arg10 harg10 hc0 hc1 x0 x1 x2 x3 x4).2.2.1)) x10 := by
  have ht : (i 1).val < 13 := (i 1).isLt
  have e3 : IsR (arg3.view.read (Elt Ideal) (harg3.unread x1)) D.k := by rw [Memref.IsWhole.read_unread]; exact hk
  have e4 : IsR (arg4.view.read (Elt Ideal) (harg4.unread x2)) D.v := by rw [Memref.IsWhole.read_unread]; exact hv
  have e5 : IsR (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128) fun r j => ∑ a ∈ Ico (128 * (j + 1)) 8320, D.L (640 * (i 1).val + r) a := by rw [readAt_saved, Memref.IsWhole.read_unread]; exact hs
  have eq : IsR (kernelRun1_A.sl.r (F := Ideal) c arg2 harg2 x0) fun r d => D.q (640 * (i 1).val + r) d := fun j => by
    have h := hq j
    rw [← Memref.IsWhole.read_unread harg2 x0, ← readAt_tile] at h
    exact h
  have eo : IsR (kernelRun1_A.sl.r_1 (F := Ideal) c arg6 harg6 x4) fun r d => D.o (640 * (i 1).val + r) d := fun j => by
    have h := ho j
    rw [← Memref.IsWhole.read_unread harg6 x4, ← readAt_tile] at h
    exact h

  exact ⟨_, BInv.of_eq (BInv.store_cons (L7 := ((a1P2 c i arg2 harg2 arg3 harg3 arg4 harg4 arg5 harg5 arg6 harg6 arg7 harg7 arg8 harg8 arg9 harg9 arg10 harg10 x0 x1 x2 x3 x4).1 ++ ((a1P1 c i arg2 harg2 arg3 harg3 arg4 harg4 arg5 harg5 arg6 harg6 arg7 harg7 arg8 harg8 arg9 harg9 arg10 harg10 x0 x1 x2 x3 x4).1 ++ (kernelRun1_A.sl.H5_1 (F := Ideal) )))) (L8 := ((a1P2 c i arg2 harg2 arg3 harg3 arg4 harg4 arg5 harg5 arg6 harg6 arg7 harg7 arg8 harg8 arg9 harg9 arg10 harg10 x0 x1 x2 x3 x4).2.1 ++ ((a1P1 c i arg2 harg2 arg3 harg3 arg4 harg4 arg5 harg5 arg6 harg6 arg7 harg7 arg8 harg8 arg9 harg9 arg10 harg10 x0 x1 x2 x3 x4).2.1 ++ (kernelRun1_A.sl.H6_1 (F := Ideal) )))) (L9 := ((a1P2 c i arg2 harg2 arg3 harg3 arg4 harg4 arg5 harg5 arg6 harg6 arg7 harg7 arg8 harg8 arg9 harg9 arg10 harg10 x0 x1 x2 x3 x4).2.2.1 ++ ((a1P1 c i arg2 harg2 arg3 harg3 arg4 harg4 arg5 harg5 arg6 harg6 arg7 harg7 arg8 harg8 arg9 harg9 arg10 harg10 x0 x1 x2 x3 x4).2.2.1 ++ (kernelRun1_A.sl.H7_1 (F := Ideal) )))) (L10 := ((a1P2 c i arg2 harg2 arg3 harg3 arg4 harg4 arg5 harg5 arg6 harg6 arg7 harg7 arg8 harg8 arg9 harg9 arg10 harg10 x0 x1 x2 x3 x4).2.2.2 ++ ((a1P1 c i arg2 harg2 arg3 harg3 arg4 harg4 arg5 harg5 arg6 harg6 arg7 harg7 arg8 harg8 arg9 harg9 arg10 harg10 x0 x1 x2 x3 x4).2.2.2 ++ (kernelRun1_A.sl.HS0_1 (F := Ideal) )))) (n := (i 1).val) (mk := masked (maskV (BitVec.ofNat 32 (i 1).val) (BitVec.ofNat 32 (i 1).val))) (q := (kernelRun1_A.sl.r (F := Ideal) c arg2 harg2 x0)) (o := (kernelRun1_A.sl.r_1 (F := Ideal) c arg6 harg6 x4)) (tri := triV) (pre := preV) (lane := lanesV)
    (s := (shapeCast S640x128 (arg5.view.readAt (Elt Ideal) (Rect.unit (s := S1x1x640x128) ![0, 0, 0, 0] S1x1x640x128.size inb_S1x1x640x128_S1x1x640x128_0_0_0_0).toLoadRect (harg5.unread x3)) shapeCasts_S1x1x640x128_S640x128)) (X3 := harg3.unread x1) (X4 := harg4.unread x2)
    (f7 := arg7.view.junk) (f8 := arg8.view.junk) (f9 := arg9.view.junk) (f10 := arg10.view.junk)
    ht ht hcap (isMk_masked (isM_maskV ht ht rfl rfl)) isR_triV isR_preV lanesV_apply (point1_word i 0) (point1_word i 1) (point1_word i 2) (point1_word i 3) (point1_word i 4) eq eo e5 e3 e4
    (point1A_loop c i arg2 harg2 arg3 harg3 arg4 harg4 arg5 harg5 arg6 harg6 arg7 harg7 arg8 harg8 arg9 harg9 arg10 harg10 x0 x1 x2 x3 x4 hi hq hk hv hs ho) (off := k1_off3 i) (point1_off3 i) (k1_off3_inb i) inb_S640x128_S640x128_0_0)
    (list1A_dq c i arg2 harg2 arg3 harg3 arg4 harg4 arg5 harg5 arg6 harg6 arg7 harg7 arg8 harg8 arg9 harg9 arg10 harg10 hc0 hc1 x0 x1 x2 x3 x4) (list1A_dk c i arg2 harg2 arg3 harg3 arg4 harg4 arg5 harg5 arg6 harg6 arg7 harg7 arg8 harg8 arg9 harg9 arg10 harg10 hc0 hc1 x0 x1 x2 x3 x4) (list1A_dv c i arg2 harg2 arg3 harg3 arg4 harg4 arg5 harg5 arg6 harg6 arg7 harg7 arg8 harg8 arg9 harg9 arg10 harg10 hc0 hc1 x0 x1 x2 x3 x4)⟩

end Cert.StickBreaking
-- ==== Proof.Arr1.lean ====
module

public import proofs.«01_k».proof.Proof.Arr0
public import proofs.«01_k».proof.Proof.Point1A

/-! What the backward kernel leaves in its three result arrays, from the heads its arguments hold. -/

@[expose] public section

noncomputable section

namespace Cert.StickBreaking

open Idealize.ShloMosaic Idealize.ShloMosaic.TcCoe Cert.KernelIdeal Cert.KernelIdeal.Gen Idealize.SL.Sem Finset Head

variable {V : (c : Dev nD) → (b : Ref sig .tc) → Buf (Elt Ideal) ((c : Thread nD τ).loc b)} {D : ℕ → Head} {c : Dev nD}

/-- The array of saved sums holds what the forward kernel leaves there. -/
def Saved (D : ℕ → Head) (A : S4x13x640x128.Idx → EReal) : Prop :=
  ∀ i, A i = (((∑ s ∈ Ico (128 * ((i 3).val + 1)) 8320, (D (i 0).val).L (640 * (i 1).val + (i 2).val) s : ℝ)) : EReal)

theorem index1_0 : ∀ t : Fin cfg1.N, win1_0.index t = ![(grid1.coords t 1).val, 24 + (grid1.coords t 0).val] :=
  (by decide +kernel : ∀ t : Fin grid1.N, _)
theorem index1_1 : ∀ t : Fin cfg1.N, win1_1.index t = ![0, 28 + (grid1.coords t 0).val] :=
  (by decide +kernel : ∀ t : Fin grid1.N, _)
theorem index1_2 : ∀ t : Fin cfg1.N, win1_2.index t = ![0, 32 + (grid1.coords t 0).val] :=
  (by decide +kernel : ∀ t : Fin grid1.N, _)
theorem index1_3 : ∀ t : Fin cfg1.N, win1_3.index t = ![(grid1.coords t 0).val, (grid1.coords t 1).val, 0, 0] :=
  (by decide +kernel : ∀ t : Fin grid1.N, _)
theorem index1_4 : ∀ t : Fin cfg1.N, win1_4.index t = ![(grid1.coords t 1).val, 8 + (grid1.coords t 0).val] :=
  (by decide +kernel : ∀ t : Fin grid1.N, _)
theorem index1_5 : ∀ t : Fin cfg1.N, win1_5.index t = ![(grid1.coords t 1).val, (grid1.coords t 0).val] :=
  (by decide +kernel : ∀ t : Fin grid1.N, _)
theorem index1_6 : ∀ t : Fin cfg1.N, win1_6.index t = ![0, (grid1.coords t 0).val] :=
  (by decide +kernel : ∀ t : Fin grid1.N, _)
theorem index1_7 : ∀ t : Fin cfg1.N, win1_7.index t = ![0, (grid1.coords t 0).val] :=
  (by decide +kernel : ∀ t : Fin grid1.N, _)
theorem coords1 : ∀ t : Fin cfg1.N, (grid1.coords t 0).val = t.val / 13 ∧ (grid1.coords t 1).val = t.val % 13 :=
  (by decide +kernel : ∀ t : Fin grid1.N, _)

theorem block1_q (hF : Feeds D (V c main_arg0) (V c main_arg1)) (t : Fin cfg1.N) :
    IsR (a := 640) (b := 128) (iblk1 V c 0 t) fun r d => (D (grid1.coords t 0).val).q (640 * (grid1.coords t 1).val + r) d := by
  intro j
  have h : (grid1.coords t 0).val < 4 := (grid1.coords t 0).isLt
  unfold iblk1
  rw [View.read_apply]
  refine hF.q _ _ _ _ h (j 1).isLt ?_ ?_
  · show win1_0.index t 0 * 640 + 1 * (j 0).val = _
    rw [index1_0 t]; show (grid1.coords t 1).val * 640 + 1 * (j 0).val = _; omega
  · show win1_0.index t 1 * 128 + 1 * (j 1).val = _
    rw [index1_0 t]; show (24 + (grid1.coords t 0).val) * 128 + 1 * (j 1).val = _; omega

theorem block1_k (hF : Feeds D (V c main_arg0) (V c main_arg1)) (t : Fin cfg1.N) :
    IsR (a := 8320) (b := 128) (iblk1 V c 1 t) (D (grid1.coords t 0).val).k := by
  intro j
  have h : (grid1.coords t 0).val < 4 := (grid1.coords t 0).isLt
  unfold iblk1
  rw [View.read_apply]
  refine hF.k _ _ _ _ h (j 1).isLt ?_ ?_
  · show win1_1.index t 0 * 8320 + 1 * (j 0).val = _
    rw [index1_1 t]; show 0 * 8320 + 1 * (j 0).val = _; omega
  · show win1_1.index t 1 * 128 + 1 * (j 1).val = _
    rw [index1_1 t]; show (28 + (grid1.coords t 0).val) * 128 + 1 * (j 1).val = _; omega

theorem block1_v (hF : Feeds D (V c main_arg0) (V c main_arg1)) (t : Fin cfg1.N) :
    IsR (a := 8320) (b := 128) (iblk1 V c 2 t) (D (grid1.coords t 0).val).v := by
  intro j
  have h : (grid1.coords t 0).val < 4 := (grid1.coords t 0).isLt
  unfold iblk1
  rw [View.read_apply]
  refine hF.v _ _ _ _ h (j 1).isLt ?_ ?_
  · show win1_2.index t 0 * 8320 + 1 * (j 0).val = _
    rw [index1_2 t]; show 0 * 8320 + 1 * (j 0).val = _; omega
  · show win1_2.index t 1 * 128 + 1 * (j 1).val = _
    rw [index1_2 t]; show (32 + (grid1.coords t 0).val) * 128 + 1 * (j 1).val = _; omega

theorem block1_o (hF : Feeds D (V c main_arg0) (V c main_arg1)) (t : Fin cfg1.N) :
    IsR (a := 640) (b := 128) (iblk1 V c 4 t) fun r d => (D (grid1.coords t 0).val).o (640 * (grid1.coords t 1).val + r) d := by
  intro j
  have h : (grid1.coords t 0).val < 4 := (grid1.coords t 0).isLt
  unfold iblk1
  rw [View.read_apply]
  refine hF.o _ _ _ _ h (j 1).isLt ?_ ?_
  · show win1_4.index t 0 * 640 + 1 * (j 0).val = _
    rw [index1_4 t]; show (grid1.coords t 1).val * 640 + 1 * (j 0).val = _; omega
  · show win1_4.index t 1 * 128 + 1 * (j 1).val = _
    rw [index1_4 t]; show (8 + (grid1.coords t 0).val) * 128 + 1 * (j 1).val = _; omega

theorem block1_s (hS : Saved D (V c main_v0_1)) (t : Fin cfg1.N) :
    IsR (shapeCast S640x128 (iblk1 V c 3 t : S1x1x640x128.Idx → EReal) shapeCasts_S1x1x640x128_S640x128)
      fun r j => ∑ a ∈ Ico (128 * (j + 1)) 8320, (D (grid1.coords t 0).val).L (640 * (grid1.coords t 1).val + r) a := by
  intro j
  rw [saved_apply (iblk1 V c 3 t) j (ix4 0 0 (j 0) (j 1)) rfl rfl]
  unfold iblk1
  rw [View.read_apply]
  refine (hS _).trans ?_
  have e0 : (((cfg1.win 3).blk t).view.emb (ix4 (0 : Fin 1) (0 : Fin 1) (j 0 : Fin 640) (j 1 : Fin 128)) 0).val = (grid1.coords t 0).val := by
    show win1_3.index t 0 * 1 + 1 * 0 = _
    rw [index1_3 t]; show (grid1.coords t 0).val * 1 + 1 * 0 = _; omega
  have e1 : (((cfg1.win 3).blk t).view.emb (ix4 (0 : Fin 1) (0 : Fin 1) (j 0 : Fin 640) (j 1 : Fin 128)) 1).val = (grid1.coords t 1).val := by
    show win1_3.index t 1 * 1 + 1 * 0 = _
    rw [index1_3 t]; show (grid1.coords t 1).val * 1 + 1 * 0 = _; omega
  have e2 : (((cfg1.win 3).blk t).view.emb (ix4 (0 : Fin 1) (0 : Fin 1) (j 0 : Fin 640) (j 1 : Fin 128)) 2).val = (j 0).val := by
    show win1_3.index t 2 * 640 + 1 * (j 0).val = _
    rw [index1_3 t]; show 0 * 640 + 1 * (j 0).val = _; omega
  have e3 : (((cfg1.win 3).blk t).view.emb (ix4 (0 : Fin 1) (0 : Fin 1) (j 0 : Fin 640) (j 1 : Fin 128)) 3).val = (j 1).val := by
    show win1_3.index t 3 * 128 + 1 * (j 1).val = _
    rw [index1_3 t]; show 0 * 128 + 1 * (j 1).val = _; omega
  rw [e0, e1, e2, e3]

/-- What the points up to a tile of queries leave in the three staging buffers. -/
structure Left (D : Head) (t : ℕ) (x : Vec Ideal S640x128 .f32 × Vec Ideal S8320x128 .f32 × Vec Ideal S8320x128 .f32) : Prop where
  dq : IsR x.1 fun r d => ∑ s ∈ range (640 * (t + 1)), D.DZ (640 * t + r) s * D.k s d
  dk : IsR x.2.1 fun s d => ∑ u ∈ range (640 * (t + 1)), D.DZ u s * D.q u d
  dv : IsR x.2.2 fun s d => ∑ u ∈ range (640 * (t + 1)), D.W u s * D.o u d

/-- Keys past a tile take no part in it. -/
theorem sum_tile {D : Head} {f : ℕ → ℕ → ℝ} (hf : ∀ {u s}, ¬ Attends u s → f u s = 0) (g : ℕ → ℝ) {t s : ℕ} :
    ∑ u ∈ range (if s < 640 * (t + 1) then 640 * (t + 1) else 640 * t), f u s * g u = ∑ u ∈ range (640 * (t + 1)), f u s * g u := by
  split_ifs with h
  · rfl
  · refine sum_subset (range_subset_range.mpr (by omega)) fun u hu _ => ?_
    rw [mem_range] at hu
    rw [hf (not_attends (by omega)), zero_mul]

theorem Left.of_inv {D : Head} {t : ℕ} {x7 : Vec Ideal S640x128 .f32} {x8 x9 : Vec Ideal S8320x128 .f32} {x10 : FVec Ideal S640x128 .f32}
    (h : BInv D t (t + 1) x7 x8 x9 x10) : Left D t (x7, x8, x9) :=
  ⟨h.dq, h.dk.congr fun s d _ _ => sum_tile (D := D) D.DZ_of_not _, h.dv.congr fun s d _ _ => sum_tile (D := D) D.W_of_not _⟩

theorem outs1_A (hF : Feeds D (V c main_arg0) (V c main_arg1)) (hS : Saved D (V c main_v0_1)) (hcap : ∀ h, (D h).Capped) (t : Fin cfg1.N) (h0 : t.val % 13 = 0) :
    Left (D (t.val / 13)) (t.val % 13) (outsAt1 V c t.val t.isLt) := by
  have e := coords1 t
  have h1 : ¬ 1 ≤ t.val % 13 := by omega
  rw [← e.1, ← e.2, outsAt1_A V c t h0 h1]
  unfold out1_A_5 out1_A_6 out1_A_7
  obtain ⟨x10, hx⟩ := point1_A (hcap (grid1.coords t 0).val) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _)
    ((hcond1_0 t).mpr h0) (fun h => h1 ((hcond1_1 t).mp h)) (iblk1 V c 0 t) (iblk1 V c 1 t) (iblk1 V c 2 t) (iblk1 V c 3 t) (iblk1 V c 4 t) (by rw [e.2]; exact h0) (block1_q hF t) (block1_k hF t) (block1_v hF t) (block1_s hS t) (block1_o hF t)
  rw [View.read_writes_of_cover _ _ (ms1_5 t).view (ms1_5 t).view.junk _ (cover1_A_5 c _ _ _ _ _ _ _ _ _ _ _ _ _ _ _ _ _ _ _ _ _ _ _ _ _ _),
    View.read_writes_of_cover _ _ (ms1_6 t).view (ms1_6 t).view.junk _ (cover1_A_6 c _ _ _ _ _ _ _ _ _ _ _ _ _ _ _ _ _ _ _ _ _ _ _ _ _ _),
    View.read_writes_of_cover _ _ (ms1_7 t).view (ms1_7 t).view.junk _ (cover1_A_7 c _ _ _ _ _ _ _ _ _ _ _ _ _ _ _ _ _ _ _ _ _ _ _ _ _ _)]
  exact Left.of_inv hx

theorem outs1_B (hF : Feeds D (V c main_arg0) (V c main_arg1)) (hS : Saved D (V c main_v0_1)) (hcap : ∀ h, (D h).Capped) (t : Fin cfg1.N) (h0 : ¬ t.val % 13 = 0)
    (ih : Left (D ((t.val - 1) / 13)) ((t.val - 1) % 13) (outsAt1 V c (t.val - 1) (Nat.lt_of_le_of_lt (Nat.sub_le _ _) t.isLt))) :
    Left (D (t.val / 13)) (t.val % 13) (outsAt1 V c t.val t.isLt) := by
  have e := coords1 t
  have h1 : 1 ≤ t.val % 13 := by omega
  rw [← e.1, ← e.2, outsAt1_B V c t h0 h1]
  rw [show (t.val - 1) / 13 = (grid1.coords t 0).val by omega, show (t.val - 1) % 13 = (grid1.coords t 1).val - 1 by omega] at ih
  have e7 : 640 * ((grid1.coords t 1).val - 1 + 1) = 640 * (grid1.coords t 1).val := by omega
  have h6 := ih.dk
  have h7 := ih.dv
  rw [e7] at h6 h7
  unfold out1_B_5 out1_B_6 out1_B_7
  obtain ⟨x10, hx⟩ := point1_B (hcap (grid1.coords t 0).val) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _)
    (fun h => h0 ((hcond1_0 t).mp h)) ((hcond1_1 t).mpr h1) (iblk1 V c 0 t) (iblk1 V c 1 t) (iblk1 V c 2 t) (iblk1 V c 3 t) (iblk1 V c 4 t)
    (outsAt1 V c (t.val - 1) (Nat.lt_of_le_of_lt (Nat.sub_le _ _) t.isLt)).2.1 (outsAt1 V c (t.val - 1) (Nat.lt_of_le_of_lt (Nat.sub_le _ _) t.isLt)).2.2
    (by rw [e.2]; exact h1) (block1_q hF t) (block1_k hF t) (block1_v hF t) (block1_s hS t) (block1_o hF t) h6 h7
  rw [View.read_writes_of_cover _ _ (ms1_5 t).view (ms1_5 t).view.junk _ (cover1_B_5 c _ _ _ _ _ _ _ _ _ _ _ _ _ _ _ _ _ _ _ _ _ _ _ _ _ _ _ _)]
  exact Left.of_inv hx

/-- Every point. -/
theorem outs1 (hF : Feeds D (V c main_arg0) (V c main_arg1)) (hS : Saved D (V c main_v0_1)) (hcap : ∀ h, (D h).Capped) :
    ∀ n : ℕ, ∀ hn : n < cfg1.N, Left (D (n / 13)) (n % 13) (outsAt1 V c n hn) := by
  intro n
  induction n with
  | zero => intro hn; exact outs1_A hF hS hcap ⟨0, hn⟩ rfl
  | succ n ih =>
    intro hn
    by_cases h0 : (n + 1) % 13 = 0
    · exact outs1_A hF hS hcap ⟨n + 1, hn⟩ h0
    · exact outs1_B hF hS hcap ⟨n + 1, hn⟩ h0 (ih (by omega))

/-- The gradient of the queries. -/
theorem final1_dq (hF : Feeds D (V c main_arg0) (V c main_arg1)) (hS : Saved D (V c main_v0_1)) (hcap : ∀ h, (D h).Capped) (i : S8320x512.Idx) :
    (dat1 V c).arrAt 5 cfg1.N i = (((D ((i 1).val / 128)).DQ (i 0).val ((i 1).val % 128) : ℝ) : EReal) := by
  refine (dat1 V c).arrAt_forall_of_covers 5 (fun i v => v = (((D ((i 1).val / 128)).DQ (i 0).val ((i 1).val % 128) : ℝ) : EReal)) (by decide +kernel) (fun t hf y => ?_) i
  have y1 : (y 1).val < 128 := (y 1).isLt
  have hx := outs1 hF hS hcap t.val t.isLt
  have e := coords1 t
  have e0 : (((cfg1.win 5).blk t).view.emb y 0).val = 640 * (t.val % 13) + (y 0).val := by
    show win1_5.index t 0 * 640 + 1 * (y 0).val = _
    rw [index1_5 t]; show (grid1.coords t 1).val * 640 + 1 * (y 0).val = _; omega
  have e1 : (((cfg1.win 5).blk t).view.emb y 1).val = 128 * (t.val / 13) + (y 1).val := by
    show win1_5.index t 1 * 128 + 1 * (y 1).val = _
    rw [index1_5 t]; show (grid1.coords t 0).val * 128 + 1 * (y 1).val = _; omega
  rw [e0, e1, show (128 * (t.val / 13) + (y 1).val) / 128 = t.val / 13 by omega, show (128 * (t.val / 13) + (y 1).val) % 128 = (y 1).val by omega]
  show (dat1 V c).after 5 t y = _
  rw [after1_5]
  refine (hx.dq y).trans ?_
  have y0 : (y 0).val < 640 := (y 0).isLt
  refine congrArg (fun a : ℝ => (a : EReal)) (sum_subset (range_subset_range.mpr (by omega)) fun s _ hs => ?_)
  rw [mem_range] at hs
  show (D (t.val / 13)).DZ (640 * (t.val % 13) + (y 0).val) s * _ = 0
  rw [Head.DZ_of_not _ (not_attends (by omega)), zero_mul]

/-- The gradient of the keys. -/
theorem final1_dk (hF : Feeds D (V c main_arg0) (V c main_arg1)) (hS : Saved D (V c main_v0_1)) (hcap : ∀ h, (D h).Capped) (i : S8320x512.Idx) :
    (dat1 V c).arrAt 6 cfg1.N i = (((D ((i 1).val / 128)).DK (i 0).val ((i 1).val % 128) : ℝ) : EReal) := by
  refine (dat1 V c).arrAt_forall_of_covers 6 (fun i v => v = (((D ((i 1).val / 128)).DK (i 0).val ((i 1).val % 128) : ℝ) : EReal)) (by decide +kernel) (fun t hf y => ?_) i
  have y1 : (y 1).val < 128 := (y 1).isLt
  have hx := outs1 hF hS hcap t.val t.isLt
  have e := coords1 t
  have hl : t.val % 13 = 12 := (flush1_6 t).mp hf
  have e0 : (((cfg1.win 6).blk t).view.emb y 0).val = (y 0).val := by
    show win1_6.index t 0 * 8320 + 1 * (y 0).val = _
    rw [index1_6 t]; show 0 * 8320 + 1 * (y 0).val = _; omega
  have e1 : (((cfg1.win 6).blk t).view.emb y 1).val = 128 * (t.val / 13) + (y 1).val := by
    show win1_6.index t 1 * 128 + 1 * (y 1).val = _
    rw [index1_6 t]; show (grid1.coords t 0).val * 128 + 1 * (y 1).val = _; omega
  rw [e0, e1, show (128 * (t.val / 13) + (y 1).val) / 128 = t.val / 13 by omega, show (128 * (t.val / 13) + (y 1).val) % 128 = (y 1).val by omega]
  show (dat1 V c).after 6 t y = _
  rw [after1_6]
  refine (hx.dk y).trans ?_
  rw [hl]
  rfl

/-- The gradient of the values. -/
theorem final1_dv (hF : Feeds D (V c main_arg0) (V c main_arg1)) (hS : Saved D (V c main_v0_1)) (hcap : ∀ h, (D h).Capped) (i : S8320x512.Idx) :
    (dat1 V c).arrAt 7 cfg1.N i = (((D ((i 1).val / 128)).DV (i 0).val ((i 1).val % 128) : ℝ) : EReal) := by
  refine (dat1 V c).arrAt_forall_of_covers 7 (fun i v => v = (((D ((i 1).val / 128)).DV (i 0).val ((i 1).val % 128) : ℝ) : EReal)) (by decide +kernel) (fun t hf y => ?_) i
  have y1 : (y 1).val < 128 := (y 1).isLt
  have hx := outs1 hF hS hcap t.val t.isLt
  have e := coords1 t
  have hl : t.val % 13 = 12 := (flush1_7 t).mp hf
  have e0 : (((cfg1.win 7).blk t).view.emb y 0).val = (y 0).val := by
    show win1_7.index t 0 * 8320 + 1 * (y 0).val = _
    rw [index1_7 t]; show 0 * 8320 + 1 * (y 0).val = _; omega
  have e1 : (((cfg1.win 7).blk t).view.emb y 1).val = 128 * (t.val / 13) + (y 1).val := by
    show win1_7.index t 1 * 128 + 1 * (y 1).val = _
    rw [index1_7 t]; show (grid1.coords t 0).val * 128 + 1 * (y 1).val = _; omega
  rw [e0, e1, show (128 * (t.val / 13) + (y 1).val) / 128 = t.val / 13 by omega, show (128 * (t.val / 13) + (y 1).val) % 128 = (y 1).val by omega]
  show (dat1 V c).after 7 t y = _
  rw [after1_7]
  refine (hx.dv y).trans ?_
  rw [hl]
  rfl

end Cert.StickBreaking
-- ==== Proof.RunK.lean ====
module

public import proofs.«01_k».proof.Proof.Arr1

/-! The run of the two kernels, read at the four results. -/

@[expose] public section

noncomputable section

namespace Cert.StickBreaking

open Idealize.ShloMosaic Idealize.ShloMosaic.TcCoe Idealize.ShloMosaic.Tactic Cert.KernelIdeal Cert.KernelIdeal.Gen Finset Head
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One result of the four heads side by side: row, then head and column. -/
def sideBySide (D : ℕ → Head) (f : Head → ℕ → ℕ → ℝ) : S8320x512.Idx → EReal :=
  fun i => ((f (D ((i 1).val / 128)) (i 0).val ((i 1).val % 128) : ℝ) : EReal)

variable (m : (ℓ : Loc nD τ sig) → Buf (Elt Ideal) ℓ) (ρ : Dev nD → PrngReg)

set_option backward.isDefEq.respectTransparency.types false in
/-- Every buffer of the program ends at what the two kernels leave in it. -/
theorem run_bufs : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

variable {m ρ}

theorem feeds_V1 {D : ℕ → Head} {c : Dev nD} (hF : Feeds D (m ((c : Thread nD τ).loc main_arg0)) (m ((c : Thread nD τ).loc main_arg1))) :
    Feeds D (V1 m ρ c main_arg0) (V1 m ρ c main_arg1) := by
  have e0 : V1 m ρ c main_arg0 = m ((c : Thread nD τ).loc main_arg0) := W1_of m ρ c main_arg0 (by decide)
  have e1 : V1 m ρ c main_arg1 = m ((c : Thread nD τ).loc main_arg1) := W1_of m ρ c main_arg1 (by decide)
  rw [e0, e1]; exact hF

theorem saved_V1 {D : ℕ → Head} {c : Dev nD} (hF : Feeds D (m ((c : Thread nD τ).loc main_arg0)) (m ((c : Thread nD τ).loc main_arg1)))
    (hcap : ∀ h, (D h).Capped) : Saved D (V1 m ρ c main_v0_1) := by
  have e : V1 m ρ c main_v0_1 = (dat0 (V0 m ρ) c).arrAt 4 cfg0.N := W1_arr m ρ c 4
  rw [e]
  exact final0_saved (V := V0 m ρ) hF hcap

theorem W2_out {D : ℕ → Head} {c : Dev nD} (hF : Feeds D (m ((c : Thread nD τ).loc main_arg0)) (m ((c : Thread nD τ).loc main_arg1)))
    (hcap : ∀ h, (D h).Capped) : W2 m ρ c (Proc.devRef .tc main_v0_0) = sideBySide D Head.Out := by
  refine (W2_of_ne m ρ c main_v0_0 (by decide)).trans ((W1_arr m ρ c 3).trans ?_)
  funext i
  exact final0_out (V := V0 m ρ) hF hcap i

theorem W2_dq {D : ℕ → Head} {c : Dev nD} (hF : Feeds D (m ((c : Thread nD τ).loc main_arg0)) (m ((c : Thread nD τ).loc main_arg1)))
    (hcap : ∀ h, (D h).Capped) : W2 m ρ c (Proc.devRef .tc main_v1_0) = sideBySide D Head.DQ := by
  refine (W2_arr m ρ c 5).trans ?_
  funext i
  exact final1_dq (V := V1 m ρ) (feeds_V1 hF) (saved_V1 hF hcap) hcap i

theorem W2_dk {D : ℕ → Head} {c : Dev nD} (hF : Feeds D (m ((c : Thread nD τ).loc main_arg0)) (m ((c : Thread nD τ).loc main_arg1)))
    (hcap : ∀ h, (D h).Capped) : W2 m ρ c (Proc.devRef .tc main_v1_1) = sideBySide D Head.DK := by
  refine (W2_arr m ρ c 6).trans ?_
  funext i
  exact final1_dk (V := V1 m ρ) (feeds_V1 hF) (saved_V1 hF hcap) hcap i

theorem W2_dv {D : ℕ → Head} {c : Dev nD} (hF : Feeds D (m ((c : Thread nD τ).loc main_arg0)) (m ((c : Thread nD τ).loc main_arg1)))
    (hcap : ∀ h, (D h).Capped) : W2 m ρ c (Proc.devRef .tc main_v1_2) = sideBySide D Head.DV := by
  refine (W2_arr m ρ c 7).trans ?_
  funext i
  exact final1_dv (V := V1 m ρ) (feeds_V1 hF) (saved_V1 hF hcap) hcap i

/-- The run, read: the four results are those of the heads the arguments hold, the arguments unchanged. -/
theorem run_kernel (D : Dev nD → ℕ → Head) (hF : ∀ c : Dev nD, Feeds (D c) (m ((c.tc : Thread nD τ).loc main_arg0)) (m ((c.tc : Thread nD τ).loc main_arg1)))
    (hcap : ∀ c h, (D c h).Capped) : θ_run defs (onTc (τ := τ) (main (F := Ideal))) ⟨m, fun _ => 0, ρ⟩ (fun r => ∀ c : Dev nD,
      r.2.mem ((c.tc : Thread nD τ).loc main_v0_0) = sideBySide (D c) Head.Out
      ∧ r.2.mem ((c.tc : Thread nD τ).loc main_v1_0) = sideBySide (D c) Head.DQ
      ∧ r.2.mem ((c.tc : Thread nD τ).loc main_v1_1) = sideBySide (D c) Head.DK
      ∧ r.2.mem ((c.tc : Thread nD τ).loc main_v1_2) = sideBySide (D c) Head.DV
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      (h c _ (mem_uc main_v0_0 (by decide))).trans (W2_out (hF c) (hcap c)),
      (h c _ (mem_uc main_v1_0 (by decide))).trans (W2_dq (hF c) (hcap c)),
      (h c _ (mem_uc main_v1_1 (by decide))).trans (W2_dk (hF c) (hcap c)),
      (h c _ (mem_uc main_v1_2 (by decide))).trans (W2_dv (hF c) (hcap c)),
      (h c _ (mem_uc main_arg0 (by decide))).trans (W2_main_arg0 m ρ c),
      (h c _ (mem_uc main_arg1 (by decide))).trans (W2_main_arg1 m ρ c)⟩)
    (run_bufs m ρ)

end Cert.StickBreaking
-- ==== Proof.RefVal.lean ====
module

public import proofs.«01_k».proof.Proof.Sums
public import proofs.«01_k».proof.Proof.RunK
public import proofs.«01_k».proof.Proof.Gen.ReferenceIdeal.Read

/-! What the reference computes, as real numbers: each of its arrays, read at an index, is the
quantity of stick-breaking attention it stands for. -/

@[expose] public section

noncomputable section

namespace Cert.StickBreaking.Ref

open Idealize.ShloMosaic Idealize.SL.Sem Cert.ReferenceIdeal Cert.ReferenceIdeal.Read Cert.StickBreaking Finset

variable {D : ℕ → Head} {x0 : (⟨S8320x5120, .f32⟩ : BufTy).Contents (Elt Ideal)} {x1 : (⟨S8320x1536, .f32⟩ : BufTy).Contents (Elt Ideal)}

section heads
variable (hF : Feeds D x0 x1)
include hF

theorem q_apply : IsH (val_main_v4 (F := Ideal) x0) fun h t d => (D h).q t d := fun i => by
  have h0 : (i 0).val < 4 := (i 0).isLt
  have h1 : (i 1).val < 8320 := (i 1).isLt
  have h2 : (i 2).val < 128 := (i 2).isLt
  rw [val_main_v4_apply, val_main_v3_apply, val_main_v0_apply]
  refine hF.q (i 0).val (i 1).val (i 2).val _ h0 h2 ?_ ?_
  · show (((i 1).val * 4 + (i 0).val) * 128 + (i 2).val) / 512 = (i 1).val
    omega
  · show 3072 + (((i 1).val * 4 + (i 0).val) * 128 + (i 2).val) % 512 = 3072 + 128 * (i 0).val + (i 2).val
    omega

theorem k_apply : IsH (val_main_v6 (F := Ideal) x0) fun h t d => (D h).k t d := fun i => by
  have h0 : (i 0).val < 4 := (i 0).isLt
  have h1 : (i 1).val < 8320 := (i 1).isLt
  have h2 : (i 2).val < 128 := (i 2).isLt
  rw [val_main_v6_apply, val_main_v5_apply, val_main_v1_apply]
  refine hF.k (i 0).val (i 1).val (i 2).val _ h0 h2 ?_ ?_
  · show (((i 1).val * 4 + (i 0).val) * 128 + (i 2).val) / 512 = (i 1).val
    omega
  · show 3584 + (((i 1).val * 4 + (i 0).val) * 128 + (i 2).val) % 512 = 3584 + 128 * (i 0).val + (i 2).val
    omega

theorem v_apply : IsH (val_main_v29 (F := Ideal) x0) fun h t d => (D h).v t d := fun i => by
  have h0 : (i 0).val < 4 := (i 0).isLt
  have h1 : (i 1).val < 8320 := (i 1).isLt
  have h2 : (i 2).val < 128 := (i 2).isLt
  rw [val_main_v29_apply, val_main_v28_apply, val_main_v2_apply]
  refine hF.v (i 0).val (i 1).val (i 2).val _ h0 h2 ?_ ?_
  · show (((i 1).val * 4 + (i 0).val) * 128 + (i 2).val) / 512 = (i 1).val
    omega
  · show 4096 + (((i 1).val * 4 + (i 0).val) * 128 + (i 2).val) % 512 = 4096 + 128 * (i 0).val + (i 2).val
    omega

theorem o_apply : IsH (val_main_v35 (F := Ideal) x1) fun h t d => (D h).o t d := fun i => by
  have h0 : (i 0).val < 4 := (i 0).isLt
  have h1 : (i 1).val < 8320 := (i 1).isLt
  have h2 : (i 2).val < 128 := (i 2).isLt
  rw [val_main_v35_apply, val_main_v34_apply, val_main_v33_apply]
  refine hF.o (i 0).val (i 1).val (i 2).val _ h0 h2 ?_ ?_
  · show (((i 1).val * 4 + (i 0).val) * 128 + (i 2).val) / 512 = (i 1).val
    omega
  · show 1024 + (((i 1).val * 4 + (i 0).val) * 128 + (i 2).val) % 512 = 1024 + 128 * (i 0).val + (i 2).val
    omega

theorem z_apply : IsH (val_main_v9 (F := Ideal) x0) fun h t s => (D h).Z t s := fun i => by
  rw [val_main_v9_apply, val_main_v7_apply, val_main_v8_apply, val_main_cst_apply]
  refine (congrArg₂ (fun a b : EReal => a * b) ?_ ofBits_scale).trans (EReal.coe_mul _ _).symm
  refine (Finset.sum_congr rfl fun k _ => congrArg₂ (fun a b : EReal => a * b) (q_apply hF _) (k_apply hF _)).trans ?_
  exact sum_mul_coe 128 (fun d => (D (i 0).val).q (i 1).val d) fun d => (D (i 0).val).k (i 2).val d

end heads

theorem mask_apply (i : S8320x8320.Idx) : val_main_v20 (F := Ideal) i = 1#1 ↔ Attends (i 0).val (i 1).val := by
  have h0 : (i 0).val < 8320 := (i 0).isLt
  have h1 : (i 1).val < 8320 := (i 1).isLt
  rw [val_main_v20_apply, val_main_v15_apply, val_main_v13_apply, val_main_v11_apply, val_main_v10_apply, val_main_v14_apply, val_main_v12_apply,
    val_main_v10_apply, val_main_v19_apply, val_main_v18_apply, val_main_v17_apply, val_main_v10_apply, val_main_v16_apply, val_main_c_apply]
  show BitVec.ofBool ((BitVec.ofNat 32 (i 1).val).slt (BitVec.ofNat 32 (i 0).val))
    &&& BitVec.ofBool ((BitVec.ofNat 32 112).sle (BitVec.ofNat 32 (i 1).val)) = 1#1 ↔ _
  rw [BitVec.slt, BitVec.sle, toInt_small (by omega), toInt_small (by omega), toInt_small (by omega), BitVec.ofBool_and_ofBool, ofBool_eq_one,
    Bool.and_eq_true, decide_eq_true_iff, decide_eq_true_iff]
  unfold Attends
  norm_cast

/-- Selecting by a bit that says whether `p` holds. -/
theorem select_coe {p : Prop} [Decidable p] {b : BitVec 1} (hb : b = 1#1 ↔ p) {x y : EReal} {u v : ℝ} (hx : p → x = ((u : ℝ) : EReal))
    (hy : ¬ p → y = ((v : ℝ) : EReal)) : Scalar.select b x y = ((if p then u else v : ℝ) : EReal) := by
  by_cases h : p
  · rw [if_pos h, ← hx h]; exact if_pos (hb.2 h)
  · rw [if_neg h, ← hy h]; exact if_neg fun e => h (hb.1 e)

theorem select_top (a : ℝ) (x y : EReal) :
    Scalar.select (FloatOps.cmpf (F := Ideal) (φ := .f32) .oeq ((a : ℝ) : EReal) (FloatOps.ofBits (F := Ideal) .f32 0x7F800000#32)) x y = y := by
  have e : (Ideal.ofBits .f32 0x7F800000#32 : EReal) = ⊤ := by simp [Ideal.ofBits, Ideal.ieee]
  show Scalar.select (Ideal.cmp .oeq ((a : ℝ) : EReal) (Ideal.ofBits .f32 0x7F800000#32)) x y = y
  rw [e]
  show Scalar.select (BitVec.ofBool (decide (_ = _))) x y = y
  rw [decide_eq_false (EReal.coe_ne_top a)]; rfl

section rest
variable (hF : Feeds D x0 x1)
include hF

theorem sp_apply : IsH (val_main_v21_0 (F := Ideal) x0) fun h t s => Real.log (1 + Real.exp ((D h).Z t s)) := fun i => by
  rw [← softplus_coe, ← z_apply hF i, ← ofBits_zero]
  rw [val_main_v21_0_apply, val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply, val_main_call0_v2_apply,
    val_main_call0_v5_apply, val_main_call0_cst_apply]
  rfl

theorem sig_apply : IsH (val_main_v21_1 (F := Ideal) x0) fun h t s => Real.exp ((D h).Z t s - Real.log (1 + Real.exp ((D h).Z t s))) := fun i => by
  rw [val_main_v21_1_apply, val_main_call0_v21_apply, val_main_call0_v16_apply, val_main_call0_v20_apply, val_main_call0_v14_apply, val_main_call0_v18_apply,
    val_main_call0_v13_apply, val_main_call0_v17_apply, val_main_call0_cst_0_apply, val_main_call0_cst_2_apply, z_apply hF i, sp_apply hF i]
  rw [select_top, select_top]
  refine Eq.trans ?_ (Ideal.exp_coe _)
  exact congrArg (fun a : EReal => Ideal.exp a) (EReal.coe_sub _ _).symm

theorem l_apply : IsH (val_main_v23_0 (F := Ideal) x0) fun h t s => (D h).L t s := fun i => by
  rw [val_main_v23_0_apply, val_main_v23_1_apply, val_main_v22_apply, val_main_call1_v2_apply, val_main_call1_v0_apply, val_main_cst_0_apply]
  refine select_coe (mask_apply _) (fun _ => ?_) (fun _ => ofBits_zero)
  rw [sp_apply hF i]
  exact (EReal.coe_neg _).symm

theorem suf_apply : IsH (val_main_v24 (F := Ideal) x0) fun h t s => (D h).Suf t s := fun i => by
  unfold val_main_v24
  exact suffix_sum (M := 8319) rfl (l_apply hF) _ _ (fun j => by rw [val_main_call2_v0_apply, val_main_call2_cst_apply]; exact ofBits_zero) i

theorem w_apply : IsH (val_main_v27 (F := Ideal) x0) fun h t s => (D h).W t s := fun i => by
  rw [val_main_v27_apply, val_main_v26_0_apply, val_main_v26_1_apply, val_main_v25_apply, val_main_call3_v2_apply, val_main_call3_v0_apply, val_main_cst_1_apply,
    z_apply hF i, suf_apply hF i]
  have hb := mask_apply (idx_main_v26_1 i)
  have e : (Ideal.ofBits .f32 0xFF800000#32 : EReal) = ⊥ := by simp [Ideal.ofBits, Ideal.ieee]
  unfold Head.W
  by_cases h : Attends (i 1).val (i 2).val
  · refine (congrArg (fun a : EReal => Ideal.exp a) (if_pos (hb.2 h))).trans ?_
    refine Eq.trans ?_ (congrArg (fun a : ℝ => (a : EReal)) (if_pos h)).symm
    show Ideal.exp (_ + _) = _
    rw [← EReal.coe_add]; rfl
  · refine (congrArg (fun a : EReal => Ideal.exp a) (if_neg fun q => h (hb.1 q))).trans ?_
    refine Eq.trans ?_ (congrArg (fun a : ℝ => (a : EReal)) (if_neg h)).symm
    refine (congrArg (fun a : EReal => Ideal.exp a) e).trans ?_
    rw [Ideal.exp_bot]; rfl

theorem g_apply : IsH (val_main_v42 (F := Ideal) x0 x1) fun h t s => (D h).G t s := fun i => by
  rw [val_main_v42_apply, val_main_v26_1_apply, val_main_v41_apply, val_main_call4_v0_apply, val_main_call4_cst_apply, val_main_v38_apply]
  refine (select_coe (p := Attends (i 1).val (i 2).val) (u := (D (i 0).val).G (i 1).val (i 2).val) (mask_apply _) (fun _ => ?_) (fun _ => ofBits_zero)).trans ?_
  · refine (congrArg₂ (fun a b : EReal => a * b) ?_ (w_apply hF i)).trans (EReal.coe_mul _ _).symm
    refine (Finset.sum_congr rfl fun k _ => congrArg₂ (fun a b : EReal => a * b) (o_apply hF _) (v_apply hF _)).trans ?_
    exact sum_mul_coe 128 (fun d => (D (i 0).val).o (i 1).val d) fun d => (D (i 0).val).v (i 2).val d
  · by_cases h : Attends (i 1).val (i 2).val
    · rw [if_pos h]
    · rw [if_neg h]; exact congrArg (fun a : ℝ => (a : EReal)) (Head.G_of_not _ h).symm

theorem pre_apply : IsH (val_main_v43 (F := Ideal) x0 x1) fun h t s => (D h).Pre t s := fun i => by
  unfold val_main_v43
  exact prefix_sum (M := 8319) rfl (g_apply hF) _ _ (fun j => by rw [val_main_call5_v0_apply, val_main_call5_cst_apply]; exact ofBits_zero) i

theorem dz_apply : IsH (val_main_v49 (F := Ideal) x0 x1) fun h t s => (D h).DZ t s := fun i => by
  rw [val_main_v49_apply, val_main_v48_apply, val_main_cst_2_apply, val_main_v47_apply, val_main_v46_apply, val_main_v45_apply, val_main_v44_apply,
    val_main_v23_1_apply, val_main_call6_v0_apply, val_main_call6_cst_apply, g_apply hF i, sig_apply hF i, pre_apply hF i]
  have hs := select_coe (p := Attends (i 1).val (i 2).val) (x := (((D (i 0).val).Pre (i 1).val (i 2).val : ℝ) : EReal))
    (u := (D (i 0).val).Pre (i 1).val (i 2).val) (mask_apply (idx_main_v23_1 i)) (fun _ => rfl) (fun _ => ofBits_zero)
  refine (congrArg₂ (fun a b : EReal => a * b) (congrArg (fun a : EReal => _ + a) (congrArg (fun a : EReal => -a * _) hs)) ofBits_scale).trans ?_
  dsimp only
  rw [← EReal.coe_neg, ← EReal.coe_mul, ← EReal.coe_add, ← EReal.coe_mul]
  refine congrArg (fun a : ℝ => (a : EReal)) ?_
  unfold Head.DZ
  refine congrArg (fun a : ℝ => a * scale) ?_
  by_cases h : Attends (i 1).val (i 2).val
  · rw [if_pos h, if_pos h]
    have e : (D (i 0).val).L (i 1).val (i 2).val = -Real.log (1 + Real.exp ((D (i 0).val).Z (i 1).val (i 2).val)) := if_pos h
    rw [e, ← sub_eq_add_neg]
    ring
  · rw [if_neg h, if_neg h]
    ring

theorem out_eq : val_main_v32 (F := Ideal) x0 = sideBySide D Head.Out := funext fun i => by
  have h1 : (i 1).val < 512 := (i 1).isLt
  rw [val_main_v32_apply, val_main_v31_apply, val_main_v30_apply]
  refine (Finset.sum_congr rfl fun k _ => congrArg₂ (fun a b : EReal => a * b) (w_apply hF _) (v_apply hF _)).trans ?_
  refine (sum_mul_coe 8320 (fun s => (D (((i 0).val * 512 + (i 1).val) / 128 % 4)).W (((i 0).val * 512 + (i 1).val) / 512) s)
    fun s => (D (((i 0).val * 512 + (i 1).val) / 128 % 4)).v s (((i 0).val * 512 + (i 1).val) % 128)).trans ?_
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl

theorem dv_eq : val_main_v40 (F := Ideal) x0 x1 = sideBySide D Head.DV := funext fun i => by
  have h1 : (i 1).val < 512 := (i 1).isLt
  rw [val_main_v40_apply, val_main_v39_apply, val_main_v37_apply, val_main_v36_apply]
  refine (Finset.sum_congr rfl fun k _ => (congrArg₂ (fun a b : EReal => a * b) (o_apply hF _) (w_apply hF _)).trans (mul_comm _ _)).trans ?_
  refine (sum_mul_coe 8320 (fun t => (D (((i 0).val * 512 + (i 1).val) / 128 % 4)).W t (((i 0).val * 512 + (i 1).val) / 512))
    fun t => (D (((i 0).val * 512 + (i 1).val) / 128 % 4)).o t (((i 0).val * 512 + (i 1).val) % 128)).trans ?_
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl

theorem dk_eq : val_main_v53 (F := Ideal) x0 x1 = sideBySide D Head.DK := funext fun i => by
  have h1 : (i 1).val < 512 := (i 1).isLt
  rw [val_main_v53_apply, val_main_v52_apply, val_main_v50_apply]
  refine (Finset.sum_congr rfl fun k _ => congrArg₂ (fun a b : EReal => a * b) (dz_apply hF _) (q_apply hF _)).trans ?_
  refine (sum_mul_coe 8320 (fun t => (D (((i 0).val * 512 + (i 1).val) / 128 % 4)).DZ t (((i 0).val * 512 + (i 1).val) / 512))
    fun t => (D (((i 0).val * 512 + (i 1).val) / 128 % 4)).q t (((i 0).val * 512 + (i 1).val) % 128)).trans ?_
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl

theorem dq_eq : val_main_v55 (F := Ideal) x0 x1 = sideBySide D Head.DQ := funext fun i => by
  have h1 : (i 1).val < 512 := (i 1).isLt
  rw [val_main_v55_apply, val_main_v54_apply, val_main_v51_apply]
  refine (Finset.sum_congr rfl fun k _ => congrArg₂ (fun a b : EReal => a * b) (dz_apply hF _) (k_apply hF _)).trans ?_
  refine (sum_mul_coe 8320 (fun s => (D (((i 0).val * 512 + (i 1).val) / 128 % 4)).DZ (((i 0).val * 512 + (i 1).val) / 512) s)
    fun s => (D (((i 0).val * 512 + (i 1).val) / 128 % 4)).k s (((i 0).val * 512 + (i 1).val) % 128)).trans ?_
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl

end rest

end Cert.StickBreaking.Ref
-- ==== Proof.Pre.lean ====
module

public import proofs.«01_k».proof.Proof.RefVal
public import proofs.«01_k».proof.Pre_bounded
public import Idealize.ShloMosaic.Lib.ReduceAll

/-! What the precondition says: the entries the attention reads are real numbers, and the logits of
attended keys stay under the cap. -/

@[expose] public section

noncomputable section

namespace Cert.StickBreaking.Pre

open Idealize.ShloMosaic Idealize.SL.Sem Cert.Pre_bounded Cert.StickBreaking Finset

theorem facts : Cert.Pre_bounded.Facts where
  slices_S8320x5120_S8320x512_0_3072 := by decide
  shapeCasts_S8320x512_S8320x4x128 := by decide
  transposes_S8320x4x128_S4x8320x128_1_0_2 := by decide
  slices_S8320x5120_S8320x512_0_3584 := by decide
  bcast_S8320_S1x8320_1 := by decide
  bcast_S8320_S8320x1_0 := by decide
  bcast_S1x8320_S8320x8320_0_1 := by decide
  bcast_S8320x1_S8320x8320_0_1 := by decide
  bcast_S_S8320 := by decide
  slices_S8320x5120_S8320x1536_0_3072 := by decide
  bcast_S_S8320x1536 := by decide
  reducesTo_S8320x1536_S_d0_1 := by decide
  h_S_ := by decide
  slices_S8320x1536_S8320x512_0_1024 := by decide
  bcast_S_S8320x512 := by decide
  reducesTo_S8320x512_S_d0_1 := by decide
  bcast_S_S4x8320x8320 := by decide
  bcast_S8320x8320_S1x8320x8320_1_2 := by decide
  bcast_S1x8320x8320_S4x8320x8320_0_1_2 := by decide
  reducesTo_S4x8320x8320_S_d0_1_2 := by decide
  dot_S4x8320x128_S4x8320x128_S4x8320x8320_2_2_1_1_0_0_wf := by decide

/-- The real number an array holds at a row and a column. -/
def entry {a b : ℕ} (x : (⟨2, ![a, b]⟩ : Shape).Idx → EReal) (r c : ℕ) : ℝ :=
  if h : r < a ∧ c < b then (x (ix2 (⟨r, h.1⟩ : Fin a) (⟨c, h.2⟩ : Fin b))).toReal else 0

/-- The four heads two arrays hold. -/
def headsOf (x0 : FVec Ideal S8320x5120 .f32) (x1 : FVec Ideal S8320x1536 .f32) (h : ℕ) : Head :=
  if h < 4 then
    { q := fun r d => entry (a := 8320) (b := 5120) x0 r (3072 + 128 * h + d)
      k := fun r d => entry (a := 8320) (b := 5120) x0 r (3584 + 128 * h + d)
      v := fun r d => entry (a := 8320) (b := 5120) x0 r (4096 + 128 * h + d)
      o := fun r d => entry (a := 8320) (b := 1536) x1 r (1024 + 128 * h + d) }
  else { q := fun _ _ => 0, k := fun _ _ => 0, v := fun _ _ => 0, o := fun _ _ => 0 }

theorem entry_eq {a b : ℕ} (x : (⟨2, ![a, b]⟩ : Shape).Idx → EReal) (i : (⟨2, ![a, b]⟩ : Shape).Idx) {r c : ℕ} (hr : (i 0).val = r) (hc : (i 1).val = c)
    (hx : max (x i) (-(x i)) < ⊤) : x i = ((entry x r c : ℝ) : EReal) := by
  subst hr hc
  have e : ix2 (⟨(i 0).val, (i 0).isLt⟩ : Fin a) (⟨(i 1).val, (i 1).isLt⟩ : Fin b) = i := funext fun k => match k with
    | ⟨0, _⟩ => rfl
    | ⟨1, _⟩ => rfl
  unfold entry
  rw [dif_pos ⟨(i 0).isLt, (i 1).isLt⟩, e, EReal.coe_toReal]
  · exact (lt_of_le_of_lt (le_max_left _ _) hx).ne
  · intro hb
    have := (lt_of_le_of_lt (le_max_right _ _) hx).ne
    rw [hb] at this
    exact this rfl

theorem and_one {a b : BitVec 1} (h : IntOp.andi a b = 1#1) : a = 1#1 ∧ b = 1#1 := by
  revert h
  revert a b
  decide

theorem or_one {a b : BitVec 1} (h : IntOp.ori a b = 1#1) (hb : b ≠ 1#1) : a = 1#1 := by
  revert h hb
  revert a b
  decide

theorem not_one {a : BitVec 1} (h : a = 1#1) : (~~~ a : BitVec 1) ≠ 1#1 := by
  subst h
  decide

instance : Subsingleton (Cert.Pre_bounded.S_).Idx := ⟨fun _ _ => funext fun k => k.elim0⟩

theorem top_eq : (Ideal.ofBits .f32 0x7F800000#32 : EReal) = ⊤ := by simp [Ideal.ofBits, Ideal.ieee]

theorem lt_of_cmp {x y : EReal} (h : Ideal.cmp .olt x y = 1#1) : x < y :=
  of_decide_eq_true ((ofBool_eq_one _).1 h)

theorem le_of_cmp {x y : EReal} (h : Ideal.cmp .ole x y = 1#1) : x ≤ y :=
  of_decide_eq_true ((ofBool_eq_one _).1 h)

section
variable [Cert.Pre_bounded.Facts] {x0 : FVec Ideal S8320x5120 .f32} {x1 : FVec Ideal S8320x1536 .f32} (h : Cert.Pre_bounded.fn (F := Ideal) x0 x1 = fun _ => 1#1)
include h

open Cert.Pre_bounded.Facts in
theorem split : (∀ i, Ideal.cmp .olt (max (extractStridedSlice S8320x1536 ![0, 3072] x0 slices_S8320x5120_S8320x1536_0_3072 i)
        (-(extractStridedSlice S8320x1536 ![0, 3072] x0 slices_S8320x5120_S8320x1536_0_3072 i))) (Ideal.ofBits .f32 0x7F800000#32) = 1#1)
    ∧ (∀ i, Ideal.cmp .olt (max (extractStridedSlice S8320x512 ![0, 1024] x1 slices_S8320x1536_S8320x512_0_1024 i)
        (-(extractStridedSlice S8320x512 ![0, 1024] x1 slices_S8320x1536_S8320x512_0_1024 i))) (Ideal.ofBits .f32 0x7F800000#32) = 1#1)
    ∧ ∀ i, IntOp.ori (Ideal.cmp .ole (Cert.ReferenceIdeal.Read.val_main_v9 (F := Ideal) x0 i) (Ideal.ofBits .f32 0x42A00000#32))
        (broadcastInDim S4x8320x8320 ![0, 1, 2] bcast_S1x8320x8320_S4x8320x8320_0_1_2
          (broadcastInDim S1x8320x8320 ![1, 2] bcast_S8320x8320_S1x8320x8320_1_2 (noti (Cert.ReferenceIdeal.Read.val_main_v20 (F := Ideal)))) i) = 1#1 := by
  have e := congrFun h (fun k => k.elim0)
  obtain ⟨e12, e3⟩ := and_one e
  obtain ⟨e1, e2⟩ := and_one e12
  exact ⟨fun i => Host.reduce_andi_all _ _ _ _ _ e1 i, fun i => Host.reduce_andi_all _ _ _ _ _ e2 i, fun i => Host.reduce_andi_all _ _ _ _ _ e3 i⟩

theorem finite0 (i : S8320x5120.Idx) (hl : 3072 ≤ (i 1).val) (hr : (i 1).val < 4608) : max (x0 i) (-(x0 i)) < ⊤ := by
  have e := (split h).1 (ix2 (⟨(i 0).val, (i 0).isLt⟩ : Fin 8320) (⟨(i 1).val - 3072, by omega⟩ : Fin 1536))
  rw [extractStridedSlice_apply ![0, 3072] x0 _ _ i (fun a => match a with
    | ⟨0, _⟩ => by show (i 0).val = 0 + (i 0).val; omega
    | ⟨1, _⟩ => by show (i 1).val = 3072 + ((i 1).val - 3072); omega), top_eq] at e
  exact lt_of_cmp e

theorem finite1 (i : S8320x1536.Idx) (hl : 1024 ≤ (i 1).val) : max (x1 i) (-(x1 i)) < ⊤ := by
  have h1 : (i 1).val < 1536 := (i 1).isLt
  have e := (split h).2.1 (ix2 (⟨(i 0).val, (i 0).isLt⟩ : Fin 8320) (⟨(i 1).val - 1024, by omega⟩ : Fin 512))
  rw [extractStridedSlice_apply ![0, 1024] x1 _ _ i (fun a => match a with
    | ⟨0, _⟩ => by show (i 0).val = 0 + (i 0).val; omega
    | ⟨1, _⟩ => by show (i 1).val = 1024 + ((i 1).val - 1024); omega), top_eq] at e
  exact lt_of_cmp e

theorem feeds : Feeds (headsOf x0 x1) x0 x1 where
  q := fun h' r d i hh hd hr hc => by
    unfold headsOf; rw [if_pos hh]
    exact entry_eq (a := 8320) (b := 5120) x0 i hr hc (finite0 h i (by omega) (by omega))
  k := fun h' r d i hh hd hr hc => by
    unfold headsOf; rw [if_pos hh]
    exact entry_eq (a := 8320) (b := 5120) x0 i hr hc (finite0 h i (by omega) (by omega))
  v := fun h' r d i hh hd hr hc => by
    unfold headsOf; rw [if_pos hh]
    exact entry_eq (a := 8320) (b := 5120) x0 i hr hc (finite0 h i (by omega) (by omega))
  o := fun h' r d i hh hd hr hc => by
    unfold headsOf; rw [if_pos hh]
    exact entry_eq (a := 8320) (b := 1536) x1 i hr hc (finite1 h i (by omega))

theorem capped (g : ℕ) : (headsOf x0 x1 g).Capped := fun t s ht hA => by
  by_cases hg : g < 4
  · have hs : s < 8320 := lt_trans hA.1 ht
    have e := (split h).2.2 (ix3 (⟨g, hg⟩ : Fin 4) (⟨t, ht⟩ : Fin 8320) (⟨s, hs⟩ : Fin 8320))
    rw [broadcastInDim_apply ![0, 1, 2] _ _ _ (ix3 (0 : Fin 1) (⟨t, ht⟩ : Fin 8320) (⟨s, hs⟩ : Fin 8320)) (fun a => match a with
        | ⟨0, _⟩ => by show 0 = if (1 : Nat) = 1 then 0 else g; rw [if_pos rfl]
        | ⟨1, _⟩ => by show t = if (8320 : Nat) = 1 then 0 else t; rw [if_neg (by decide)]
        | ⟨2, _⟩ => by show s = if (8320 : Nat) = 1 then 0 else s; rw [if_neg (by decide)]),
      broadcastInDim_apply ![1, 2] _ _ _ (ix2 (⟨t, ht⟩ : Fin 8320) (⟨s, hs⟩ : Fin 8320)) (fun a => match a with
        | ⟨0, _⟩ => by show t = if (8320 : Nat) = 1 then 0 else t; rw [if_neg (by decide)]
        | ⟨1, _⟩ => by show s = if (8320 : Nat) = 1 then 0 else s; rw [if_neg (by decide)])] at e
    have hm := (Ref.mask_apply (ix2 (⟨t, ht⟩ : Fin 8320) (⟨s, hs⟩ : Fin 8320))).2 hA
    have hz := le_of_cmp (or_one e (not_one hm))
    rw [Ref.z_apply (feeds h), ofBits_cap] at hz
    exact EReal.coe_le_coe_iff.1 hz
  · unfold headsOf; rw [if_neg hg]
    unfold Head.Z
    simp

end

end Cert.StickBreaking.Pre
-- ==== Proof.Product.lean ====
module

public import Idealize.ShloMosaic.Lib.Pointwise
public import Idealize.ShloMosaic.Lib.Pipeline.Value

/-! Products of matrices of extended reals, read at row and column numbers: `IsV x f` says that entry `(r, c)` of the
two-axis vector `x` is `f r c`. The lemmas serve every program that multiplies two matrices block by block. -/

@[expose] public section

noncomputable section

namespace Cert.Products

open Idealize.ShloMosaic Finset

/-- The two-axis vector `x` holds the numbers `f`. -/
def IsV {a b : ℕ} (x : (⟨2, ![a, b]⟩ : Shape).Idx → EReal) (f : ℕ → ℕ → EReal) : Prop :=
  ∀ i, x i = f (i 0).val (i 1).val

/-- The entry of `x` at a row and a column number. -/
def at2 {a b : ℕ} (x : (⟨2, ![a, b]⟩ : Shape).Idx → EReal) (r c : ℕ) : EReal :=
  if h : r < a ∧ c < b then x (fun d => match d with | ⟨0, _⟩ => ⟨r, h.1⟩ | ⟨1, _⟩ => ⟨c, h.2⟩) else 0

theorem at2_eq {a b : ℕ} (x : (⟨2, ![a, b]⟩ : Shape).Idx → EReal) (i : (⟨2, ![a, b]⟩ : Shape).Idx) (r c : ℕ)
    (h0 : (i 0).val = r) (h1 : (i 1).val = c) : x i = at2 x r c := by
  subst h0 h1
  unfold at2
  rw [dif_pos ⟨(i 0).isLt, (i 1).isLt⟩]
  congr 1
  funext d
  fin_cases d <;> rfl

/-- The position at a row and a column number. -/
def pos {a b r c : ℕ} (hr : r < a) (hc : c < b) : (⟨2, ![a, b]⟩ : Shape).Idx :=
  fun d => match d with | ⟨0, _⟩ => ⟨r, hr⟩ | ⟨1, _⟩ => ⟨c, hc⟩

/-- Two positions with the same numbers are one. -/
theorem pos_ext {a b : ℕ} {i j : (⟨2, ![a, b]⟩ : Shape).Idx} (h0 : (i 0).val = (j 0).val) (h1 : (i 1).val = (j 1).val) :
    i = j := by
  funext d
  fin_cases d
  · exact Fin.ext h0
  · exact Fin.ext h1

/-- An array read block by block: every position lies in a block that holds `f` there. -/
theorem isV_of_blocks {a b M N : ℕ} {x : (⟨2, ![a, b]⟩ : Shape).Idx → EReal} {f : ℕ → ℕ → EReal}
    (h : ∀ i : (⟨2, ![a, b]⟩ : Shape).Idx, ∃ (o0 o1 : ℕ) (v : (⟨2, ![M, N]⟩ : Shape).Idx → EReal)
      (e : (⟨2, ![M, N]⟩ : Shape).Idx → (⟨2, ![a, b]⟩ : Shape).Idx), (∀ j, x (e j) = v j) ∧
      (∀ j, (e j 0).val = o0 + (j 0).val ∧ (e j 1).val = o1 + (j 1).val) ∧
      IsV v (fun r c => f (o0 + r) (o1 + c)) ∧ (o0 ≤ (i 0).val ∧ (i 0).val < o0 + M) ∧ o1 ≤ (i 1).val ∧ (i 1).val < o1 + N) :
    IsV x f := by
  intro i
  obtain ⟨o0, o1, v, e, hx, he, hv, h0, h1⟩ := h i
  let j : (⟨2, ![M, N]⟩ : Shape).Idx := pos (r := (i 0).val - o0) (c := (i 1).val - o1) (by omega) (by omega)
  have hj0 : (j 0).val = (i 0).val - o0 := rfl
  have hj1 : (j 1).val = (i 1).val - o1 := rfl
  have hi : e j = i := pos_ext (by rw [(he j).1]; omega) (by rw [(he j).2]; omega)
  rw [← hi, hx j, hv j, (he j).1, (he j).2]

theorem IsV.congr {a b : ℕ} {x : (⟨2, ![a, b]⟩ : Shape).Idx → EReal} {f g : ℕ → ℕ → EReal} (h : IsV x f)
    (e : ∀ r c, r < a → c < b → f r c = g r c) : IsV x g := fun i => by
  rw [h i, e _ _ (i 0).isLt (i 1).isLt]

theorem zero_f32 : (Ideal.ofBits .f32 0x00000000#32 : EReal) = 0 := by simp [Ideal.ofBits, Ideal.ieee]
theorem one_f32 : (Ideal.ofBits .f32 0x3F800000#32 : EReal) = 1 := by
  simp [Ideal.ofBits, Ideal.ieee, -EReal.coe_mul]; norm_num

/-- A finite sum of real numbers, taken among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The origin of a two-axis block, as the kernels write it. -/
theorem origin : (![0, 0] : Fin 2 → Nat) = fun _ => 0 := funext fun a => by fin_cases a <;> rfl

/-- A sum over `n` blocks of `b` is the sum over all `n * b`. -/
theorem sum_blocks (b : ℕ) (f : ℕ → EReal) : ∀ n : ℕ,
    ∑ s ∈ range n, ∑ k ∈ range b, f (b * s + k) = ∑ k ∈ range (n * b), f k
  | 0 => by simp
  | n + 1 => by
    rw [sum_range_succ, sum_blocks b f n, Nat.succ_mul, sum_range_add, Nat.mul_comm b n]

variable {M K N : ℕ} {f g h : ℕ → ℕ → EReal}

section
variable {l : FVec Ideal (⟨2, ![M, K]⟩ : Shape) .bf16} {r : FVec Ideal (⟨2, ![K, N]⟩ : Shape) .bf16}

/-- Rows by columns. -/
theorem isV_nn {wf : DotDims.WF (⟨2, ![M, K]⟩ : Shape) (⟨2, ![K, N]⟩ : Shape) (⟨2, ![M, N]⟩ : Shape) [1] [0] [0] [1] [] []}
    (hl : IsV l f) (hr : IsV r g) :
    IsV (matmul ⟨[1], [0], [0], [1], [], [], wf⟩ none l r (constant (⟨2, ![M, N]⟩ : Shape) .f32 0x00000000#32) :
      FVec Ideal (⟨2, ![M, N]⟩ : Shape) .f32) fun i j => ∑ k ∈ range K, f i k * g k j := by
  intro i
  refine (Ideal.matmul_apply₁ _ (a := 1) (K := K) rfl rfl l r _ i).trans ?_
  simp only [hl _, hr _]
  rw [Finset.sum_range]
  exact (congrArg (· + _) zero_f32).trans (zero_add _)
end

section
variable {l : FVec Ideal (⟨2, ![M, K]⟩ : Shape) .bf16} {r : FVec Ideal (⟨2, ![N, K]⟩ : Shape) .bf16}

/-- Rows by rows. -/
theorem isV_nt {wf : DotDims.WF (⟨2, ![M, K]⟩ : Shape) (⟨2, ![N, K]⟩ : Shape) (⟨2, ![M, N]⟩ : Shape) [1] [1] [0] [0] [] []}
    (hl : IsV l f) (hr : IsV r g) :
    IsV (matmul ⟨[1], [1], [0], [0], [], [], wf⟩ none l r (constant (⟨2, ![M, N]⟩ : Shape) .f32 0x00000000#32) :
      FVec Ideal (⟨2, ![M, N]⟩ : Shape) .f32) fun i j => ∑ k ∈ range K, f i k * g j k := by
  intro i
  refine (Ideal.matmul_apply₁ _ (a := 1) (K := K) rfl rfl l r _ i).trans ?_
  simp only [hl _, hr _]
  rw [Finset.sum_range]
  exact (congrArg (· + _) zero_f32).trans (zero_add _)
end

section
variable {l : FVec Ideal (⟨2, ![K, M]⟩ : Shape) .bf16} {r : FVec Ideal (⟨2, ![K, N]⟩ : Shape) .bf16}

/-- Columns by columns. -/
theorem isV_tn {wf : DotDims.WF (⟨2, ![K, M]⟩ : Shape) (⟨2, ![K, N]⟩ : Shape) (⟨2, ![M, N]⟩ : Shape) [0] [0] [1] [1] [] []}
    (hl : IsV l f) (hr : IsV r g) :
    IsV (matmul ⟨[0], [0], [1], [1], [], [], wf⟩ none l r (constant (⟨2, ![M, N]⟩ : Shape) .f32 0x00000000#32) :
      FVec Ideal (⟨2, ![M, N]⟩ : Shape) .f32) fun i j => ∑ k ∈ range K, f k i * g k j := by
  intro i
  refine (Ideal.matmul_apply₁ _ (a := 0) (K := K) rfl rfl l r _ i).trans ?_
  simp only [hl _, hr _]
  rw [Finset.sum_range]
  exact (congrArg (· + _) zero_f32).trans (zero_add _)

/-- One more block of rows added to a product of columns by columns. -/
theorem isV_acc {wf : DotDims.WF (⟨2, ![K, M]⟩ : Shape) (⟨2, ![K, N]⟩ : Shape) (⟨2, ![M, N]⟩ : Shape) [0] [0] [1] [1] [] []}
    {x : FVec Ideal (⟨2, ![M, N]⟩ : Shape) .f32} (hx : IsV x h) (hl : IsV l f) (hr : IsV r g) :
    IsV (addf x (matmul ⟨[0], [0], [1], [1], [], [], wf⟩ none l r (constant (⟨2, ![M, N]⟩ : Shape) .f32 0x00000000#32) :
      FVec Ideal (⟨2, ![M, N]⟩ : Shape) .f32)) fun i j => h i j + ∑ k ∈ range K, f k i * g k j :=
  fun i => congrArg₂ (· + ·) (hx i) (isV_tn hl hr i)
end

end Cert.Products

end
-- ==== Proof.Gate.lean ====
module

public import proofs.«01_k».proof.Proof.Product

/-! The gate of the SwiGLU: the logistic function among the extended reals, and the two ways of writing the gradient
that the gate passes back. -/

@[expose] public section

noncomputable section

namespace Cert.Products

open Idealize.ShloMosaic

/-- The logistic function. -/
def sig (x : EReal) : EReal := Ideal.div 1 (1 + Ideal.exp (-x))

theorem sig_top : sig ⊤ = 1 := by
  unfold sig
  rw [EReal.neg_top, show Ideal.exp ⊥ = 0 from rfl, add_zero, Ideal.div, if_neg one_ne_zero, one_mul, inv_one]

theorem sig_bot : sig ⊥ = 0 := by
  unfold sig
  rw [EReal.neg_bot, show Ideal.exp ⊤ = ⊤ from rfl, show (1 : EReal) + ⊤ = ⊤ from EReal.coe_add_top 1, Ideal.div,
    if_neg EReal.top_ne_zero, EReal.inv_top, mul_zero]

theorem sig_coe (r : ℝ) : sig r = (((1 + Real.exp (-r))⁻¹ : ℝ) : EReal) := by
  have h : (0 : ℝ) < 1 + Real.exp (-r) := by positivity
  unfold sig
  rw [← EReal.coe_neg, show Ideal.exp ((-r : ℝ) : EReal) = ((Real.exp (-r) : ℝ) : EReal) from rfl, ← EReal.coe_one,
    ← EReal.coe_add, Ideal.div, if_neg (by exact_mod_cast h.ne'), ← EReal.coe_inv, ← EReal.coe_mul, one_mul]

/-- The gradient at a gate's argument, factored and as the sum of the two products' gradients. -/
theorem gate_grad (t : ℝ) (x : EReal) :
    (t : EReal) * sig x * (1 + x * (1 - sig x)) = (t : EReal) * sig x + x * (t : EReal) * (sig x * (1 - sig x)) := by
  induction x with
  | bot => rw [sig_bot]; simp
  | top =>
    have h : (1 : EReal) - 1 = 0 := by rw [← EReal.coe_one, ← EReal.coe_sub, sub_self, EReal.coe_zero]
    rw [sig_top, h]; simp
  | coe r =>
    rw [sig_coe, ← EReal.coe_one]
    simp only [← EReal.coe_sub, ← EReal.coe_mul, ← EReal.coe_add]
    congr 1
    ring

/-- The reciprocal of one plus the exponential, as the kernels write it. -/
theorem isV_sig {M N : ℕ} {x : FVec Ideal (⟨2, ![M, N]⟩ : Shape) .f32} {f : ℕ → ℕ → EReal} (hx : IsV x f) :
    IsV (divf (broadcast (⟨2, ![M, N]⟩ : Shape) (Scalar.ofBits .f32 0x3F800000#32))
      (addf (broadcast (⟨2, ![M, N]⟩ : Shape) (Scalar.ofBits .f32 0x3F800000#32))
        (exp (subf (broadcast (⟨2, ![M, N]⟩ : Shape) (Scalar.ofBits .f32 0x00000000#32)) x))) :
      FVec Ideal (⟨2, ![M, N]⟩ : Shape) .f32) fun r c => sig (f r c) := by
  intro i
  show Ideal.div (Ideal.ofBits .f32 0x3F800000#32) (Ideal.ofBits .f32 0x3F800000#32 + Ideal.exp (Ideal.ofBits .f32 0x00000000#32 - x i)) = _
  rw [one_f32, zero_f32, zero_sub, hx i]
  rfl

end Cert.Products

end
-- ==== Proof.DownDx.lean ====
module

public import proofs.«01_k».proof.Proof.Gate
public import proofs.«01_k».proof.Proof.Gen.Kernel2Ideal.Value

/-! The gradients that the SwiGLU's last product passes back to its two gates: what the kernel leaves in its result
arrays. -/

@[expose] public section

noncomputable section

namespace Cert.DownDx

open Idealize.ShloMosaic Idealize.ShloMosaic.TcCoe Idealize.SL.Sem Cert.Kernel2Ideal Cert.Kernel2Ideal.Gen Cert.Products Finset

/-! ## What one point of the grid leaves -/

section
variable {x0 : Vec Ideal S640x1024 .bf16} {x1 : Vec Ideal S1408x1024 .bf16} {x2 x3 : Vec Ideal S640x1408 .f32}
  {d w a b : ℕ → ℕ → EReal}

theorem isV_product (h0 : IsV (a := 640) (b := 1024) x0 d) (h1 : IsV (a := 1408) (b := 1024) x1 w) :
    IsV (a := 640) (b := 1408) (k0_pay1 (F := Ideal) x0 x1) fun r c => ∑ k ∈ range 1024, d r k * w c k := by
  unfold k0_pay1
  exact isV_nt h0 h1

theorem isV_gate (h2 : IsV (a := 640) (b := 1408) x2 a) :
    IsV (a := 640) (b := 1408) (k0_pay2 (F := Ideal) x2) fun r c => sig (a r c) := by
  unfold k0_pay2
  exact isV_sig h2

theorem isV_da (h0 : IsV (a := 640) (b := 1024) x0 d) (h1 : IsV (a := 1408) (b := 1024) x1 w)
    (h2 : IsV (a := 640) (b := 1408) x2 a) (h3 : IsV (a := 640) (b := 1408) x3 b) :
    IsV (a := 640) (b := 1408) (out0_4 (F := Ideal) x0 x1 x2 x3) fun r c =>
      (∑ k ∈ range 1024, d r k * w c k) * b r c * sig (a r c) * (1 + a r c * (1 - sig (a r c))) := by
  intro i
  unfold out0_4
  rw [View.canon_unit_zero origin, View.ld_unit_zero (S := S640x1024) origin, View.ld_unit_zero (S := S1408x1024) origin,
    View.ld_unit_zero (S := S640x1408) origin, View.ld_unit_zero (S := S640x1408) origin]
  unfold k0_pay3
  show k0_pay1 (F := Ideal) x0 x1 i * x3 i * k0_pay2 (F := Ideal) x2 i *
    (Ideal.ofBits .f32 0x3F800000#32 + x2 i * (Ideal.ofBits .f32 0x3F800000#32 - k0_pay2 (F := Ideal) x2 i)) = _
  rw [one_f32, isV_product h0 h1 i, isV_gate h2 i, h2 i, h3 i]

theorem isV_db (h0 : IsV (a := 640) (b := 1024) x0 d) (h1 : IsV (a := 1408) (b := 1024) x1 w)
    (h2 : IsV (a := 640) (b := 1408) x2 a) :
    IsV (a := 640) (b := 1408) (out0_5 (F := Ideal) x0 x1 x2 x3) fun r c =>
      (∑ k ∈ range 1024, d r k * w c k) * a r c * sig (a r c) := by
  intro i
  unfold out0_5
  rw [View.canon_unit_zero origin, View.ld_unit_zero (S := S640x1024) origin, View.ld_unit_zero (S := S1408x1024) origin,
    View.ld_unit_zero (S := S640x1408) origin]
  unfold k0_pay4
  show k0_pay1 (F := Ideal) x0 x1 i * x2 i * k0_pay2 (F := Ideal) x2 i = _
  rw [isV_product h0 h1 i, isV_gate h2 i, h2 i]
end

/-! ## The blocks of the arguments -/

variable (m : (ℓ : Loc nD τ sig) → Buf (Elt Ideal) ℓ) (ρ : Dev nD → PrngReg) (c : Dev nD)

/-- The entries of the four arguments. -/
def D : ℕ → ℕ → EReal := at2 (a := 8320) (b := 1024) (m ((c : Thread nD τ).loc main_arg0))
def W : ℕ → ℕ → EReal := at2 (a := 2816) (b := 1024) (m ((c : Thread nD τ).loc main_arg1))
def A : ℕ → ℕ → EReal := at2 (a := 8320) (b := 2816) (m ((c : Thread nD τ).loc main_arg2))
def B : ℕ → ℕ → EReal := at2 (a := 8320) (b := 2816) (m ((c : Thread nD τ).loc main_arg3))

theorem index_0 : ∀ t : Fin cfg0.N, win0_0.index t 0 = t.val / 2 ∧ win0_0.index t 1 = 0 :=
  (by decide +kernel : ∀ t : Fin grid0.N, _)
theorem index_1 : ∀ t : Fin cfg0.N, win0_1.index t 0 = t.val % 2 ∧ win0_1.index t 1 = 0 :=
  (by decide +kernel : ∀ t : Fin grid0.N, _)
theorem index_2 : ∀ t : Fin cfg0.N, win0_2.index t 0 = t.val / 2 ∧ win0_2.index t 1 = t.val % 2 :=
  (by decide +kernel : ∀ t : Fin grid0.N, _)
theorem index_3 : ∀ t : Fin cfg0.N, win0_3.index t 0 = t.val / 2 ∧ win0_3.index t 1 = t.val % 2 :=
  (by decide +kernel : ∀ t : Fin grid0.N, _)
theorem index_4 : ∀ t : Fin cfg0.N, win0_4.index t 0 = t.val / 2 ∧ win0_4.index t 1 = t.val % 2 :=
  (by decide +kernel : ∀ t : Fin grid0.N, _)
theorem index_5 : ∀ t : Fin cfg0.N, win0_5.index t 0 = t.val / 2 ∧ win0_5.index t 1 = t.val % 2 :=
  (by decide +kernel : ∀ t : Fin grid0.N, _)

theorem block_0 (t : Fin cfg0.N) : IsV (a := 640) (b := 1024) (iblk m c 0 t) fun r k => D m c (640 * (t.val / 2) + r) k := by
  intro j
  unfold iblk
  rw [View.read_apply]
  refine (congrFun (V_main_arg0 m c) _).trans (at2_eq _ _ _ _ ?_ ?_)
  · show win0_0.index t 0 * 640 + 1 * (j 0).val = _
    rw [(index_0 t).1]; omega
  · show win0_0.index t 1 * 1024 + 1 * (j 1).val = _
    rw [(index_0 t).2]; omega

theorem block_1 (t : Fin cfg0.N) : IsV (a := 1408) (b := 1024) (iblk m c 1 t) fun s k => W m c (1408 * (t.val % 2) + s) k := by
  intro j
  unfold iblk
  rw [View.read_apply]
  refine (congrFun (V_main_arg1 m c) _).trans (at2_eq _ _ _ _ ?_ ?_)
  · show win0_1.index t 0 * 1408 + 1 * (j 0).val = _
    rw [(index_1 t).1]; omega
  · show win0_1.index t 1 * 1024 + 1 * (j 1).val = _
    rw [(index_1 t).2]; omega

theorem block_2 (t : Fin cfg0.N) :
    IsV (a := 640) (b := 1408) (iblk m c 2 t) fun r s => A m c (640 * (t.val / 2) + r) (1408 * (t.val % 2) + s) := by
  intro j
  unfold iblk
  rw [View.read_apply]
  refine (congrFun (V_main_arg2 m c) _).trans (at2_eq _ _ _ _ ?_ ?_)
  · show win0_2.index t 0 * 640 + 1 * (j 0).val = _
    rw [(index_2 t).1]; omega
  · show win0_2.index t 1 * 1408 + 1 * (j 1).val = _
    rw [(index_2 t).2]; omega

theorem block_3 (t : Fin cfg0.N) :
    IsV (a := 640) (b := 1408) (iblk m c 3 t) fun r s => B m c (640 * (t.val / 2) + r) (1408 * (t.val % 2) + s) := by
  intro j
  unfold iblk
  rw [View.read_apply]
  refine (congrFun (V_main_arg3 m c) _).trans (at2_eq _ _ _ _ ?_ ?_)
  · show win0_3.index t 0 * 640 + 1 * (j 0).val = _
    rw [(index_3 t).1]; omega
  · show win0_3.index t 1 * 1408 + 1 * (j 1).val = _
    rw [(index_3 t).2]; omega

/-! ## The result arrays -/

/-- The gradient of the product at the gates' product. -/
def G (r s : ℕ) : EReal := ∑ k ∈ range 1024, D m c r k * W m c s k

/-- The point that writes the block of a position. -/
def point (i : S8320x2816.Idx) : Fin cfg0.N :=
  ⟨2 * ((i 0).val / 640) + (i 1).val / 1408, by
    have h0 : (i 0).val < 8320 := (i 0).isLt
    have h1 : (i 1).val < 2816 := (i 1).isLt
    have hN : cfg0.N = 26 := N_0
    omega⟩

theorem point_mem (i : S8320x2816.Idx) : (640 * ((point i).val / 2) ≤ (i 0).val ∧ (i 0).val < 640 * ((point i).val / 2) + 640) ∧
    1408 * ((point i).val % 2) ≤ (i 1).val ∧ (i 1).val < 1408 * ((point i).val % 2) + 1408 := by
  have h0 : (i 0).val < 8320 := (i 0).isLt
  have h1 : (i 1).val < 2816 := (i 1).isLt
  have e : (point i).val = 2 * ((i 0).val / 640) + (i 1).val / 1408 := rfl
  rw [e]
  omega

theorem array_da : IsV (a := 8320) (b := 2816) ((dats m 0 c).arrAt 4 cfg0.N) fun r s =>
    G m c r s * B m c r s * sig (A m c r s) * (1 + A m c r s * (1 - sig (A m c r s))) := by
  refine isV_of_blocks (M := 640) (N := 1408) fun i => ⟨_, _,
    out0_4 (iblk m c 0 (point i)) (iblk m c 1 (point i)) (iblk m c 2 (point i)) (iblk m c 3 (point i)),
    ((cfg0.win 4).blk (point i)).view.emb, fun j => ?_, fun j => ⟨?_, ?_⟩,
    isV_da (block_0 m c _) (block_1 m c _) (block_2 m c _) (block_3 m c _), point_mem i⟩
  · have e := congrFun ((Value.blocks4 m c (point i) (flush0_4 _)).trans (Value.flushed4 m c (point i))) j
    rw [View.read_apply] at e
    exact e
  · show win0_4.index (point i) 0 * 640 + 1 * (j 0).val = _
    rw [(index_4 _).1]; omega
  · show win0_4.index (point i) 1 * 1408 + 1 * (j 1).val = _
    rw [(index_4 _).2]; omega

theorem array_db : IsV (a := 8320) (b := 2816) ((dats m 0 c).arrAt 5 cfg0.N) fun r s =>
    G m c r s * A m c r s * sig (A m c r s) := by
  refine isV_of_blocks (M := 640) (N := 1408) fun i => ⟨_, _,
    out0_5 (iblk m c 0 (point i)) (iblk m c 1 (point i)) (iblk m c 2 (point i)) (iblk m c 3 (point i)),
    ((cfg0.win 5).blk (point i)).view.emb, fun j => ?_, fun j => ⟨?_, ?_⟩,
    isV_db (block_0 m c _) (block_1 m c _) (block_2 m c _), point_mem i⟩
  · have e := congrFun ((Value.blocks5 m c (point i) (flush0_5 _)).trans (Value.flushed5 m c (point i))) j
    rw [View.read_apply] at e
    exact e
  · show win0_5.index (point i) 0 * 640 + 1 * (j 0).val = _
    rw [(index_5 _).1]; omega
  · show win0_5.index (point i) 1 * 1408 + 1 * (j 1).val = _
    rw [(index_5 _).2]; omega

end Cert.DownDx

end
-- ==== Proof.DownDxRef.lean ====
module

public import proofs.«01_k».proof.Proof.DownDx
public import proofs.«01_k».proof.Proof.Gen.Reference2Ideal.Read
public import proofs.«01_k».proof.Pre_finite
public import Idealize.ShloMosaic.Lib.ReduceAll

/-! The gradients that the SwiGLU's last product passes back to its two gates: the reference's values, and that they are
the kernel's where the gradient, the weights and the second gate are finite. -/

@[expose] public section

noncomputable section

namespace Cert.DownDx

open Idealize.ShloMosaic Idealize.ShloMosaic.TcCoe Idealize.SL.Sem Cert.Products Finset
open Cert.Kernel2Ideal Cert.Kernel2Ideal.Gen Cert.Reference2Ideal.Read

section
variable (x0 : (⟨S8320x1024, .bf16⟩ : BufTy).Contents (Elt Ideal)) (x1 : (⟨S2816x1024, .bf16⟩ : BufTy).Contents (Elt Ideal))
  (x2 x3 : (⟨S8320x2816, .f32⟩ : BufTy).Contents (Elt Ideal)) (i : S8320x2816.Idx)

theorem ref_product : val_main_v5 (F := Ideal) x0 x1 i =
    ∑ k ∈ range 1024, at2 (a := 8320) (b := 1024) x0 (i 0).val k * at2 (a := 2816) (b := 1024) x1 (i 1).val k := by
  rw [val_main_v5_apply]
  refine Eq.trans ?_ (Finset.sum_range _).symm
  exact Finset.sum_congr rfl fun k _ => congrArg₂ (· * ·) (at2_eq x0 _ _ _ rfl rfl) (at2_eq x1 _ _ _ rfl rfl)

theorem ref_gate : val_main_v0_2 (F := Ideal) x2 i = sig (x2 i) := by
  show Ideal.div (Ideal.ofBits .f32 0x3F800000#32) (Ideal.ofBits .f32 0x3F800000#32 + Ideal.exp (-(x2 i))) = _
  rw [one_f32]
  rfl

theorem ref_da : val_main_v9 (F := Ideal) x0 x1 x2 x3 i =
    val_main_v5 (F := Ideal) x0 x1 i * x3 i * sig (x2 i)
      + x2 i * (val_main_v5 (F := Ideal) x0 x1 i * x3 i) * (sig (x2 i) * (1 - sig (x2 i))) := by
  rw [← ref_gate, ← one_f32]
  rfl

theorem ref_db : val_main_v10 (F := Ideal) x0 x1 x2 i = x2 i * sig (x2 i) * val_main_v5 (F := Ideal) x0 x1 i := by
  rw [← ref_gate]
  rfl
end

/-! ## The precondition -/

theorem facts : Cert.Pre_finite.Facts where
  bitsLt_bf16_f32 := by decide
  bcast_S_S8320x1024 := by decide
  reducesTo_S8320x1024_S_d0_1 := by decide
  h_S_ := by decide
  bcast_S_S2816x1024 := by decide
  reducesTo_S2816x1024_S_d0_1 := by decide
  bcast_S_S8320x2816 := by decide
  reducesTo_S8320x2816_S_d0_1 := by decide

theorem both {a b : BitVec 1} (h : IntOp.andi a b = 1#1) : a = 1#1 ∧ b = 1#1 := by
  revert h
  revert a b
  decide

instance : Subsingleton (Cert.Pre_finite.S_).Idx := ⟨fun _ _ => funext fun k => k.elim0⟩

theorem bit {b : Bool} (h : BitVec.ofBool b = 1#1) : b = true := by
  revert h
  cases b <;> decide

theorem real_of_lt {x : EReal} (h : Ideal.cmp .olt (max x (-x)) (Ideal.ofBits .f32 0x7F800000#32) = 1#1) : ∃ r : ℝ, x = r := by
  have h' : max x (-x) < Ideal.ofBits .f32 0x7F800000#32 := of_decide_eq_true (bit h)
  rw [show (Ideal.ofBits .f32 0x7F800000#32 : EReal) = ⊤ by simp [Ideal.ofBits, Ideal.ieee]] at h'
  induction x with
  | bot => simp at h'
  | top => simp at h'
  | coe r => exact ⟨r, rfl⟩

section
variable [Cert.Pre_finite.Facts] {x0 : FVec Ideal S8320x1024 .bf16} {x1 : FVec Ideal S2816x1024 .bf16} {x2 x3 : FVec Ideal S8320x2816 .f32}
  (h : Cert.Pre_finite.fn (F := Ideal) x0 x1 x2 x3 = fun _ => 1#1)
include h

theorem finite : (∀ i, ∃ r : ℝ, x0 i = r) ∧ (∀ i, ∃ r : ℝ, x1 i = r) ∧ ∀ i, ∃ r : ℝ, x3 i = r := by
  have e := congrFun h (fun k => k.elim0)
  obtain ⟨e12, e3⟩ := both e
  obtain ⟨e1, e2⟩ := both e12
  exact ⟨fun i => real_of_lt (Host.reduce_andi_all _ _ _ _ _ e1 i), fun i => real_of_lt (Host.reduce_andi_all _ _ _ _ _ e2 i),
    fun i => real_of_lt (Host.reduce_andi_all _ _ _ _ _ e3 i)⟩

/-- The gradient at the gates' product, times the second gate, is a real number. -/
theorem real_product (i : S8320x2816.Idx) : ∃ t : ℝ, val_main_v5 (F := Ideal) x0 x1 i * x3 i = t := by
  obtain ⟨h0, h1, h3⟩ := finite h
  choose f hf using h0
  choose g hg using h1
  obtain ⟨b, hb⟩ := h3 i
  rw [val_main_v5_apply, hb]
  refine ⟨(∑ k : Fin 1024, f (lidx_main_v5 i k) * g (ridx_main_v5 i k)) * b, ?_⟩
  rw [EReal.coe_mul, ← coe_sum]
  refine congrArg (· * _) (Finset.sum_congr rfl fun k _ => ?_)
  rw [EReal.coe_mul, ← hf, ← hg]
  rfl
end

/-! ## The kernel's arrays are the reference's -/

variable (m : (ℓ : Loc nD τ sig) → Buf (Elt Ideal) ℓ) (c : Dev nD)

/-- The four arguments. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)

theorem da_eq [Cert.Pre_finite.Facts] (h : Cert.Pre_finite.fn (F := Ideal) (arg0 m c) (arg1 m c) (arg2 m c) (arg3 m c) = fun _ => 1#1) :
    (dats m 0 c).arrAt 4 cfg0.N = val_main_v9 (F := Ideal) (arg0 m c) (arg1 m c) (arg2 m c) (arg3 m c) := by
  funext i
  rw [array_da m c i, ref_da]
  obtain ⟨t, ht⟩ := real_product h i
  have e : G m c (i 0).val (i 1).val * B m c (i 0).val (i 1).val = t := by
    rw [← ht, ref_product, at2_eq (a := 8320) (b := 2816) (arg3 m c) i _ _ rfl rfl]; rfl
  have ea : A m c (i 0).val (i 1).val = (arg2 m c) i := (at2_eq (a := 8320) (b := 2816) (arg2 m c) i _ _ rfl rfl).symm
  rw [ht]
  show G m c (i 0).val (i 1).val * B m c (i 0).val (i 1).val * _ * _ = _
  rw [e, ea]
  exact gate_grad t _

theorem db_eq : (dats m 0 c).arrAt 5 cfg0.N = val_main_v10 (F := Ideal) (arg0 m c) (arg1 m c) (arg2 m c) := by
  funext i
  rw [array_db m c i, ref_db, ref_product]
  have ea : A m c (i 0).val (i 1).val = (arg2 m c) i := (at2_eq (a := 8320) (b := 2816) (arg2 m c) i _ _ rfl rfl).symm
  show G m c (i 0).val (i 1).val * A m c (i 0).val (i 1).val * _ = _
  rw [ea, mul_assoc, mul_comm]
  rfl

end Cert.DownDx

end
-- ==== Proof.Tiles.lean ====
module

public import proofs.«01_k».proof.Proof.Product

/-! Products taken block by block: a block of an array, an array put together from its blocks, and a result accumulated
over a sweep of points. -/

@[expose] public section

noncomputable section

namespace Cert.Products

open Idealize.ShloMosaic Finset

/-- A block of an array holds the array's entries from the block's corner on. -/
theorem isV_part {a b M N o0 o1 : ℕ} {x : (⟨2, ![a, b]⟩ : Shape).Idx → EReal} {v : (⟨2, ![M, N]⟩ : Shape).Idx → EReal}
    (e : (⟨2, ![M, N]⟩ : Shape).Idx → (⟨2, ![a, b]⟩ : Shape).Idx) (hv : ∀ j, v j = x (e j))
    (he : ∀ j, (e j 0).val = o0 * M + 1 * (j 0).val ∧ (e j 1).val = o1 * N + 1 * (j 1).val) :
    IsV v fun r s => at2 x (M * o0 + r) (N * o1 + s) := fun j => by
  rw [hv j]
  exact at2_eq x _ _ _ (by rw [(he j).1, Nat.mul_comm, Nat.one_mul]) (by rw [(he j).2, Nat.mul_comm, Nat.one_mul])

/-- An array that `p` times `q` points write, each a block of its own. -/
theorem isV_tiles {a b M N p q T : ℕ} {x : (⟨2, ![a, b]⟩ : Shape).Idx → EReal} {f : ℕ → ℕ → EReal}
    (v : Fin T → (⟨2, ![M, N]⟩ : Shape).Idx → EReal) (e : Fin T → (⟨2, ![M, N]⟩ : Shape).Idx → (⟨2, ![a, b]⟩ : Shape).Idx)
    (I J : Fin T → ℕ) (hx : ∀ t j, x (e t j) = v t j)
    (he : ∀ t j, (e t j 0).val = I t * M + 1 * (j 0).val ∧ (e t j 1).val = J t * N + 1 * (j 1).val)
    (hv : ∀ t, IsV (v t) fun r s => f (M * I t + r) (N * J t + s))
    (hc : ∀ k : Fin p, ∀ l : Fin q, ∃ t, I t = k.val ∧ J t = l.val) (ha : a = M * p) (hb : b = N * q) (hM : 0 < M) (hN : 0 < N) :
    IsV x f := by
  refine isV_of_blocks (M := M) (N := N) fun i => ?_
  have h0 : (i 0).val < a := (i 0).isLt
  have h1 : (i 1).val < b := (i 1).isLt
  obtain ⟨t, e0, e1⟩ := hc ⟨(i 0).val / M, Nat.div_lt_of_lt_mul (ha ▸ h0)⟩ ⟨(i 1).val / N, Nat.div_lt_of_lt_mul (hb ▸ h1)⟩
  refine ⟨M * I t, N * J t, v t, e t, hx t, fun j => ?_, hv t, ?_, ?_⟩
  · rw [(he t j).1, (he t j).2, Nat.mul_comm M, Nat.mul_comm N, Nat.one_mul, Nat.one_mul]
    exact ⟨rfl, rfl⟩
  · rw [e0]
    exact ⟨Nat.mul_div_le _ _, by have := Nat.lt_mul_div_succ (i 0).val hM; rwa [Nat.mul_succ] at this⟩
  · rw [e1]
    exact ⟨Nat.mul_div_le _ _, by have := Nat.lt_mul_div_succ (i 1).val hN; rwa [Nat.mul_succ] at this⟩

/-- A sum of two vectors. -/
theorem isV_add {M N : ℕ} {x y : FVec Ideal (⟨2, ![M, N]⟩ : Shape) .f32} {f g : ℕ → ℕ → EReal} (hx : IsV x f) (hy : IsV y g) :
    IsV (addf x y : FVec Ideal (⟨2, ![M, N]⟩ : Shape) .f32) fun r c => f r c + g r c :=
  fun i => congrArg₂ (· + ·) (hx i) (hy i)

/-- A sweep of `L` points: the first starts the accumulator, the last writes the result, and every point adds its part. -/
theorem isV_sweep {M N T L : ℕ} (acc out : (n : ℕ) → n < T → (⟨2, ![M, N]⟩ : Shape).Idx → EReal) (P : ℕ → ℕ → ℕ → EReal)
    (hL : 1 < L) (first : ∀ n h, n % L = 0 → IsV (acc n h) (P n))
    (next : ∀ n h hp g, n % L ≠ 0 → n % L ≠ L - 1 → IsV (acc (n - 1) hp) g → IsV (acc n h) fun r s => g r s + P n r s)
    (last : ∀ n h hp g, n % L = L - 1 → IsV (acc (n - 1) hp) g → IsV (out n h) fun r s => g r s + P n r s)
    (b : ℕ) (h : L * b + (L - 1) < T) : IsV (out (L * b + (L - 1)) h) fun r s => ∑ q ∈ range L, P (L * b + q) r s := by
  obtain ⟨l, rfl⟩ : ∃ l, L = l + 2 := ⟨L - 2, by omega⟩
  have key : ∀ (j : ℕ) (h : (l + 2) * b + j < T), j < l + 1 →
      IsV (acc ((l + 2) * b + j) h) fun r s => ∑ q ∈ range (j + 1), P ((l + 2) * b + q) r s := by
    intro j
    induction j with
    | zero =>
      intro h _
      refine (first _ h (Nat.mul_mod_right _ _)).congr fun r s _ _ => ?_
      rw [sum_range_one]
    | succ j ih =>
      intro h hj
      have hm : ((l + 2) * b + (j + 1)) % (l + 2) = j + 1 := by rw [Nat.mul_add_mod, Nat.mod_eq_of_lt (by omega)]
      refine (next _ h (by omega) _ (by omega) (by omega) (ih (by omega) (by omega))).congr fun r s _ _ => ?_
      rw [sum_range_succ _ (j + 1)]
  have hm : ((l + 2) * b + (l + 1)) % (l + 2) = l + 1 := by rw [Nat.mul_add_mod, Nat.mod_eq_of_lt (by omega)]
  refine (last _ h (by omega) _ hm (key l (by omega) (by omega))).congr fun r s _ _ => ?_
  rw [sum_range_succ _ (l + 1)]
  rfl

/-- What point `n` adds to its block of a result: a sweep of `L` points goes `K` terms further at a time, and the result
has `q` blocks across. -/
def part (K L M N q : ℕ) (h : ℕ → ℕ → ℕ → EReal) (n r s : ℕ) : EReal :=
  ∑ k ∈ range K, h (K * (n % L) + k) (M * (n / L / q) + r) (N * (n / L % q) + s)

/-- An array whose blocks are each the result of a sweep. -/
theorem isV_swept {a b M N T K L p q : ℕ} {x : (⟨2, ![a, b]⟩ : Shape).Idx → EReal} {h : ℕ → ℕ → ℕ → EReal}
    (acc out : (n : ℕ) → n < T → (⟨2, ![M, N]⟩ : Shape).Idx → EReal) (run : (⟨2, ![a, b]⟩ : Shape).Idx → ℕ)
    (loc : (⟨2, ![a, b]⟩ : Shape).Idx → (⟨2, ![M, N]⟩ : Shape).Idx)
    (hx : ∀ i hi, x i = out (L * run i + (L - 1)) hi (loc i)) (hrun : ∀ i, run i = q * ((i 0).val / M) + (i 1).val / N)
    (hloc : ∀ i, (loc i 0).val = (i 0).val % M ∧ (loc i 1).val = (i 1).val % N) (hL : 1 < L)
    (first : ∀ n hn, n % L = 0 → IsV (acc n hn) (part K L M N q h n))
    (next : ∀ n hn hp g, n % L ≠ 0 → n % L ≠ L - 1 → IsV (acc (n - 1) hp) g →
      IsV (acc n hn) fun r s => g r s + part K L M N q h n r s)
    (last : ∀ n hn hp g, n % L = L - 1 → IsV (acc (n - 1) hp) g → IsV (out n hn) fun r s => g r s + part K L M N q h n r s)
    (ha : a = M * p) (hb : b = N * q) (hT : T = L * (p * q)) : IsV x fun r s => ∑ k ∈ range (L * K), h k r s := by
  intro i
  have h0 : (i 0).val / M < p := Nat.div_lt_of_lt_mul (ha ▸ (i 0).isLt)
  have h1 : (i 1).val / N < q := Nat.div_lt_of_lt_mul (hb ▸ (i 1).isLt)
  have hr : run i < p * q := by
    rw [hrun i]
    calc q * ((i 0).val / M) + (i 1).val / N < q * ((i 0).val / M + 1) := by rw [Nat.mul_succ]; omega
      _ ≤ q * p := Nat.mul_le_mul_left q h0
      _ = p * q := Nat.mul_comm q p
  have ht : L * run i + (L - 1) < T := by
    rw [hT]
    calc L * run i + (L - 1) < L * (run i + 1) := by rw [Nat.mul_succ]; omega
      _ ≤ L * (p * q) := Nat.mul_le_mul_left L hr
  rw [hx i ht, isV_sweep acc out (part K L M N q h) hL first next last (run i) ht (loc i)]
  dsimp only
  rw [(hloc i).1, (hloc i).2, ← sum_blocks K (fun k => h k (i 0).val (i 1).val) L]
  refine sum_congr rfl fun j hj => ?_
  have hj := mem_range.mp hj
  unfold part
  rw [Nat.mul_add_mod, Nat.mod_eq_of_lt hj, Nat.mul_add_div (by omega), Nat.div_eq_of_lt hj, Nat.add_zero, hrun i,
    Nat.mul_add_div (Nat.zero_lt_of_lt h1), Nat.div_eq_of_lt h1, Nat.add_zero, Nat.mul_add_mod, Nat.mod_eq_of_lt h1, Nat.div_add_mod,
    Nat.div_add_mod]

end Cert.Products

end
-- ==== Proof.GateDw.lean ====
module

public import proofs.«01_k».proof.Proof.Tiles
public import proofs.«01_k».proof.Proof.Gen.Kernel3Ideal.Value
public import proofs.«01_k».proof.Proof.Gen.Reference3Ideal.Read

/-! The gradient of the gate and up weights: the accumulated product of columns by columns is the whole product. -/

@[expose] public section

noncomputable section

namespace Cert.GateDw

open Idealize.ShloMosaic Idealize.ShloMosaic.TcCoe Idealize.SL.Sem Cert.Kernel3Ideal Cert.Kernel3Ideal.Gen Cert.Products Finset

/-! ## What one point of the grid leaves -/

section
variable {c : Dev nD} {i : grid0.Coords} {a3 : Memref sig .tc .vmem S1664x1024 .bf16} {h3 : a3.IsWhole}
  {a4 : Memref sig .tc .vmem S1664x1408 .bf16} {h4 : a4.IsWhole} {a5 a6 : Memref sig .tc .vmem S1024x1408 .f32}
  {h5 : a5.IsWhole} {h6 : a6.IsWhole} {x0 : Vec Ideal S1664x1024 .bf16} {x1 : Vec Ideal S1664x1408 .bf16}
  {xs : Vec Ideal S1024x1408 .f32} {f g h : ℕ → ℕ → EReal}

theorem isV_step (hs : IsV (a := 1024) (b := 1408) xs h) (hl : IsV (a := 1664) (b := 1024) x0 f)
    (hr : IsV (a := 1664) (b := 1408) x1 g) :
    IsV (a := 1024) (b := 1408) (k0_pay2 (F := Ideal) xs x0 x1) fun r c => h r c + ∑ k ∈ range 1664, f k r * g k c := by
  unfold k0_pay2
  simp only [shapeCast_self]
  exact isV_acc hs hl hr

theorem isV_first : IsV (a := 1024) (b := 1408) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) origin, View.readCov_unit_zero (S := S1024x1408) _ origin]
  simp only [View.readAt_eq_ld, h3.read_unread, h4.read_unread, View.ld_unit_zero (S := S1664x1024) origin, View.ld_unit_zero (S := S1664x1408) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x1024) origin, View.ld_unit_zero (S := S1664x1408) origin, View.ld_unit_zero (S := S1024x1408) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x1024) origin, View.ld_unit_zero (S := S1664x1408) origin, View.ld_unit_zero (S := S1024x1408) origin, shapeCast_self,
    View.readCov_unit_zero (S := S1024x1408) _ origin]
end

/-! ## The accumulated product -/

/-- Where the blocks lie: a sweep of five points goes down one strip of columns of each argument. -/
theorem index : ∀ t : Fin cfg0.N, win0_0.index t 0 = t.val % 5 ∧ win0_0.index t 1 = t.val / 5 / 2 ∧
    win0_1.index t 0 = t.val % 5 ∧ win0_1.index t 1 = t.val / 5 % 2 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 1024) (m ((c : Thread nD τ).loc main_arg0)) k r *
    at2 (a := 8320) (b := 2816) (m ((c : Thread nD τ).loc main_arg1)) k s

theorem isV_point (t : Fin cfg0.N) {xs : Vec Ideal S1024x1408 .f32} {g : ℕ → ℕ → EReal} (hs : IsV (a := 1024) (b := 1408) xs g) :
    IsV (a := 1024) (b := 1408) (k0_pay2 (F := Ideal) xs (iblk m c 0 t) (iblk m c 1 t))
      fun r s => g r s + part 1664 5 1024 1408 2 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 1024) (b := 2816) (Value.G2 m c) fun r s => ∑ k ∈ range 8320, term m c k r s := by
  refine isV_swept (L := 5) (K := 1664) (p := 1) (q := 2) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 2 * ((i 0).val / 1024 - 0) + 1 * ((i 1).val / 1408 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x1024 .bf16) (x1 : FVec Ideal S8320x2816 .bf16) :
    IsV (a := 1024) (b := 2816) (Cert.Reference3Ideal.Read.val_main_v5 (F := Ideal) x0 x1)
      fun r s => ∑ k ∈ range 8320, at2 (a := 8320) (b := 1024) x0 k r * at2 (a := 8320) (b := 2816) x1 k s := by
  intro i
  rw [Cert.Reference3Ideal.Read.val_main_v5_apply, Cert.Reference3Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference3Ideal.Read.val_main_v5 (F := Ideal)
    (m ((c : Thread nD τ).loc main_arg0)) (m ((c : Thread nD τ).loc main_arg1)) :=
  funext fun i => (array m c i).trans (reference _ _ i).symm

end Cert.GateDw

end
-- ==== Proof.DownDw.lean ====
module

public import proofs.«01_k».proof.Proof.Tiles
public import proofs.«01_k».proof.Proof.Gen.Kernel4Ideal.Value
public import proofs.«01_k».proof.Proof.Gen.Reference4Ideal.Read

/-! The gradient of the SwiGLU's last weights: the accumulated product of columns by columns is the whole product. -/

@[expose] public section

noncomputable section

namespace Cert.DownDw

open Idealize.ShloMosaic Idealize.ShloMosaic.TcCoe Idealize.SL.Sem Cert.Kernel4Ideal Cert.Kernel4Ideal.Gen Cert.Products Finset

/-! ## What one point of the grid leaves -/

section
variable {c : Dev nD} {i : grid0.Coords} {a3 : Memref sig .tc .vmem S1664x1408 .bf16} {h3 : a3.IsWhole}
  {a4 : Memref sig .tc .vmem S1664x1024 .bf16} {h4 : a4.IsWhole} {a5 a6 : Memref sig .tc .vmem S1408x1024 .f32}
  {h5 : a5.IsWhole} {h6 : a6.IsWhole} {x0 : Vec Ideal S1664x1408 .bf16} {x1 : Vec Ideal S1664x1024 .bf16}
  {xs : Vec Ideal S1408x1024 .f32} {f g h : ℕ → ℕ → EReal}

theorem isV_step (hs : IsV (a := 1408) (b := 1024) xs h) (hl : IsV (a := 1664) (b := 1408) x0 f)
    (hr : IsV (a := 1664) (b := 1024) x1 g) :
    IsV (a := 1408) (b := 1024) (k0_pay2 (F := Ideal) xs x0 x1) fun r c => h r c + ∑ k ∈ range 1664, f k r * g k c := by
  unfold k0_pay2
  simp only [shapeCast_self]
  exact isV_acc hs hl hr

theorem isV_first : IsV (a := 1408) (b := 1024) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) origin, View.readCov_unit_zero (S := S1408x1024) _ origin]
  simp only [View.readAt_eq_ld, h3.read_unread, h4.read_unread, View.ld_unit_zero (S := S1664x1408) origin, View.ld_unit_zero (S := S1664x1024) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x1408) origin, View.ld_unit_zero (S := S1664x1024) origin, View.ld_unit_zero (S := S1408x1024) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x1408) origin, View.ld_unit_zero (S := S1664x1024) origin, View.ld_unit_zero (S := S1408x1024) origin, shapeCast_self,
    View.readCov_unit_zero (S := S1408x1024) _ origin]
end

/-! ## The accumulated product -/

/-- Where the blocks lie: a sweep of five points goes down one strip of columns of each argument. -/
theorem index : ∀ t : Fin cfg0.N, win0_0.index t 0 = t.val % 5 ∧ win0_0.index t 1 = t.val / 5 / 1 ∧
    win0_1.index t 0 = t.val % 5 ∧ win0_1.index t 1 = t.val / 5 % 1 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 2816) (m ((c : Thread nD τ).loc main_arg0)) k r *
    at2 (a := 8320) (b := 1024) (m ((c : Thread nD τ).loc main_arg1)) k s

theorem isV_point (t : Fin cfg0.N) {xs : Vec Ideal S1408x1024 .f32} {g : ℕ → ℕ → EReal} (hs : IsV (a := 1408) (b := 1024) xs g) :
    IsV (a := 1408) (b := 1024) (k0_pay2 (F := Ideal) xs (iblk m c 0 t) (iblk m c 1 t))
      fun r s => g r s + part 1664 5 1408 1024 1 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 2816) (b := 1024) (Value.G2 m c) fun r s => ∑ k ∈ range 8320, term m c k r s := by
  refine isV_swept (L := 5) (K := 1664) (p := 2) (q := 1) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 1 * ((i 0).val / 1408 - 0) + 1 * ((i 1).val / 1024 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x2816 .bf16) (x1 : FVec Ideal S8320x1024 .bf16) :
    IsV (a := 2816) (b := 1024) (Cert.Reference4Ideal.Read.val_main_v5 (F := Ideal) x0 x1)
      fun r s => ∑ k ∈ range 8320, at2 (a := 8320) (b := 2816) x0 k r * at2 (a := 8320) (b := 1024) x1 k s := by
  intro i
  rw [Cert.Reference4Ideal.Read.val_main_v5_apply, Cert.Reference4Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference4Ideal.Read.val_main_v5 (F := Ideal)
    (m ((c : Thread nD τ).loc main_arg0)) (m ((c : Thread nD τ).loc main_arg1)) :=
  funext fun i => (array m c i).trans (reference _ _ i).symm

end Cert.DownDw

end
-- ==== Proof.GateDx.lean ====
module

public import proofs.«01_k».proof.Proof.Tiles
public import proofs.«01_k».proof.Proof.Gen.Kernel5Ideal.Value
public import proofs.«01_k».proof.Proof.Gen.Reference5Ideal.Read

/-! The gradient that a gate passes back to its input: rows by rows, one strip of rows at a time. -/

@[expose] public section

noncomputable section

namespace Cert.GateDx

open Idealize.ShloMosaic Idealize.ShloMosaic.TcCoe Idealize.SL.Sem Cert.Kernel5Ideal Cert.Kernel5Ideal.Gen Cert.Products Finset

theorem isV_out {x0 : Vec Ideal S1040x2816 .bf16} {x1 : Vec Ideal S1024x2816 .bf16} {f g : ℕ → ℕ → EReal}
    (h0 : IsV (a := 1040) (b := 2816) x0 f) (h1 : IsV (a := 1024) (b := 2816) x1 g) :
    IsV (a := 1040) (b := 1024) (out0_2 (F := Ideal) x0 x1) fun r s => ∑ k ∈ range 2816, f r k * g s k := by
  unfold out0_2
  rw [View.canon_unit_zero origin, View.ld_unit_zero (S := S1040x2816) origin, View.ld_unit_zero (S := S1024x2816) origin]
  exact isV_nt h0 h1

/-- Where the blocks lie: a strip of rows by a strip of rows gives the block of the result. -/
theorem index : ∀ t : Fin cfg0.N, win0_0.index t 0 = win0_2.index t 0 ∧ win0_0.index t 1 = 0 ∧ win0_1.index t 0 = win0_2.index t 1 ∧
    win0_1.index t 1 = 0 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 2816,
    at2 (a := 8320) (b := 2816) (m ((c : Thread nD τ).loc main_arg0)) r k *
      at2 (a := 1024) (b := 2816) (m ((c : Thread nD τ).loc main_arg1)) s k := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x2816 .bf16) (x1 : FVec Ideal S1024x2816 .bf16) :
    IsV (a := 8320) (b := 1024) (Cert.Reference5Ideal.Read.val_main_v4 (F := Ideal) x0 x1)
      fun r s => ∑ k ∈ range 2816, at2 (a := 8320) (b := 2816) x0 r k * at2 (a := 1024) (b := 2816) x1 s k := by
  intro i
  rw [Cert.Reference5Ideal.Read.val_main_v4_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference5Ideal.Read.val_main_v4 (F := Ideal)
    (m ((c : Thread nD τ).loc main_arg0)) (m ((c : Thread nD τ).loc main_arg1)) :=
  funext fun i => (array m c i).trans (reference _ _ i).symm

end Cert.GateDx

end
-- ==== Proof.FfnIn.lean ====
module

public import proofs.«01_k».proof.Proof.Gate
public import proofs.«01_k».proof.Proof.Gen.Kernel6Ideal.Value
public import proofs.«01_k».proof.Proof.Gen.Reference6Ideal.Read

/-! The SwiGLU's two gates and their product: rows by columns, block by block. -/

@[expose] public section

noncomputable section

namespace Cert.FfnIn

open Idealize.ShloMosaic Idealize.ShloMosaic.TcCoe Idealize.SL.Sem Cert.Kernel6Ideal Cert.Kernel6Ideal.Gen Cert.Products Finset

/-! ## What one point of the grid leaves -/

section
variable {x0 : Vec Ideal S640x1024 .bf16} {x1 x2 : Vec Ideal S1024x1408 .bf16} {u v w : ℕ → ℕ → EReal}

theorem isV_product (h0 : IsV (a := 640) (b := 1024) x0 u) (h1 : IsV (a := 1024) (b := 1408) x1 v) :
    IsV (a := 640) (b := 1408) (k0_pay1 (F := Ideal) x0 x1) fun r s => ∑ k ∈ range 1024, u r k * v k s := by
  unfold k0_pay1
  exact isV_nn h0 h1

theorem isV_a (h0 : IsV (a := 640) (b := 1024) x0 u) (h1 : IsV (a := 1024) (b := 1408) x1 v) :
    IsV (a := 640) (b := 1408) (out0_3 (F := Ideal) x0 x1 x2) fun r s => ∑ k ∈ range 1024, u r k * v k s := by
  unfold out0_3
  rw [View.canon_unit_zero origin, View.ld_unit_zero (S := S640x1024) origin, View.ld_unit_zero (S := S1024x1408) origin]
  exact isV_product h0 h1

theorem isV_b (h0 : IsV (a := 640) (b := 1024) x0 u) (h2 : IsV (a := 1024) (b := 1408) x2 w) :
    IsV (a := 640) (b := 1408) (out0_4 (F := Ideal) x0 x1 x2) fun r s => ∑ k ∈ range 1024, u r k * w k s := by
  unfold out0_4
  rw [View.canon_unit_zero origin, View.ld_unit_zero (S := S640x1024) origin, View.ld_unit_zero (S := S1024x1408) origin]
  exact isV_product h0 h2

theorem isV_s (h0 : IsV (a := 640) (b := 1024) x0 u) (h1 : IsV (a := 1024) (b := 1408) x1 v)
    (h2 : IsV (a := 1024) (b := 1408) x2 w) :
    IsV (a := 640) (b := 1408) (out0_5 (F := Ideal) x0 x1 x2) fun r s =>
      (∑ k ∈ range 1024, u r k * v k s) * sig (∑ k ∈ range 1024, u r k * v k s) * ∑ k ∈ range 1024, u r k * w k s := by
  unfold out0_5
  rw [View.canon_unit_zero origin, View.ld_unit_zero (S := S640x1024) origin, View.ld_unit_zero (S := S1024x1408) origin,
    View.ld_unit_zero (S := S1024x1408) origin]
  intro i
  unfold k0_pay3
  exact congrArg₂ (· * ·) (congrArg₂ (· * ·) (isV_product h0 h1 i) (isV_sig (isV_product h0 h1) i)) (isV_product h0 h2 i)
end

/-! ## The blocks of the arguments -/

variable (m : (ℓ : Loc nD τ sig) → Buf (Elt Ideal) ℓ) (c : Dev nD)

/-- The entries of the three arguments. -/
def U : ℕ → ℕ → EReal := at2 (a := 8320) (b := 1024) (m ((c : Thread nD τ).loc main_arg0))
def V1 : ℕ → ℕ → EReal := at2 (a := 1024) (b := 2816) (m ((c : Thread nD τ).loc main_arg1))
def V2 : ℕ → ℕ → EReal := at2 (a := 1024) (b := 2816) (m ((c : Thread nD τ).loc main_arg2))

theorem index_0 : ∀ t : Fin cfg0.N, win0_0.index t 0 = t.val / 2 ∧ win0_0.index t 1 = 0 :=
  (by decide +kernel : ∀ t : Fin grid0.N, _)
theorem index_1 : ∀ t : Fin cfg0.N, win0_1.index t 0 = 0 ∧ win0_1.index t 1 = t.val % 2 :=
  (by decide +kernel : ∀ t : Fin grid0.N, _)
theorem index_2 : ∀ t : Fin cfg0.N, win0_2.index t 0 = 0 ∧ win0_2.index t 1 = t.val % 2 :=
  (by decide +kernel : ∀ t : Fin grid0.N, _)
theorem index_3 : ∀ t : Fin cfg0.N, win0_3.index t 0 = t.val / 2 ∧ win0_3.index t 1 = t.val % 2 :=
  (by decide +kernel : ∀ t : Fin grid0.N, _)
theorem index_4 : ∀ t : Fin cfg0.N, win0_4.index t 0 = t.val / 2 ∧ win0_4.index t 1 = t.val % 2 :=
  (by decide +kernel : ∀ t : Fin grid0.N, _)
theorem index_5 : ∀ t : Fin cfg0.N, win0_5.index t 0 = t.val / 2 ∧ win0_5.index t 1 = t.val % 2 :=
  (by decide +kernel : ∀ t : Fin grid0.N, _)

theorem block_0 (t : Fin cfg0.N) :
    IsV (a := 640) (b := 1024) (iblk m c 0 t) fun r s => U m c (640 * (t.val / 2) + r) s := by
  intro j
  unfold iblk
  rw [View.read_apply]
  refine (congrFun (V_main_arg0 m c) _).trans (at2_eq _ _ _ _ ?_ ?_)
  · show win0_0.index t 0 * 640 + 1 * (j 0).val = _
    rw [(index_0 t).1]; omega
  · show win0_0.index t 1 * 1024 + 1 * (j 1).val = _
    rw [(index_0 t).2]; omega

theorem block_1 (t : Fin cfg0.N) :
    IsV (a := 1024) (b := 1408) (iblk m c 1 t) fun r s => V1 m c r (1408 * (t.val % 2) + s) := by
  intro j
  unfold iblk
  rw [View.read_apply]
  refine (congrFun (V_main_arg1 m c) _).trans (at2_eq _ _ _ _ ?_ ?_)
  · show win0_1.index t 0 * 1024 + 1 * (j 0).val = _
    rw [(index_1 t).1]; omega
  · show win0_1.index t 1 * 1408 + 1 * (j 1).val = _
    rw [(index_1 t).2]; omega

theorem block_2 (t : Fin cfg0.N) :
    IsV (a := 1024) (b := 1408) (iblk m c 2 t) fun r s => V2 m c r (1408 * (t.val % 2) + s) := by
  intro j
  unfold iblk
  rw [View.read_apply]
  refine (congrFun (V_main_arg2 m c) _).trans (at2_eq _ _ _ _ ?_ ?_)
  · show win0_2.index t 0 * 1024 + 1 * (j 0).val = _
    rw [(index_2 t).1]; omega
  · show win0_2.index t 1 * 1408 + 1 * (j 1).val = _
    rw [(index_2 t).2]; omega

/-! ## The result arrays -/

/-- The point that writes the block of a position. -/
def point (i : S8320x2816.Idx) : Fin cfg0.N :=
  ⟨2 * ((i 0).val / 640) + (i 1).val / 1408, by
    have h0 : (i 0).val < 8320 := (i 0).isLt
    have h1 : (i 1).val < 2816 := (i 1).isLt
    have hN : cfg0.N = 26 := N_0
    omega⟩

theorem point_mem (i : S8320x2816.Idx) : (640 * ((point i).val / 2) ≤ (i 0).val ∧ (i 0).val < 640 * ((point i).val / 2) + 640) ∧
    1408 * ((point i).val % 2) ≤ (i 1).val ∧ (i 1).val < 1408 * ((point i).val % 2) + 1408 := by
  have h0 : (i 0).val < 8320 := (i 0).isLt
  have h1 : (i 1).val < 2816 := (i 1).isLt
  have e : (point i).val = 2 * ((i 0).val / 640) + (i 1).val / 1408 := rfl
  rw [e]
  omega

/-- The two gates. -/
def A (r s : ℕ) : EReal := ∑ k ∈ range 1024, U m c r k * V1 m c k s
def B (r s : ℕ) : EReal := ∑ k ∈ range 1024, U m c r k * V2 m c k s

theorem array_a : IsV (a := 8320) (b := 2816) ((dats m 0 c).arrAt 3 cfg0.N) (A m c) := by
  refine isV_of_blocks (M := 640) (N := 1408) fun i => ⟨_, _, out0_3 (iblk m c 0 (point i)) (iblk m c 1 (point i)) (iblk m c 2 (point i)),
    ((cfg0.win 3).blk (point i)).view.emb, fun j => ?_, fun j => ⟨?_, ?_⟩,
    isV_a (block_0 m c _) (block_1 m c _), point_mem i⟩
  · have e := congrFun ((Value.blocks3 m c (point i) (flush0_3 _)).trans (Value.flushed3 m c (point i))) j
    rw [View.read_apply] at e
    exact e
  · show win0_3.index (point i) 0 * 640 + 1 * (j 0).val = _
    rw [(index_3 _).1]; omega
  · show win0_3.index (point i) 1 * 1408 + 1 * (j 1).val = _
    rw [(index_3 _).2]; omega

theorem array_b : IsV (a := 8320) (b := 2816) ((dats m 0 c).arrAt 4 cfg0.N) (B m c) := by
  refine isV_of_blocks (M := 640) (N := 1408) fun i => ⟨_, _, out0_4 (iblk m c 0 (point i)) (iblk m c 1 (point i)) (iblk m c 2 (point i)),
    ((cfg0.win 4).blk (point i)).view.emb, fun j => ?_, fun j => ⟨?_, ?_⟩,
    isV_b (block_0 m c _) (block_2 m c _), point_mem i⟩
  · have e := congrFun ((Value.blocks4 m c (point i) (flush0_4 _)).trans (Value.flushed4 m c (point i))) j
    rw [View.read_apply] at e
    exact e
  · show win0_4.index (point i) 0 * 640 + 1 * (j 0).val = _
    rw [(index_4 _).1]; omega
  · show win0_4.index (point i) 1 * 1408 + 1 * (j 1).val = _
    rw [(index_4 _).2]; omega

theorem array_s : IsV (a := 8320) (b := 2816) ((dats m 0 c).arrAt 5 cfg0.N) fun r s => A m c r s * sig (A m c r s) * B m c r s := by
  refine isV_of_blocks (M := 640) (N := 1408) fun i => ⟨_, _, out0_5 (iblk m c 0 (point i)) (iblk m c 1 (point i)) (iblk m c 2 (point i)),
    ((cfg0.win 5).blk (point i)).view.emb, fun j => ?_, fun j => ⟨?_, ?_⟩,
    isV_s (block_0 m c _) (block_1 m c _) (block_2 m c _), point_mem i⟩
  · have e := congrFun ((Value.blocks5 m c (point i) (flush0_5 _)).trans (Value.flushed5 m c (point i))) j
    rw [View.read_apply] at e
    exact e
  · show win0_5.index (point i) 0 * 640 + 1 * (j 0).val = _
    rw [(index_5 _).1]; omega
  · show win0_5.index (point i) 1 * 1408 + 1 * (j 1).val = _
    rw [(index_5 _).2]; omega

/-! ## They are the reference's -/

/-- The three arguments. -/
abbrev arg0 := m ((c : Thread nD τ).loc main_arg0)
abbrev arg1 := m ((c : Thread nD τ).loc main_arg1)
abbrev arg2 := m ((c : Thread nD τ).loc main_arg2)

open Cert.Reference6Ideal.Read

theorem reference_a (x0 : FVec Ideal S8320x1024 .bf16) (x1 : FVec Ideal S1024x2816 .bf16) :
    IsV (a := 8320) (b := 2816) (val_main_v2 (F := Ideal) x0 x1)
      fun r s => ∑ k ∈ range 1024, at2 (a := 8320) (b := 1024) x0 r k * at2 (a := 1024) (b := 2816) x1 k s := by
  intro i
  rw [val_main_v2_apply]
  refine Eq.trans ?_ (Finset.sum_range _).symm
  refine Finset.sum_congr rfl fun k _ => ?_
  exact congrArg₂ (· * ·) (at2_eq x0 _ _ _ rfl rfl) (at2_eq x1 _ _ _ rfl rfl)

theorem reference_b (x0 : FVec Ideal S8320x1024 .bf16) (x1 : FVec Ideal S1024x2816 .bf16) :
    IsV (a := 8320) (b := 2816) (val_main_v5 (F := Ideal) x0 x1)
      fun r s => ∑ k ∈ range 1024, at2 (a := 8320) (b := 1024) x0 r k * at2 (a := 1024) (b := 2816) x1 k s := by
  intro i
  rw [val_main_v5_apply]
  refine Eq.trans ?_ (Finset.sum_range _).symm
  refine Finset.sum_congr rfl fun k _ => ?_
  exact congrArg₂ (· * ·) (at2_eq x0 _ _ _ rfl rfl) (at2_eq x1 _ _ _ rfl rfl)

theorem ref_a (i : S8320x2816.Idx) : A m c (i 0).val (i 1).val = val_main_v2 (F := Ideal) (arg0 m c) (arg1 m c) i :=
  (reference_a _ _ i).symm

theorem ref_b (i : S8320x2816.Idx) : B m c (i 0).val (i 1).val = val_main_v5 (F := Ideal) (arg0 m c) (arg2 m c) i :=
  (reference_b _ _ i).symm

theorem ref_gate (x0 : FVec Ideal S8320x1024 .bf16) (x1 : FVec Ideal S1024x2816 .bf16) (i : S8320x2816.Idx) :
    val_main_call0_v5 (F := Ideal) x0 x1 i = sig (val_main_v2 (F := Ideal) x0 x1 i) := by
  show Ideal.div (Ideal.ofBits .f32 0x3F800000#32) (Ideal.ofBits .f32 0x3F800000#32 + Ideal.exp (-(val_main_v2 (F := Ideal) x0 x1 i))) = _
  rw [one_f32]
  rfl

theorem a_eq : (dats m 0 c).arrAt 3 cfg0.N = val_main_v2 (F := Ideal) (arg0 m c) (arg1 m c) :=
  funext fun i => (array_a m c i).trans (ref_a m c i)

theorem b_eq : (dats m 0 c).arrAt 4 cfg0.N = val_main_v5 (F := Ideal) (arg0 m c) (arg2 m c) :=
  funext fun i => (array_b m c i).trans (ref_b m c i)

theorem s_eq : (dats m 0 c).arrAt 5 cfg0.N = val_main_v8 (F := Ideal) (arg0 m c) (arg1 m c) (arg2 m c) := by
  funext i
  rw [array_s m c i]
  dsimp only
  rw [ref_a, ref_b, ← ref_gate]
  rfl

end Cert.FfnIn

end
-- ==== Proof.FfnDown.lean ====
module

public import proofs.«01_k».proof.Proof.Tiles
public import proofs.«01_k».proof.Proof.Gen.Kernel7Ideal.Value
public import proofs.«01_k».proof.Proof.Gen.Reference7Ideal.Read

/-! The SwiGLU's last product: rows by columns, one strip of rows at a time. -/

@[expose] public section

noncomputable section

namespace Cert.FfnDown

open Idealize.ShloMosaic Idealize.ShloMosaic.TcCoe Idealize.SL.Sem Cert.Kernel7Ideal Cert.Kernel7Ideal.Gen Cert.Products Finset

theorem isV_out {x0 : Vec Ideal S1040x2816 .bf16} {x1 : Vec Ideal S2816x1024 .bf16} {f g : ℕ → ℕ → EReal}
    (h0 : IsV (a := 1040) (b := 2816) x0 f) (h1 : IsV (a := 2816) (b := 1024) x1 g) :
    IsV (a := 1040) (b := 1024) (out0_2 (F := Ideal) x0 x1) fun r s => ∑ k ∈ range 2816, f r k * g k s := by
  unfold out0_2
  rw [View.canon_unit_zero origin, View.ld_unit_zero (S := S1040x2816) origin, View.ld_unit_zero (S := S2816x1024) origin]
  exact isV_nn h0 h1

/-- Where the blocks lie: a strip of rows by a strip of columns gives the block of the result. -/
theorem index : ∀ t : Fin cfg0.N, win0_0.index t 0 = win0_2.index t 0 ∧ win0_0.index t 1 = 0 ∧ win0_1.index t 0 = 0 ∧
    win0_1.index t 1 = win0_2.index t 1 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 2816,
    at2 (a := 8320) (b := 2816) (m ((c : Thread nD τ).loc main_arg0)) r k *
      at2 (a := 2816) (b := 1024) (m ((c : Thread nD τ).loc main_arg1)) k s := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x2816 .bf16) (x1 : FVec Ideal S2816x1024 .bf16) :
    IsV (a := 8320) (b := 1024) (Cert.Reference7Ideal.Read.val_main_v2 (F := Ideal) x0 x1)
      fun r s => ∑ k ∈ range 2816, at2 (a := 8320) (b := 2816) x0 r k * at2 (a := 2816) (b := 1024) x1 k s := by
  intro i
  rw [Cert.Reference7Ideal.Read.val_main_v2_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference7Ideal.Read.val_main_v2 (F := Ideal)
    (m ((c : Thread nD τ).loc main_arg0)) (m ((c : Thread nD τ).loc main_arg1)) :=
  funext fun i => (array m c i).trans (reference _ _ i).symm

end Cert.FfnDown

end
-- ==== Proof.MixIn.lean ====
module

public import proofs.«01_k».proof.Proof.Tiles
public import proofs.«01_k».proof.Proof.Gen.Kernel8Ideal.Value
public import proofs.«01_k».proof.Proof.Gen.Reference8Ideal.Read

/-! The mixer's first product: a strip of rows by a strip of columns at a time. -/

@[expose] public section

noncomputable section

namespace Cert.MixIn

open Idealize.ShloMosaic Idealize.ShloMosaic.TcCoe Idealize.SL.Sem Cert.Kernel8Ideal Cert.Kernel8Ideal.Gen Cert.Products Finset

theorem isV_out {x0 : Vec Ideal S1040x1024 .bf16} {x1 : Vec Ideal S1024x1280 .bf16} {f g : ℕ → ℕ → EReal}
    (h0 : IsV (a := 1040) (b := 1024) x0 f) (h1 : IsV (a := 1024) (b := 1280) x1 g) :
    IsV (a := 1040) (b := 1280) (out0_2 (F := Ideal) x0 x1) fun r s => ∑ k ∈ range 1024, f r k * g k s := by
  unfold out0_2
  rw [View.canon_unit_zero origin, View.ld_unit_zero (S := S1040x1024) origin, View.ld_unit_zero (S := S1024x1280) origin]
  exact isV_nn h0 h1

/-- Where the blocks lie: a strip of rows by a strip of columns gives the block of the result. -/
theorem index : ∀ t : Fin cfg0.N, win0_0.index t 0 = win0_2.index t 0 ∧ win0_0.index t 1 = 0 ∧ win0_1.index t 0 = 0 ∧
    win0_1.index t 1 = win0_2.index t 1 :=
  (by decide +kernel : ∀ t : Fin grid0.N, _)

theorem covered : ∀ k : Fin 8, ∀ l : Fin 4, ∃ t : Fin cfg0.N, win0_2.index t 0 = k.val ∧ win0_2.index t 1 = l.val :=
  (by decide +kernel : ∀ k : Fin 8, ∀ l : Fin 4, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 5120) ((dats m 0 c).arrAt 2 cfg0.N) fun r s => ∑ k ∈ range 1024,
    at2 (a := 8320) (b := 1024) (m ((c : Thread nD τ).loc main_arg0)) r k *
      at2 (a := 1024) (b := 5120) (m ((c : Thread nD τ).loc main_arg1)) k s := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1024 .bf16) (x1 : FVec Ideal S1024x5120 .bf16) :
    IsV (a := 8320) (b := 5120) (Cert.Reference8Ideal.Read.val_main_v2 (F := Ideal) x0 x1)
      fun r s => ∑ k ∈ range 1024, at2 (a := 8320) (b := 1024) x0 r k * at2 (a := 1024) (b := 5120) x1 k s := by
  intro i
  rw [Cert.Reference8Ideal.Read.val_main_v2_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference8Ideal.Read.val_main_v2 (F := Ideal)
    (m ((c : Thread nD τ).loc main_arg0)) (m ((c : Thread nD τ).loc main_arg1)) :=
  funext fun i => (array m c i).trans (reference _ _ i).symm

end Cert.MixIn

end
-- ==== Proof.MixOut.lean ====
module

public import proofs.«01_k».proof.Proof.Tiles
public import proofs.«01_k».proof.Proof.Gen.Kernel9Ideal.Value
public import proofs.«01_k».proof.Proof.Gen.Reference9Ideal.Read

/-! The mixer's last product: one strip of rows at a time. -/

@[expose] public section

noncomputable section

namespace Cert.MixOut

open Idealize.ShloMosaic Idealize.ShloMosaic.TcCoe Idealize.SL.Sem Cert.Kernel9Ideal Cert.Kernel9Ideal.Gen Cert.Products Finset

theorem isV_out {x0 : Vec Ideal S1040x1536 .bf16} {x1 : Vec Ideal S1536x1024 .bf16} {f g : ℕ → ℕ → EReal}
    (h0 : IsV (a := 1040) (b := 1536) x0 f) (h1 : IsV (a := 1536) (b := 1024) x1 g) :
    IsV (a := 1040) (b := 1024) (out0_2 (F := Ideal) x0 x1) fun r s => ∑ k ∈ range 1536, f r k * g k s := by
  unfold out0_2
  rw [View.canon_unit_zero origin, View.ld_unit_zero (S := S1040x1536) origin, View.ld_unit_zero (S := S1536x1024) origin]
  exact isV_nn h0 h1

/-- Where the blocks lie: a strip of rows by a strip of columns gives the block of the result. -/
theorem index : ∀ t : Fin cfg0.N, win0_0.index t 0 = win0_2.index t 0 ∧ win0_0.index t 1 = 0 ∧ win0_1.index t 0 = 0 ∧
    win0_1.index t 1 = win0_2.index t 1 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 1536,
    at2 (a := 8320) (b := 1536) (m ((c : Thread nD τ).loc main_arg0)) r k *
      at2 (a := 1536) (b := 1024) (m ((c : Thread nD τ).loc main_arg1)) k s := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1536 .bf16) (x1 : FVec Ideal S1536x1024 .bf16) :
    IsV (a := 8320) (b := 1024) (Cert.Reference9Ideal.Read.val_main_v2 (F := Ideal) x0 x1)
      fun r s => ∑ k ∈ range 1536, at2 (a := 8320) (b := 1536) x0 r k * at2 (a := 1536) (b := 1024) x1 k s := by
  intro i
  rw [Cert.Reference9Ideal.Read.val_main_v2_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference9Ideal.Read.val_main_v2 (F := Ideal)
    (m ((c : Thread nD τ).loc main_arg0)) (m ((c : Thread nD τ).loc main_arg1)) :=
  funext fun i => (array m c i).trans (reference _ _ i).symm

end Cert.MixOut

end
-- ==== Proof.MixOutDx.lean ====
module

public import proofs.«01_k».proof.Proof.Tiles
public import proofs.«01_k».proof.Proof.Gen.Kernel10Ideal.Value
public import proofs.«01_k».proof.Proof.Gen.Reference10Ideal.Read

/-! The gradient that the mixer's last product passes back: rows by rows, a strip of each at a time. -/

@[expose] public section

noncomputable section

namespace Cert.MixOutDx

open Idealize.ShloMosaic Idealize.ShloMosaic.TcCoe Idealize.SL.Sem Cert.Kernel10Ideal Cert.Kernel10Ideal.Gen Cert.Products Finset

theorem isV_out {x0 : Vec Ideal S1040x1024 .bf16} {x1 : Vec Ideal S768x1024 .bf16} {f g : ℕ → ℕ → EReal}
    (h0 : IsV (a := 1040) (b := 1024) x0 f) (h1 : IsV (a := 768) (b := 1024) x1 g) :
    IsV (a := 1040) (b := 768) (out0_2 (F := Ideal) x0 x1) fun r s => ∑ k ∈ range 1024, f r k * g s k := by
  unfold out0_2
  rw [View.canon_unit_zero origin, View.ld_unit_zero (S := S1040x1024) origin, View.ld_unit_zero (S := S768x1024) origin]
  exact isV_nt h0 h1

/-- Where the blocks lie: a strip of rows by a strip of rows gives the block of the result. -/
theorem index : ∀ t : Fin cfg0.N, win0_0.index t 0 = win0_2.index t 0 ∧ win0_0.index t 1 = 0 ∧ win0_1.index t 0 = win0_2.index t 1 ∧
    win0_1.index t 1 = 0 :=
  (by decide +kernel : ∀ t : Fin grid0.N, _)

theorem covered : ∀ k : Fin 8, ∀ l : Fin 2, ∃ t : Fin cfg0.N, win0_2.index t 0 = k.val ∧ win0_2.index t 1 = l.val :=
  (by decide +kernel : ∀ k : Fin 8, ∀ l : Fin 2, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1536) ((dats m 0 c).arrAt 2 cfg0.N) fun r s => ∑ k ∈ range 1024,
    at2 (a := 8320) (b := 1024) (m ((c : Thread nD τ).loc main_arg0)) r k *
      at2 (a := 1536) (b := 1024) (m ((c : Thread nD τ).loc main_arg1)) s k := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1024 .bf16) (x1 : FVec Ideal S1536x1024 .bf16) :
    IsV (a := 8320) (b := 1536) (Cert.Reference10Ideal.Read.val_main_v4 (F := Ideal) x0 x1)
      fun r s => ∑ k ∈ range 1024, at2 (a := 8320) (b := 1024) x0 r k * at2 (a := 1536) (b := 1024) x1 s k := by
  intro i
  rw [Cert.Reference10Ideal.Read.val_main_v4_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference10Ideal.Read.val_main_v4 (F := Ideal)
    (m ((c : Thread nD τ).loc main_arg0)) (m ((c : Thread nD τ).loc main_arg1)) :=
  funext fun i => (array m c i).trans (reference _ _ i).symm

end Cert.MixOutDx

end
-- ==== Proof.MixOutDw.lean ====
module

public import proofs.«01_k».proof.Proof.Tiles
public import proofs.«01_k».proof.Proof.Gen.Kernel11Ideal.Value
public import proofs.«01_k».proof.Proof.Gen.Reference11Ideal.Read

/-! The gradient of the mixer's last weights: the accumulated product of columns by columns is the whole product. -/

@[expose] public section

noncomputable section

namespace Cert.MixOutDw

open Idealize.ShloMosaic Idealize.ShloMosaic.TcCoe Idealize.SL.Sem Cert.Kernel11Ideal Cert.Kernel11Ideal.Gen Cert.Products Finset

/-! ## What one point of the grid leaves -/

section
variable {c : Dev nD} {i : grid0.Coords} {a3 : Memref sig .tc .vmem S1664x768 .bf16} {h3 : a3.IsWhole}
  {a4 : Memref sig .tc .vmem S1664x1024 .bf16} {h4 : a4.IsWhole} {a5 a6 : Memref sig .tc .vmem S768x1024 .f32}
  {h5 : a5.IsWhole} {h6 : a6.IsWhole} {x0 : Vec Ideal S1664x768 .bf16} {x1 : Vec Ideal S1664x1024 .bf16}
  {xs : Vec Ideal S768x1024 .f32} {f g h : ℕ → ℕ → EReal}

theorem isV_step (hs : IsV (a := 768) (b := 1024) xs h) (hl : IsV (a := 1664) (b := 768) x0 f)
    (hr : IsV (a := 1664) (b := 1024) x1 g) :
    IsV (a := 768) (b := 1024) (k0_pay2 (F := Ideal) xs x0 x1) fun r c => h r c + ∑ k ∈ range 1664, f k r * g k c := by
  unfold k0_pay2
  simp only [shapeCast_self]
  exact isV_acc hs hl hr

theorem isV_first : IsV (a := 768) (b := 1024) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S768x1024) origin, View.readCov_unit_zero (S := S768x1024) _ origin]
  simp only [View.readAt_eq_ld, h3.read_unread, h4.read_unread, View.ld_unit_zero (S := S1664x768) origin, View.ld_unit_zero (S := S1664x1024) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x768) origin, View.ld_unit_zero (S := S1664x1024) origin, View.ld_unit_zero (S := S768x1024) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x768) origin, View.ld_unit_zero (S := S1664x1024) origin, View.ld_unit_zero (S := S768x1024) origin, shapeCast_self,
    View.readCov_unit_zero (S := S768x1024) _ origin]
end

/-! ## The accumulated product -/

/-- Where the blocks lie: a sweep of five points goes down one strip of columns of each argument. -/
theorem index : ∀ t : Fin cfg0.N, win0_0.index t 0 = t.val % 5 ∧ win0_0.index t 1 = t.val / 5 / 1 ∧
    win0_1.index t 0 = t.val % 5 ∧ win0_1.index t 1 = t.val / 5 % 1 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 1536) (m ((c : Thread nD τ).loc main_arg0)) k r *
    at2 (a := 8320) (b := 1024) (m ((c : Thread nD τ).loc main_arg1)) k s

theorem isV_point (t : Fin cfg0.N) {xs : Vec Ideal S768x1024 .f32} {g : ℕ → ℕ → EReal} (hs : IsV (a := 768) (b := 1024) xs g) :
    IsV (a := 768) (b := 1024) (k0_pay2 (F := Ideal) xs (iblk m c 0 t) (iblk m c 1 t))
      fun r s => g r s + part 1664 5 768 1024 1 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 1536) (b := 1024) (Value.G2 m c) fun r s => ∑ k ∈ range 8320, term m c k r s := by
  refine isV_swept (L := 5) (K := 1664) (p := 2) (q := 1) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 1 * ((i 0).val / 768 - 0) + 1 * ((i 1).val / 1024 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x1536 .bf16) (x1 : FVec Ideal S8320x1024 .bf16) :
    IsV (a := 1536) (b := 1024) (Cert.Reference11Ideal.Read.val_main_v5 (F := Ideal) x0 x1)
      fun r s => ∑ k ∈ range 8320, at2 (a := 8320) (b := 1536) x0 k r * at2 (a := 8320) (b := 1024) x1 k s := by
  intro i
  rw [Cert.Reference11Ideal.Read.val_main_v5_apply, Cert.Reference11Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference11Ideal.Read.val_main_v5 (F := Ideal)
    (m ((c : Thread nD τ).loc main_arg0)) (m ((c : Thread nD τ).loc main_arg1)) :=
  funext fun i => (array m c i).trans (reference _ _ i).symm

end Cert.MixOutDw

end
-- ==== Proof.MixInDx.lean ====
module

public import proofs.«01_k».proof.Proof.Tiles
public import proofs.«01_k».proof.Proof.Gen.Kernel12Ideal.Value
public import proofs.«01_k».proof.Proof.Gen.Reference12Ideal.Read

/-! The gradient that the mixer's first product passes back: rows by rows, in two halves that are added. -/

@[expose] public section

noncomputable section

namespace Cert.MixInDx

open Idealize.ShloMosaic Idealize.ShloMosaic.TcCoe Idealize.SL.Sem Cert.Kernel12Ideal Cert.Kernel12Ideal.Gen Cert.Products Finset

/-! ## What one point of the grid leaves -/

section
variable {c : Dev nD} {i : grid0.Coords} {a3 : Memref sig .tc .vmem S1040x2560 .bf16} {h3 : a3.IsWhole}
  {a4 : Memref sig .tc .vmem S1024x2560 .bf16} {h4 : a4.IsWhole} {a5 a6 : Memref sig .tc .vmem S1040x1024 .f32}
  {h5 : a5.IsWhole} {h6 : a6.IsWhole} {x0 : Vec Ideal S1040x2560 .bf16} {x1 : Vec Ideal S1024x2560 .bf16}
  {xs : Vec Ideal S1040x1024 .f32} {f g h : ℕ → ℕ → EReal}

theorem isV_step (hs : IsV (a := 1040) (b := 1024) xs h) (hl : IsV (a := 1040) (b := 2560) x0 f)
    (hr : IsV (a := 1024) (b := 2560) x1 g) :
    IsV (a := 1040) (b := 1024) (k0_pay2 (F := Ideal) xs x0 x1) fun r c => h r c + ∑ k ∈ range 2560, f r k * g c k := by
  unfold k0_pay2
  simp only [shapeCast_self]
  exact isV_add hs (isV_nt hl hr)

theorem isV_first : IsV (a := 1040) (b := 1024) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1040x1024) origin, View.readCov_unit_zero (S := S1040x1024) _ origin]
  simp only [View.readAt_eq_ld, h3.read_unread, h4.read_unread, View.ld_unit_zero (S := S1040x2560) origin, View.ld_unit_zero (S := S1024x2560) origin]

theorem result_C (hc0 : ¬cond0_0 i) (hc1 : cond0_1 i) :
    out0_B_2 c i a3 h3 a4 h4 a5 h5 a6 h6 hc0 hc1 x0 x1 xs = k0_pay2 xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero origin]
  simp only [View.readAt_eq_ld, h3.read_unread, h4.read_unread, h6.read_unread, View.ld_unit_zero (S := S1040x2560) origin, View.ld_unit_zero (S := S1024x2560) origin, View.ld_unit_zero (S := S1040x1024) origin, shapeCast_self,
    View.readCov_unit_zero (S := S1040x1024) _ origin]
end

/-! ## The accumulated product -/

/-- Where the blocks lie: a sweep of two points goes along one strip of rows of each argument. -/
theorem index : ∀ t : Fin cfg0.N, win0_0.index t 0 = t.val / 2 / 1 ∧ win0_0.index t 1 = t.val % 2 ∧
    win0_1.index t 0 = t.val / 2 % 1 ∧ win0_1.index t 1 = t.val % 2 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 5120) (m ((c : Thread nD τ).loc main_arg0)) r k *
    at2 (a := 1024) (b := 5120) (m ((c : Thread nD τ).loc main_arg1)) s k

theorem isV_point (t : Fin cfg0.N) {xs : Vec Ideal S1040x1024 .f32} {g : ℕ → ℕ → EReal} (hs : IsV (a := 1040) (b := 1024) xs g) :
    IsV (a := 1040) (b := 1024) (k0_pay2 (F := Ideal) xs (iblk m c 0 t) (iblk m c 1 t))
      fun r s => g r s + part 2560 2 1040 1024 1 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 8320) (b := 1024) (Value.G2 m c) fun r s => ∑ k ∈ range 5120, term m c k r s := by
  refine isV_swept (L := 2) (K := 2560) (p := 8) (q := 1) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 1 * ((i 0).val / 1040 - 0) + 1 * ((i 1).val / 1024 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · omega
  · rw [outsAt0_B m c ⟨n, h⟩ (by dsimp only; omega) e]
    dsimp only
    rw [result_C]
    exact isV_point m c ⟨n, h⟩ hg

/-- The reference's result holds the same product. -/
theorem reference (x0 : FVec Ideal S8320x5120 .bf16) (x1 : FVec Ideal S1024x5120 .bf16) :
    IsV (a := 8320) (b := 1024) (Cert.Reference12Ideal.Read.val_main_v4 (F := Ideal) x0 x1)
      fun r s => ∑ k ∈ range 5120, at2 (a := 8320) (b := 5120) x0 r k * at2 (a := 1024) (b := 5120) x1 s k := by
  intro i
  rw [Cert.Reference12Ideal.Read.val_main_v4_apply]
  refine Eq.trans (Finset.sum_congr rfl fun k _ => ?_) (Finset.sum_range _).symm
  exact congrArg₂ (· * ·) (at2_eq x0 _ _ _ rfl rfl) (at2_eq x1 _ _ _ rfl rfl)

theorem array_eq : Value.G2 m c = Cert.Reference12Ideal.Read.val_main_v4 (F := Ideal)
    (m ((c : Thread nD τ).loc main_arg0)) (m ((c : Thread nD τ).loc main_arg1)) :=
  funext fun i => (array m c i).trans (reference _ _ i).symm

end Cert.MixInDx

end
-- ==== Proof.MixInDw.lean ====
module

public import proofs.«01_k».proof.Proof.Tiles
public import proofs.«01_k».proof.Proof.Gen.Kernel13Ideal.Value
public import proofs.«01_k».proof.Proof.Gen.Reference13Ideal.Read

/-! The gradient of the mixer's first weights: the accumulated product of columns by columns is the whole product. -/

@[expose] public section

noncomputable section

namespace Cert.MixInDw

open Idealize.ShloMosaic Idealize.ShloMosaic.TcCoe Idealize.SL.Sem Cert.Kernel13Ideal Cert.Kernel13Ideal.Gen Cert.Products Finset

/-! ## What one point of the grid leaves -/

section
variable {c : Dev nD} {i : grid0.Coords} {a3 : Memref sig .tc .vmem S1664x1024 .bf16} {h3 : a3.IsWhole}
  {a4 : Memref sig .tc .vmem S1664x1280 .bf16} {h4 : a4.IsWhole} {a5 a6 : Memref sig .tc .vmem S1024x1280 .f32}
  {h5 : a5.IsWhole} {h6 : a6.IsWhole} {x0 : Vec Ideal S1664x1024 .bf16} {x1 : Vec Ideal S1664x1280 .bf16}
  {xs : Vec Ideal S1024x1280 .f32} {f g h : ℕ → ℕ → EReal}

theorem isV_step (hs : IsV (a := 1024) (b := 1280) xs h) (hl : IsV (a := 1664) (b := 1024) x0 f)
    (hr : IsV (a := 1664) (b := 1280) x1 g) :
    IsV (a := 1024) (b := 1280) (k0_pay2 (F := Ideal) xs x0 x1) fun r c => h r c + ∑ k ∈ range 1664, f k r * g k c := by
  unfold k0_pay2
  simp only [shapeCast_self]
  exact isV_acc hs hl hr

theorem isV_first : IsV (a := 1024) (b := 1280) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1280) origin, View.readCov_unit_zero (S := S1024x1280) _ origin]
  simp only [View.readAt_eq_ld, h3.read_unread, h4.read_unread, View.ld_unit_zero (S := S1664x1024) origin, View.ld_unit_zero (S := S1664x1280) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x1024) origin, View.ld_unit_zero (S := S1664x1280) origin, View.ld_unit_zero (S := S1024x1280) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x1024) origin, View.ld_unit_zero (S := S1664x1280) origin, View.ld_unit_zero (S := S1024x1280) origin, shapeCast_self,
    View.readCov_unit_zero (S := S1024x1280) _ origin]
end

/-! ## The accumulated product -/

/-- Where the blocks lie: a sweep of five points goes down one strip of columns of each argument. -/
theorem index : ∀ t : Fin cfg0.N, win0_0.index t 0 = t.val % 5 ∧ win0_0.index t 1 = t.val / 5 / 4 ∧
    win0_1.index t 0 = t.val % 5 ∧ win0_1.index t 1 = t.val / 5 % 4 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 1024) (m ((c : Thread nD τ).loc main_arg0)) k r *
    at2 (a := 8320) (b := 5120) (m ((c : Thread nD τ).loc main_arg1)) k s

theorem isV_point (t : Fin cfg0.N) {xs : Vec Ideal S1024x1280 .f32} {g : ℕ → ℕ → EReal} (hs : IsV (a := 1024) (b := 1280) xs g) :
    IsV (a := 1024) (b := 1280) (k0_pay2 (F := Ideal) xs (iblk m c 0 t) (iblk m c 1 t))
      fun r s => g r s + part 1664 5 1024 1280 4 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 1024) (b := 5120) (Value.G2 m c) fun r s => ∑ k ∈ range 8320, term m c k r s := by
  refine isV_swept (L := 5) (K := 1664) (p := 1) (q := 4) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 4 * ((i 0).val / 1024 - 0) + 1 * ((i 1).val / 1280 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x1024 .bf16) (x1 : FVec Ideal S8320x5120 .bf16) :
    IsV (a := 1024) (b := 5120) (Cert.Reference13Ideal.Read.val_main_v5 (F := Ideal) x0 x1)
      fun r s => ∑ k ∈ range 8320, at2 (a := 8320) (b := 1024) x0 k r * at2 (a := 8320) (b := 5120) x1 k s := by
  intro i
  rw [Cert.Reference13Ideal.Read.val_main_v5_apply, Cert.Reference13Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference13Ideal.Read.val_main_v5 (F := Ideal)
    (m ((c : Thread nD τ).loc main_arg0)) (m ((c : Thread nD τ).loc main_arg1)) :=
  funext fun i => (array m c i).trans (reference _ _ i).symm

end Cert.MixInDw

end
-- ==== Proof.ConfIn.lean ====
module

public import proofs.«01_k».proof.Proof.Tiles
public import proofs.«01_k».proof.Proof.Gen.Kernel14Ideal.Value
public import proofs.«01_k».proof.Proof.Gen.Reference14Ideal.Read

/-! The Conformer's first product: a strip of rows by a strip of columns at a time. -/

@[expose] public section

noncomputable section

namespace Cert.ConfIn

open Idealize.ShloMosaic Idealize.ShloMosaic.TcCoe Idealize.SL.Sem Cert.Kernel14Ideal Cert.Kernel14Ideal.Gen Cert.Products Finset

theorem isV_out {x0 : Vec Ideal S1040x1024 .bf16} {x1 : Vec Ideal S1024x1024 .bf16} {f g : ℕ → ℕ → EReal}
    (h0 : IsV (a := 1040) (b := 1024) x0 f) (h1 : IsV (a := 1024) (b := 1024) x1 g) :
    IsV (a := 1040) (b := 1024) (out0_2 (F := Ideal) x0 x1) fun r s => ∑ k ∈ range 1024, f r k * g k s := by
  unfold out0_2
  rw [View.canon_unit_zero origin, View.ld_unit_zero (S := S1040x1024) origin, View.ld_unit_zero (S := S1024x1024) origin]
  exact isV_nn h0 h1

/-- Where the blocks lie: a strip of rows by a strip of columns gives the block of the result. -/
theorem index : ∀ t : Fin cfg0.N, win0_0.index t 0 = win0_2.index t 0 ∧ win0_0.index t 1 = 0 ∧ win0_1.index t 0 = 0 ∧
    win0_1.index t 1 = win0_2.index t 1 :=
  (by decide +kernel : ∀ t : Fin grid0.N, _)

theorem covered : ∀ k : Fin 8, ∀ l : Fin 2, ∃ t : Fin cfg0.N, win0_2.index t 0 = k.val ∧ win0_2.index t 1 = l.val :=
  (by decide +kernel : ∀ k : Fin 8, ∀ l : Fin 2, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 2048) ((dats m 0 c).arrAt 2 cfg0.N) fun r s => ∑ k ∈ range 1024,
    at2 (a := 8320) (b := 1024) (m ((c : Thread nD τ).loc main_arg0)) r k *
      at2 (a := 1024) (b := 2048) (m ((c : Thread nD τ).loc main_arg1)) k s := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1024 .bf16) (x1 : FVec Ideal S1024x2048 .bf16) :
    IsV (a := 8320) (b := 2048) (Cert.Reference14Ideal.Read.val_main_v2 (F := Ideal) x0 x1)
      fun r s => ∑ k ∈ range 1024, at2 (a := 8320) (b := 1024) x0 r k * at2 (a := 1024) (b := 2048) x1 k s := by
  intro i
  rw [Cert.Reference14Ideal.Read.val_main_v2_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference14Ideal.Read.val_main_v2 (F := Ideal)
    (m ((c : Thread nD τ).loc main_arg0)) (m ((c : Thread nD τ).loc main_arg1)) :=
  funext fun i => (array m c i).trans (reference _ _ i).symm

end Cert.ConfIn

end
-- ==== Proof.ConfOut.lean ====
module

public import proofs.«01_k».proof.Proof.Tiles
public import proofs.«01_k».proof.Proof.Gen.Kernel15Ideal.Value
public import proofs.«01_k».proof.Proof.Gen.Reference15Ideal.Read

/-! The Conformer's last product: one strip of rows at a time. -/

@[expose] public section

noncomputable section

namespace Cert.ConfOut

open Idealize.ShloMosaic Idealize.ShloMosaic.TcCoe Idealize.SL.Sem Cert.Kernel15Ideal Cert.Kernel15Ideal.Gen Cert.Products Finset

theorem isV_out {x0 : Vec Ideal S1040x1024 .bf16} {x1 : Vec Ideal S1024x1024 .bf16} {f g : ℕ → ℕ → EReal}
    (h0 : IsV (a := 1040) (b := 1024) x0 f) (h1 : IsV (a := 1024) (b := 1024) x1 g) :
    IsV (a := 1040) (b := 1024) (out0_2 (F := Ideal) x0 x1) fun r s => ∑ k ∈ range 1024, f r k * g k s := by
  unfold out0_2
  rw [View.canon_unit_zero origin, View.ld_unit_zero (S := S1040x1024) origin, View.ld_unit_zero (S := S1024x1024) origin]
  exact isV_nn h0 h1

/-- Where the blocks lie: a strip of rows by a strip of columns gives the block of the result. -/
theorem index : ∀ t : Fin cfg0.N, win0_0.index t 0 = win0_2.index t 0 ∧ win0_0.index t 1 = 0 ∧ win0_1.index t 0 = 0 ∧
    win0_1.index t 1 = win0_2.index t 1 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 1024,
    at2 (a := 8320) (b := 1024) (m ((c : Thread nD τ).loc main_arg0)) r k *
      at2 (a := 1024) (b := 1024) (m ((c : Thread nD τ).loc main_arg1)) k s := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1024 .bf16) (x1 : FVec Ideal S1024x1024 .bf16) :
    IsV (a := 8320) (b := 1024) (Cert.Reference15Ideal.Read.val_main_v2 (F := Ideal) x0 x1)
      fun r s => ∑ k ∈ range 1024, at2 (a := 8320) (b := 1024) x0 r k * at2 (a := 1024) (b := 1024) x1 k s := by
  intro i
  rw [Cert.Reference15Ideal.Read.val_main_v2_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference15Ideal.Read.val_main_v2 (F := Ideal)
    (m ((c : Thread nD τ).loc main_arg0)) (m ((c : Thread nD τ).loc main_arg1)) :=
  funext fun i => (array m c i).trans (reference _ _ i).symm

end Cert.ConfOut

end
-- ==== Proof.ConfOutDx.lean ====
module

public import proofs.«01_k».proof.Proof.Tiles
public import proofs.«01_k».proof.Proof.Gen.Kernel16Ideal.Value
public import proofs.«01_k».proof.Proof.Gen.Reference16Ideal.Read

/-! The gradient that the Conformer's last product passes back: rows by rows, one strip of rows at a time. -/

@[expose] public section

noncomputable section

namespace Cert.ConfOutDx

open Idealize.ShloMosaic Idealize.ShloMosaic.TcCoe Idealize.SL.Sem Cert.Kernel16Ideal Cert.Kernel16Ideal.Gen Cert.Products Finset

theorem isV_out {x0 : Vec Ideal S1040x1024 .bf16} {x1 : Vec Ideal S1024x1024 .bf16} {f g : ℕ → ℕ → EReal}
    (h0 : IsV (a := 1040) (b := 1024) x0 f) (h1 : IsV (a := 1024) (b := 1024) x1 g) :
    IsV (a := 1040) (b := 1024) (out0_2 (F := Ideal) x0 x1) fun r s => ∑ k ∈ range 1024, f r k * g s k := by
  unfold out0_2
  rw [View.canon_unit_zero origin, View.ld_unit_zero (S := S1040x1024) origin, View.ld_unit_zero (S := S1024x1024) origin]
  exact isV_nt h0 h1

/-- Where the blocks lie: a strip of rows by a strip of rows gives the block of the result. -/
theorem index : ∀ t : Fin cfg0.N, win0_0.index t 0 = win0_2.index t 0 ∧ win0_0.index t 1 = 0 ∧ win0_1.index t 0 = win0_2.index t 1 ∧
    win0_1.index t 1 = 0 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 1024,
    at2 (a := 8320) (b := 1024) (m ((c : Thread nD τ).loc main_arg0)) r k *
      at2 (a := 1024) (b := 1024) (m ((c : Thread nD τ).loc main_arg1)) s k := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x1024 .bf16) (x1 : FVec Ideal S1024x1024 .bf16) :
    IsV (a := 8320) (b := 1024) (Cert.Reference16Ideal.Read.val_main_v4 (F := Ideal) x0 x1)
      fun r s => ∑ k ∈ range 1024, at2 (a := 8320) (b := 1024) x0 r k * at2 (a := 1024) (b := 1024) x1 s k := by
  intro i
  rw [Cert.Reference16Ideal.Read.val_main_v4_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference16Ideal.Read.val_main_v4 (F := Ideal)
    (m ((c : Thread nD τ).loc main_arg0)) (m ((c : Thread nD τ).loc main_arg1)) :=
  funext fun i => (array m c i).trans (reference _ _ i).symm

end Cert.ConfOutDx

end
-- ==== Proof.ConfOutDw.lean ====
module

public import proofs.«01_k».proof.Proof.Tiles
public import proofs.«01_k».proof.Proof.Gen.Kernel17Ideal.Value
public import proofs.«01_k».proof.Proof.Gen.Reference17Ideal.Read

/-! The gradient of the Conformer's last weights: the accumulated product of columns by columns is the whole product. -/

@[expose] public section

noncomputable section

namespace Cert.ConfOutDw

open Idealize.ShloMosaic Idealize.ShloMosaic.TcCoe Idealize.SL.Sem Cert.Kernel17Ideal Cert.Kernel17Ideal.Gen Cert.Products Finset

/-! ## What one point of the grid leaves -/

section
variable {c : Dev nD} {i : grid0.Coords} {a3 : Memref sig .tc .vmem S1664x1024 .bf16} {h3 : a3.IsWhole}
  {a4 : Memref sig .tc .vmem S1664x1024 .bf16} {h4 : a4.IsWhole} {a5 a6 : Memref sig .tc .vmem S1024x1024 .f32}
  {h5 : a5.IsWhole} {h6 : a6.IsWhole} {x0 : Vec Ideal S1664x1024 .bf16} {x1 : Vec Ideal S1664x1024 .bf16}
  {xs : Vec Ideal S1024x1024 .f32} {f g h : ℕ → ℕ → EReal}

theorem isV_step (hs : IsV (a := 1024) (b := 1024) xs h) (hl : IsV (a := 1664) (b := 1024) x0 f)
    (hr : IsV (a := 1664) (b := 1024) x1 g) :
    IsV (a := 1024) (b := 1024) (k0_pay2 (F := Ideal) xs x0 x1) fun r c => h r c + ∑ k ∈ range 1664, f k r * g k c := by
  unfold k0_pay2
  simp only [shapeCast_self]
  exact isV_acc hs hl hr

theorem isV_first : IsV (a := 1024) (b := 1024) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1664x1024) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x1024) origin, View.ld_unit_zero (S := S1024x1024) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x1024) origin, View.ld_unit_zero (S := S1024x1024) origin, shapeCast_self,
    View.readCov_unit_zero (S := S1024x1024) _ origin]
end

/-! ## The accumulated product -/

/-- Where the blocks lie: a sweep of five points goes down one strip of columns of each argument. -/
theorem index : ∀ t : Fin cfg0.N, win0_0.index t 0 = t.val % 5 ∧ win0_0.index t 1 = t.val / 5 / 1 ∧
    win0_1.index t 0 = t.val % 5 ∧ win0_1.index t 1 = t.val / 5 % 1 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 1024) (m ((c : Thread nD τ).loc main_arg0)) k r *
    at2 (a := 8320) (b := 1024) (m ((c : Thread nD τ).loc main_arg1)) k s

theorem isV_point (t : Fin cfg0.N) {xs : Vec Ideal S1024x1024 .f32} {g : ℕ → ℕ → EReal} (hs : IsV (a := 1024) (b := 1024) xs g) :
    IsV (a := 1024) (b := 1024) (k0_pay2 (F := Ideal) xs (iblk m c 0 t) (iblk m c 1 t))
      fun r s => g r s + part 1664 5 1024 1024 1 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 1024) (b := 1024) (Value.G2 m c) fun r s => ∑ k ∈ range 8320, term m c k r s := by
  refine isV_swept (L := 5) (K := 1664) (p := 1) (q := 1) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 1 * ((i 0).val / 1024 - 0) + 1 * ((i 1).val / 1024 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x1024 .bf16) (x1 : FVec Ideal S8320x1024 .bf16) :
    IsV (a := 1024) (b := 1024) (Cert.Reference17Ideal.Read.val_main_v5 (F := Ideal) x0 x1)
      fun r s => ∑ k ∈ range 8320, at2 (a := 8320) (b := 1024) x0 k r * at2 (a := 8320) (b := 1024) x1 k s := by
  intro i
  rw [Cert.Reference17Ideal.Read.val_main_v5_apply, Cert.Reference17Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference17Ideal.Read.val_main_v5 (F := Ideal)
    (m ((c : Thread nD τ).loc main_arg0)) (m ((c : Thread nD τ).loc main_arg1)) :=
  funext fun i => (array m c i).trans (reference _ _ i).symm

end Cert.ConfOutDw

end
-- ==== Proof.ConfInDx.lean ====
module

public import proofs.«01_k».proof.Proof.Tiles
public import proofs.«01_k».proof.Proof.Gen.Kernel18Ideal.Value
public import proofs.«01_k».proof.Proof.Gen.Reference18Ideal.Read

/-! The gradient that the Conformer's first product passes back: rows by rows, one strip of rows at a time. -/

@[expose] public section

noncomputable section

namespace Cert.ConfInDx

open Idealize.ShloMosaic Idealize.ShloMosaic.TcCoe Idealize.SL.Sem Cert.Kernel18Ideal Cert.Kernel18Ideal.Gen Cert.Products Finset

theorem isV_out {x0 : Vec Ideal S1040x2048 .bf16} {x1 : Vec Ideal S1024x2048 .bf16} {f g : ℕ → ℕ → EReal}
    (h0 : IsV (a := 1040) (b := 2048) x0 f) (h1 : IsV (a := 1024) (b := 2048) x1 g) :
    IsV (a := 1040) (b := 1024) (out0_2 (F := Ideal) x0 x1) fun r s => ∑ k ∈ range 2048, f r k * g s k := by
  unfold out0_2
  rw [View.canon_unit_zero origin, View.ld_unit_zero (S := S1040x2048) origin, View.ld_unit_zero (S := S1024x2048) origin]
  exact isV_nt h0 h1

/-- Where the blocks lie: a strip of rows by a strip of rows gives the block of the result. -/
theorem index : ∀ t : Fin cfg0.N, win0_0.index t 0 = win0_2.index t 0 ∧ win0_0.index t 1 = 0 ∧ win0_1.index t 0 = win0_2.index t 1 ∧
    win0_1.index t 1 = 0 :=
  (by decide +kernel : ∀ t : Fin grid0.N, _)

theorem covered : ∀ k : Fin 8, ∀ l : Fin 1, ∃ t : Fin cfg0.N, win0_2.index t 0 = k.val ∧ win0_2.index t 1 = l.val :=
  (by decide +kernel : ∀ k : Fin 8, ∀ l : Fin 1, ∃ t : Fin grid0.N, win0_2.index t 0 = k.val ∧ win0_2.index t 1 = l.val)

variable (m : (ℓ : Loc nD τ sig) → Buf (Elt Ideal) ℓ) (c : Dev nD)

/-- The result array holds the whole product. -/
theorem array : IsV (a := 8320) (b := 1024) ((dats m 0 c).arrAt 2 cfg0.N) fun r s => ∑ k ∈ range 2048,
    at2 (a := 8320) (b := 2048) (m ((c : Thread nD τ).loc main_arg0)) r k *
      at2 (a := 1024) (b := 2048) (m ((c : Thread nD τ).loc main_arg1)) s k := by
  refine isV_tiles (fun t => out0_2 (iblk m c 0 t) (iblk m c 1 t)) (fun t => ((cfg0.win 2).blk t).view.emb)
    (fun t => win0_2.index t 0) (fun t => win0_2.index t 1) (fun t j => ?_) (fun _ _ => ⟨rfl, rfl⟩) (fun t => ?_) covered rfl rfl
    (by decide) (by decide)
  · exact (View.read_apply ..).symm.trans (congrFun ((Value.blocks2 m c t (flush0_2 t)).trans (Value.flushed2 m c t)) j)
  · obtain ⟨e0, e1, e2, e3⟩ := index t
    have h := isV_out (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
    rw [e0, e1, e2, e3] at h
    simpa only [Nat.mul_zero, Nat.zero_add] using h

/-- The reference's result holds the same product. -/
theorem reference (x0 : FVec Ideal S8320x2048 .bf16) (x1 : FVec Ideal S1024x2048 .bf16) :
    IsV (a := 8320) (b := 1024) (Cert.Reference18Ideal.Read.val_main_v4 (F := Ideal) x0 x1)
      fun r s => ∑ k ∈ range 2048, at2 (a := 8320) (b := 2048) x0 r k * at2 (a := 1024) (b := 2048) x1 s k := by
  intro i
  rw [Cert.Reference18Ideal.Read.val_main_v4_apply]
  refine Eq.trans (Finset.sum_congr rfl fun k _ => ?_) (Finset.sum_range _).symm
  exact congrArg₂ (· * ·) (at2_eq x0 _ _ _ rfl rfl) (at2_eq x1 _ _ _ rfl rfl)

theorem array_eq : (dats m 0 c).arrAt 2 cfg0.N = Cert.Reference18Ideal.Read.val_main_v4 (F := Ideal)
    (m ((c : Thread nD τ).loc main_arg0)) (m ((c : Thread nD τ).loc main_arg1)) :=
  funext fun i => (array m c i).trans (reference _ _ i).symm

end Cert.ConfInDx

end
-- ==== Proof.ConfInDw.lean ====
module

public import proofs.«01_k».proof.Proof.Tiles
public import proofs.«01_k».proof.Proof.Gen.Kernel19Ideal.Value
public import proofs.«01_k».proof.Proof.Gen.Reference19Ideal.Read

/-! The gradient of the Conformer's first weights: the accumulated product of columns by columns is the whole product. -/

@[expose] public section

noncomputable section

namespace Cert.ConfInDw

open Idealize.ShloMosaic Idealize.ShloMosaic.TcCoe Idealize.SL.Sem Cert.Kernel19Ideal Cert.Kernel19Ideal.Gen Cert.Products Finset

/-! ## What one point of the grid leaves -/

section
variable {c : Dev nD} {i : grid0.Coords} {a3 : Memref sig .tc .vmem S1664x1024 .bf16} {h3 : a3.IsWhole}
  {a4 : Memref sig .tc .vmem S1664x1024 .bf16} {h4 : a4.IsWhole} {a5 a6 : Memref sig .tc .vmem S1024x1024 .f32}
  {h5 : a5.IsWhole} {h6 : a6.IsWhole} {x0 : Vec Ideal S1664x1024 .bf16} {x1 : Vec Ideal S1664x1024 .bf16}
  {xs : Vec Ideal S1024x1024 .f32} {f g h : ℕ → ℕ → EReal}

theorem isV_step (hs : IsV (a := 1024) (b := 1024) xs h) (hl : IsV (a := 1664) (b := 1024) x0 f)
    (hr : IsV (a := 1664) (b := 1024) x1 g) :
    IsV (a := 1024) (b := 1024) (k0_pay2 (F := Ideal) xs x0 x1) fun r c => h r c + ∑ k ∈ range 1664, f k r * g k c := by
  unfold k0_pay2
  simp only [shapeCast_self]
  exact isV_acc hs hl hr

theorem isV_first : IsV (a := 1024) (b := 1024) (k0_pay1 (F := Ideal)) fun _ _ => 0 := by
  unfold k0_pay1
  simp only [shapeCast_self]
  exact fun _ => zero_f32

theorem scratch_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1664x1024) origin]

theorem scratch_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero origin]
  simp only [View.readAt_eq_ld, h3.read_unread, h4.read_unread, h6.read_unread, View.ld_unit_zero (S := S1664x1024) origin, View.ld_unit_zero (S := S1024x1024) origin]

theorem result_C (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1664x1024) origin, View.ld_unit_zero (S := S1024x1024) origin, shapeCast_self,
    View.readCov_unit_zero (S := S1024x1024) _ origin]
end

/-! ## The accumulated product -/

/-- Where the blocks lie: a sweep of five points goes down one strip of columns of each argument. -/
theorem index : ∀ t : Fin cfg0.N, win0_0.index t 0 = t.val % 5 ∧ win0_0.index t 1 = t.val / 5 / 2 ∧
    win0_1.index t 0 = t.val % 5 ∧ win0_1.index t 1 = t.val / 5 % 2 :=
  (by decide +kernel : ∀ t : Fin grid0.N, _)

variable (m : (ℓ : Loc nD τ sig) → Buf (Elt Ideal) ℓ) (c : Dev nD)

/-- The terms of the product. -/
def term (k r s : ℕ) : EReal :=
  at2 (a := 8320) (b := 1024) (m ((c : Thread nD τ).loc main_arg0)) k r *
    at2 (a := 8320) (b := 2048) (m ((c : Thread nD τ).loc main_arg1)) k s

theorem isV_point (t : Fin cfg0.N) {xs : Vec Ideal S1024x1024 .f32} {g : ℕ → ℕ → EReal} (hs : IsV (a := 1024) (b := 1024) xs g) :
    IsV (a := 1024) (b := 1024) (k0_pay2 (F := Ideal) xs (iblk m c 0 t) (iblk m c 1 t))
      fun r s => g r s + part 1664 5 1024 1024 2 (term m c) t.val r s := by
  obtain ⟨e0, e1, e2, e3⟩ := index t
  have h := isV_step hs (x0 := iblk m c 0 t) (x1 := iblk m c 1 t)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rwa [e0, e1, e2, e3] at h

/-- The result array holds the whole product. -/
theorem array : IsV (a := 1024) (b := 2048) (Value.G2 m c) fun r s => ∑ k ∈ range 8320, term m c k r s := by
  refine isV_swept (L := 5) (K := 1664) (p := 1) (q := 2) (fun n h => (outsAt0 m c n h).2) (fun n h => (outsAt0 m c n h).1)
    Value.run2Of Value.loc2Of (fun i h => ?_) (fun i => ?_) (fun _ => ⟨rfl, rfl⟩) (by decide) (fun n h e => ?_)
    (fun n h _ g e e' hg => ?_) (fun n h _ g e hg => ?_) rfl rfl N_0
  · unfold Value.G2
    rw [dif_pos h, ← Value.outsAt0_sweep m c _ h]
  · show 2 * ((i 0).val / 1024 - 0) + 1 * ((i 1).val / 1024 - 0) = _
    simp only [Nat.sub_zero, Nat.one_mul]
  · rw [outsAt0_A m c ⟨n, h⟩ e (by dsimp only; omega)]
    dsimp only
    rw [scratch_A]
    exact (isV_point m c ⟨n, h⟩ isV_first).congr fun _ _ _ _ => zero_add _
  · rw [outsAt0_B m c ⟨n, h⟩ e e']
    dsimp only
    rw [scratch_B]
    exact isV_point m c ⟨n, h⟩ hg
  · rw [outsAt0_C m c ⟨n, h⟩ (by dsimp only; omega) e]
    dsimp only
    rw [result_C]
    exact isV_point m c ⟨n, h⟩ hg

/-- The reference's result holds the same product. -/
theorem reference (x0 : FVec Ideal S8320x1024 .bf16) (x1 : FVec Ideal S8320x2048 .bf16) :
    IsV (a := 1024) (b := 2048) (Cert.Reference19Ideal.Read.val_main_v5 (F := Ideal) x0 x1)
      fun r s => ∑ k ∈ range 8320, at2 (a := 8320) (b := 1024) x0 k r * at2 (a := 8320) (b := 2048) x1 k s := by
  intro i
  rw [Cert.Reference19Ideal.Read.val_main_v5_apply, Cert.Reference19Ideal.Read.val_main_v4_apply]
  refine Eq.trans (Finset.sum_congr rfl fun k _ => (mul_comm _ _).trans ?_) (Finset.sum_range _).symm
  exact congrArg₂ (· * ·) (at2_eq x0 _ _ _ rfl rfl) (at2_eq x1 _ _ _ rfl rfl)

theorem array_eq : Value.G2 m c = Cert.Reference19Ideal.Read.val_main_v5 (F := Ideal)
    (m ((c : Thread nD τ).loc main_arg0)) (m ((c : Thread nD τ).loc main_arg1)) :=
  funext fun i => (array m c i).trans (reference _ _ i).symm

end Cert.ConfInDw

end
-- ==== Proof.Calls.lean ====
module

public import proofs.«01_k».proof.Defs
public import proofs.«01_k».proof.Proof.DownDxRef
public import proofs.«01_k».proof.Proof.GateDw
public import proofs.«01_k».proof.Proof.DownDw
public import proofs.«01_k».proof.Proof.GateDx
public import proofs.«01_k».proof.Proof.FfnIn
public import proofs.«01_k».proof.Proof.FfnDown
public import proofs.«01_k».proof.Proof.MixIn
public import proofs.«01_k».proof.Proof.MixOut
public import proofs.«01_k».proof.Proof.MixOutDx
public import proofs.«01_k».proof.Proof.MixOutDw
public import proofs.«01_k».proof.Proof.MixInDx
public import proofs.«01_k».proof.Proof.MixInDw
public import proofs.«01_k».proof.Proof.ConfIn
public import proofs.«01_k».proof.Proof.ConfOut
public import proofs.«01_k».proof.Proof.ConfOutDx
public import proofs.«01_k».proof.Proof.ConfOutDw
public import proofs.«01_k».proof.Proof.ConfInDx
public import proofs.«01_k».proof.Proof.ConfInDw
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import Idealize.ShloMosaic.Lib.Quiescent
public import Idealize.ShloMosaic.Adequacy
public import Idealize.ShloMosaic.Init

/-! The claims of the calls that multiply matrices: the reference runs to its end and leaves its arguments, and the
kernel's results are the reference's. -/

@[expose] public section

noncomputable section

namespace Cert.Calls

open Idealize.ShloMosaic Idealize.SL.Sem

theorem frame_2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem value_2 : Cert.algebraic_Kernel2Ideal_Reference2Ideal_pre_finite (hPre_finite := DownDx.facts) := by
  haveI := DownDx.facts
  intro m ρ m' ρ' hpre hagree
  refine ⟨fun c => Cert.Reference2Ideal.Read.val_main_v9 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Reference2Ideal.Read.val_main_v10 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run_blocks (F := Ideal) m ρ)
    exact ⟨((h c).1).trans (Cert.DownDx.da_eq m c (hpre c)), ((h c).2.1).trans (Cert.DownDx.db_eq m c), (h c).2.2⟩
  · refine (θ_run Cert.Reference2Ideal.defs _ _).mono (fun r h c => ?_) (Cert.Reference2Ideal.Value.run (F := Ideal) m' ρ')
    exact ⟨((h c).1).trans ((Cert.Reference2Ideal.Read.val_main_v9_eq _ _ _ _).trans (by rw [(hagree c).1, (hagree c).2.1, (hagree c).2.2.1, (hagree c).2.2.2])),
      ((h c).2.1).trans ((Cert.Reference2Ideal.Read.val_main_v10_eq _ _ _).trans (by rw [(hagree c).1, (hagree c).2.1, (hagree c).2.2.1])), (h c).2.2⟩

theorem frame_3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem value_3 : Cert.algebraic_Kernel3Ideal_Reference3Ideal := by
  intro m ρ m' ρ' _ hagree
  refine ⟨fun c => Cert.Reference3Ideal.Read.val_main_v5 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run (F := Ideal) m ρ)
    exact ⟨((h c).1).trans (Cert.GateDw.array_eq m c), (h c).2⟩
  · refine (θ_run Cert.Reference3Ideal.defs _ _).mono (fun r h c => ?_) (Cert.Reference3Ideal.Value.run (F := Ideal) m' ρ')
    exact ⟨((h c).1).trans ((Cert.Reference3Ideal.Read.val_main_v5_eq _ _).trans (by rw [(hagree c).1, (hagree c).2])), (h c).2⟩

theorem frame_4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem value_4 : Cert.algebraic_Kernel4Ideal_Reference4Ideal := by
  intro m ρ m' ρ' _ hagree
  refine ⟨fun c => Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run (F := Ideal) m ρ)
    exact ⟨((h c).1).trans (Cert.DownDw.array_eq m c), (h c).2⟩
  · refine (θ_run Cert.Reference4Ideal.defs _ _).mono (fun r h c => ?_) (Cert.Reference4Ideal.Value.run (F := Ideal) m' ρ')
    exact ⟨((h c).1).trans ((Cert.Reference4Ideal.Read.val_main_v5_eq _ _).trans (by rw [(hagree c).1, (hagree c).2])), (h c).2⟩

theorem frame_5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem value_5 : Cert.algebraic_Kernel5Ideal_Reference5Ideal := by
  intro m ρ m' ρ' _ hagree
  refine ⟨fun c => Cert.Reference5Ideal.Read.val_main_v4 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m ρ)
    exact ⟨((h c).1).trans (Cert.GateDx.array_eq m c), (h c).2⟩
  · refine (θ_run Cert.Reference5Ideal.defs _ _).mono (fun r h c => ?_) (Cert.Reference5Ideal.Value.run (F := Ideal) m' ρ')
    exact ⟨((h c).1).trans ((Cert.Reference5Ideal.Read.val_main_v4_eq _ _).trans (by rw [(hagree c).1, (hagree c).2])), (h c).2⟩

theorem frame_6 : Cert.quiescent_Reference6Ideal := fun m ρ _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m ρ)

theorem value_6 : Cert.algebraic_Kernel6Ideal_Reference6Ideal := by
  intro m ρ m' ρ' _ hagree
  refine ⟨fun c => Cert.Reference6Ideal.Read.val_main_v2 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => Cert.Reference6Ideal.Read.val_main_v5 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)),
    fun c => Cert.Reference6Ideal.Read.val_main_v8 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun r h c => ?_) (Cert.Kernel6Ideal.Value.run_blocks (F := Ideal) m ρ)
    exact ⟨((h c).1).trans (Cert.FfnIn.a_eq m c), ((h c).2.1).trans (Cert.FfnIn.b_eq m c), ((h c).2.2.1).trans (Cert.FfnIn.s_eq m c), (h c).2.2.2⟩
  · refine (θ_run Cert.Reference6Ideal.defs _ _).mono (fun r h c => ?_) (Cert.Reference6Ideal.Value.run (F := Ideal) m' ρ')
    exact ⟨((h c).1).trans ((Cert.Reference6Ideal.Read.val_main_v2_eq _ _).trans (by rw [(hagree c).1, (hagree c).2.1])),
      ((h c).2.1).trans ((Cert.Reference6Ideal.Read.val_main_v5_eq _ _).trans (by rw [(hagree c).1, (hagree c).2.2])),
      ((h c).2.2.1).trans ((Cert.Reference6Ideal.Read.val_main_v8_eq _ _ _).trans (by rw [(hagree c).1, (hagree c).2.1, (hagree c).2.2])), (h c).2.2.2⟩

theorem frame_7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem value_7 : Cert.algebraic_Kernel7Ideal_Reference7Ideal := by
  intro m ρ m' ρ' _ hagree
  refine ⟨fun c => Cert.Reference7Ideal.Read.val_main_v2 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks (F := Ideal) m ρ)
    exact ⟨((h c).1).trans (Cert.FfnDown.array_eq m c), (h c).2⟩
  · refine (θ_run Cert.Reference7Ideal.defs _ _).mono (fun r h c => ?_) (Cert.Reference7Ideal.Value.run (F := Ideal) m' ρ')
    exact ⟨((h c).1).trans ((Cert.Reference7Ideal.Read.val_main_v2_eq _ _).trans (by rw [(hagree c).1, (hagree c).2])), (h c).2⟩

theorem frame_8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem value_8 : Cert.algebraic_Kernel8Ideal_Reference8Ideal := by
  intro m ρ m' ρ' _ hagree
  refine ⟨fun c => Cert.Reference8Ideal.Read.val_main_v2 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m ρ)
    exact ⟨((h c).1).trans (Cert.MixIn.array_eq m c), (h c).2⟩
  · refine (θ_run Cert.Reference8Ideal.defs _ _).mono (fun r h c => ?_) (Cert.Reference8Ideal.Value.run (F := Ideal) m' ρ')
    exact ⟨((h c).1).trans ((Cert.Reference8Ideal.Read.val_main_v2_eq _ _).trans (by rw [(hagree c).1, (hagree c).2])), (h c).2⟩

theorem frame_9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem value_9 : Cert.algebraic_Kernel9Ideal_Reference9Ideal := by
  intro m ρ m' ρ' _ hagree
  refine ⟨fun c => Cert.Reference9Ideal.Read.val_main_v2 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks (F := Ideal) m ρ)
    exact ⟨((h c).1).trans (Cert.MixOut.array_eq m c), (h c).2⟩
  · refine (θ_run Cert.Reference9Ideal.defs _ _).mono (fun r h c => ?_) (Cert.Reference9Ideal.Value.run (F := Ideal) m' ρ')
    exact ⟨((h c).1).trans ((Cert.Reference9Ideal.Read.val_main_v2_eq _ _).trans (by rw [(hagree c).1, (hagree c).2])), (h c).2⟩

theorem frame_10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem value_10 : Cert.algebraic_Kernel10Ideal_Reference10Ideal := by
  intro m ρ m' ρ' _ hagree
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run Cert.Kernel10Ideal.defs _ _).mono (fun r h c => ?_) (Cert.Kernel10Ideal.Value.run_blocks (F := Ideal) m ρ)
    exact ⟨((h c).1).trans (Cert.MixOutDx.array_eq m c), (h c).2⟩
  · refine (θ_run Cert.Reference10Ideal.defs _ _).mono (fun r h c => ?_) (Cert.Reference10Ideal.Value.run (F := Ideal) m' ρ')
    exact ⟨((h c).1).trans ((Cert.Reference10Ideal.Read.val_main_v4_eq _ _).trans (by rw [(hagree c).1, (hagree c).2])), (h c).2⟩

theorem frame_11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem value_11 : Cert.algebraic_Kernel11Ideal_Reference11Ideal := by
  intro m ρ m' ρ' _ hagree
  refine ⟨fun c => Cert.Reference11Ideal.Read.val_main_v5 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run Cert.Kernel11Ideal.defs _ _).mono (fun r h c => ?_) (Cert.Kernel11Ideal.Value.run (F := Ideal) m ρ)
    exact ⟨((h c).1).trans (Cert.MixOutDw.array_eq m c), (h c).2⟩
  · refine (θ_run Cert.Reference11Ideal.defs _ _).mono (fun r h c => ?_) (Cert.Reference11Ideal.Value.run (F := Ideal) m' ρ')
    exact ⟨((h c).1).trans ((Cert.Reference11Ideal.Read.val_main_v5_eq _ _).trans (by rw [(hagree c).1, (hagree c).2])), (h c).2⟩

theorem frame_12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem value_12 : Cert.algebraic_Kernel12Ideal_Reference12Ideal := by
  intro m ρ m' ρ' _ hagree
  refine ⟨fun c => Cert.Reference12Ideal.Read.val_main_v4 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run Cert.Kernel12Ideal.defs _ _).mono (fun r h c => ?_) (Cert.Kernel12Ideal.Value.run (F := Ideal) m ρ)
    exact ⟨((h c).1).trans (Cert.MixInDx.array_eq m c), (h c).2⟩
  · refine (θ_run Cert.Reference12Ideal.defs _ _).mono (fun r h c => ?_) (Cert.Reference12Ideal.Value.run (F := Ideal) m' ρ')
    exact ⟨((h c).1).trans ((Cert.Reference12Ideal.Read.val_main_v4_eq _ _).trans (by rw [(hagree c).1, (hagree c).2])), (h c).2⟩

theorem frame_13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem value_13 : Cert.algebraic_Kernel13Ideal_Reference13Ideal := by
  intro m ρ m' ρ' _ hagree
  refine ⟨fun c => Cert.Reference13Ideal.Read.val_main_v5 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run Cert.Kernel13Ideal.defs _ _).mono (fun r h c => ?_) (Cert.Kernel13Ideal.Value.run (F := Ideal) m ρ)
    exact ⟨((h c).1).trans (Cert.MixInDw.array_eq m c), (h c).2⟩
  · refine (θ_run Cert.Reference13Ideal.defs _ _).mono (fun r h c => ?_) (Cert.Reference13Ideal.Value.run (F := Ideal) m' ρ')
    exact ⟨((h c).1).trans ((Cert.Reference13Ideal.Read.val_main_v5_eq _ _).trans (by rw [(hagree c).1, (hagree c).2])), (h c).2⟩

theorem frame_14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem value_14 : Cert.algebraic_Kernel14Ideal_Reference14Ideal := by
  intro m ρ m' ρ' _ hagree
  refine ⟨fun c => Cert.Reference14Ideal.Read.val_main_v2 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run Cert.Kernel14Ideal.defs _ _).mono (fun r h c => ?_) (Cert.Kernel14Ideal.Value.run_blocks (F := Ideal) m ρ)
    exact ⟨((h c).1).trans (Cert.ConfIn.array_eq m c), (h c).2⟩
  · refine (θ_run Cert.Reference14Ideal.defs _ _).mono (fun r h c => ?_) (Cert.Reference14Ideal.Value.run (F := Ideal) m' ρ')
    exact ⟨((h c).1).trans ((Cert.Reference14Ideal.Read.val_main_v2_eq _ _).trans (by rw [(hagree c).1, (hagree c).2])), (h c).2⟩

theorem frame_15 : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

theorem value_15 : Cert.algebraic_Kernel15Ideal_Reference15Ideal := by
  intro m ρ m' ρ' _ hagree
  refine ⟨fun c => Cert.Reference15Ideal.Read.val_main_v2 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run Cert.Kernel15Ideal.defs _ _).mono (fun r h c => ?_) (Cert.Kernel15Ideal.Value.run_blocks (F := Ideal) m ρ)
    exact ⟨((h c).1).trans (Cert.ConfOut.array_eq m c), (h c).2⟩
  · refine (θ_run Cert.Reference15Ideal.defs _ _).mono (fun r h c => ?_) (Cert.Reference15Ideal.Value.run (F := Ideal) m' ρ')
    exact ⟨((h c).1).trans ((Cert.Reference15Ideal.Read.val_main_v2_eq _ _).trans (by rw [(hagree c).1, (hagree c).2])), (h c).2⟩

theorem frame_16 : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

theorem value_16 : Cert.algebraic_Kernel16Ideal_Reference16Ideal := by
  intro m ρ m' ρ' _ hagree
  refine ⟨fun c => Cert.Reference16Ideal.Read.val_main_v4 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run Cert.Kernel16Ideal.defs _ _).mono (fun r h c => ?_) (Cert.Kernel16Ideal.Value.run_blocks (F := Ideal) m ρ)
    exact ⟨((h c).1).trans (Cert.ConfOutDx.array_eq m c), (h c).2⟩
  · refine (θ_run Cert.Reference16Ideal.defs _ _).mono (fun r h c => ?_) (Cert.Reference16Ideal.Value.run (F := Ideal) m' ρ')
    exact ⟨((h c).1).trans ((Cert.Reference16Ideal.Read.val_main_v4_eq _ _).trans (by rw [(hagree c).1, (hagree c).2])), (h c).2⟩

theorem frame_17 : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

theorem value_17 : Cert.algebraic_Kernel17Ideal_Reference17Ideal := by
  intro m ρ m' ρ' _ hagree
  refine ⟨fun c => Cert.Reference17Ideal.Read.val_main_v5 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run Cert.Kernel17Ideal.defs _ _).mono (fun r h c => ?_) (Cert.Kernel17Ideal.Value.run (F := Ideal) m ρ)
    exact ⟨((h c).1).trans (Cert.ConfOutDw.array_eq m c), (h c).2⟩
  · refine (θ_run Cert.Reference17Ideal.defs _ _).mono (fun r h c => ?_) (Cert.Reference17Ideal.Value.run (F := Ideal) m' ρ')
    exact ⟨((h c).1).trans ((Cert.Reference17Ideal.Read.val_main_v5_eq _ _).trans (by rw [(hagree c).1, (hagree c).2])), (h c).2⟩

theorem frame_18 : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

theorem value_18 : Cert.algebraic_Kernel18Ideal_Reference18Ideal := by
  intro m ρ m' ρ' _ hagree
  refine ⟨fun c => Cert.Reference18Ideal.Read.val_main_v4 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine (θ_run Cert.Kernel18Ideal.defs _ _).mono (fun r h c => ?_) (Cert.Kernel18Ideal.Value.run_blocks (F := Ideal) m ρ)
    exact ⟨((h c).1).trans (Cert.ConfInDx.array_eq m c), (h c).2⟩
  · refine (θ_run Cert.Reference18Ideal.defs _ _).mono (fun r h c => ?_) (Cert.Reference18Ideal.Value.run (F := Ideal) m' ρ')
    exact ⟨((h c).1).trans ((Cert.Reference18Ideal.Read.val_main_v4_eq _ _).trans (by rw [(hagree c).1, (hagree c).2])), (h c).2⟩

theorem frame_19 : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

theorem value_19 : Cert.algebraic_Kernel19Ideal_Reference19Ideal := by
  intro m ρ m' ρ' _ hagree
  refine ⟨fun c => Cert.Reference19Ideal.Read.val_main_v5 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine (θ_run Cert.Kernel19Ideal.defs _ _).mono (fun r h c => ?_) (Cert.Kernel19Ideal.Value.run (F := Ideal) m ρ)
    exact ⟨((h c).1).trans (Cert.ConfInDw.array_eq m c), (h c).2⟩
  · refine (θ_run Cert.Reference19Ideal.defs _ _).mono (fun r h c => ?_) (Cert.Reference19Ideal.Value.run (F := Ideal) m' ρ')
    exact ⟨((h c).1).trans ((Cert.Reference19Ideal.Read.val_main_v5_eq _ _).trans (by rw [(hagree c).1, (hagree c).2])), (h c).2⟩

end Cert.Calls

end
-- ==== Proof.Updates.lean ====
module

public import proofs.«01_k».proof.Defs
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import Idealize.ShloMosaic.Lib.Quiescent
public import Idealize.ShloMosaic.Adequacy
public import Idealize.ShloMosaic.Init

/-! The claims of the optimiser's calls, one for each shape of a weight: the reference runs to its end and leaves its
arguments, and entry by entry the kernel computes the step, the new mean and the new variance of the reference. -/

@[expose] public section

noncomputable section

namespace Cert.Updates

open Idealize.ShloMosaic Idealize.SL.Sem

theorem frame_20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem value_20 : Cert.algebraic_Kernel20Ideal_Reference20Ideal := by
  intro m ρ m' ρ' _ hagree
  refine ⟨_, _, _, Cert.Kernel20Ideal.Value.run (F := Ideal) m ρ, (θ_run Cert.Reference20Ideal.defs _ _).mono (fun r h c => ?_) (Cert.Reference20Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_21 : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem value_21 : Cert.algebraic_Kernel21Ideal_Reference21Ideal := by
  intro m ρ m' ρ' _ hagree
  refine ⟨_, _, _, Cert.Kernel21Ideal.Value.run (F := Ideal) m ρ, (θ_run Cert.Reference21Ideal.defs _ _).mono (fun r h c => ?_) (Cert.Reference21Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_22 : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem value_22 : Cert.algebraic_Kernel22Ideal_Reference22Ideal := by
  intro m ρ m' ρ' _ hagree
  refine ⟨_, _, _, Cert.Kernel22Ideal.Value.run (F := Ideal) m ρ, (θ_run Cert.Reference22Ideal.defs _ _).mono (fun r h c => ?_) (Cert.Reference22Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

theorem value_23 : Cert.algebraic_Kernel23Ideal_Reference23Ideal := by
  intro m ρ m' ρ' _ hagree
  refine ⟨_, _, _, Cert.Kernel23Ideal.Value.run (F := Ideal) m ρ, (θ_run Cert.Reference23Ideal.defs _ _).mono (fun r h c => ?_) (Cert.Reference23Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_24 : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem value_24 : Cert.algebraic_Kernel24Ideal_Reference24Ideal := by
  intro m ρ m' ρ' _ hagree
  refine ⟨_, _, _, Cert.Kernel24Ideal.Value.run (F := Ideal) m ρ, (θ_run Cert.Reference24Ideal.defs _ _).mono (fun r h c => ?_) (Cert.Reference24Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_25 : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem value_25 : Cert.algebraic_Kernel25Ideal_Reference25Ideal := by
  intro m ρ m' ρ' _ hagree
  refine ⟨_, _, _, Cert.Kernel25Ideal.Value.run (F := Ideal) m ρ, (θ_run Cert.Reference25Ideal.defs _ _).mono (fun r h c => ?_) (Cert.Reference25Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_26 : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

theorem value_26 : Cert.algebraic_Kernel26Ideal_Reference26Ideal := by
  intro m ρ m' ρ' _ hagree
  refine ⟨_, _, _, Cert.Kernel26Ideal.Value.run (F := Ideal) m ρ, (θ_run Cert.Reference26Ideal.defs _ _).mono (fun r h c => ?_) (Cert.Reference26Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_27 : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem value_27 : Cert.algebraic_Kernel27Ideal_Reference27Ideal := by
  intro m ρ m' ρ' _ hagree
  refine ⟨_, _, _, Cert.Kernel27Ideal.Value.run (F := Ideal) m ρ, (θ_run Cert.Reference27Ideal.defs _ _).mono (fun r h c => ?_) (Cert.Reference27Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_28 : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem value_28 : Cert.algebraic_Kernel28Ideal_Reference28Ideal := by
  intro m ρ m' ρ' _ hagree
  refine ⟨_, _, _, Cert.Kernel28Ideal.Value.run (F := Ideal) m ρ, (θ_run Cert.Reference28Ideal.defs _ _).mono (fun r h c => ?_) (Cert.Reference28Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_29 : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

theorem value_29 : Cert.algebraic_Kernel29Ideal_Reference29Ideal := by
  intro m ρ m' ρ' _ hagree
  refine ⟨_, _, _, Cert.Kernel29Ideal.Value.run (F := Ideal) m ρ, (θ_run Cert.Reference29Ideal.defs _ _).mono (fun r h c => ?_) (Cert.Reference29Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_30 : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

theorem value_30 : Cert.algebraic_Kernel30Ideal_Reference30Ideal := by
  intro m ρ m' ρ' _ hagree
  refine ⟨_, _, _, Cert.Kernel30Ideal.Value.run (F := Ideal) m ρ, (θ_run Cert.Reference30Ideal.defs _ _).mono (fun r h c => ?_) (Cert.Reference30Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_31 : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem value_31 : Cert.algebraic_Kernel31Ideal_Reference31Ideal := by
  intro m ρ m' ρ' _ hagree
  refine ⟨_, _, _, Cert.Kernel31Ideal.Value.run (F := Ideal) m ρ, (θ_run Cert.Reference31Ideal.defs _ _).mono (fun r h c => ?_) (Cert.Reference31Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

theorem frame_32 : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

theorem value_32 : Cert.algebraic_Kernel32Ideal_Reference32Ideal := by
  intro m ρ m' ρ' _ hagree
  refine ⟨_, _, _, Cert.Kernel32Ideal.Value.run (F := Ideal) m ρ, (θ_run Cert.Reference32Ideal.defs _ _).mono (fun r h c => ?_) (Cert.Reference32Ideal.Value.run (F := Ideal) m' ρ')⟩
  obtain ⟨e0, e1, e2, e3⟩ := hagree c
  exact ⟨(h c).1.trans (by rw [e0, e1, e2, e3]; rfl), (h c).2.1.trans (by rw [e1, e2]; rfl), (h c).2.2.1.trans (by rw [e1, e3]; rfl), (h c).2.2.2⟩

end Cert.Updates

end
-- ==== Proof.Totals.lean ====
module

public import proofs.«01_k».proof.Defs
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run
public import proofs.«01_k».proof.Proof.Gen.Kernel41Ideal.Value
public import proofs.«01_k».proof.Proof.Gen.Reference41Ideal.Run
public import proofs.«01_k».proof.Proof.Gen.Kernel42Ideal.Value
public import proofs.«01_k».proof.Proof.Gen.Reference42Ideal.Run
public import proofs.«01_k».proof.Proof.Gen.Kernel43Ideal.Value
public import proofs.«01_k».proof.Proof.Gen.Reference43Ideal.Run
public import proofs.«01_k».proof.Proof.Gen.Kernel44Ideal.Value
public import proofs.«01_k».proof.Proof.Gen.Reference44Ideal.Run
public import proofs.«01_k».proof.Proof.Gen.Kernel45Ideal.Value
public import proofs.«01_k».proof.Proof.Gen.Reference45Ideal.Run
public import proofs.«01_k».proof.Proof.Gen.Kernel46Ideal.Value
public import proofs.«01_k».proof.Proof.Gen.Reference46Ideal.Run
public import proofs.«01_k».proof.Proof.Gen.Kernel47Ideal.Value
public import proofs.«01_k».proof.Proof.Gen.Reference47Ideal.Run
public import proofs.«01_k».proof.Proof.Gen.Kernel48Ideal.Value
public import proofs.«01_k».proof.Proof.Gen.Reference48Ideal.Run
public import proofs.«01_k».proof.Proof.Gen.Kernel49Ideal.Value
public import proofs.«01_k».proof.Proof.Gen.Reference49Ideal.Run
public import Idealize.ShloMosaic.Lib.Quiescent
public import Idealize.ShloMosaic.Adequacy
public import Idealize.ShloMosaic.Init

/-! The sums of the gradients: what the kernel's array holds at an index is the sum of the parts' entries at that index,
which is what the reference computes. -/

@[expose] public section

noncomputable section

namespace Cert.Totals

open Idealize.ShloMosaic Idealize.SL.Sem

theorem frame_33 : Cert.quiescent_Reference33Ideal := fun m ρ _ =>
  (θ_run Cert.Reference33Ideal.defs _ _).mono (fun r h => ⟨fun c => (h c).2.2, sem_eq_zero_of_no_sems (by decide) r.2⟩)
    (Cert.Reference33Ideal.Value.run (F := Ideal) m ρ)

theorem value_33 : Cert.algebraic_Kernel33Ideal_Reference33Ideal := by
  intro m ρ m' ρ' _ hagree
  refine ⟨_, _, Cert.Kernel33Ideal.Value.run (F := Ideal) m ρ, (θ_run Cert.Reference33Ideal.defs _ _).mono (fun r h c => ?_) (Cert.Reference33Ideal.Value.run (F := Ideal) m' ρ')⟩
  obtain ⟨e0, e1⟩ := hagree c
  exact ⟨(h c).1.trans (by rw [e0, e1]; rfl), (h c).2.1.trans (by rw [e0, e1]; rfl), (h c).2.2⟩

theorem frame_34 : Cert.quiescent_Reference34Ideal := fun m ρ _ =>
  (θ_run Cert.Reference34Ideal.defs _ _).mono (fun r h => ⟨fun c => (h c).2.2, sem_eq_zero_of_no_sems (by decide) r.2⟩)
    (Cert.Reference34Ideal.Value.run (F := Ideal) m ρ)

theorem value_34 : Cert.algebraic_Kernel34Ideal_Reference34Ideal := by
  intro m ρ m' ρ' _ hagree
  refine ⟨_, _, Cert.Kernel34Ideal.Value.run (F := Ideal) m ρ, (θ_run Cert.Reference34Ideal.defs _ _).mono (fun r h c => ?_) (Cert.Reference34Ideal.Value.run (F := Ideal) m' ρ')⟩
  obtain ⟨e0, e1⟩ := hagree c
  exact ⟨(h c).1.trans (by rw [e0, e1]; rfl), (h c).2.1.trans (by rw [e0, e1]; rfl), (h c).2.2⟩

theorem frame_35 : Cert.quiescent_Reference35Ideal := fun m ρ _ =>
  (θ_run Cert.Reference35Ideal.defs _ _).mono (fun r h => ⟨fun c => (h c).2.2, sem_eq_zero_of_no_sems (by decide) r.2⟩)
    (Cert.Reference35Ideal.Value.run (F := Ideal) m ρ)

theorem value_35 : Cert.algebraic_Kernel35Ideal_Reference35Ideal := by
  intro m ρ m' ρ' _ hagree
  refine ⟨_, _, Cert.Kernel35Ideal.Value.run (F := Ideal) m ρ, (θ_run Cert.Reference35Ideal.defs _ _).mono (fun r h c => ?_) (Cert.Reference35Ideal.Value.run (F := Ideal) m' ρ')⟩
  obtain ⟨e0, e1⟩ := hagree c
  exact ⟨(h c).1.trans (by rw [e0, e1]; rfl), (h c).2.1.trans (by rw [e0, e1]; rfl), (h c).2.2⟩

theorem frame_36 : Cert.quiescent_Reference36Ideal := fun m ρ _ =>
  (θ_run Cert.Reference36Ideal.defs _ _).mono (fun r h => ⟨fun c => (h c).2.2, sem_eq_zero_of_no_sems (by decide) r.2⟩)
    (Cert.Reference36Ideal.Value.run (F := Ideal) m ρ)

theorem value_36 : Cert.algebraic_Kernel36Ideal_Reference36Ideal := by
  intro m ρ m' ρ' _ hagree
  refine ⟨_, _, Cert.Kernel36Ideal.Value.run (F := Ideal) m ρ, (θ_run Cert.Reference36Ideal.defs _ _).mono (fun r h c => ?_) (Cert.Reference36Ideal.Value.run (F := Ideal) m' ρ')⟩
  obtain ⟨e0, e1⟩ := hagree c
  exact ⟨(h c).1.trans (by rw [e0, e1]; rfl), (h c).2.1.trans (by rw [e0, e1]; rfl), (h c).2.2⟩

theorem frame_37 : Cert.quiescent_Reference37Ideal := fun m ρ _ =>
  (θ_run Cert.Reference37Ideal.defs _ _).mono (fun r h => ⟨fun c => (h c).2.2, sem_eq_zero_of_no_sems (by decide) r.2⟩)
    (Cert.Reference37Ideal.Value.run (F := Ideal) m ρ)

theorem value_37 : Cert.algebraic_Kernel37Ideal_Reference37Ideal := by
  intro m ρ m' ρ' _ hagree
  refine ⟨_, _, Cert.Kernel37Ideal.Value.run (F := Ideal) m ρ, (θ_run Cert.Reference37Ideal.defs _ _).mono (fun r h c => ?_) (Cert.Reference37Ideal.Value.run (F := Ideal) m' ρ')⟩
  obtain ⟨e0, e1⟩ := hagree c
  exact ⟨(h c).1.trans (by rw [e0, e1]; rfl), (h c).2.1.trans (by rw [e0, e1]; rfl), (h c).2.2⟩

theorem frame_38 : Cert.quiescent_Reference38Ideal := fun m ρ _ =>
  (θ_run Cert.Reference38Ideal.defs _ _).mono (fun r h => ⟨fun c => (h c).2.2, sem_eq_zero_of_no_sems (by decide) r.2⟩)
    (Cert.Reference38Ideal.Value.run (F := Ideal) m ρ)

theorem value_38 : Cert.algebraic_Kernel38Ideal_Reference38Ideal := by
  intro m ρ m' ρ' _ hagree
  refine ⟨_, _, Cert.Kernel38Ideal.Value.run (F := Ideal) m ρ, (θ_run Cert.Reference38Ideal.defs _ _).mono (fun r h c => ?_) (Cert.Reference38Ideal.Value.run (F := Ideal) m' ρ')⟩
  obtain ⟨e0, e1⟩ := hagree c
  exact ⟨(h c).1.trans (by rw [e0, e1]; rfl), (h c).2.1.trans (by rw [e0, e1]; rfl), (h c).2.2⟩

theorem frame_39 : Cert.quiescent_Reference39Ideal := fun m ρ _ =>
  (θ_run Cert.Reference39Ideal.defs _ _).mono (fun r h => ⟨fun c => (h c).2.2, sem_eq_zero_of_no_sems (by decide) r.2⟩)
    (Cert.Reference39Ideal.Value.run (F := Ideal) m ρ)

theorem value_39 : Cert.algebraic_Kernel39Ideal_Reference39Ideal := by
  intro m ρ m' ρ' _ hagree
  refine ⟨_, _, Cert.Kernel39Ideal.Value.run (F := Ideal) m ρ, (θ_run Cert.Reference39Ideal.defs _ _).mono (fun r h c => ?_) (Cert.Reference39Ideal.Value.run (F := Ideal) m' ρ')⟩
  obtain ⟨e0, e1⟩ := hagree c
  exact ⟨(h c).1.trans (by rw [e0, e1]; rfl), (h c).2.1.trans (by rw [e0, e1]; rfl), (h c).2.2⟩

theorem frame_40 : Cert.quiescent_Reference40Ideal := fun m ρ _ =>
  (θ_run Cert.Reference40Ideal.defs _ _).mono (fun r h => ⟨fun c => (h c).2.2, sem_eq_zero_of_no_sems (by decide) r.2⟩)
    (Cert.Reference40Ideal.Value.run (F := Ideal) m ρ)

theorem value_40 : Cert.algebraic_Kernel40Ideal_Reference40Ideal := by
  intro m ρ m' ρ' _ hagree
  refine ⟨_, _, Cert.Kernel40Ideal.Value.run (F := Ideal) m ρ, (θ_run Cert.Reference40Ideal.defs _ _).mono (fun r h c => ?_) (Cert.Reference40Ideal.Value.run (F := Ideal) m' ρ')⟩
  obtain ⟨e0, e1⟩ := hagree c
  exact ⟨(h c).1.trans (by rw [e0, e1]; rfl), (h c).2.1.trans (by rw [e0, e1]; rfl), (h c).2.2⟩

theorem frame_41 : Cert.quiescent_Reference41Ideal := fun m ρ _ =>
  (θ_run Cert.Reference41Ideal.defs _ _).mono (fun r h => ⟨fun c => (h c).2, sem_eq_zero_of_no_sems (by decide) r.2⟩)
    (Cert.Reference41Ideal.Value.run (F := Ideal) m ρ)

theorem value_41 : Cert.algebraic_Kernel41Ideal_Reference41Ideal := by
  intro m ρ m' ρ' _ hagree
  refine ⟨_, Cert.Kernel41Ideal.Value.run (F := Ideal) m ρ, (θ_run Cert.Reference41Ideal.defs _ _).mono (fun r h c => ?_) (Cert.Reference41Ideal.Value.run (F := Ideal) m' ρ')⟩
  obtain ⟨e0, e1, e2, e3⟩ := hagree c
  exact ⟨(h c).1.trans (by rw [e0, e1, e2, e3]; rfl), (h c).2⟩

theorem frame_42 : Cert.quiescent_Reference42Ideal := fun m ρ _ =>
  (θ_run Cert.Reference42Ideal.defs _ _).mono (fun r h => ⟨fun c => (h c).2, sem_eq_zero_of_no_sems (by decide) r.2⟩)
    (Cert.Reference42Ideal.Value.run (F := Ideal) m ρ)

theorem value_42 : Cert.algebraic_Kernel42Ideal_Reference42Ideal := by
  intro m ρ m' ρ' _ hagree
  refine ⟨_, Cert.Kernel42Ideal.Value.run (F := Ideal) m ρ, (θ_run Cert.Reference42Ideal.defs _ _).mono (fun r h c => ?_) (Cert.Reference42Ideal.Value.run (F := Ideal) m' ρ')⟩
  obtain ⟨e0, e1, e2, e3⟩ := hagree c
  exact ⟨(h c).1.trans (by rw [e0, e1, e2, e3]; rfl), (h c).2⟩

theorem frame_43 : Cert.quiescent_Reference43Ideal := fun m ρ _ =>
  (θ_run Cert.Reference43Ideal.defs _ _).mono (fun r h => ⟨fun c => (h c).2, sem_eq_zero_of_no_sems (by decide) r.2⟩)
    (Cert.Reference43Ideal.Value.run (F := Ideal) m ρ)

theorem value_43 : Cert.algebraic_Kernel43Ideal_Reference43Ideal := by
  intro m ρ m' ρ' _ hagree
  refine ⟨_, Cert.Kernel43Ideal.Value.run (F := Ideal) m ρ, (θ_run Cert.Reference43Ideal.defs _ _).mono (fun r h c => ?_) (Cert.Reference43Ideal.Value.run (F := Ideal) m' ρ')⟩
  obtain ⟨e0, e1, e2, e3⟩ := hagree c
  exact ⟨(h c).1.trans (by rw [e0, e1, e2, e3]; rfl), (h c).2⟩

theorem frame_44 : Cert.quiescent_Reference44Ideal := fun m ρ _ =>
  (θ_run Cert.Reference44Ideal.defs _ _).mono (fun r h => ⟨fun c => (h c).2, sem_eq_zero_of_no_sems (by decide) r.2⟩)
    (Cert.Reference44Ideal.Value.run (F := Ideal) m ρ)

theorem value_44 : Cert.algebraic_Kernel44Ideal_Reference44Ideal := by
  intro m ρ m' ρ' _ hagree
  refine ⟨_, Cert.Kernel44Ideal.Value.run (F := Ideal) m ρ, (θ_run Cert.Reference44Ideal.defs _ _).mono (fun r h c => ?_) (Cert.Reference44Ideal.Value.run (F := Ideal) m' ρ')⟩
  obtain ⟨e0, e1, e2, e3⟩ := hagree c
  exact ⟨(h c).1.trans (by rw [e0, e1, e2, e3]; rfl), (h c).2⟩

theorem frame_45 : Cert.quiescent_Reference45Ideal := fun m ρ _ =>
  (θ_run Cert.Reference45Ideal.defs _ _).mono (fun r h => ⟨fun c => (h c).2, sem_eq_zero_of_no_sems (by decide) r.2⟩)
    (Cert.Reference45Ideal.Value.run (F := Ideal) m ρ)

theorem value_45 : Cert.algebraic_Kernel45Ideal_Reference45Ideal := by
  intro m ρ m' ρ' _ hagree
  refine ⟨_, Cert.Kernel45Ideal.Value.run (F := Ideal) m ρ, (θ_run Cert.Reference45Ideal.defs _ _).mono (fun r h c => ?_) (Cert.Reference45Ideal.Value.run (F := Ideal) m' ρ')⟩
  obtain ⟨e0, e1, e2, e3⟩ := hagree c
  exact ⟨(h c).1.trans (by rw [e0, e1, e2, e3]; rfl), (h c).2⟩

theorem frame_46 : Cert.quiescent_Reference46Ideal := fun m ρ _ =>
  (θ_run Cert.Reference46Ideal.defs _ _).mono (fun r h => ⟨fun c => (h c).2, sem_eq_zero_of_no_sems (by decide) r.2⟩)
    (Cert.Reference46Ideal.Value.run (F := Ideal) m ρ)

theorem value_46 : Cert.algebraic_Kernel46Ideal_Reference46Ideal := by
  intro m ρ m' ρ' _ hagree
  refine ⟨_, Cert.Kernel46Ideal.Value.run (F := Ideal) m ρ, (θ_run Cert.Reference46Ideal.defs _ _).mono (fun r h c => ?_) (Cert.Reference46Ideal.Value.run (F := Ideal) m' ρ')⟩
  obtain ⟨e0, e1, e2, e3⟩ := hagree c
  exact ⟨(h c).1.trans (by rw [e0, e1, e2, e3]; rfl), (h c).2⟩

theorem frame_47 : Cert.quiescent_Reference47Ideal := fun m ρ _ =>
  (θ_run Cert.Reference47Ideal.defs _ _).mono (fun r h => ⟨fun c => (h c).2, sem_eq_zero_of_no_sems (by decide) r.2⟩)
    (Cert.Reference47Ideal.Value.run (F := Ideal) m ρ)

theorem value_47 : Cert.algebraic_Kernel47Ideal_Reference47Ideal := by
  intro m ρ m' ρ' _ hagree
  refine ⟨_, Cert.Kernel47Ideal.Value.run (F := Ideal) m ρ, (θ_run Cert.Reference47Ideal.defs _ _).mono (fun r h c => ?_) (Cert.Reference47Ideal.Value.run (F := Ideal) m' ρ')⟩
  obtain ⟨e0, e1, e2, e3⟩ := hagree c
  exact ⟨(h c).1.trans (by rw [e0, e1, e2, e3]; rfl), (h c).2⟩

theorem frame_48 : Cert.quiescent_Reference48Ideal := fun m ρ _ =>
  (θ_run Cert.Reference48Ideal.defs _ _).mono (fun r h => ⟨fun c => (h c).2, sem_eq_zero_of_no_sems (by decide) r.2⟩)
    (Cert.Reference48Ideal.Value.run (F := Ideal) m ρ)

theorem value_48 : Cert.algebraic_Kernel48Ideal_Reference48Ideal := by
  intro m ρ m' ρ' _ hagree
  refine ⟨_, Cert.Kernel48Ideal.Value.run (F := Ideal) m ρ, (θ_run Cert.Reference48Ideal.defs _ _).mono (fun r h c => ?_) (Cert.Reference48Ideal.Value.run (F := Ideal) m' ρ')⟩
  obtain ⟨e0, e1, e2, e3⟩ := hagree c
  exact ⟨(h c).1.trans (by rw [e0, e1, e2, e3]; rfl), (h c).2⟩

theorem frame_49 : Cert.quiescent_Reference49Ideal := fun m ρ _ =>
  (θ_run Cert.Reference49Ideal.defs _ _).mono (fun r h => ⟨fun c => (h c).2, sem_eq_zero_of_no_sems (by decide) r.2⟩)
    (Cert.Reference49Ideal.Value.run (F := Ideal) m ρ)

theorem value_49 : Cert.algebraic_Kernel49Ideal_Reference49Ideal := by
  intro m ρ m' ρ' _ hagree
  refine ⟨_, Cert.Kernel49Ideal.Value.run (F := Ideal) m ρ, (θ_run Cert.Reference49Ideal.defs _ _).mono (fun r h c => ?_) (Cert.Reference49Ideal.Value.run (F := Ideal) m' ρ')⟩
  obtain ⟨e0, e1, e2, e3, e4, e5, e6, e7⟩ := hagree c
  exact ⟨(h c).1.trans (by rw [e0, e1, e2, e3, e4, e5, e6, e7]; rfl), (h c).2⟩

end Cert.Totals

end
-- ==== Proof.Loss.lean ====
module

public import proofs.«01_k».proof.Defs
public import proofs.«01_k».proof.Proof.Tiles
public import proofs.«01_k».proof.Proof.Gen.Kernel50Ideal.Frame
public import proofs.«01_k».proof.Proof.Gen.Reference50Ideal.Run
public import proofs.«01_k».proof.Proof.Gen.Reference50Ideal.Read
public import Idealize.ShloMosaic.Lib.WordCmp
public import Idealize.ShloMosaic.Lib.Quiescent
public import Idealize.ShloMosaic.Lib.Pipeline.Value
public import Idealize.ShloMosaic.Adequacy
public import Idealize.ShloMosaic.Init

/-! The loss: the error of the rows that count, its gradient, and the sums down the columns of its square, taken 640 rows
at a time, which are then added up and scaled. -/

@[expose] public section

noncomputable section

namespace Cert.Loss

open Idealize.ShloMosaic Idealize.ShloMosaic.TcCoe Idealize.SL.Sem Cert.Kernel50Ideal Cert.Kernel50Ideal.Gen Cert.Products Finset

section
variable {c : Dev nD} {i : grid0.Coords} {a1 a2 a3 : Memref sig .tc .vmem S640x1024 .f32} {h1 : a1.IsWhole} {h2 : a2.IsWhole}
  {h3 : a3.IsWhole} {a4 : Memref sig .tc .vmem S1x1024 .f32} {h4 : a4.IsWhole} {x0 x1 : Vec Ideal S640x1024 .f32}
  {xs : Vec Ideal S1x1024 .f32} {f g : ℕ → ℕ → EReal}

/-- The masked difference of two blocks. -/
theorem isV_err (hi : (i 0).val < 13) (h0 : IsV (a := 640) (b := 1024) x0 f) (h1 : IsV (a := 640) (b := 1024) x1 g) :
    IsV (a := 640) (b := 1024) (k0_pay1 (F := Ideal) i x0 x1)
      fun r s => if 128 ≤ 640 * (i 0).val + r then f r s - g r s else 0 := by
  intro j
  have hj : (j 0).val < 640 := (j 0).isLt
  unfold k0_pay1
  simp only [shapeCast_self]
  have e : IntOp.cmpi .sge (BitVec.ofNat 32 (i 0).val * 640#32 + BitVec.ofNat 32 (0 * 640 + (j 0).val)) 128#32
      = BitVec.ofBool (decide (128 ≤ 640 * (i 0).val + (j 0).val)) := by
    have w : BitVec.ofNat 32 (i 0).val * 640#32 + BitVec.ofNat 32 (0 * 640 + (j 0).val)
        = BitVec.ofNat 32 (640 * (i 0).val + (j 0).val) := by
      rw [Nat.zero_mul, Nat.zero_add, BitVec.ofNat_add, BitVec.ofNat_mul, BitVec.mul_comm]
    rw [w]
    exact WordCmp.cmpi_sge_ofNat (by omega) (by decide)
  show Scalar.select (IntOp.cmpi .sge (BitVec.ofNat 32 (i 0).val * 640#32 + BitVec.ofNat 32 (0 * 640 + (j 0).val)) 128#32)
    (x0 j - x1 j : EReal) (Ideal.ofBits .f32 0x00000000#32) = _
  rw [e, zero_f32, h0 j, h1 j]
  by_cases h : 128 ≤ 640 * (i 0).val + (j 0).val
  · rw [if_pos h, decide_eq_true h]; rfl
  · rw [if_neg h, decide_eq_false h]; rfl

/-- The gradient's block. -/
theorem isV_grad (h : IsV (a := 640) (b := 1024) (k0_pay1 (F := Ideal) i x0 x1) f) :
    IsV (a := 640) (b := 1024) (k0_pay2 (F := Ideal) i x0 x1) fun r s => f r s * Ideal.ofBits .f32 0x3A800000#32 :=
  fun j => congrArg (· * Ideal.ofBits .f32 0x3A800000#32) (h j)

/-- The sums of a block's squares, added to what was there. -/
theorem isV_sums (h : IsV (a := 640) (b := 1024) (k0_pay1 (F := Ideal) i x0 x1) f) (hs : IsV (a := 1) (b := 1024) xs g) :
    IsV (a := 1) (b := 1024) (k0_pay4 (F := Ideal) i x0 x1 xs) fun r s => g r s + ∑ k ∈ range 640, f k s * f k s := by
  intro j
  unfold k0_pay4
  simp only [shapeCast_self]
  refine congrArg₂ (· + ·) (hs j) ?_
  generalize k0_pay1 (F := Ideal) i x0 x1 = x at h ⊢
  simp only [pointwise]
  rw [Finset.sum_range]
  refine Finset.sum_congr rfl fun k _ => ?_
  exact congrArg₂ (· * ·) (h _) (h _)

theorem isV_zero : IsV (a := 1) (b := 1024) (k0_pay3 (F := Ideal)) fun _ _ => 0 := fun _ => zero_f32

theorem grad_A (hc0 : cond0_0 i) : out0_A_2 c i a1 h1 a2 h2 a3 h3 a4 h4 hc0 x0 x1 = k0_pay2 i x0 x1 := by
  unfold out0_A_2
  rw [View.read_writes_eq_canon _ _ _ (cover0_A_2 c i a1 h1 a2 h2 a3 h3 a4 h4 hc0 x0 x1)]
  unfold kernelRun0_A
  dsimp only
  sl_unfold_words
  rw [View.canon_unit_zero origin]
  simp only [View.readAt_eq_ld, h1.read_unread, h2.read_unread, View.ld_unit_zero (S := S640x1024) origin]

theorem grad_B (hc0 : ¬cond0_0 i) : out0_B_2 c i a1 h1 a2 h2 a3 h3 a4 h4 hc0 x0 x1 xs = k0_pay2 i x0 x1 := by
  unfold out0_B_2
  rw [View.read_writes_eq_canon _ _ _ (cover0_B_2 c i a1 h1 a2 h2 a3 h3 a4 h4 hc0 x0 x1 xs)]
  unfold kernelRun0_B
  dsimp only
  rw [View.canon_unit_zero origin]
  simp only [View.readAt_eq_ld, h1.read_unread, h2.read_unread, View.ld_unit_zero (S := S640x1024) origin]

theorem sums_A (hc0 : cond0_0 i) : out0_A_3 c i a1 h1 a2 h2 a3 h3 a4 h4 hc0 x0 x1 = k0_pay4 i x0 x1 (k0_pay3 (F := Ideal)) := by
  unfold out0_A_3
  rw [View.read_writes_eq_canon _ _ _ (cover0_A_3 c i a1 h1 a2 h2 a3 h3 a4 h4 hc0 x0 x1)]
  unfold kernelRun0_A
  dsimp only
  sl_unfold_words
  rw [View.canon_cons_unit_zero (S := S1x1024) origin, View.readCov_unit_zero (S := S1x1024) _ origin]
  simp only [View.readAt_eq_ld, h1.read_unread, h2.read_unread, View.ld_unit_zero (S := S640x1024) origin]

theorem sums_B (hc0 : ¬cond0_0 i) : out0_B_3 c i a1 h1 a2 h2 a3 h3 a4 h4 hc0 x0 x1 xs = k0_pay4 i x0 x1 xs := by
  unfold out0_B_3
  rw [View.read_writes_eq_canon _ _ _ (cover0_B_3 c i a1 h1 a2 h2 a3 h3 a4 h4 hc0 x0 x1 xs)]
  unfold kernelRun0_B
  dsimp only
  rw [View.canon_unit_zero origin]
  simp only [View.readAt_eq_ld, h1.read_unread, h2.read_unread, h4.read_unread, View.ld_unit_zero (S := S640x1024) origin,
    View.ld_unit_zero (S := S1x1024) origin]
end

/-! ## The arrays -/

/-- Where the blocks lie: point `t` takes the rows from `640 * t` on. -/
theorem index : ∀ t : Fin cfg0.N, win0_0.index t 0 = t.val ∧ win0_0.index t 1 = 0 ∧ win0_1.index t 0 = t.val ∧
    win0_1.index t 1 = 0 ∧ (grid0.coords t 0).val = t.val :=
  (by decide +kernel : ∀ t : Fin grid0.N, _)

theorem index_out : ∀ t : Fin cfg0.N, win0_2.index t 0 = t.val ∧ win0_2.index t 1 = 0 ∧ win0_3.index t 0 = 0 ∧
    win0_3.index t 1 = 0 :=
  (by decide +kernel : ∀ t : Fin grid0.N, _)

variable (m : (ℓ : Loc nD τ sig) → Buf (Elt Ideal) ℓ) (ρ : Dev nD → PrngReg) (c : Dev nD)

/-- The error at a row and a column. -/
def err (x0 x1 : FVec Ideal S8320x1024 .f32) (r s : ℕ) : EReal :=
  if 128 ≤ r then at2 (a := 8320) (b := 1024) x0 r s - at2 (a := 8320) (b := 1024) x1 r s else 0

/-- … of the arguments. -/
abbrev errOf : ℕ → ℕ → EReal := err (m ((c : Thread nD τ).loc main_arg0)) (m ((c : Thread nD τ).loc main_arg1))

theorem isV_block (t : Fin cfg0.N) : IsV (a := 640) (b := 1024)
    (k0_pay1 (F := Ideal) (grid0.coords t) (iblk m c 0 t) (iblk m c 1 t)) fun r s => errOf m c (640 * t.val + r) s := by
  obtain ⟨e0, e1, e2, e3, e4⟩ := index t
  have h := isV_err (i := grid0.coords t) (x0 := iblk m c 0 t) (x1 := iblk m c 1 t) (by rw [e4]; exact t.isLt)
      (isV_part (o0 := win0_0.index t 0) (o1 := win0_0.index t 1) ((cfg0.win 0).blk t).view.emb
        (fun j => congrFun (V_main_arg0 m c) _) fun _ => ⟨rfl, rfl⟩)
      (isV_part (o0 := win0_1.index t 0) (o1 := win0_1.index t 1) ((cfg0.win 1).blk t).view.emb
        (fun j => congrFun (V_main_arg1 m c) _) fun _ => ⟨rfl, rfl⟩)
  rw [e0, e1, e2, e3, e4] at h
  simp only [Nat.mul_zero, Nat.zero_add] at h
  exact h

theorem outs_grad (n : ℕ) (h : n < cfg0.N) : (outsAt0 m c n h).1
    = k0_pay2 (grid0.coords ⟨n, h⟩) (iblk m c 0 ⟨n, h⟩) (iblk m c 1 ⟨n, h⟩) := by
  by_cases h0 : n % 13 = 0
  · rw [outsAt0_A m c ⟨n, h⟩ h0]
    dsimp only
    rw [grad_A]
  · rw [outsAt0_B m c ⟨n, h⟩ h0]
    dsimp only
    rw [grad_B]

theorem flushed_grad (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

theorem flushed_sums (t : Fin cfg0.N) :
    (dats m 0 c).flushed 3 t = (cfg0.win 3).cut (grid0.coords t) ((outsAt0 m c t.val t.isLt).2) := by
  show (cfg0.win 3).cut (grid0.coords t) ((dats m 0 c).after 3 t) = _
  rw [after0_3]

theorem apart : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have e : win0_2.index t 0 = win0_2.index t' 0 := congrFun h 0
    rwa [(index_out t).1, (index_out t').1] at e))

/-- The gradient's array. -/
theorem array_grad : IsV (a := 8320) (b := 1024) ((dats m 0 c).arrAt 2 cfg0.N)
    fun r s => errOf m c r s * Ideal.ofBits .f32 0x3A800000#32 := by
  refine isV_tiles (p := 13) (q := 1) (fun t => (outsAt0 m c t.val t.isLt).1) (fun t => ((cfg0.win 2).blk t).view.emb)
    (fun t => win0_2.index t 0) (fun t => win0_2.index t 1) (fun t j => ?_) (fun _ _ => ⟨rfl, rfl⟩) (fun t => ?_)
    (fun k l => ⟨⟨k.val, k.isLt⟩, (index_out _).1, (index_out _).2.1.trans (by omega)⟩) rfl rfl (by decide) (by decide)
  · exact (View.read_apply ..).symm.trans (congrFun (((dats m 0 c).read_blk_arrAt_eq_flushed 2 apart cfg0.N t t.isLt
      (flush0_2 t)).trans (flushed_grad m c t)) j)
  · rw [outs_grad, (index_out t).1, (index_out t).2.1]
    simpa only [Nat.mul_zero, Nat.zero_add] using isV_grad (isV_block m c t)

/-- The sums after point `n`. -/
theorem sums (n : ℕ) (h : n < cfg0.N) : IsV (a := 1) (b := 1024) (outsAt0 m c n h).2
    fun _ s => ∑ k ∈ range (640 * n + 640), errOf m c k s * errOf m c k s := by
  induction n with
  | zero =>
    rw [outsAt0_A m c ⟨0, h⟩ rfl]
    dsimp only
    rw [sums_A]
    refine (isV_sums (isV_block m c ⟨0, h⟩) isV_zero).congr fun r s _ _ => ?_
    simp only [Nat.mul_zero, Nat.zero_add, zero_add]
  | succ n ih =>
    have hn : (n + 1) % 13 ≠ 0 := by
      have h : n + 1 < 13 := h
      omega
    rw [outsAt0_B m c ⟨n + 1, h⟩ hn]
    dsimp only
    rw [sums_B]
    refine (isV_sums (isV_block m c ⟨n + 1, h⟩) (ih (by omega))).congr fun r s _ _ => ?_
    rw [Finset.sum_range_add _ (640 * (n + 1)) 640]
    rfl

theorem once : ∀ t t' : Fin cfg0.N, (cfg0.win 3).flush t = true → (cfg0.win 3).flush t' = true → t ≠ t' →
    Disjoint ((cfg0.win 3).blk t).view.set ((cfg0.win 3).blk t').view.set := fun t t' h h' hne => by
  have a := (flush0_3 t).mp h
  have b := (flush0_3 t').mp h'
  have ha : t.val < 13 := t.isLt
  have hb : t'.val < 13 := t'.isLt
  exact absurd (Fin.ext (by omega)) hne

/-- The array of the sums. -/
theorem array_sums : IsV (a := 1) (b := 1024) ((dats m 0 c).arrAt 3 cfg0.N)
    fun _ s => ∑ k ∈ range 8320, errOf m c k s * errOf m c k s := by
  let t : Fin cfg0.N := ⟨12, by decide⟩
  have hf : (cfg0.win 3).flush t = true := (flush0_3 t).mpr rfl
  refine isV_tiles (p := 1) (q := 1) (T := 1) (fun _ => (outsAt0 m c t.val t.isLt).2) (fun _ => ((cfg0.win 3).blk t).view.emb)
    (fun _ => win0_3.index t 0) (fun _ => win0_3.index t 1) (fun _ j => ?_) (fun _ _ => ⟨rfl, rfl⟩) (fun _ => ?_)
    (fun k l => ⟨0, (index_out t).2.2.1.trans (by omega), (index_out t).2.2.2.trans (by omega)⟩) rfl rfl (by decide) (by decide)
  · exact (View.read_apply ..).symm.trans (congrFun (((dats m 0 c).read_blk_arrAt_eq_flushed 3 once cfg0.N t t.isLt hf).trans
      (flushed_sums m c t)) j)
  · rw [(index_out t).2.2.2]
    refine (sums m c t.val t.isLt).congr fun r s _ _ => ?_
    rw [Nat.mul_zero, Nat.zero_add, show 640 * t.val + 640 = 8320 from rfl]

/-! ## The loss itself -/

/-- The sums, added up and scaled, as the lines behind the call have them. -/
def scaled (x : FVec Ideal S1x1024 .f32) : FVec Ideal S_ .f32 :=
  Host.divf (mulf (constant (F := Ideal) S_ .f32 0x3F000000#32)
    (Host.reduceAdd x (constant (F := Ideal) S_ .f32 0x00000000#32) reducesTo_S1x1024_S_d0_1 h_S_))
    (constant (F := Ideal) S_ .f32 0x44800000#32)

theorem tail : Pipeline.afterTail₀ cfgs (dats m) 0 (V0 m) [hostOps1] c main_v3 = scaled ((dats m 0 c).arrAt 3 cfg0.N) := by
  have e : Pipeline.withArrays (cfgs 0).spec c (V0 m c) (fun w => (dats m 0 c).arrAt w (cfgs 0).N) (Proc.devRef .tc main_v0_1)
      = (dats m 0 c).arrAt 3 cfg0.N :=
    Pipeline.withArrays_arr (cfgs 0).spec launch0.win.arr_inj c (V0 m c) (fun w => (dats m 0 c).arrAt w (cfgs 0).N) 3
  rw [← e]
  unfold Pipeline.afterTail₀
  generalize Pipeline.withArrays (cfgs 0).spec c (V0 m c) (fun w => (dats m 0 c).arrAt w (cfgs 0).N) = V
  show StableHlo.after hostOps1 V (Proc.devRef .tc main_v3) = _
  after_results
  rfl

theorem run : θ_run (Cert.Kernel50Ideal.defs (F := Ideal)) (onTc (τ := τ) (main (F := Ideal))) ⟨m, fun _ => 0, ρ⟩ fun r => ∀ c : Dev nD,
    r.2.mem ((c : Thread nD τ).loc main_v3) = scaled ((dats m 0 c).arrAt 3 cfg0.N)
    ∧ r.2.mem ((c : Thread nD τ).loc main_v0_0) = (dats m 0 c).arrAt 2 cfg0.N
    ∧ r.2.mem ((c : Thread nD τ).loc main_arg0) = m ((c : Thread nD τ).loc main_arg0)
    ∧ r.2.mem ((c : Thread nD τ).loc main_arg1) = m ((c : Thread nD τ).loc main_arg1) :=
  (θ_run _ _ _).mono (fun r h c => ⟨((h c).2 main_v3 (Pipeline.mem_restRefs_of main_v3 rfl (by decide))).trans (tail m c), (h c).1 2,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-! ## The reference -/

theorem half_f32 : (Ideal.ofBits .f32 0x3F000000#32 : EReal) = ((1 / 2 : ℝ) : EReal) := by
  simp [Ideal.ofBits, Ideal.ieee, -EReal.coe_mul]; norm_num
theorem two_f32 : (Ideal.ofBits .f32 0x40000000#32 : EReal) = ((2 : ℝ) : EReal) := by
  simp [Ideal.ofBits, Ideal.ieee, -EReal.coe_mul]; norm_num
theorem kilo_f32 : (Ideal.ofBits .f32 0x44800000#32 : EReal) = ((1024 : ℝ) : EReal) := by
  simp [Ideal.ofBits, Ideal.ieee, -EReal.coe_mul]; norm_num
theorem milli_f32 : (Ideal.ofBits .f32 0x3A800000#32 : EReal) = ((1 / 1024 : ℝ) : EReal) := by
  simp [Ideal.ofBits, Ideal.ieee, -EReal.coe_mul]; norm_num

theorem scale_eq : (Ideal.div (Ideal.ofBits .f32 0x3F000000#32 * Ideal.ofBits .f32 0x3F800000#32) (Ideal.ofBits .f32 0x44800000#32) : EReal)
    * Ideal.ofBits .f32 0x40000000#32 = Ideal.ofBits .f32 0x3A800000#32 := by
  rw [half_f32, one_f32, two_f32, kilo_f32, milli_f32, Ideal.div, if_neg (by exact_mod_cast (by norm_num : (1024 : ℝ) ≠ 0)), mul_one,
    ← EReal.coe_inv, ← EReal.coe_mul, ← EReal.coe_mul]
  norm_num

open Cert.Reference50Ideal.Read in
theorem reference_grad (x0 x1 : FVec Ideal S8320x1024 .f32) :
    IsV (a := 8320) (b := 1024) (val_main_v17 (F := Ideal) x0 x1) fun r s => err x0 x1 r s * Ideal.ofBits .f32 0x3A800000#32 := by
  intro i
  have hr : (i 0).val < 8320 := (i 0).isLt
  have hs : (i 1).val < 1024 := (i 1).isLt
  show _ = (if 128 ≤ (i 0).val then _ else _) * _
  unfold val_main_v17 pad
  split
  · rename_i hin
    have h : 128 ≤ (i 0).val := (hin 0).1
    rw [if_pos h]
    rw [val_main_v16_apply, val_main_v15_apply, val_main_v14_apply, val_main_v12_apply, val_main_v11_apply, val_main_v13_apply,
      val_main_cst_6_apply, val_main_cst_4_apply, val_main_cst_5_apply, val_main_v5_apply, val_main_v4_apply, val_main_cst_apply,
      val_main_v2_apply, val_main_v0_apply, val_main_v1_apply]
    rw [at2_eq x0 _ (i 0).val (i 1).val (by show 128 + ((i 0).val - 128) / 1 = _; omega) (by show ((i 1).val - 0) / 1 = _; omega),
      at2_eq x1 _ (i 0).val (i 1).val (by show 128 + ((i 0).val - 128) / 1 = _; omega) (by show ((i 1).val - 0) / 1 = _; omega)]
    rw [← scale_eq]
    exact (mul_assoc _ _ _).symm.trans (mul_comm _ _)
  · rename_i hin
    have h : ¬128 ≤ (i 0).val := fun h => hin fun a => by
      match a with
      | ⟨0, _⟩ => exact ⟨h, Nat.mod_one _, by show ((i 0).val - 128) / 1 < 8192; omega⟩
      | ⟨1, _⟩ => exact ⟨Nat.zero_le _, Nat.mod_one _, by show ((i 1).val - 0) / 1 < 1024; omega⟩
    rw [if_neg h, zero_mul]
    exact zero_f32

theorem div_kilo (x : EReal) : Ideal.div x (Ideal.ofBits .f32 0x44800000#32) = x * ((1 / 1024 : ℝ) : EReal) := by
  rw [kilo_f32, Ideal.div, if_neg (by exact_mod_cast (by norm_num : (1024 : ℝ) ≠ 0)), ← EReal.coe_inv]
  norm_num

/-- A number that is neither negative nor infinite multiplies a sum term by term. -/
theorem sum_mul_real (n : ℕ) (f : ℕ → EReal) {x : ℝ} (hx : 0 ≤ x) : (∑ k ∈ range n, f k) * (x : EReal) = ∑ k ∈ range n, f k * (x : EReal) := by
  induction n with
  | zero => simp
  | succ n ih => rw [sum_range_succ, sum_range_succ, ← ih,
      EReal.right_distrib_of_nonneg_of_ne_top (EReal.coe_nonneg.mpr hx) (EReal.coe_ne_top x)]

/-- The loss of errors `f`. -/
def lossOf (f : ℕ → ℕ → EReal) : EReal :=
  Ideal.ofBits .f32 0x3F000000#32 * (∑ k ∈ range 8192, ∑ s ∈ range 1024, f (128 + k) s * f (128 + k) s) * ((1 / 1024 : ℝ) : EReal)

theorem loss_eq (x0 x1 : FVec Ideal S8320x1024 .f32) (x : FVec Ideal S1x1024 .f32)
    (h : IsV (a := 1) (b := 1024) x fun _ s => ∑ k ∈ range 8320, err x0 x1 k s * err x0 x1 k s) (i : S_.Idx) :
    scaled x i = lossOf (err x0 x1) := by
  show Ideal.div (Ideal.ofBits .f32 0x3F000000#32 * Ideal.hostReduceAdd reducesTo_S1x1024_S_d0_1 x
    (Ideal.ofBits .f32 0x00000000#32) i) (Ideal.ofBits .f32 0x44800000#32) = _
  rw [div_kilo, Ideal.hostReduceAdd_total reducesTo_S1x1024_S_d0_1 (fun b => b.elim0), zero_f32, zero_add]
  unfold lossOf
  refine congrArg (fun y => Ideal.ofBits .f32 0x3F000000#32 * y * ((1 / 1024 : ℝ) : EReal)) ?_
  refine (Finset.sum_congr rfl fun j _ => h j).trans ((sum_idx2 (n0 := 1) (n1 := 1024) _).trans ?_)
  rw [Fin.sum_univ_one, Finset.sum_comm (s := range 8192), Finset.sum_range]
  refine Finset.sum_congr rfl fun s _ => ?_
  show ∑ k ∈ range 8320, err x0 x1 k s.val * err x0 x1 k s.val = _
  rw [show (8320 : ℕ) = 128 + 8192 from rfl, Finset.sum_range_add, Finset.sum_eq_zero (s := range 128) fun k hk => by
    rw [err, if_neg (by have := mem_range.mp hk; omega), zero_mul], zero_add]

open Cert.Reference50Ideal.Read in
theorem reference_loss (x0 x1 : FVec Ideal S8320x1024 .f32) (i : S_.Idx) :
    val_main_v10 (F := Ideal) x0 x1 i = lossOf (err x0 x1) := by
  have row : ∀ j : Cert.Reference50Ideal.S8192.Idx, val_main_v8 (F := Ideal) x0 x1 j
      = (∑ s ∈ range 1024, err x0 x1 (128 + (j 0).val) s * err x0 x1 (128 + (j 0).val) s) * ((1 / 1024 : ℝ) : EReal) := fun j => by
    rw [val_main_v8_apply, val_main_v7_apply, val_main_cst_1_apply, val_main_v6_apply, val_main_cst_0_apply]
    refine (div_kilo _).trans (congrArg (· * ((1 / 1024 : ℝ) : EReal)) ?_)
    refine (congrArg (· + _) zero_f32).trans ((zero_add _).trans ?_)
    rw [Finset.sum_range]
    refine Finset.sum_congr rfl fun s _ => ?_
    rw [val_main_v3_apply, val_main_v2_apply, val_main_v0_apply, val_main_v1_apply, err, if_pos (by omega)]
    have e : ∀ x : FVec Ideal S8320x1024 .f32, x (idx_main_v0 (idx_main_v6 j s)) = at2 (a := 8320) (b := 1024) x (128 + (j 0).val) s.val :=
      fun x => at2_eq x _ _ _ rfl rfl
    exact congrArg₂ (· * ·) (congrArg₂ (· - ·) (e x0) (e x1)) (congrArg₂ (· - ·) (e x0) (e x1))
  rw [val_main_v10_apply, val_main_v9_apply, val_main_cst_3_apply, val_main_cst_2_apply]
  unfold lossOf
  rw [mul_assoc]
  refine congrArg (Ideal.ofBits .f32 0x3F000000#32 * ·) ?_
  refine (congrArg (· + _) zero_f32).trans ((zero_add _).trans ?_)
  rw [sum_mul_real _ _ (by norm_num), Finset.sum_range]
  exact (Finset.sum_congr rfl fun j _ => row j).trans (sum_idx1 (n0 := 8192) _)

/-! ## The claims -/

theorem frame_50 : Cert.quiescent_Reference50Ideal := fun m ρ _ =>
  (θ_run Cert.Reference50Ideal.defs _ _).mono (fun r h => ⟨fun c => (h c).2.2, sem_eq_zero_of_no_sems (by decide) r.2⟩)
    (Cert.Reference50Ideal.Value.run (F := Ideal) m ρ)

theorem value_50 : Cert.algebraic_Kernel50Ideal_Reference50Ideal := by
  intro m ρ m' ρ' _ hagree
  refine ⟨_, _, run m ρ, (θ_run Cert.Reference50Ideal.defs _ _).mono (fun r h c => ?_) (Cert.Reference50Ideal.Value.run (F := Ideal) m' ρ')⟩
  obtain ⟨e0, e1⟩ := hagree c
  refine ⟨(h c).1.trans ((Cert.Reference50Ideal.Read.val_main_v10_eq _ _).trans ?_),
    (h c).2.1.trans ((Cert.Reference50Ideal.Read.val_main_v17_eq _ _).trans ?_), (h c).2.2⟩
  · rw [e0, e1]
    exact funext fun i => (reference_loss _ _ i).trans (loss_eq _ _ _ (array_sums m c) i).symm
  · rw [e0, e1]
    exact funext fun i => (reference_grad _ _ i).trans (array_grad m c i).symm

end Cert.Loss

end
-- ==== Proof.Norm.lean ====
module

public import proofs.«01_k».proof.Defs
public import proofs.«01_k».proof.Proof.Tiles
public import proofs.«01_k».proof.Proof.Loss
public import proofs.«01_k».proof.Proof.Gen.Kernel51Ideal.Value
public import proofs.«01_k».proof.Proof.Gen.Reference51Ideal.Run
public import proofs.«01_k».proof.Proof.Gen.Reference51Ideal.Read
public import Idealize.ShloMosaic.Lib.WordCmp
public import Idealize.ShloMosaic.Lib.Quiescent

/-! The gradient of a norm, 640 rows at a time: of its argument, to which the gradient that passes it by is added, and of
its gain, whose sums down the columns are gathered over the rows. -/

@[expose] public section

noncomputable section

namespace Cert.Norm

open Idealize.ShloMosaic Idealize.ShloMosaic.TcCoe Idealize.SL.Sem Cert.Kernel51Ideal Cert.Kernel51Ideal.Gen Cert.Products Finset

/-! ## A row -/

/-- What a row's mean square is before the root. -/
def square (x : ℕ → EReal) : EReal :=
  Ideal.div (∑ k ∈ range 1024, x k * x k) (Ideal.ofBits .f32 0x44800000#32) + Ideal.ofBits .f32 0x358637BD#32

/-- … and one over its root. -/
def root (x : ℕ → EReal) : EReal := Ideal.rsqrt (square x)

theorem eps_pos : (0 : EReal) < Ideal.ofBits .f32 0x358637BD#32 := by
  have e : (Ideal.ofBits .f32 0x358637BD#32 : EReal) = ((8796093 / 8796093022208 : ℝ) : EReal) := by
    simp [Ideal.ofBits, Ideal.ieee, -EReal.coe_mul]; norm_num
  rw [e]
  exact EReal.coe_pos.mpr (by norm_num)

theorem sq_nonneg (x : EReal) : 0 ≤ x * x := by
  rcases le_total 0 x with h | h
  · exact mul_nonneg h h
  · rw [← neg_mul_neg]
    have := EReal.neg_nonneg.mpr h
    exact mul_nonneg this this

theorem square_pos (x : ℕ → EReal) : 0 < square x := by
  unfold square
  rw [Loss.div_kilo]
  have h : (0 : EReal) ≤ (∑ k ∈ range 1024, x k * x k) * ((1 / 1024 : ℝ) : EReal) :=
    mul_nonneg (Finset.sum_nonneg fun k _ => sq_nonneg _) (EReal.coe_nonneg.mpr (by norm_num))
  exact lt_of_lt_of_le eps_pos (le_add_of_nonneg_left h)

/-- The two ways of writing the gradient of a row. -/
theorem row_eq {s : EReal} (hs : 0 < s) (x p : ℕ → EReal) (y q a : EReal) :
    Ideal.rsqrt s * (q - y * Ideal.rsqrt s * Ideal.div (∑ k ∈ range 1024, p k * (x k * Ideal.rsqrt s)) (Ideal.ofBits .f32 0x44800000#32)) + a
      = a + (q * Ideal.rsqrt s
        + y * Ideal.div ((∑ k ∈ range 1024, x k * p k) * (Ideal.ofBits .f32 0xBF000000#32 * Ideal.div (Ideal.rsqrt s) s)) (Ideal.ofBits .f32 0x44800000#32)
        + Ideal.div ((∑ k ∈ range 1024, x k * p k) * (Ideal.ofBits .f32 0xBF000000#32 * Ideal.div (Ideal.rsqrt s) s)) (Ideal.ofBits .f32 0x44800000#32) * y) := by
  rw [Loss.div_kilo, Loss.div_kilo, add_comm a]
  refine congrArg (· + a) ?_
  induction s with
  | bot => exact absurd hs not_lt_bot
  | top => simp [Ideal.div]
  | coe s =>
    have h : 0 < s := EReal.coe_pos.mp hs
    rw [Ideal.rsqrt_coe, if_neg h.not_gt, if_neg h.ne']
    set r : ℝ := (Real.sqrt s)⁻¹ with hr
    have r0 : 0 < r := inv_pos.mpr (Real.sqrt_pos.mpr h)
    have rr : r * r = s⁻¹ := by rw [hr, ← mul_inv, Real.mul_self_sqrt h.le]
    have half : (Ideal.ofBits .f32 0xBF000000#32 : EReal) = ((-(1 / 2) : ℝ) : EReal) := by
      simp [Ideal.ofBits, Ideal.ieee, -EReal.coe_mul]; norm_num
    have e : (∑ k ∈ range 1024, p k * (x k * (r : EReal))) = (∑ k ∈ range 1024, x k * p k) * (r : EReal) := by
      rw [Loss.sum_mul_real _ _ r0.le]
      exact Finset.sum_congr rfl fun k _ => by rw [← mul_assoc, mul_comm (p k)]
    rw [e, half, Ideal.div, if_neg (by exact_mod_cast h.ne'), ← EReal.coe_inv, ← EReal.coe_mul, ← EReal.coe_mul]
    generalize (∑ k ∈ range 1024, x k * p k) = P
    rw [sub_eq_add_neg, EReal.left_distrib_of_nonneg_of_ne_top (EReal.coe_nonneg.mpr r0.le) (EReal.coe_ne_top r), add_assoc]
    refine congrArg₂ (· + ·) (mul_comm _ _) ?_
    have c : ∀ u : ℝ, 0 ≤ u → (-(y * P)) * ((u : ℝ) : EReal) + (-(y * P)) * ((u : ℝ) : EReal) = (-(y * P)) * ((u + u : ℝ) : EReal) := fun u hu => by
      rw [EReal.coe_add, EReal.left_distrib_of_nonneg (EReal.coe_nonneg.mpr hu) (EReal.coe_nonneg.mpr hu)]
    have l : (r : EReal) * -(y * (r : EReal) * (P * (r : EReal) * ((1 / 1024 : ℝ) : EReal))) = (-(y * P)) * ((r * r * r * (1 / 1024) : ℝ) : EReal) := by
      rw [EReal.coe_mul, EReal.coe_mul, EReal.coe_mul, mul_neg, neg_mul]
      exact congrArg (- ·) (by ac_rfl)
    have w : y * (P * ((-(1 / 2) * (r * s⁻¹) : ℝ) : EReal) * ((1 / 1024 : ℝ) : EReal)) = (-(y * P)) * ((r * r * r * (1 / 2048) : ℝ) : EReal) := by
      rw [mul_assoc P, ← EReal.coe_mul, ← mul_assoc, show (-(1 / 2) * (r * s⁻¹) * (1 / 1024) : ℝ) = -(r * r * r * (1 / 2048)) by rw [← rr]; ring,
        EReal.coe_neg, mul_neg, neg_mul]
    rw [l, mul_comm _ y, w, c _ (by positivity)]
    refine congrArg (fun u : ℝ => (-(y * P)) * (u : EReal)) (by ring)

/-! ## The blocks -/

section
variable {c : Dev nD} {i : grid0.Coords} {a1 a2 a3 : Memref sig .tc .vmem S640x1024 .f32} {h1 : a1.IsWhole} {h2 : a2.IsWhole}
  {h3 : a3.IsWhole} {a4 : Memref sig .tc .vmem S1x1024 .f32} {h4 : a4.IsWhole} {a5 : Memref sig .tc .vmem S640x1024 .f32} {h5 : a5.IsWhole}
  {a6 : Memref sig .tc .vmem S1x1024 .f32} {h6 : a6.IsWhole} {x0 x1 x2 : Vec Ideal S640x1024 .f32}
  {x3 xs : Vec Ideal S1x1024 .f32} {f d e g w : ℕ → ℕ → EReal}

/-- The gradient that comes in, of the rows that count. -/
theorem isV_live (hi : (i 0).val < 13) (h : IsV (a := 640) (b := 1024) x1 f) :
    IsV (a := 640) (b := 1024) (k0_pay3 (F := Ideal) i x1) fun r s => if 112 ≤ 640 * (i 0).val + r then f r s else 0 := by
  intro j
  have hj : (j 0).val < 640 := (j 0).isLt
  unfold k0_pay3
  simp only [shapeCast_self]
  have e : IntOp.cmpi .sge (BitVec.ofNat 32 (i 0).val * 640#32 + BitVec.ofNat 32 (0 * 640 + (j 0).val)) 112#32
      = BitVec.ofBool (decide (112 ≤ 640 * (i 0).val + (j 0).val)) := by
    have w : BitVec.ofNat 32 (i 0).val * 640#32 + BitVec.ofNat 32 (0 * 640 + (j 0).val)
        = BitVec.ofNat 32 (640 * (i 0).val + (j 0).val) := by
      rw [Nat.zero_mul, Nat.zero_add, BitVec.ofNat_add, BitVec.ofNat_mul, BitVec.mul_comm]
    rw [w]
    exact WordCmp.cmpi_sge_ofNat (by omega) (by decide)
  show Scalar.select (IntOp.cmpi .sge (BitVec.ofNat 32 (i 0).val * 640#32 + BitVec.ofNat 32 (0 * 640 + (j 0).val)) 112#32)
    (x1 j : EReal) (Ideal.ofBits .f32 0x00000000#32) = _
  rw [e, zero_f32, h j]
  by_cases h : 112 ≤ 640 * (i 0).val + (j 0).val
  · rw [if_pos h, decide_eq_true h]; rfl
  · rw [if_neg h, decide_eq_false h]; rfl

/-- One over a row's root. -/
theorem isV_root (h : IsV (a := 640) (b := 1024) x0 f) : IsV (a := 640) (b := 1) (k0_pay4 (F := Ideal) x0) fun r _ => root (f r) := by
  intro j
  unfold k0_pay4
  simp only [pointwise]
  unfold root square
  rw [Finset.sum_range]
  refine congrArg Ideal.rsqrt (congrArg (· + _) (congrArg (Ideal.div · _) (Finset.sum_congr rfl fun k _ => ?_)))
  exact congrArg₂ (· * ·) (h _) (h _)

/-- The rows over their roots. -/
theorem isV_unit (h : IsV (a := 640) (b := 1024) x0 f) :
    IsV (a := 640) (b := 1024) (k0_pay5 (F := Ideal) x0) fun r s => f r s * root (f r) := by
  intro j
  unfold k0_pay5
  have hr := isV_root h
  generalize k0_pay4 (F := Ideal) x0 = y at hr ⊢
  simp only [pointwise]
  exact congrArg₂ (· * ·) (h _) (hr _)

/-- The gradient of the norm's argument. -/
theorem isV_grad (h : IsV (a := 640) (b := 1024) x0 f) (hd : IsV (a := 640) (b := 1024) (k0_pay3 (F := Ideal) i x1) d)
    (he : IsV (a := 640) (b := 1024) x2 e) (hg : IsV (a := 1) (b := 1024) x3 g) :
    IsV (a := 640) (b := 1024) (k0_pay6 (F := Ideal) i x0 x1 x2 x3) fun r s => root (f r) * (d r s * g 0 s - f r s * root (f r)
      * Ideal.div (∑ k ∈ range 1024, d r k * g 0 k * (f r k * root (f r))) (Ideal.ofBits .f32 0x44800000#32)) + e r s := by
  intro j
  unfold k0_pay6
  have hr := isV_root h
  have hu := isV_unit h
  generalize k0_pay4 (F := Ideal) x0 = y at hr ⊢
  generalize k0_pay5 (F := Ideal) x0 = u at hu ⊢
  generalize k0_pay3 (F := Ideal) i x1 = v at hd ⊢
  simp only [pointwise]
  rw [Finset.sum_range]
  refine congrArg₂ (· + ·) (congrArg₂ (· * ·) (hr _) (congrArg₂ (· - ·) (congrArg₂ (· * ·) (hd _) (hg _))
    (congrArg₂ (· * ·) (hu _) (congrArg (Ideal.div · _) (Finset.sum_congr rfl fun k _ => ?_))))) (he _)
  exact congrArg₂ (· * ·) (congrArg₂ (· * ·) (hd _) (hg _)) (hu _)

/-- What a block adds to the gain's gradient, and what was there. -/
theorem isV_sums (h : IsV (a := 640) (b := 1024) x0 f) (hd : IsV (a := 640) (b := 1024) (k0_pay3 (F := Ideal) i x1) d)
    (hs : IsV (a := 1) (b := 1024) xs g) : IsV (a := 1) (b := 1024) (k0_pay2 (F := Ideal) (k0_pay7 (F := Ideal) i x0 x1) xs)
      fun r s => g r s + ∑ k ∈ range 640, d k s * (f k s * root (f k)) := by
  intro j
  unfold k0_pay2 k0_pay7
  simp only [shapeCast_self]
  refine congrArg₂ (· + ·) (hs j) ?_
  have hu := isV_unit h
  generalize k0_pay5 (F := Ideal) x0 = u at hu ⊢
  generalize k0_pay3 (F := Ideal) i x1 = v at hd ⊢
  simp only [pointwise]
  rw [Finset.sum_range]
  refine Finset.sum_congr rfl fun k _ => ?_
  exact congrArg₂ (· * ·) (hd _) (hu _)

theorem isV_zero : IsV (a := 1) (b := 1024) (k0_pay1 (F := Ideal)) fun _ _ => 0 := fun _ => zero_f32

theorem grad_A (hc0 : cond0_0 i) : out0_A_4 c i a1 h1 a2 h2 a3 h3 a4 h4 a5 h5 a6 h6 hc0 x0 x1 x2 x3 = k0_pay6 i x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero origin]
  simp only [View.readAt_eq_ld, h1.read_unread, h2.read_unread, h3.read_unread, h4.read_unread, View.ld_unit_zero (S := S640x1024) origin,
    View.ld_unit_zero (S := S1x1024) origin]

theorem grad_B (hc0 : ¬cond0_0 i) : out0_B_4 c i a1 h1 a2 h2 a3 h3 a4 h4 a5 h5 a6 h6 hc0 x0 x1 x2 x3 xs = k0_pay6 i x0 x1 x2 x3 := by
  unfold out0_B_4
  rw [View.read_writes_eq_canon _ _ _ (cover0_B_4 c i a1 h1 a2 h2 a3 h3 a4 h4 a5 h5 a6 h6 hc0 x0 x1 x2 x3 xs)]
  unfold kernelRun0_B
  dsimp only
  sl_unfold_words
  rw [View.canon_unit_zero origin]
  simp only [View.readAt_eq_ld, h1.read_unread, h2.read_unread, h3.read_unread, h4.read_unread, View.ld_unit_zero (S := S640x1024) origin,
    View.ld_unit_zero (S := S1x1024) origin]

theorem sums_A (hc0 : cond0_0 i) : out0_A_5 c i a1 h1 a2 h2 a3 h3 a4 h4 a5 h5 a6 h6 hc0 x0 x1 x2 x3
    = k0_pay2 (k0_pay7 i x0 x1) (k0_pay1 (F := Ideal)) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1024) origin, View.readCov_unit_zero (S := S1x1024) _ origin]
  simp only [View.readAt_eq_ld, h1.read_unread, h2.read_unread, View.ld_unit_zero (S := S640x1024) origin]

theorem sums_B (hc0 : ¬cond0_0 i) : out0_B_5 c i a1 h1 a2 h2 a3 h3 a4 h4 a5 h5 a6 h6 hc0 x0 x1 x2 x3 xs
    = k0_pay2 (k0_pay7 i x0 x1) xs := by
  unfold out0_B_5
  rw [View.read_writes_eq_canon _ _ _ (cover0_B_5 c i a1 h1 a2 h2 a3 h3 a4 h4 a5 h5 a6 h6 hc0 x0 x1 x2 x3 xs)]
  unfold kernelRun0_B
  dsimp only
  sl_unfold_words
  rw [View.canon_unit_zero origin]
  simp only [View.readAt_eq_ld, h1.read_unread, h2.read_unread, h6.read_unread, View.ld_unit_zero (S := S640x1024) origin,
    View.ld_unit_zero (S := S1x1024) origin]
end

/-! ## The arrays -/

/-- Where the blocks lie: point `t` takes the rows from `640 * t` on. -/
theorem index : ∀ t : Fin cfg0.N, win0_0.index t 0 = t.val ∧ win0_0.index t 1 = 0 ∧ win0_1.index t 0 = t.val ∧
    win0_1.index t 1 = 0 ∧ win0_2.index t 0 = t.val ∧ win0_2.index t 1 = 0 ∧ win0_3.index t 0 = 0 ∧ win0_3.index t 1 = 0 ∧
    (grid0.coords t 0).val = t.val :=
  (by decide +kernel : ∀ t : Fin grid0.N, _)

theorem index_out : ∀ t : Fin cfg0.N, win0_4.index t 0 = t.val ∧ win0_4.index t 1 = 0 ∧ win0_5.index t 0 = 0 ∧
    win0_5.index t 1 = 0 :=
  (by decide +kernel : ∀ t : Fin grid0.N, _)

/-- The gradient that comes in, at a row and a column. -/
def live (x2 : FVec Ideal S8320x1024 .f32) (r s : ℕ) : EReal :=
  if 112 ≤ r then at2 (a := 8320) (b := 1024) x2 r s else 0

/-- The gradient of the norm's argument, at a row and a column. -/
def gradOf (x0 : FVec Ideal S8320x1024 .f32) (x1 : FVec Ideal S1x1024 .f32) (x2 x3 : FVec Ideal S8320x1024 .f32) (r s : ℕ) : EReal :=
  root (at2 (a := 8320) (b := 1024) x0 r) * (live x2 r s * at2 (a := 1) (b := 1024) x1 0 s
    - at2 (a := 8320) (b := 1024) x0 r s * root (at2 (a := 8320) (b := 1024) x0 r)
      * Ideal.div (∑ k ∈ range 1024, live x2 r k * at2 (a := 1) (b := 1024) x1 0 k
        * (at2 (a := 8320) (b := 1024) x0 r k * root (at2 (a := 8320) (b := 1024) x0 r))) (Ideal.ofBits .f32 0x44800000#32))
    + at2 (a := 8320) (b := 1024) x3 r s

/-- What a row adds to the gain's gradient. -/
def gainOf (x0 x2 : FVec Ideal S8320x1024 .f32) (r s : ℕ) : EReal :=
  live x2 r s * (at2 (a := 8320) (b := 1024) x0 r s * root (at2 (a := 8320) (b := 1024) x0 r))

variable (m : (ℓ : Loc nD τ sig) → Buf (Elt Ideal) ℓ) (ρ : Dev nD → PrngReg) (c : Dev nD)

theorem isV_rows (t : Fin cfg0.N) : IsV (a := 640) (b := 1024) (iblk m c 0 t)
    fun r s => at2 (a := 8320) (b := 1024) (m ((c : Thread nD τ).loc main_arg0)) (640 * t.val + r) s := by
  have h := isV_part (M := 640) (N := 1024) (o0 := win0_0.index t 0) (o1 := win0_0.index t 1) ((cfg0.win 0).blk t).view.emb
    (fun j => congrFun (V_main_arg0 m c) _) fun _ => ⟨rfl, rfl⟩
  rw [(index t).1, (index t).2.1] at h
  simp only [Nat.mul_zero, Nat.zero_add] at h
  exact h

theorem isV_add_rows (t : Fin cfg0.N) : IsV (a := 640) (b := 1024) (iblk m c 2 t)
    fun r s => at2 (a := 8320) (b := 1024) (m ((c : Thread nD τ).loc main_arg3)) (640 * t.val + r) s := by
  obtain ⟨-, -, -, -, e0, e1, -⟩ := index t
  have h := isV_part (M := 640) (N := 1024) (o0 := win0_2.index t 0) (o1 := win0_2.index t 1) ((cfg0.win 2).blk t).view.emb
    (fun j => congrFun (V_main_arg3 m c) _) fun _ => ⟨rfl, rfl⟩
  rw [e0, e1] at h
  simp only [Nat.mul_zero, Nat.zero_add] at h
  exact h

theorem isV_gain (t : Fin cfg0.N) : IsV (a := 1) (b := 1024) (iblk m c 3 t)
    fun r s => at2 (a := 1) (b := 1024) (m ((c : Thread nD τ).loc main_arg1)) r s := by
  obtain ⟨-, -, -, -, -, -, e0, e1, -⟩ := index t
  have h := isV_part (M := 1) (N := 1024) (o0 := win0_3.index t 0) (o1 := win0_3.index t 1) ((cfg0.win 3).blk t).view.emb
    (fun j => congrFun (V_main_arg1 m c) _) fun _ => ⟨rfl, rfl⟩
  rw [e0, e1] at h
  simp only [Nat.mul_zero, Nat.zero_add] at h
  exact h

theorem isV_in (t : Fin cfg0.N) : IsV (a := 640) (b := 1024) (k0_pay3 (F := Ideal) (grid0.coords t) (iblk m c 1 t))
    fun r s => live (m ((c : Thread nD τ).loc main_arg2)) (640 * t.val + r) s := by
  obtain ⟨-, -, e0, e1, -, -, -, -, e4⟩ := index t
  have h := isV_live (i := grid0.coords t) (x1 := iblk m c 1 t) (by rw [e4]; exact t.isLt)
    (isV_part (o0 := win0_1.index t 0) (o1 := win0_1.index t 1) ((cfg0.win 1).blk t).view.emb
      (fun j => congrFun (V_main_arg2 m c) _) fun _ => ⟨rfl, rfl⟩)
  rw [e0, e1, e4] at h
  simp only [Nat.mul_zero, Nat.zero_add] at h
  exact h

theorem outs_grad (n : ℕ) (h : n < cfg0.N) : (outsAt0 m c n h).1
    = k0_pay6 (grid0.coords ⟨n, h⟩) (iblk m c 0 ⟨n, h⟩) (iblk m c 1 ⟨n, h⟩) (iblk m c 2 ⟨n, h⟩) (iblk m c 3 ⟨n, h⟩) := by
  by_cases h0 : n % 13 = 0
  · rw [outsAt0_A m c ⟨n, h⟩ h0]
    dsimp only
    rw [grad_A]
  · rw [outsAt0_B m c ⟨n, h⟩ h0]
    dsimp only
    rw [grad_B]

/-- The array of the argument's gradient. -/
theorem array_grad : IsV (a := 8320) (b := 1024) ((dats m 0 c).arrAt 4 cfg0.N)
    (gradOf (m ((c : Thread nD τ).loc main_arg0)) (m ((c : Thread nD τ).loc main_arg1)) (m ((c : Thread nD τ).loc main_arg2))
      (m ((c : Thread nD τ).loc main_arg3))) := by
  refine isV_tiles (p := 13) (q := 1) (fun t => (outsAt0 m c t.val t.isLt).1) (fun t => ((cfg0.win 4).blk t).view.emb)
    (fun t => win0_4.index t 0) (fun t => win0_4.index t 1) (fun t j => ?_) (fun _ _ => ⟨rfl, rfl⟩) (fun t => ?_)
    (fun k l => ⟨⟨k.val, k.isLt⟩, (index_out _).1, (index_out _).2.1.trans (by omega)⟩) rfl rfl (by decide) (by decide)
  · exact (View.read_apply ..).symm.trans (congrFun ((Value.blocks4 m c t (flush0_4 t)).trans (Value.flushed4 m c t)) j)
  · rw [outs_grad, (index_out t).1, (index_out t).2.1]
    simp only [Nat.mul_zero, Nat.zero_add]
    exact isV_grad (isV_rows m c t) (isV_in m c t) (isV_add_rows m c t) (isV_gain m c t)

/-- The gain's gradient after point `n`. -/
theorem sums (n : ℕ) (h : n < cfg0.N) : IsV (a := 1) (b := 1024) (outsAt0 m c n h).2
    fun _ s => ∑ k ∈ range (640 * n + 640), gainOf (m ((c : Thread nD τ).loc main_arg0)) (m ((c : Thread nD τ).loc main_arg2)) k s := by
  induction n with
  | zero =>
    rw [outsAt0_A m c ⟨0, h⟩ rfl]
    dsimp only
    rw [sums_A]
    refine (isV_sums (isV_rows m c ⟨0, h⟩) (isV_in m c ⟨0, h⟩) isV_zero).congr fun r s _ _ => ?_
    simp only [Nat.mul_zero, Nat.zero_add, zero_add]
    rfl
  | succ n ih =>
    have hn : (n + 1) % 13 ≠ 0 := by
      have h : n + 1 < 13 := h
      omega
    rw [outsAt0_B m c ⟨n + 1, h⟩ hn]
    dsimp only
    rw [sums_B]
    refine (isV_sums (isV_rows m c ⟨n + 1, h⟩) (isV_in m c ⟨n + 1, h⟩) (ih (by omega))).congr fun r s _ _ => ?_
    rw [Finset.sum_range_add _ (640 * (n + 1)) 640]
    rfl

theorem once : ∀ t t' : Fin cfg0.N, (cfg0.win 5).flush t = true → (cfg0.win 5).flush t' = true → t ≠ t' →
    Disjoint ((cfg0.win 5).blk t).view.set ((cfg0.win 5).blk t').view.set := fun t t' h h' hne => by
  have a := (flush0_5 t).mp h
  have b := (flush0_5 t').mp h'
  have ha : t.val < 13 := t.isLt
  have hb : t'.val < 13 := t'.isLt
  exact absurd (Fin.ext (by omega)) hne

/-- The array of the gain's gradient. -/
theorem array_sums : IsV (a := 1) (b := 1024) ((dats m 0 c).arrAt 5 cfg0.N)
    fun _ s => ∑ k ∈ range 8320, gainOf (m ((c : Thread nD τ).loc main_arg0)) (m ((c : Thread nD τ).loc main_arg2)) k s := by
  let t : Fin cfg0.N := ⟨12, by decide⟩
  have hf : (cfg0.win 5).flush t = true := (flush0_5 t).mpr rfl
  refine isV_tiles (p := 1) (q := 1) (T := 1) (fun _ => (outsAt0 m c t.val t.isLt).2) (fun _ => ((cfg0.win 5).blk t).view.emb)
    (fun _ => win0_5.index t 0) (fun _ => win0_5.index t 1) (fun _ j => ?_) (fun _ _ => ⟨rfl, rfl⟩) (fun _ => ?_)
    (fun k l => ⟨0, (index_out t).2.2.1.trans (by omega), (index_out t).2.2.2.trans (by omega)⟩) rfl rfl (by decide) (by decide)
  · exact (View.read_apply ..).symm.trans (congrFun (((dats m 0 c).read_blk_arrAt_eq_flushed 5 once cfg0.N t t.isLt hf).trans
      (Value.flushed5 m c t)) j)
  · rw [(index_out t).2.2.2]
    refine (sums m c t.val t.isLt).congr fun r s _ _ => ?_
    rw [Nat.mul_zero, Nat.zero_add, show 640 * t.val + 640 = 8320 from rfl]

/-! ## The reference -/

section
open Cert.Reference51Ideal.Read

theorem ref_square (x0 : FVec Ideal S8320x1024 .f32) (i : Cert.Reference51Ideal.S8320x1.Idx) :
    val_main_v6 (F := Ideal) x0 i = square (at2 (a := 8320) (b := 1024) x0 (i 0).val) := by
  rw [val_main_v6_apply, val_main_v4_apply, val_main_v5_apply, val_main_v2_apply, val_main_v3_apply, val_main_cst_0_apply, val_main_cst_1_apply,
    val_main_v1_apply, val_main_cst_apply]
  unfold square
  rw [Finset.sum_range]
  refine congrArg (· + _) (congrArg (Ideal.div · _) ((congrArg (· + _) zero_f32).trans ((zero_add _).trans (Finset.sum_congr rfl fun k _ => ?_))))
  rw [val_main_v0_apply]
  exact congrArg₂ (· * ·) (at2_eq x0 _ _ _ rfl rfl) (at2_eq x0 _ _ _ rfl rfl)

theorem ref_root (x0 : FVec Ideal S8320x1024 .f32) (i : Cert.Reference51Ideal.S8320x1.Idx) :
    val_main_v7 (F := Ideal) x0 i = root (at2 (a := 8320) (b := 1024) x0 (i 0).val) :=
  (val_main_v7_apply _ _).trans (congrArg Ideal.rsqrt (ref_square x0 i))

theorem ref_unit (x0 : FVec Ideal S8320x1024 .f32) (i : Cert.Reference51Ideal.S8320x1024.Idx) : val_main_v12 (F := Ideal) x0 i
    = at2 (a := 8320) (b := 1024) x0 (i 0).val (i 1).val * root (at2 (a := 8320) (b := 1024) x0 (i 0).val) := by
  rw [val_main_v12_apply, val_main_v11_apply, ref_root]
  exact congrArg (· * _) (at2_eq x0 _ _ _ rfl rfl)

theorem ref_live (x2 : FVec Ideal S8320x1024 .f32) (i : Cert.Reference51Ideal.S8320x1024.Idx) :
    val_main_v20 (F := Ideal) x2 i = live x2 (i 0).val (i 1).val := by
  have hr : (i 0).val < 8320 := (i 0).isLt
  rw [val_main_v20_apply, val_main_v19_1_apply, val_main_v18_apply, val_main_v16_apply, val_main_v15_apply, val_main_v17_apply, val_main_c_apply,
    val_main_call1_v0_apply, val_main_call1_cst_apply]
  have e : IntOp.cmpi .sge (BitVec.ofNat 32 (i 0).val) 112#32 = BitVec.ofBool (decide (112 ≤ (i 0).val)) :=
    WordCmp.cmpi_sge_ofNat (by omega) (by decide)
  show Scalar.select (IntOp.cmpi .sge (BitVec.ofNat 32 (i 0).val) 112#32) (x2 i : EReal) (Ideal.ofBits .f32 0x00000000#32) = _
  rw [e, zero_f32, at2_eq x2 i _ _ rfl rfl]
  unfold live
  by_cases h : 112 ≤ (i 0).val
  · rw [if_pos h, decide_eq_true h]; rfl
  · rw [if_neg h, decide_eq_false h]; rfl

theorem ref_scaled (x1 : FVec Ideal S1x1024 .f32) (x2 : FVec Ideal S8320x1024 .f32) (i : Cert.Reference51Ideal.S8320x1024.Idx) :
    val_main_v25 (F := Ideal) x1 x2 i = live x2 (i 0).val (i 1).val * at2 (a := 1) (b := 1024) x1 0 (i 1).val := by
  rw [val_main_v25_apply, val_main_v24_apply, ref_live]
  exact congrArg (_ * ·) (at2_eq x1 _ _ _ rfl rfl)

theorem ref_mean (x0 : FVec Ideal S8320x1024 .f32) (x1 : FVec Ideal S1x1024 .f32) (x2 : FVec Ideal S8320x1024 .f32)
    (i : Cert.Reference51Ideal.S8320x1024.Idx) : val_main_v35 (F := Ideal) x0 x1 x2 i
      = Ideal.div ((∑ k ∈ range 1024, at2 (a := 8320) (b := 1024) x0 (i 0).val k * (live x2 (i 0).val k * at2 (a := 1) (b := 1024) x1 0 k))
        * (Ideal.ofBits .f32 0xBF000000#32 * Ideal.div (root (at2 (a := 8320) (b := 1024) x0 (i 0).val)) (square (at2 (a := 8320) (b := 1024) x0 (i 0).val))))
        (Ideal.ofBits .f32 0x44800000#32) := by
  rw [val_main_v35_apply, val_main_v34_apply, val_main_cst_7_apply, Fin.sum_univ_one, val_main_v33_apply, val_main_v31_apply, val_main_v32_apply,
    val_main_cst_6_apply, val_main_v28_apply, val_main_v27_apply, val_main_cst_5_apply, val_main_v10_apply, val_main_v9_apply, val_main_cst_2_apply,
    val_main_v8_apply, ref_root, ref_square]
  refine (congrArg (· + _) zero_f32).trans ((zero_add _).trans (congrArg (Ideal.div · _) (congrArg (· * _) ?_)))
  refine (congrArg (· + _) zero_f32).trans ((zero_add _).trans ?_)
  rw [Finset.sum_range]
  refine Finset.sum_congr rfl fun k _ => ?_
  have e0 : (idx_main_v27 (idx_main_v28 (idx_main_v34 (idx_main_v35 i) 0)) k 0).val = (i 0).val := by
    show (i 0).val * 1 + 0 = _
    omega
  have e1 : (idx_main_v27 (idx_main_v28 (idx_main_v34 (idx_main_v35 i) 0)) k 1).val = k.val := rfl
  rw [val_main_v26_apply, ref_scaled, at2_eq (a := 8320) (b := 1024) x0 _ _ _ e0 e1, e0, e1]
  rfl

theorem reference_grad (x0 : FVec Ideal S8320x1024 .f32) (x1 : FVec Ideal S1x1024 .f32) (x2 x3 : FVec Ideal S8320x1024 .f32) :
    IsV (a := 8320) (b := 1024) (val_main_v40 (F := Ideal) x0 x1 x2 x3) (gradOf x0 x1 x2 x3) := by
  intro i
  rw [val_main_v40_apply, val_main_v39_apply, val_main_v37_apply, val_main_v38_apply, val_main_v36_apply, val_main_v30_apply, val_main_v29_apply,
    ref_mean, ref_root, ref_scaled, at2_eq (a := 8320) (b := 1024) x0 i _ _ rfl rfl, at2_eq (a := 8320) (b := 1024) x3 i _ _ rfl rfl]
  exact (row_eq (square_pos (at2 (a := 8320) (b := 1024) x0 (i 0).val)) (at2 (a := 8320) (b := 1024) x0 (i 0).val)
    (fun k => live x2 (i 0).val k * at2 (a := 1) (b := 1024) x1 0 k) _ _ _).symm

theorem reference_gain (x0 x2 : FVec Ideal S8320x1024 .f32) :
    IsV (a := 1) (b := 1024) (val_main_v23 (F := Ideal) x0 x2) fun _ s => ∑ k ∈ range 8320, gainOf x0 x2 k s := by
  intro i
  have h0 : (i 0).val < 1 := (i 0).isLt
  rw [val_main_v23_apply, val_main_v22_apply, val_main_cst_4_apply]
  refine (congrArg (· + _) zero_f32).trans ((zero_add _).trans ?_)
  dsimp only
  rw [Finset.sum_range]
  refine Finset.sum_congr rfl fun k _ => ?_
  rw [val_main_v21_apply, ref_unit, ref_live]
  unfold gainOf
  have e : (i 0).val * 1024 + (i 1).val = (i 1).val := by omega
  refine (mul_comm _ _).trans ?_
  show live x2 k.val ((i 0).val * 1024 + (i 1).val) * (at2 (a := 8320) (b := 1024) x0 k.val ((i 0).val * 1024 + (i 1).val) * _) = _
  rw [e]
end

/-! ## The claims -/

theorem frame_51 : Cert.quiescent_Reference51Ideal := fun m ρ _ =>
  (θ_run Cert.Reference51Ideal.defs _ _).mono (fun r h => ⟨fun c => (h c).2.2, sem_eq_zero_of_no_sems (by decide) r.2⟩)
    (Cert.Reference51Ideal.Value.run (F := Ideal) m ρ)

theorem value_51 : Cert.algebraic_Kernel51Ideal_Reference51Ideal := by
  intro m ρ m' ρ' _ hagree
  refine ⟨_, _, Value.run_blocks m ρ, (θ_run Cert.Reference51Ideal.defs _ _).mono (fun r h c => ?_) (Cert.Reference51Ideal.Value.run (F := Ideal) m' ρ')⟩
  obtain ⟨e0, e1, e2, e3⟩ := hagree c
  refine ⟨(h c).1.trans ((Cert.Reference51Ideal.Read.val_main_v40_eq _ _).trans ?_),
    (h c).2.1.trans ((Cert.Reference51Ideal.Read.val_main_v23_eq _ _).trans ?_), (h c).2.2⟩
  · rw [e0, e1, e2, e3]
    exact funext fun i => (reference_grad _ _ _ _ i).trans (array_grad m c i).symm
  · rw [e0, e2]
    exact funext fun i => (reference_gain _ _ i).trans (array_sums m c i).symm

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel44
public import proofs.«01_k».proof.Proof.Gen.Kernel44.Frame
public import proofs.«01_k».proof.Proof.Gen.Kernel44Ideal
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.Gen.Kernel45
public import proofs.«01_k».proof.Proof.Gen.Kernel45.Frame
public import proofs.«01_k».proof.Proof.Gen.Kernel45Ideal
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Reference45Ideal.Read
public import proofs.«01_k».proof.Proof.Gen.Kernel46
public import proofs.«01_k».proof.Proof.Gen.Kernel46.Frame
public import proofs.«01_k».proof.Proof.Gen.Kernel46Ideal
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Reference46Ideal.Read
public import proofs.«01_k».proof.Proof.Gen.Kernel47
public import proofs.«01_k».proof.Proof.Gen.Kernel47.Frame
public import proofs.«01_k».proof.Proof.Gen.Kernel47Ideal
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Reference47Ideal.Read
public import proofs.«01_k».proof.Proof.Gen.Kernel48
public import proofs.«01_k».proof.Proof.Gen.Kernel48.Frame
public import proofs.«01_k».proof.Proof.Gen.Kernel48Ideal
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Reference48Ideal.Read
public import proofs.«01_k».proof.Proof.Gen.Kernel49
public import proofs.«01_k».proof.Proof.Gen.Kernel49.Frame
public import proofs.«01_k».proof.Proof.Gen.Kernel49Ideal
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Reference49Ideal.Read
public import proofs.«01_k».proof.Proof.Gen.Kernel50
public import proofs.«01_k».proof.Proof.Gen.Kernel50.Frame
public import proofs.«01_k».proof.Proof.Gen.Kernel50Ideal
public import proofs.«01_k».proof.Proof.Gen.Kernel50Ideal.Frame
public import proofs.«01_k».proof.Proof.Gen.Reference50Ideal
public import proofs.«01_k».proof.Proof.Gen.Reference50Ideal.Run
public import proofs.«01_k».proof.Proof.Gen.Reference50Ideal.Read
public import proofs.«01_k».proof.Proof.Gen.Kernel51
public import proofs.«01_k».proof.Proof.Gen.Kernel51.Frame
public import proofs.«01_k».proof.Proof.Gen.Kernel51Ideal
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Reference51Ideal.Read
public import proofs.«01_k».proof.Proof.Pre
public import proofs.«01_k».proof.Proof.Calls
public import proofs.«01_k».proof.Proof.Updates
public import proofs.«01_k».proof.Proof.Totals
public import proofs.«01_k».proof.Proof.Loss
public import proofs.«01_k».proof.Proof.Norm
public import Idealize.ShloMosaic.Lib.Quiescent
public import Idealize.ShloMosaic.Adequacy
public import Idealize.ShloMosaic.Init

@[expose] public section

noncomputable section

namespace Cert.Proof

open Idealize.ShloMosaic Idealize.SL.Sem Cert.StickBreaking

/-- The reference runs to its end and leaves its arguments and every semaphore as they were. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.2.1, (h c).2.2.2.2.2⟩,
      Idealize.ShloMosaic.sem_eq_zero_of_no_sems (by decide) r.2⟩)
    (Cert.ReferenceIdeal.Value.run (F := Ideal) m ρ)

/-- The four results of the kernel are the four results of the reference. -/
theorem value : Cert.algebraic_KernelIdeal_ReferenceIdeal_pre_bounded (hPre_bounded := Pre.facts) := by
  haveI := Pre.facts
  intro m ρ m' ρ' hpre hagree
  have hP (c : Dev Cert.KernelIdeal.nD) := hpre c
  let D (c : Dev Cert.KernelIdeal.nD) : ℕ → Head := Pre.headsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
  have hF (c : Dev Cert.KernelIdeal.nD) : Feeds (D c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := Pre.feeds (hP c)
  have hC (c : Dev Cert.KernelIdeal.nD) (h : ℕ) : (D c h).Capped := Pre.capped (hP c) h
  have hF' (c : Dev Cert.KernelIdeal.nD) : Feeds (D c) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := by
    rw [(hagree c).1, (hagree c).2]
    exact hF c
  refine ⟨fun c => sideBySide (D c) Head.Out, fun c => sideBySide (D c) Head.DQ, fun c => sideBySide (D c) Head.DK, fun c => sideBySide (D c) Head.DV,
    run_kernel (m := m) (ρ := ρ) (D := D) (hF := hF) (hcap := hC), ?_⟩
  refine (θ_run Cert.ReferenceIdeal.defs _ _).mono (fun r h c => ?_) (Cert.ReferenceIdeal.Value.run (F := Ideal) m' ρ')
  obtain ⟨h1, h2, h3, h4, h5, h6⟩ := h c
  exact ⟨h1.trans ((Cert.ReferenceIdeal.Read.val_main_v32_eq m' c).trans (Ref.out_eq (hF' c))),
    h2.trans ((Cert.ReferenceIdeal.Read.val_main_v55_eq m' c).trans (Ref.dq_eq (hF' c))),
    h3.trans ((Cert.ReferenceIdeal.Read.val_main_v53_eq m' c).trans (Ref.dk_eq (hF' c))),
    h4.trans ((Cert.ReferenceIdeal.Read.val_main_v40_eq m' c).trans (Ref.dv_eq (hF' c))), h5, h6⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel48.Gen.facts, Cert.Kernel48Ideal.Gen.facts, Cert.Reference48Ideal.Gen.facts,
  Cert.Kernel49.Gen.facts, Cert.Kernel49Ideal.Gen.facts, Cert.Reference49Ideal.Gen.facts,
  Cert.Kernel50.Gen.facts, Cert.Kernel50Ideal.Gen.facts, Cert.Reference50Ideal.Gen.facts,
  Cert.Kernel51.Gen.facts, Cert.Kernel51Ideal.Gen.facts, Cert.Reference51Ideal.Gen.facts,
  Pre.facts, DownDx.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => Cert.Kernel2Ideal.Gen.frame m ρ, Calls.frame_2, fun m ρ _ => Calls.frame_2 m ρ trivial,
  fun m ρ _ => Cert.Kernel3.Gen.frame m ρ, fun m ρ _ => Cert.Kernel3Ideal.Gen.frame m ρ, Calls.frame_3,
  fun m ρ _ => Cert.Kernel4.Gen.frame m ρ, fun m ρ _ => Cert.Kernel4Ideal.Gen.frame m ρ, Calls.frame_4,
  fun m ρ _ => Cert.Kernel5.Gen.frame m ρ, fun m ρ _ => Cert.Kernel5Ideal.Gen.frame m ρ, Calls.frame_5,
  fun m ρ _ => Cert.Kernel6.Gen.frame m ρ, fun m ρ _ => Cert.Kernel6Ideal.Gen.frame m ρ, Calls.frame_6,
  fun m ρ _ => Cert.Kernel7.Gen.frame m ρ, fun m ρ _ => Cert.Kernel7Ideal.Gen.frame m ρ, Calls.frame_7,
  fun m ρ _ => Cert.Kernel8.Gen.frame m ρ, fun m ρ _ => Cert.Kernel8Ideal.Gen.frame m ρ, Calls.frame_8,
  fun m ρ _ => Cert.Kernel9.Gen.frame m ρ, fun m ρ _ => Cert.Kernel9Ideal.Gen.frame m ρ, Calls.frame_9,
  fun m ρ _ => Cert.Kernel10.Gen.frame m ρ, fun m ρ _ => Cert.Kernel10Ideal.Gen.frame m ρ, Calls.frame_10,
  fun m ρ _ => Cert.Kernel11.Gen.frame m ρ, fun m ρ _ => Cert.Kernel11Ideal.Gen.frame m ρ, Calls.frame_11,
  fun m ρ _ => Cert.Kernel12.Gen.frame m ρ, fun m ρ _ => Cert.Kernel12Ideal.Gen.frame m ρ, Calls.frame_12,
  fun m ρ _ => Cert.Kernel13.Gen.frame m ρ, fun m ρ _ => Cert.Kernel13Ideal.Gen.frame m ρ, Calls.frame_13,
  fun m ρ _ => Cert.Kernel14.Gen.frame m ρ, fun m ρ _ => Cert.Kernel14Ideal.Gen.frame m ρ, Calls.frame_14,
  fun m ρ _ => Cert.Kernel15.Gen.frame m ρ, fun m ρ _ => Cert.Kernel15Ideal.Gen.frame m ρ, Calls.frame_15,
  fun m ρ _ => Cert.Kernel16.Gen.frame m ρ, fun m ρ _ => Cert.Kernel16Ideal.Gen.frame m ρ, Calls.frame_16,
  fun m ρ _ => Cert.Kernel17.Gen.frame m ρ, fun m ρ _ => Cert.Kernel17Ideal.Gen.frame m ρ, Calls.frame_17,
  fun m ρ _ => Cert.Kernel18.Gen.frame m ρ, fun m ρ _ => Cert.Kernel18Ideal.Gen.frame m ρ, Calls.frame_18,
  fun m ρ _ => Cert.Kernel19.Gen.frame m ρ, fun m ρ _ => Cert.Kernel19Ideal.Gen.frame m ρ, Calls.frame_19,
  fun m ρ _ => Cert.Kernel20.Gen.frame m ρ, fun m ρ _ => Cert.Kernel20Ideal.Gen.frame m ρ, Updates.frame_20,
  fun m ρ _ => Cert.Kernel21.Gen.frame m ρ, fun m ρ _ => Cert.Kernel21Ideal.Gen.frame m ρ, Updates.frame_21,
  fun m ρ _ => Cert.Kernel22.Gen.frame m ρ, fun m ρ _ => Cert.Kernel22Ideal.Gen.frame m ρ, Updates.frame_22,
  fun m ρ _ => Cert.Kernel23.Gen.frame m ρ, fun m ρ _ => Cert.Kernel23Ideal.Gen.frame m ρ, Updates.frame_23,
  fun m ρ _ => Cert.Kernel24.Gen.frame m ρ, fun m ρ _ => Cert.Kernel24Ideal.Gen.frame m ρ, Updates.frame_24,
  fun m ρ _ => Cert.Kernel25.Gen.frame m ρ, fun m ρ _ => Cert.Kernel25Ideal.Gen.frame m ρ, Updates.frame_25,
  fun m ρ _ => Cert.Kernel26.Gen.frame m ρ, fun m ρ _ => Cert.Kernel26Ideal.Gen.frame m ρ, Updates.frame_26,
  fun m ρ _ => Cert.Kernel27.Gen.frame m ρ, fun m ρ _ => Cert.Kernel27Ideal.Gen.frame m ρ, Updates.frame_27,
  fun m ρ _ => Cert.Kernel28.Gen.frame m ρ, fun m ρ _ => Cert.Kernel28Ideal.Gen.frame m ρ, Updates.frame_28,
  fun m ρ _ => Cert.Kernel29.Gen.frame m ρ, fun m ρ _ => Cert.Kernel29Ideal.Gen.frame m ρ, Updates.frame_29,
  fun m ρ _ => Cert.Kernel30.Gen.frame m ρ, fun m ρ _ => Cert.Kernel30Ideal.Gen.frame m ρ, Updates.frame_30,
  fun m ρ _ => Cert.Kernel31.Gen.frame m ρ, fun m ρ _ => Cert.Kernel31Ideal.Gen.frame m ρ, Updates.frame_31,
  fun m ρ _ => Cert.Kernel32.Gen.frame m ρ, fun m ρ _ => Cert.Kernel32Ideal.Gen.frame m ρ, Updates.frame_32,
  fun m ρ _ => Cert.Kernel33.Gen.frame m ρ, fun m ρ _ => Cert.Kernel33Ideal.Gen.frame m ρ, Totals.frame_33,
  fun m ρ _ => Cert.Kernel34.Gen.frame m ρ, fun m ρ _ => Cert.Kernel34Ideal.Gen.frame m ρ, Totals.frame_34,
  fun m ρ _ => Cert.Kernel35.Gen.frame m ρ, fun m ρ _ => Cert.Kernel35Ideal.Gen.frame m ρ, Totals.frame_35,
  fun m ρ _ => Cert.Kernel36.Gen.frame m ρ, fun m ρ _ => Cert.Kernel36Ideal.Gen.frame m ρ, Totals.frame_36,
  fun m ρ _ => Cert.Kernel37.Gen.frame m ρ, fun m ρ _ => Cert.Kernel37Ideal.Gen.frame m ρ, Totals.frame_37,
  fun m ρ _ => Cert.Kernel38.Gen.frame m ρ, fun m ρ _ => Cert.Kernel38Ideal.Gen.frame m ρ, Totals.frame_38,
  fun m ρ _ => Cert.Kernel39.Gen.frame m ρ, fun m ρ _ => Cert.Kernel39Ideal.Gen.frame m ρ, Totals.frame_39,
  fun m ρ _ => Cert.Kernel40.Gen.frame m ρ, fun m ρ _ => Cert.Kernel40Ideal.Gen.frame m ρ, Totals.frame_40,
  fun m ρ _ => Cert.Kernel41.Gen.frame m ρ, fun m ρ _ => Cert.Kernel41Ideal.Gen.frame m ρ, Totals.frame_41,
  fun m ρ _ => Cert.Kernel42.Gen.frame m ρ, fun m ρ _ => Cert.Kernel42Ideal.Gen.frame m ρ, Totals.frame_42,
  fun m ρ _ => Cert.Kernel43.Gen.frame m ρ, fun m ρ _ => Cert.Kernel43Ideal.Gen.frame m ρ, Totals.frame_43,
  fun m ρ _ => Cert.Kernel44.Gen.frame m ρ, fun m ρ _ => Cert.Kernel44Ideal.Gen.frame m ρ, Totals.frame_44,
  fun m ρ _ => Cert.Kernel45.Gen.frame m ρ, fun m ρ _ => Cert.Kernel45Ideal.Gen.frame m ρ, Totals.frame_45,
  fun m ρ _ => Cert.Kernel46.Gen.frame m ρ, fun m ρ _ => Cert.Kernel46Ideal.Gen.frame m ρ, Totals.frame_46,
  fun m ρ _ => Cert.Kernel47.Gen.frame m ρ, fun m ρ _ => Cert.Kernel47Ideal.Gen.frame m ρ, Totals.frame_47,
  fun m ρ _ => Cert.Kernel48.Gen.frame m ρ, fun m ρ _ => Cert.Kernel48Ideal.Gen.frame m ρ, Totals.frame_48,
  fun m ρ _ => Cert.Kernel49.Gen.frame m ρ, fun m ρ _ => Cert.Kernel49Ideal.Gen.frame m ρ, Totals.frame_49,
  fun m ρ _ => Cert.Kernel50.Gen.frame m ρ, fun m ρ _ => Cert.Kernel50Ideal.Gen.frame m ρ, Loss.frame_50,
  fun m ρ _ => Cert.Kernel51.Gen.frame m ρ, fun m ρ _ => Cert.Kernel51Ideal.Gen.frame m ρ, Norm.frame_51,
  trivial, value, trivial, Calls.value_2, trivial, Calls.value_3, trivial, Calls.value_4, trivial, Calls.value_5, trivial, Calls.value_6, trivial, Calls.value_7,
  trivial, Calls.value_8, trivial, Calls.value_9, trivial, Calls.value_10, trivial, Calls.value_11, trivial, Calls.value_12, trivial, Calls.value_13,
  trivial, Calls.value_14, trivial, Calls.value_15, trivial, Calls.value_16, trivial, Calls.value_17, trivial, Calls.value_18, trivial, Calls.value_19,
  trivial, Updates.value_20, trivial, Updates.value_21, trivial, Updates.value_22, trivial, Updates.value_23, trivial, Updates.value_24, trivial, Updates.value_25, trivial, Updates.value_26,
  trivial, Updates.value_27, trivial, Updates.value_28, trivial, Updates.value_29, trivial, Updates.value_30, trivial, Updates.value_31, trivial, Updates.value_32,
  trivial, Totals.value_33, trivial, Totals.value_34, trivial, Totals.value_35, trivial, Totals.value_36, trivial, Totals.value_37, trivial, Totals.value_38, trivial, Totals.value_39, trivial, Totals.value_40,
  trivial, Totals.value_41, trivial, Totals.value_42, trivial, Totals.value_43, trivial, Totals.value_44, trivial, Totals.value_45, trivial, Totals.value_46, trivial, Totals.value_47, trivial, Totals.value_48, trivial, Totals.value_49, trivial, Loss.value_50, trivial, Norm.value_51⟩

end Cert.Proof

end
